-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v67) = v0 c
          ∧ r.2.mem ((c.tc : Thread Cert.Reference9Ideal.nD Cert.Reference9Ideal.τ).loc Cert.Reference9Ideal.main_v68) = v1 c
          ∧ r.2.mem ((c.tc : Thread Cert.Reference9Ideal.nD Cert.Reference9Ideal.τ).loc Cert.Reference9Ideal.main_v69) = v2 c
          ∧ r.2.mem ((c.tc : Thread Cert.Reference9Ideal.nD Cert.Reference9Ideal.τ).loc Cert.Reference9Ideal.main_v70) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)) (v4 : (c : Dev Cert.Kernel10Ideal.nD) → Buf (Elt Ideal) ((c.tc : Thread Cert.Kernel10Ideal.nD Cert.Kernel10Ideal.τ).loc Cert.Kernel10Ideal.main_v2_4)) (v5 : (c : Dev Cert.Kernel10Ideal.nD) → Buf (Elt Ideal) ((c.tc : Thread Cert.Kernel10Ideal.nD Cert.Kernel10Ideal.τ).loc Cert.Kernel10Ideal.main_v2_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_v2_4) = v4 c
          ∧ r.2.mem ((c.tc : Thread Cert.Kernel10Ideal.nD Cert.Kernel10Ideal.τ).loc Cert.Kernel10Ideal.main_v2_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v47) = v0 c
          ∧ r.2.mem ((c.tc : Thread Cert.Reference10Ideal.nD Cert.Reference10Ideal.τ).loc Cert.Reference10Ideal.main_v48) = v1 c
          ∧ r.2.mem ((c.tc : Thread Cert.Reference10Ideal.nD Cert.Reference10Ideal.τ).loc Cert.Reference10Ideal.main_v49) = v2 c
          ∧ r.2.mem ((c.tc : Thread Cert.Reference10Ideal.nD Cert.Reference10Ideal.τ).loc Cert.Reference10Ideal.main_v50) = v3 c
          ∧ r.2.mem ((c.tc : Thread Cert.Reference10Ideal.nD Cert.Reference10Ideal.τ).loc Cert.Reference10Ideal.main_v51) = v4 c
          ∧ r.2.mem ((c.tc : Thread Cert.Reference10Ideal.nD Cert.Reference10Ideal.τ).loc Cert.Reference10Ideal.main_v52) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v13) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v25) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v22) = v1 c
          ∧ r.2.mem ((c.tc : Thread Cert.Reference27Ideal.nD Cert.Reference27Ideal.τ).loc Cert.Reference27Ideal.main_v23) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v3_0)) (v1 : (c : Dev Cert.Kernel28Ideal.nD) → Buf (Elt Ideal) ((c.tc : Thread Cert.Kernel28Ideal.nD Cert.Kernel28Ideal.τ).loc Cert.Kernel28Ideal.main_v3_1)) (v2 : (c : Dev Cert.Kernel28Ideal.nD) → Buf (Elt Ideal) ((c.tc : Thread Cert.Kernel28Ideal.nD Cert.Kernel28Ideal.τ).loc Cert.Kernel28Ideal.main_v3_2)) (v3 : (c : Dev Cert.Kernel28Ideal.nD) → Buf (Elt Ideal) ((c.tc : Thread Cert.Kernel28Ideal.nD Cert.Kernel28Ideal.τ).loc Cert.Kernel28Ideal.main_v3_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3_0) = v0 c
          ∧ r.2.mem ((c.tc : Thread Cert.Kernel28Ideal.nD Cert.Kernel28Ideal.τ).loc Cert.Kernel28Ideal.main_v3_1) = v1 c
          ∧ r.2.mem ((c.tc : Thread Cert.Kernel28Ideal.nD Cert.Kernel28Ideal.τ).loc Cert.Kernel28Ideal.main_v3_2) = v2 c
          ∧ r.2.mem ((c.tc : Thread Cert.Kernel28Ideal.nD Cert.Kernel28Ideal.τ).loc Cert.Kernel28Ideal.main_v3_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v63) = v0 c
          ∧ r.2.mem ((c.tc : Thread Cert.Reference28Ideal.nD Cert.Reference28Ideal.τ).loc Cert.Reference28Ideal.main_v64) = v1 c
          ∧ r.2.mem ((c.tc : Thread Cert.Reference28Ideal.nD Cert.Reference28Ideal.τ).loc Cert.Reference28Ideal.main_v65) = v2 c
          ∧ r.2.mem ((c.tc : Thread Cert.Reference28Ideal.nD Cert.Reference28Ideal.τ).loc Cert.Reference28Ideal.main_v66) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v31) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x1536 : Shape := ⟨2, ![8192, 1536]⟩
abbrev S8192x512 : Shape := ⟨2, ![8192, 512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x1536 .bf16) (main_arg1 : FVec F S8192x512 .bf16) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  main_v10
-- ==== Pre_finite2.lean ====
abbrev S8192x1024 : Shape := ⟨2, ![8192, 1024]⟩
abbrev S8x1024x704 : Shape := ⟨3, ![8, 1024, 704]⟩
abbrev S4x704x1024 : Shape := ⟨3, ![4, 704, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x704 : S_.BroadcastsInDim S8x1024x704 (![] : Fin 0 → Fin S8x1024x704.rank)
  reducesTo_S8x1024x704_S_d0_1_2 : S8x1024x704.ReducesTo [0, 1, 2] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part1 {F : FTy → Type} [FloatOps F] (main_v16 : IVec S_ 1) (main_v17 : FVec F S8192x1024 .f32) : IVec S_ 1 :=
  let main_v18 : FVec F S8192x1024 .f32 := Host.absf main_v17
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_c_5 : IVec S_ 1 := constantI S_ 1 1#1
  let main_v21 : IVec S_ 1 := (fun x v => Host.reduce IntOp.andi x v reducesTo_S8192x1024_S_d0_1 h_S_) main_v20 main_c_5
  let main_v22 : IVec S_ 1 := andi main_v16 main_v21
  main_v22

def fn {F : FTy → Type} [FloatOps F] (main_arg0 : FVec F S8192x1024 .bf16) (main_arg1 : FVec F S8x1024x704 .bf16) (main_arg2 : FVec F S4x704x1024 .bf16) (main_arg3 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8x1024x704 .f32 := (extf .f32 · bitsLt_bf16_f32) main_arg1
  let main_v6 : FVec F S8x1024x704 .f32 := Host.absf main_v5
  let main_cst_0 : FVec F S_ .f32 := constant S_ .f32 0x7F800000#32
  let main_v7 : FVec F S8x1024x704 .f32 := broadcastInDim S8x1024x704 ![] bcast_S_S8x1024x704 main_cst_0
  let main_v8 : IVec S8x1024x704 1 := cmpf .olt main_v6 main_v7
  let main_c_1 : IVec S_ 1 := constantI S_ 1 1#1
  let main_v9 : IVec S_ 1 := (fun x v => Host.reduce IntOp.andi x v reducesTo_S8x1024x704_S_d0_1_2 h_S_) main_v8 main_c_1
  let main_v10 : IVec S_ 1 := andi main_v4 main_v9
  let main_v11 : FVec F S4x704x1024 .f32 := (extf .f32 · bitsLt_bf16_f32) main_arg2
  let main_v12 : FVec F S4x704x1024 .f32 := Host.absf main_v11
  let main_cst_2 : FVec F S_ .f32 := constant S_ .f32 0x7F800000#32
  let main_v13 : FVec F S4x704x1024 .f32 := broadcastInDim S4x704x1024 ![] bcast_S_S4x704x1024 main_cst_2
  let main_v14 : IVec S4x704x1024 1 := cmpf .olt main_v12 main_v13
  let main_c_3 : IVec S_ 1 := constantI S_ 1 1#1
  let main_v15 : IVec S_ 1 := (fun x v => Host.reduce IntOp.andi x v reducesTo_S4x704x1024_S_d0_1_2 h_S_) main_v14 main_c_3
  let main_v16 : IVec S_ 1 := andi main_v10 main_v15
  let main_v17 : FVec F S8192x1024 .f32 := (extf .f32 · bitsLt_bf16_f32) main_arg3
  fn_part1 (F := F) main_v16 main_v17
-- ==== Kernel.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S4x2x8192x1 : Shape := ⟨4, ![4, 2, 8192, 1]⟩
abbrev S16 : Shape := ⟨1, ![16]⟩
abbrev S1x16 : Shape := ⟨2, ![1, 16]⟩
abbrev S4x16 : Shape := ⟨2, ![4, 16]⟩
abbrev S4x1x8192x1 : Shape := ⟨4, ![4, 1, 8192, 1]⟩
abbrev S4x8192x1 : Shape := ⟨3, ![4, 8192, 1]⟩
abbrev S512x128 : Shape := ⟨2, ![512, 128]⟩
abbrev S8192x128 : Shape := ⟨2, ![8192, 128]⟩
abbrev S1x512x1 : Shape := ⟨3, ![1, 512, 1]⟩
abbrev S512x512 : Shape := ⟨2, ![512, 512]⟩
abbrev S512x1 : Shape := ⟨2, ![512, 1]⟩
abbrev S1024x512 : Shape := ⟨2, ![1024, 512]⟩
abbrev S256x128 : Shape := ⟨2, ![256, 128]⟩
abbrev S1x1 : Shape := ⟨2, ![1, 1]⟩
abbrev S512x1024 : Shape := ⟨2, ![512, 1024]⟩
abbrev S512x256 : Shape := ⟨2, ![512, 256]⟩
abbrev S512 : Shape := ⟨1, ![512]⟩

abbrev nBuf : Space → Nat
  | .hbm => 56
  | .vmem => 18
  | .smem => 1
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x8x64, .f32⟩
  | .hbm, ⟨7, _⟩ => ⟨S8192x8x64, .f32⟩
  | .hbm, ⟨8, _⟩ => ⟨S8192x8x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S_, .f32⟩
  | .hbm, ⟨37, _⟩ => ⟨S8x8192x8192, .i1⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S4x2x8192x1, .f32⟩
  | .hbm, ⟨43, _⟩ => ⟨S16, .i32⟩
  | .hbm, ⟨44, _⟩ => ⟨S1x16, .i32⟩
  | .hbm, ⟨45, _⟩ => ⟨S_, .i32⟩
  | .hbm, ⟨46, _⟩ => ⟨S1x16, .i32⟩
  | .hbm, ⟨47, _⟩ => ⟨S1x16, .i32⟩
  | .hbm, ⟨48, _⟩ => ⟨S4x16, .i32⟩
  | .hbm, ⟨49, _⟩ => ⟨S4x1x8192x1, .f32⟩
  | .hbm, ⟨50, _⟩ => ⟨S4x8192x1, .f32⟩
  | .hbm, ⟨51, _⟩ => ⟨S4x1x8192x1, .f32⟩
  | .hbm, ⟨52, _⟩ => ⟨S4x8192x1, .f32⟩
  | .hbm, ⟨53, _⟩ => ⟨S8192x512, .f32⟩
  | .hbm, ⟨54, _⟩ => ⟨S8192x512, .f32⟩
  | .hbm, ⟨55, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .smem, ⟨0, _⟩ => ⟨S4x16, .i32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_v31_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v151 : Index := Scalar.indexCast arg0
  let arg1 : BitVec 32 := BitVec.ofNat 32 (i 1).val
  let v152 : Index := Scalar.indexCast arg1
  ![v151.toNat, v152.toNat]
@[reducible] def k0_t1_loop (v153 : BitVec 32) : Scf.Loop 32 :=
  let c0_i32_49 : BitVec 32 := 0#32
  let v155 : BitVec 32 := Scalar.subi v153 c0_i32_49
  let c1_i32_50 : BitVec 32 := 1#32
  let v157 : BitVec 32 := Scalar.divsi v155 c1_i32_50
  let v158 : BitVec 32 := Scalar.muli v157 c1_i32_50
  let v159 : BitVec 32 := Scalar.addi c0_i32_49 v158
  let c1_i32_51 : BitVec 32 := 1#32
  ⟨c0_i32_49, v159, c1_i32_51⟩

def k0_mult1 (i : grid0.Coords) (v153 : BitVec 32) (k0_t1 : Fin (k0_t1_loop v153).trips) : BitVec 32 :=
  let arg1 : BitVec 32 := BitVec.ofNat 32 (i 1).val
  let c2_i32_48 : BitVec 32 := 2#32
  let v150 : BitVec 32 := Scalar.muli arg1 c2_i32_48
  let v154 : BitVec 32 := Scalar.subi v150 v153
  let c0_i32_49 : BitVec 32 := 0#32
  let c1_i32_51 : BitVec 32 := 1#32
  let arg12 : BitVec 32 := Scf.iv c0_i32_49 c1_i32_51 k0_t1
  let v167 : BitVec 32 := Scalar.addi v154 arg12
  let c256_i32_60 : BitVec 32 := 256#32
  let v168 : BitVec 32 := Scalar.muli v167 c256_i32_60
  v168
def k0_off2 (i : grid0.Coords) (v153 : BitVec 32) (k0_t1 : Fin (k0_t1_loop v153).trips) : Fin 2 → Nat :=
  let arg1 : BitVec 32 := BitVec.ofNat 32 (i 1).val
  let c2_i32_48 : BitVec 32 := 2#32
  let v150 : BitVec 32 := Scalar.muli arg1 c2_i32_48
  let v154 : BitVec 32 := Scalar.subi v150 v153
  let c0_i32_49 : BitVec 32 := 0#32
  let c1_i32_51 : BitVec 32 := 1#32
  let arg12 : BitVec 32 := Scf.iv c0_i32_49 c1_i32_51 k0_t1
  let v167 : BitVec 32 := Scalar.addi v154 arg12
  let c256_i32_60 : BitVec 32 := 256#32
  let v168 : BitVec 32 := Scalar.muli v167 c256_i32_60
  let v169 : BitVec 32 := v168
  let v170 : Index := Scalar.indexCast v169
  let c0_61 : Index := 0#32
  ![v170.toNat, 0]
@[reducible] def k0_t2_loop (v153 : BitVec 32) : Scf.Loop 32 :=
  let c0_i32_49 : BitVec 32 := 0#32
  let v155 : BitVec 32 := Scalar.subi v153 c0_i32_49
  let c1_i32_50 : BitVec 32 := 1#32
  let v157 : BitVec 32 := Scalar.divsi v155 c1_i32_50
  let v158 : BitVec 32 := Scalar.muli v157 c1_i32_50
  let v159 : BitVec 32 := Scalar.addi c0_i32_49 v158
  let v156 : BitVec 32 := Scalar.addi c0_i32_49 v155
  let c1_i32_52 : BitVec 32 := 1#32
  ⟨v159, v156, c1_i32_52⟩
def k0_mult2 (i : grid0.Coords) (v153 : BitVec 32) (k0_t2 : Fin (k0_t2_loop v153).trips) : BitVec 32 :=
  let arg1 : BitVec 32 := BitVec.ofNat 32 (i 1).val
  let c2_i32_48 : BitVec 32 := 2#32
  let v150 : BitVec 32 := Scalar.muli arg1 c2_i32_48
  let v154 : BitVec 32 := Scalar.subi v150 v153
  let c0_i32_49 : BitVec 32 := 0#32
  let v155 : BitVec 32 := Scalar.subi v153 c0_i32_49
  let c1_i32_50 : BitVec 32 := 1#32
  let v157 : BitVec 32 := Scalar.divsi v155 c1_i32_50
  let v158 : BitVec 32 := Scalar.muli v157 c1_i32_50
  let v159 : BitVec 32 := Scalar.addi c0_i32_49 v158
  let c1_i32_52 : BitVec 32 := 1#32
  let arg12 : BitVec 32 := Scf.iv v159 c1_i32_52 k0_t2
  let v167 : BitVec 32 := Scalar.addi v154 arg12
  let c256_i32_60 : BitVec 32 := 256#32
  let v168 : BitVec 32 := Scalar.muli v167 c256_i32_60
  v168
def k0_off3 (i : grid0.Coords) (v153 : BitVec 32) (k0_t2 : Fin (k0_t2_loop v153).trips) : Fin 2 → Nat :=
  let arg1 : BitVec 32 := BitVec.ofNat 32 (i 1).val
  let c2_i32_48 : BitVec 32 := 2#32
  let v150 : BitVec 32 := Scalar.muli arg1 c2_i32_48
  let v154 : BitVec 32 := Scalar.subi v150 v153
  let c0_i32_49 : BitVec 32 := 0#32
  let v155 : BitVec 32 := Scalar.subi v153 c0_i32_49
  let c1_i32_50 : BitVec 32 := 1#32
  let v157 : BitVec 32 := Scalar.divsi v155 c1_i32_50
  let v158 : BitVec 32 := Scalar.muli v157 c1_i32_50
  let v159 : BitVec 32 := Scalar.addi c0_i32_49 v158
  let c1_i32_52 : BitVec 32 := 1#32
  let arg12 : BitVec 32 := Scf.iv v159 c1_i32_52 k0_t2
  let v167 : BitVec 32 := Scalar.addi v154 arg12
  let c256_i32_60 : BitVec 32 := 256#32
  let v168 : BitVec 32 := Scalar.muli v167 c256_i32_60
  let v169 : BitVec 32 := v168
  let v170 : Index := Scalar.indexCast v169
  let c0_61 : Index := 0#32
  ![v170.toNat, 0]

def k0_chk1 (i : grid0.Coords) (v153 : BitVec 32) : Prop :=
  ((k0_t1_loop v153).OK) ∧
  (∀ k0_t1 : Fin (k0_t1_loop v153).trips, 256 ∣ (k0_mult1 i v153 k0_t1).toNat) ∧
  (∀ k0_t1 : Fin (k0_t1_loop v153).trips, ∀ a, (k0_off2 i v153 k0_t1) a + S256x128.size a ≤ S8192x128.size a) ∧
  ((k0_t2_loop v153).OK) ∧
  (∀ k0_t2 : Fin (k0_t2_loop v153).trips, 256 ∣ (k0_mult2 i v153 k0_t2).toNat) ∧
  (∀ k0_t2 : Fin (k0_t2_loop v153).trips, ∀ a, (k0_off3 i v153 k0_t2) a + S256x128.size a ≤ S8192x128.size a)
theorem k0_t1_ok : ∀ (i : grid0.Coords) (v153 : BitVec 32) (k0_hw1 : k0_chk1 i v153), (k0_t1_loop v153).OK := fun i v153 k0_hw1 => k0_hw1.1
theorem k0_mult1_dvd : ∀ (i : grid0.Coords) (v153 : BitVec 32) (k0_hw1 : k0_chk1 i v153) (k0_t1 : Fin (k0_t1_loop v153).trips), 256 ∣ (k0_mult1 i v153 k0_t1).toNat := fun i v153 k0_hw1 k0_t1 => k0_hw1.2.1 k0_t1
theorem k0_off2_inb : ∀ (i : grid0.Coords) (v153 : BitVec 32) (k0_hw1 : k0_chk1 i v153) (k0_t1 : Fin (k0_t1_loop v153).trips), ∀ a, (k0_off2 i v153 k0_t1) a + S256x128.size a ≤ S8192x128.size a := fun i v153 k0_hw1 k0_t1 => k0_hw1.2.2.1 k0_t1
theorem k0_t2_ok : ∀ (i : grid0.Coords) (v153 : BitVec 32) (k0_hw1 : k0_chk1 i v153), (k0_t2_loop v153).OK := fun i v153 k0_hw1 => k0_hw1.2.2.2.1
theorem k0_mult2_dvd : ∀ (i : grid0.Coords) (v153 : BitVec 32) (k0_hw1 : k0_chk1 i v153) (k0_t2 : Fin (k0_t2_loop v153).trips), 256 ∣ (k0_mult2 i v153 k0_t2).toNat := fun i v153 k0_hw1 k0_t2 => k0_hw1.2.2.2.2.1 k0_t2
theorem k0_off3_inb : ∀ (i : grid0.Coords) (v153 : BitVec 32) (k0_hw1 : k0_chk1 i v153) (k0_t2 : Fin (k0_t2_loop v153).trips), ∀ a, (k0_off3 i v153 k0_t2) a + S256x128.size a ≤ S8192x128.size a := fun i v153 k0_hw1 k0_t2 => k0_hw1.2.2.2.2.2 k0_t2

@[reducible] def k0_t3_loop : Scf.Loop 32 :=
  let c0_i32_53 : BitVec 32 := 0#32
  let c2_i32_54 : BitVec 32 := 2#32
  let v162 : BitVec 32 := Scalar.addi c0_i32_53 c2_i32_54
  let c1_i32_55 : BitVec 32 := 1#32
  ⟨c0_i32_53, v162, c1_i32_55⟩
def k0_mult3 (i : grid0.Coords) (k0_t3 : Fin k0_t3_loop.trips) : BitVec 32 :=
  let arg1 : BitVec 32 := BitVec.ofNat 32 (i 1).val
  let c2_i32_48 : BitVec 32 := 2#32
  let v150 : BitVec 32 := Scalar.muli arg1 c2_i32_48
  let c0_i32_53 : BitVec 32 := 0#32
  let c1_i32_55 : BitVec 32 := 1#32
  let arg12 : BitVec 32 := Scf.iv c0_i32_53 c1_i32_55 k0_t3
  let v167 : BitVec 32 := Scalar.addi v150 arg12
  let c256_i32_60 : BitVec 32 := 256#32
  let v168 : BitVec 32 := Scalar.muli v167 c256_i32_60
  v168
def k0_off4 (i : grid0.Coords) (k0_t3 : Fin k0_t3_loop.trips) : Fin 2 → Nat :=
  let arg1 : BitVec 32 := BitVec.ofNat 32 (i 1).val
  let c2_i32_48 : BitVec 32 := 2#32
  let v150 : BitVec 32 := Scalar.muli arg1 c2_i32_48
  let c0_i32_53 : BitVec 32 := 0#32
  let c1_i32_55 : BitVec 32 := 1#32
  let arg12 : BitVec 32 := Scf.iv c0_i32_53 c1_i32_55 k0_t3
  let v167 : BitVec 32 := Scalar.addi v150 arg12
  let c256_i32_60 : BitVec 32 := 256#32
  let v168 : BitVec 32 := Scalar.muli v167 c256_i32_60
  let v169 : BitVec 32 := v168
  let v170 : Index := Scalar.indexCast v169
  let c0_61 : Index := 0#32
  ![v170.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 171
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x1536, .f32⟩
  | 3 => ⟨S8192x512, .f32⟩
  | 4 => ⟨S8192x512, .f32⟩
  | 5 => ⟨S8192x512, .f32⟩
  | 6 => ⟨S8192x8x64, .f32⟩
  | 7 => ⟨S8192x8x64, .f32⟩
  | 8 => ⟨S8192x8x64, .f32⟩
  | 9 => ⟨S8192x512, .f32⟩
  | 10 => ⟨S8192x8x64, .f32⟩
  | 11 => ⟨S8x8192x8192, .f32⟩
  | 12 => ⟨S_, .f32⟩
  | 13 => ⟨S8x8192x8192, .f32⟩
  | 14 => ⟨S8x8192x8192, .f32⟩
  | 15 => ⟨S8192, .i32⟩
  | 16 => ⟨S1x8192, .i32⟩
  | 17 => ⟨S8192, .i32⟩
  | 18 => ⟨S8192x1, .i32⟩
  | 19 => ⟨S8192x8192, .i32⟩
  | 20 => ⟨S8192x8192, .i32⟩
  | 21 => ⟨S8192x8192, .i1⟩
  | 22 => ⟨S_, .f32⟩
  | 23 => ⟨S8x8192x8192, .f32⟩
  | 24 => ⟨S8x8192x8192, .f32⟩
  | 25 => ⟨S8x8192x8192, .f32⟩
  | 26 => ⟨S8x8192x8192, .f32⟩
  | 27 => ⟨S8x8192x8192, .i1⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S_, .f32⟩
  | 37 => ⟨S8x8192x8192, .f32⟩
  | 38 => ⟨S8x8192x8192, .i1⟩
  | 39 => ⟨S_, .f32⟩
  | 40 => ⟨S8x8192x8192, .f32⟩
  | 41 => ⟨S8x8192x8192, .f32⟩
  | 42 => ⟨S_, .f32⟩
  | 43 => ⟨S8x8192x8192, .f32⟩
  | 44 => ⟨S8x8192x8192, .i1⟩
  | 45 => ⟨S_, .f32⟩
  | 46 => ⟨S8x8192x8192, .f32⟩
  | 47 => ⟨S8x8192x8192, .f32⟩
  | 48 => ⟨S8x8192x8192, .f32⟩
  | 49 => ⟨S8x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x8192x8192, .f32⟩
  | 58 => ⟨S8x8192x8192, .i1⟩
  | 59 => ⟨S_, .f32⟩
  | 60 => ⟨S8x8192x8192, .f32⟩
  | 61 => ⟨S8x8192x8192, .f32⟩
  | 62 => ⟨S8x8192x8192, .f32⟩
  | 63 => ⟨S8x8192x8192, .f32⟩
  | 64 => ⟨S8x8192x8192, .f32⟩
  | 65 => ⟨S_, .f32⟩
  | 66 => ⟨S8x8192x8192, .f32⟩
  | 67 => ⟨S8x8192x8192, .f32⟩
  | 68 => ⟨S8x8192x8192, .f32⟩
  | 69 => ⟨S_, .f32⟩
  | 70 => ⟨S_, .f32⟩
  | 71 => ⟨S8x8192x8192, .i1⟩
  | 72 => ⟨S8x8192x8192, .f32⟩
  | 73 => ⟨S8x8192x8192, .f32⟩
  | 74 => ⟨S_, .f32⟩
  | 75 => ⟨S8x8192x8192, .f32⟩
  | 76 => ⟨S_, .f32⟩
  | 77 => ⟨S_, .f32⟩
  | 78 => ⟨S8x8192x8192, .f32⟩
  | 79 => ⟨S8x8192x8192, .f32⟩
  | 80 => ⟨S8x8192x8192, .f32⟩
  | 81 => ⟨S_, .f32⟩
  | 82 => ⟨S8x8192x8192, .f32⟩
  | 83 => ⟨S8x8192x8192, .f32⟩
  | 84 => ⟨S8x8192x8192, .f32⟩
  | 85 => ⟨S8x8192x8192, .f32⟩
  | 86 => ⟨S8x8192x8192, .i1⟩
  | 87 => ⟨S8x8192x8192, .f32⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S_, .f32⟩
  | 96 => ⟨S8x8192x8192, .f32⟩
  | 97 => ⟨S8x8192x8192, .i1⟩
  | 98 => ⟨S_, .f32⟩
  | 99 => ⟨S8x8192x8192, .f32⟩
  | 100 => ⟨S8x8192x8192, .f32⟩
  | 101 => ⟨S_, .f32⟩
  | 102 => ⟨S8x8192x8192, .f32⟩
  | 103 => ⟨S8x8192x8192, .i1⟩
  | 104 => ⟨S_, .f32⟩
  | 105 => ⟨S8x8192x8192, .f32⟩
  | 106 => ⟨S8x8192x8192, .f32⟩
  | 107 => ⟨S8x8192x8192, .f32⟩
  | 108 => ⟨S8x8192x8192, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x8192x8192, .f32⟩
  | 117 => ⟨S8x8192x8192, .i1⟩
  | 118 => ⟨S_, .f32⟩
  | 119 => ⟨S8x8192x8192, .f32⟩
  | 120 => ⟨S8x8192x8192, .f32⟩
  | 121 => ⟨S8x8192x8192, .f32⟩
  | 122 => ⟨S8x8192x8192, .f32⟩
  | 123 => ⟨S8x8192x8192, .f32⟩
  | 124 => ⟨S_, .f32⟩
  | 125 => ⟨S8x8192x8192, .f32⟩
  | 126 => ⟨S8x8192x8192, .f32⟩
  | 127 => ⟨S8x8192x8192, .f32⟩
  | _ => ⟨S8192x1536, .bf16⟩

abbrev hbmTy0_1 (i : Nat) : BufTy := match i % 128 with
  | 0 => ⟨S8x8192x8192, .f32⟩
  | 1 => ⟨S8x8192x8192, .f32⟩
  | 2 => ⟨S_, .f32⟩
  | 3 => ⟨S_, .f32⟩
  | 4 => ⟨S8x8192x8192, .i1⟩
  | 5 => ⟨S8x8192x8192, .f32⟩
  | 6 => ⟨S8x8192x8192, .f32⟩
  | 7 => ⟨S_, .f32⟩
  | 8 => ⟨S8x8192x8192, .f32⟩
  | 9 => ⟨S8x64x8192, .f32⟩
  | 10 => ⟨S8192x8x64, .f32⟩
  | 11 => ⟨S8x64x8192, .f32⟩
  | 12 => ⟨S8x8192x8192, .f32⟩
  | 13 => ⟨S8x64x8192, .f32⟩
  | 14 => ⟨S8192x8x64, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S_, .f32⟩
  | 24 => ⟨S_, .f32⟩
  | 25 => ⟨S8x8192x8192, .f32⟩
  | 26 => ⟨S8x8192x8192, .f32⟩
  | 27 => ⟨S_, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S_, .f32⟩
  | 34 => ⟨S8x8192x8192, .f32⟩
  | 35 => ⟨S8x8192x8192, .f32⟩
  | 36 => ⟨S8x8192x64, .f32⟩
  | 37 => ⟨S8192x8x64, .f32⟩
  | 38 => ⟨S8x8192x64, .f32⟩
  | 39 => ⟨S8192x8x64, .f32⟩
  | 40 => ⟨S8192x512, .f32⟩
  | 41 => ⟨S8192x512, .f32⟩
  | 42 => ⟨S8192x512, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v19_0 : Ref sig .tc := ⟨.hbm, 35, rfl⟩
abbrev main_call0_cst_0 : Ref sig .tc := ⟨.hbm, 36, rfl⟩
abbrev main_call0_v13 : Ref sig .tc := ⟨.hbm, 37, rfl⟩
abbrev main_call0_v14 : Ref sig .tc := ⟨.hbm, 38, rfl⟩
abbrev main_call0_cst_1 : Ref sig .tc := ⟨.hbm, 39, rfl⟩
abbrev main_call0_v15 : Ref sig .tc := ⟨.hbm, 40, rfl⟩
abbrev main_call0_v16 : Ref sig .tc := ⟨.hbm, 41, rfl⟩
abbrev main_call0_cst_2 : Ref sig .tc := ⟨.hbm, 42, rfl⟩
abbrev main_call0_v17 : Ref sig .tc := ⟨.hbm, 43, rfl⟩
abbrev main_call0_v18 : Ref sig .tc := ⟨.hbm, 44, rfl⟩
abbrev main_call0_cst_3 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_v19_1 : Ref sig .tc := ⟨.hbm, 49, rfl⟩
abbrev main_call0_cst_4 : Ref sig .tc := ⟨.hbm, 50, rfl⟩
abbrev main_call0_cst_5 : Ref sig .tc := ⟨.hbm, 51, rfl⟩
abbrev main_call0_v23 : Ref sig .tc := ⟨.hbm, 52, rfl⟩
abbrev main_call0_cst_6 : Ref sig .tc := ⟨.hbm, 53, rfl⟩
abbrev main_call0_cst_7 : Ref sig .tc := ⟨.hbm, 54, rfl⟩
abbrev main_call0_v24 : Ref sig .tc := ⟨.hbm, 55, rfl⟩
abbrev main_call0_cst_8 : Ref sig .tc := ⟨.hbm, 56, rfl⟩
abbrev main_call0_v25 : Ref sig .tc := ⟨.hbm, 57, rfl⟩
abbrev main_call0_v26 : Ref sig .tc := ⟨.hbm, 58, rfl⟩
abbrev main_call0_cst_9 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_call0_v30 : Ref sig .tc := ⟨.hbm, 63, rfl⟩
abbrev main_call0_v31 : Ref sig .tc := ⟨.hbm, 64, rfl⟩
abbrev main_call0_cst_10 : Ref sig .tc := ⟨.hbm, 65, rfl⟩
abbrev main_call0_v32 : Ref sig .tc := ⟨.hbm, 66, rfl⟩
abbrev main_v19_2 : Ref sig .tc := ⟨.hbm, 67, rfl⟩
abbrev main_v20 : Ref sig .tc := ⟨.hbm, 68, rfl⟩
abbrev main_cst_0 : Ref sig .tc := ⟨.hbm, 69, rfl⟩
abbrev main_call1_v0 : Ref sig .tc := ⟨.hbm, 70, rfl⟩
abbrev main_v21_1 : Ref sig .tc := ⟨.hbm, 71, rfl⟩
abbrev main_call1_v2 : Ref sig .tc := ⟨.hbm, 72, rfl⟩
abbrev main_v21_0 : Ref sig .tc := ⟨.hbm, 73, rfl⟩
abbrev main_call1_cst : Ref sig .tc := ⟨.hbm, 74, rfl⟩
abbrev main_v21_2 : Ref sig .tc := ⟨.hbm, 75, rfl⟩
abbrev main_call2_cst : Ref sig .tc := ⟨.hbm, 76, rfl⟩
abbrev main_call2_v0 : Ref sig .tc := ⟨.hbm, 77, rfl⟩
abbrev main_v22 : Ref sig .tc := ⟨.hbm, 78, rfl⟩
abbrev main_v23 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v24_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v24_2 : Ref sig .tc := ⟨.hbm, 126, rfl⟩
abbrev main_v24_0 : Ref sig .tc := ⟨.hbm, 127, rfl⟩
abbrev main_v25 : Ref sig .tc := ⟨.hbm, 128, rfl⟩
abbrev main_v26 : Ref sig .tc := ⟨.hbm, 129, rfl⟩
abbrev main_cst_1 : Ref sig .tc := ⟨.hbm, 130, rfl⟩
abbrev main_call4_v0 : Ref sig .tc := ⟨.hbm, 131, rfl⟩
abbrev main_v27_1 : Ref sig .tc := ⟨.hbm, 132, rfl⟩
abbrev main_call4_v2 : Ref sig .tc := ⟨.hbm, 133, rfl⟩
abbrev main_v27_0 : Ref sig .tc := ⟨.hbm, 134, rfl⟩
abbrev main_call4_cst : Ref sig .tc := ⟨.hbm, 135, rfl⟩
abbrev main_v27_2 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_call5_cst : Ref sig .tc := ⟨.hbm, 143, rfl⟩
abbrev main_call5_v0 : Ref sig .tc := ⟨.hbm, 144, rfl⟩
abbrev main_v34 : Ref sig .tc := ⟨.hbm, 145, rfl⟩
abbrev main_v35 : Ref sig .tc := ⟨.hbm, 146, rfl⟩
abbrev main_call6_v0 : Ref sig .tc := ⟨.hbm, 147, rfl⟩
abbrev main_call6_v1 : Ref sig .tc := ⟨.hbm, 148, rfl⟩
abbrev main_v36 : Ref sig .tc := ⟨.hbm, 149, rfl⟩
abbrev main_v37 : Ref sig .tc := ⟨.hbm, 150, rfl⟩
abbrev main_call7_cst : Ref sig .tc := ⟨.hbm, 151, rfl⟩
abbrev main_call7_v0 : Ref sig .tc := ⟨.hbm, 152, rfl⟩
abbrev main_v38 : Ref sig .tc := ⟨.hbm, 153, rfl⟩
abbrev main_v39 : Ref sig .tc := ⟨.hbm, 154, rfl⟩
abbrev main_call8_cst : Ref sig .tc := ⟨.hbm, 155, rfl⟩
abbrev main_call8_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_cst_2 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩

abbrev nD : Nat := 1
abbrev τ : Topo := Topo.v7x

variable {F : FTy → Type} [FloatOps F]
-- ==== Kernel2.lean ====
abbrev S8192x1024 : Shape := ⟨2, ![8192, 1024]⟩
abbrev S8x1024x704 : Shape := ⟨3, ![8, 1024, 704]⟩
abbrev S4x704x1024 : Shape := ⟨3, ![4, 704, 1024]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S1x4x8192x704 : Shape := ⟨4, ![1, 4, 8192, 704]⟩
abbrev S2x4x8192x704 : Shape := ⟨4, ![2, 4, 8192, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 20
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x704x1024, .bf16⟩
  | .hbm, ⟨3, _⟩ => ⟨S8192x1024, .bf16⟩
  | .hbm, ⟨4, _⟩ => ⟨S8192x1024, .f32⟩
  | .hbm, ⟨5, _⟩ => ⟨S8x1024x704, .f32⟩
  | .hbm, ⟨6, _⟩ => ⟨S1024x8x704, .f32⟩
  | .hbm, ⟨7, _⟩ => ⟨S1024x5632, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S8192x4x704, .f32⟩
  | .hbm, ⟨12, _⟩ => ⟨S4x8192x704, .f32⟩
  | .hbm, ⟨13, _⟩ => ⟨S8192x4x704, .f32⟩
  | .hbm, ⟨14, _⟩ => ⟨S4x8192x704, .f32⟩
  | .hbm, ⟨15, _⟩ => ⟨S1x4x8192x704, .f32⟩
  | .hbm, ⟨16, _⟩ => ⟨S1x4x8192x704, .f32⟩
  | .hbm, ⟨17, _⟩ => ⟨S2x4x8192x704, .f32⟩
  | .hbm, ⟨18, _⟩ => ⟨S2x4x8192x704, .bf16⟩
  | .hbm, ⟨19, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S8x1024x704 : Shape := ⟨3, ![8, 1024, 704]⟩
abbrev S4x704x1024 : Shape := ⟨3, ![4, 704, 1024]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S2816x1024 : Shape := ⟨2, ![2816, 1024]⟩
abbrev S_ : Shape := ⟨0, ![]⟩
abbrev S8192x4x704 : Shape := ⟨3, ![8192, 4, 704]⟩
abbrev S4x8192x704 : Shape := ⟨3, ![4, 8192, 704]⟩
abbrev S1x4x8192x704 : Shape := ⟨4, ![1, 4, 8192, 704]⟩
abbrev S2x4x8192x704 : Shape := ⟨4, ![2, 4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x704x1024, .bf16⟩
  | .hbm, ⟨3, _⟩ => ⟨S8192x1024, .bf16⟩
  | .hbm, ⟨4, _⟩ => ⟨S8192x1024, .f32⟩
  | .hbm, ⟨5, _⟩ => ⟨S8x1024x704, .f32⟩
  | .hbm, ⟨6, _⟩ => ⟨S1024x8x704, .f32⟩
  | .hbm, ⟨7, _⟩ => ⟨S1024x5632, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S4x704x1024, .f32⟩
  | .hbm, ⟨12, _⟩ => ⟨S2816x1024, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x4x704, .f32⟩
  | .hbm, ⟨37, _⟩ => ⟨S4x8192x704, .f32⟩
  | .hbm, ⟨38, _⟩ => ⟨S8192x4x704, .f32⟩
  | .hbm, ⟨39, _⟩ => ⟨S4x8192x704, .f32⟩
  | .hbm, ⟨40, _⟩ => ⟨S1x4x8192x704, .f32⟩
  | .hbm, ⟨41, _⟩ => ⟨S1x4x8192x704, .f32⟩
  | .hbm, ⟨42, _⟩ => ⟨S2x4x8192x704, .f32⟩
  | .hbm, ⟨43, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel3.lean ====
abbrev S8192x1024 : Shape := ⟨2, ![8192, 1024]⟩
abbrev S8x8192x704 : Shape := ⟨3, ![8, 8192, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8x8192x704 : Shape := ⟨3, ![8, 8192, 704]⟩
abbrev S8192x8x704 : Shape := ⟨3, ![8192, 8, 704]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x8192x704, .f32⟩
  | .hbm, ⟨3, _⟩ => ⟨S8192x8x704, .f32⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8x8192x704 : Shape := ⟨3, ![8, 8192, 704]⟩
abbrev S8x1024x704 : Shape := ⟨3, ![8, 1024, 704]⟩
abbrev S8192x8x704 : Shape := ⟨3, ![8192, 8, 704]⟩
abbrev S8192x5632 : Shape := ⟨2, ![8192, 5632]⟩
abbrev S_ : Shape := ⟨0, ![]⟩
abbrev S8192x1024 : Shape := ⟨2, ![8192, 1024]⟩
abbrev S1024x8x704 : Shape := ⟨3, ![1024, 8, 704]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8x8192x704, .f32⟩
  | .hbm, ⟨3, _⟩ => ⟨S8192x8x704, .f32⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S8x1024x704, .f32⟩
  | .hbm, ⟨8, _⟩ => ⟨S1024x8x704, .f32⟩
  | .hbm, ⟨9, _⟩ => ⟨S1024x5632, .f32⟩
  | .hbm, ⟨10, _⟩ => ⟨S8192x5632, .f32⟩
  | .hbm, ⟨11, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4x8192x704 : Shape := ⟨3, ![4, 8192, 704]⟩
abbrev S8192x1024 : Shape := ⟨2, ![8192, 1024]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x8192x704 : Shape := ⟨3, ![4, 8192, 704]⟩
abbrev S8192x1024 : Shape := ⟨2, ![8192, 1024]⟩
abbrev S_ : Shape := ⟨0, ![]⟩
abbrev S2816x1024 : Shape := ⟨2, ![2816, 1024]⟩
abbrev S8192x4x704 : Shape := ⟨3, ![8192, 4, 704]⟩
abbrev S8192x2816 : Shape := ⟨2, ![8192, 2816]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S4x8192x704, .f32⟩
  | .hbm, ⟨5, _⟩ => ⟨S8192x4x704, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4x8192x704 : Shape := ⟨3, ![4, 8192, 704]⟩
abbrev S4x704x1024 : Shape := ⟨3, ![4, 704, 1024]⟩
abbrev S8192x4x704 : Shape := ⟨3, ![8192, 4, 704]⟩
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S4x8192x704, .f32⟩
  | .hbm, ⟨3, _⟩ => ⟨S8192x4x704, .f32⟩
  | .hbm, ⟨4, _⟩ => ⟨S8192x2816, .f32⟩
  | .hbm, ⟨5, _⟩ => ⟨S4x704x1024, .f32⟩
  | .hbm, ⟨6, _⟩ => ⟨S2816x1024, .f32⟩
  | .hbm, ⟨7, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8x1024x704 : Shape := ⟨3, ![8, 1024, 704]⟩
abbrev S4x8192x704 : Shape := ⟨3, ![4, 8192, 704]⟩
abbrev S2x4x8192x704 : Shape := ⟨4, ![2, 4, 8192, 704]⟩
abbrev S1024x1024 : Shape := ⟨2, ![1024, 1024]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x8192x704, .bf16⟩
  | .hbm, ⟨3, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S2x1x1024x704, .bf16⟩
  | .local _ .vmem, ⟨9, _⟩ => ⟨S2x1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x1024 : Shape := ⟨2, ![8192, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S1x4x8192x704 : Shape := ⟨4, ![1, 4, 8192, 704]⟩
abbrev S2x4x8192x704 : Shape := ⟨4, ![2, 4, 8192, 704]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x4x704, .f32⟩
  | .hbm, ⟨20, _⟩ => ⟨S4x8192x704, .f32⟩
  | .hbm, ⟨21, _⟩ => ⟨S4x8192x704, .bf16⟩
  | .hbm, ⟨22, _⟩ => ⟨S8192x4x704, .f32⟩
  | .hbm, ⟨23, _⟩ => ⟨S4x8192x704, .f32⟩
  | .hbm, ⟨24, _⟩ => ⟨S8192x4x704, .f32⟩
  | .hbm, ⟨25, _⟩ => ⟨S4x8192x704, .f32⟩
  | .hbm, ⟨26, _⟩ => ⟨S1x4x8192x704, .f32⟩
  | .hbm, ⟨27, _⟩ => ⟨S1x4x8192x704, .f32⟩
  | .hbm, ⟨28, _⟩ => ⟨S2x4x8192x704, .f32⟩
  | .hbm, ⟨29, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel8.lean ====
abbrev S8192x1024 : Shape := ⟨2, ![8192, 1024]⟩
abbrev S1024x5760 : Shape := ⟨2, ![1024, 5760]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5760 : Shape := ⟨2, ![1024, 5760]⟩
abbrev S8192x5760 : Shape := ⟨2, ![8192, 5760]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x1024, .f32⟩
  | .hbm, ⟨3, _⟩ => ⟨S1024x5760, .f32⟩
  | .hbm, ⟨4, _⟩ => ⟨S8192x5760, .f32⟩
  | .hbm, ⟨5, _⟩ => ⟨S8192x1536, .f32⟩
  | .hbm, ⟨6, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_27 : BitVec 32 := 0#32
  let v66 : BitVec 1 := Scalar.cmpi .ne v65 c0_i32_27
  v66

def k0_cond2 (i : grid0.Coords) : BitVec 1 :=
  let arg0 : BitVec 32 := BitVec.ofNat 32 (i 0).val
  let c0_i32_28 : BitVec 32 := 0#32
  let v67 : BitVec 1 := Scalar.cmpi .sgt arg0 c0_i32_28
  let v68 : BitVec 32 := Scalar.extui v67
  let c0_i32_29 : BitVec 32 := 0#32
  let v69 : BitVec 1 := Scalar.cmpi .ne v68 c0_i32_29
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S8192x1024, .bf16⟩
  | .hbm, ⟨95, _⟩ => ⟨S1x1024, .f32⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel10.lean ====
abbrev S8192x1024 : Shape := ⟨2, ![8192, 1024]⟩
abbrev S8192x2048 : Shape := ⟨2, ![8192, 2048]⟩
abbrev S1x2048 : Shape := ⟨2, ![1, 2048]⟩
abbrev S1x1024 : Shape := ⟨2, ![1, 1024]⟩
abbrev S256x1024 : Shape := ⟨2, ![256, 1024]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x2048, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_30 : BitVec 32 := 0#32
  let v53 : BitVec 1 := Scalar.cmpi .ne v52 c0_i32_30
  v53

def k0_cond2 (i : grid0.Coords) : BitVec 1 :=
  let arg0 : BitVec 32 := BitVec.ofNat 32 (i 0).val
  let c0_i32_31 : BitVec 32 := 0#32
  let v54 : BitVec 1 := Scalar.cmpi .sgt arg0 c0_i32_31
  let v55 : BitVec 32 := Scalar.extui v54
  let c0_i32_32 : BitVec 32 := 0#32
  let v56 : BitVec 1 := Scalar.cmpi .ne v55 c0_i32_32
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference10Ideal.lean ====
abbrev S8192x1024 : Shape := ⟨2, ![8192, 1024]⟩
abbrev S8192x2048 : Shape := ⟨2, ![8192, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S1x2048, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S8192x1024, .bf16⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S1x1024, .f32⟩
  | .hbm, ⟨67, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel11.lean ====
abbrev S8192x5760 : Shape := ⟨2, ![8192, 5760]⟩
abbrev S1024x5760 : Shape := ⟨2, ![1024, 5760]⟩
abbrev S8192x1024 : Shape := ⟨2, ![8192, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x5760 : Shape := ⟨2, ![8192, 5760]⟩
abbrev S1024x5760 : Shape := ⟨2, ![1024, 5760]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5760, .bf16⟩
  | .hbm, ⟨1, _⟩ => ⟨S1024x5760, .bf16⟩
  | .hbm, ⟨2, _⟩ => ⟨S_, .f32⟩
  | .hbm, ⟨3, _⟩ => ⟨S8192x1024, .f32⟩
  | .hbm, ⟨4, _⟩ => ⟨S1024x5760, .f32⟩
  | .hbm, ⟨5, _⟩ => ⟨S8192x5760, .f32⟩
  | .hbm, ⟨6, _⟩ => ⟨S8192x5760, .f32⟩
  | .hbm, ⟨7, _⟩ => ⟨S8192x1024, .f32⟩
  | _, _ => ⟨S8192x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S8192x5760 : Shape := ⟨2, ![8192, 5760]⟩
abbrev S1024x5760 : Shape := ⟨2, ![1024, 5760]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5760, .bf16⟩
  | .hbm, ⟨2, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x5760 : Shape := ⟨2, ![8192, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5760, .bf16⟩
  | .hbm, ⟨2, _⟩ => ⟨S_, .f32⟩
  | .hbm, ⟨3, _⟩ => ⟨S1024x5760, .f32⟩
  | .hbm, ⟨4, _⟩ => ⟨S8192x1024, .f32⟩
  | .hbm, ⟨5, _⟩ => ⟨S8192x5760, .f32⟩
  | .hbm, ⟨6, _⟩ => ⟨S8192x5760, .f32⟩
  | .hbm, ⟨7, _⟩ => ⟨S5760x1024, .f32⟩
  | .hbm, ⟨8, _⟩ => ⟨S1024x5760, .f32⟩
  | .hbm, ⟨9, _⟩ => ⟨S1024x5760, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024x5760 : Shape := ⟨2, ![1024, 5760]⟩
abbrev S8192x2048 : Shape := ⟨2, ![8192, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x5760 : Shape := ⟨2, ![1024, 5760]⟩
abbrev S8192x5760 : Shape := ⟨2, ![8192, 5760]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x1024, .f32⟩
  | .hbm, ⟨3, _⟩ => ⟨S1024x5760, .f32⟩
  | .hbm, ⟨4, _⟩ => ⟨S8192x5760, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x5760 : Shape := ⟨2, ![1024, 5760]⟩
abbrev S8192x2048 : Shape := ⟨2, ![8192, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg1 c7_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x5760 : Shape := ⟨2, ![1024, 5760]⟩
abbrev S8192x5760 : Shape := ⟨2, ![8192, 5760]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x1024, .f32⟩
  | .hbm, ⟨3, _⟩ => ⟨S1024x5760, .f32⟩
  | .hbm, ⟨4, _⟩ => ⟨S8192x5760, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x5760 : Shape := ⟨2, ![1024, 5760]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi arg1 c44_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x5760 : Shape := ⟨2, ![1024, 5760]⟩
abbrev S8192x5760 : Shape := ⟨2, ![8192, 5760]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5760, .bf16⟩
  | .hbm, ⟨2, _⟩ => ⟨S8192x1024, .f32⟩
  | .hbm, ⟨3, _⟩ => ⟨S1024x5760, .f32⟩
  | .hbm, ⟨4, _⟩ => ⟨S8192x5760, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S8192x2048 : Shape := ⟨2, ![8192, 2048]⟩
abbrev S8192x1024 : Shape := ⟨2, ![8192, 1024]⟩
abbrev S1x2048 : Shape := ⟨2, ![1, 2048]⟩
abbrev S1x1024 : Shape := ⟨2, ![1, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S8192x2048 : Shape := ⟨2, ![8192, 2048]⟩
abbrev S8192x1024 : Shape := ⟨2, ![8192, 1024]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S_ : Shape := ⟨0, ![]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32_27 : BitVec 32 := 0#32
  let v65 : BitVec 1 := Scalar.cmpi .sgt arg0 c0_i32_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference28Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S1x1024, .f32⟩
  | .hbm, ⟨90, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel29.lean ====
abbrev S8192x2048 : Shape := ⟨2, ![8192, 2048]⟩
abbrev S4x1536 : Shape := ⟨2, ![4, 1536]⟩
abbrev S8192x1536 : Shape := ⟨2, ![8192, 1536]⟩
abbrev S256x1536 : Shape := ⟨2, ![256, 1536]⟩
abbrev S8x1536 : Shape := ⟨2, ![8, 1536]⟩
abbrev S264x1536 : Shape := ⟨2, ![264, 1536]⟩
abbrev S1x1536 : Shape := ⟨2, ![1, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S8192x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S256x1536, .f32⟩
  | .local _ .vmem, ⟨6, _⟩ => ⟨S256x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S8192x2048 : Shape := ⟨2, ![8192, 2048]⟩
abbrev S4x1536 : Shape := ⟨2, ![4, 1536]⟩
abbrev S8192x1536 : Shape := ⟨2, ![8192, 1536]⟩
abbrev S_ : Shape := ⟨0, ![]⟩
abbrev S8195x1536 : Shape := ⟨2, ![8195, 1536]⟩
abbrev S1x1536 : Shape := ⟨2, ![1, 1536]⟩
abbrev S1536 : Shape := ⟨1, ![1536]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1536, .f32⟩
  | .hbm, ⟨2, _⟩ => ⟨S8192x1536, .f32⟩
  | .hbm, ⟨3, _⟩ => ⟨S_, .i32⟩
  | .hbm, ⟨4, _⟩ => ⟨S_, .f32⟩
  | .hbm, ⟨5, _⟩ => ⟨S8195x1536, .f32⟩
  | .hbm, ⟨6, _⟩ => ⟨S1x1536, .f32⟩
  | .hbm, ⟨7, _⟩ => ⟨S1536, .f32⟩
  | .hbm, ⟨8, _⟩ => ⟨S8192x1536, .f32⟩
  | .hbm, ⟨9, _⟩ => ⟨S1x1536, .f32⟩
  | .hbm, ⟨10, _⟩ => ⟨S8192x1536, .f32⟩
  | .hbm, ⟨11, _⟩ => ⟨S8192x1536, .f32⟩
  | .hbm, ⟨12, _⟩ => ⟨S_, .f32⟩
  | .hbm, ⟨13, _⟩ => ⟨S8192x1536, .f32⟩
  | .hbm, ⟨14, _⟩ => ⟨S8192x1536, .f32⟩
  | .hbm, ⟨15, _⟩ => ⟨S1x1536, .f32⟩
  | .hbm, ⟨16, _⟩ => ⟨S1536, .f32⟩
  | .hbm, ⟨17, _⟩ => ⟨S8192x1536, .f32⟩
  | .hbm, ⟨18, _⟩ => ⟨S1x1536, .f32⟩
  | .hbm, ⟨19, _⟩ => ⟨S8192x1536, .f32⟩
  | .hbm, ⟨20, _⟩ => ⟨S8192x1536, .f32⟩
  | .hbm, ⟨21, _⟩ => ⟨S8192x1536, .f32⟩
  | .hbm, ⟨22, _⟩ => ⟨S1x1536, .f32⟩
  | .hbm, ⟨23, _⟩ => ⟨S1536, .f32⟩
  | .hbm, ⟨24, _⟩ => ⟨S8192x1536, .f32⟩
  | .hbm, ⟨25, _⟩ => ⟨S1x1536, .f32⟩
  | .hbm, ⟨26, _⟩ => ⟨S8192x1536, .f32⟩
  | .hbm, ⟨27, _⟩ => ⟨S8192x1536, .f32⟩
  | .hbm, ⟨28, _⟩ => ⟨S8192x1536, .f32⟩
  | .hbm, ⟨29, _⟩ => ⟨S1x1536, .f32⟩
  | .hbm, ⟨30, _⟩ => ⟨S1536, .f32⟩
  | .hbm, ⟨31, _⟩ => ⟨S8192x1536, .f32⟩
  | .hbm, ⟨32, _⟩ => ⟨S1x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S_, .f32⟩
  | .hbm, ⟨39, _⟩ => ⟨S8192x1536, .f32⟩
  | .hbm, ⟨40, _⟩ => ⟨S8192x1536, .f32⟩
  | .hbm, ⟨41, _⟩ => ⟨S_, .f32⟩
  | .hbm, ⟨42, _⟩ => ⟨S8192x1536, .f32⟩
  | .hbm, ⟨43, _⟩ => ⟨S8192x1536, .f32⟩
  | .hbm, ⟨44, _⟩ => ⟨S8192x1536, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel30.lean ====
abbrev S4x1024x704 : Shape := ⟨3, ![4, 1024, 704]⟩
abbrev S1024x704 : Shape := ⟨2, ![1024, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S4x1024x704 : Shape := ⟨3, ![4, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S4x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S4x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference31Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.FfnFrames.lean ====
/-
  The feed-forward network's programs' runs: each ends with its arguments as they were and every semaphore counter at zero.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run

@[expose] public section

set_option maxRecDepth 16384

noncomputable section

namespace Cert.Ffn

open Idealize.ShloMosaic Idealize.ShloMosaic.TcCoe
open Idealize.SL Idealize.SL.Sem

theorem kernel2 : Cert.quiescent_Kernel2 := fun m ρ _ => Cert.Kernel2.Gen.frame m ρ
theorem ideal2 : Cert.quiescent_Kernel2Ideal := fun m ρ _ => Cert.Kernel2Ideal.Gen.frame m ρ
theorem reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem kernel3 : Cert.quiescent_Kernel3 := fun m ρ _ => Cert.Kernel3.Gen.frame m ρ
theorem ideal3 : Cert.quiescent_Kernel3Ideal := fun m ρ _ => Cert.Kernel3Ideal.Gen.frame m ρ
theorem reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem kernel4 : Cert.quiescent_Kernel4 := fun m ρ _ => Cert.Kernel4.Gen.frame m ρ
theorem ideal4 : Cert.quiescent_Kernel4Ideal := fun m ρ _ => Cert.Kernel4Ideal.Gen.frame m ρ
theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem kernel5 : Cert.quiescent_Kernel5 := fun m ρ _ => Cert.Kernel5.Gen.frame m ρ
theorem ideal5 : Cert.quiescent_Kernel5Ideal := fun m ρ _ => Cert.Kernel5Ideal.Gen.frame m ρ
theorem reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem kernel6 : Cert.quiescent_Kernel6 := fun m ρ _ => Cert.Kernel6.Gen.frame m ρ
theorem ideal6 : Cert.quiescent_Kernel6Ideal := fun m ρ _ => Cert.Kernel6Ideal.Gen.frame m ρ
theorem reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem kernel7 : Cert.quiescent_Kernel7 := fun m ρ _ => Cert.Kernel7.Gen.frame m ρ
theorem ideal7 : Cert.quiescent_Kernel7Ideal := fun m ρ _ => Cert.Kernel7Ideal.Gen.frame m ρ
theorem reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

end Cert.Ffn

end
-- ==== Proof.MixFrames.lean ====
/-
  The mixer's and the norms' programs' runs: each ends with its arguments as they were and every semaphore counter at zero.
-/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run

@[expose] public section

set_option maxRecDepth 16384

noncomputable section

namespace Cert.Mix

open Idealize.ShloMosaic Idealize.ShloMosaic.TcCoe
open Idealize.SL Idealize.SL.Sem

theorem kernel9 : Cert.quiescent_Kernel9 := fun m ρ _ => Cert.Kernel9.Gen.frame m ρ
theorem ideal9 : Cert.quiescent_Kernel9Ideal := fun m ρ _ => Cert.Kernel9Ideal.Gen.frame m ρ
theorem reference9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem kernel10 : Cert.quiescent_Kernel10 := fun m ρ _ => Cert.Kernel10.Gen.frame m ρ
theorem ideal10 : Cert.quiescent_Kernel10Ideal := fun m ρ _ => Cert.Kernel10Ideal.Gen.frame m ρ
theorem reference10 : Cert.quiescent_Reference10Ideal := fun m ρ _ =>
  (θ_run Cert.Reference10Ideal.defs _ _).mono (fun r h => ⟨fun c => (h c).2.2.2.2.2.2, sem_eq_zero_of_no_sems (by decide) r.2⟩)
    (Cert.Reference10Ideal.Value.run (F := Ideal) m ρ)

theorem kernel11 : Cert.quiescent_Kernel11 := fun m ρ _ => Cert.Kernel11.Gen.frame m ρ
theorem ideal11 : Cert.quiescent_Kernel11Ideal := fun m ρ _ => Cert.Kernel11Ideal.Gen.frame m ρ
theorem reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem kernel12 : Cert.quiescent_Kernel12 := fun m ρ _ => Cert.Kernel12.Gen.frame m ρ
theorem ideal12 : Cert.quiescent_Kernel12Ideal := fun m ρ _ => Cert.Kernel12Ideal.Gen.frame m ρ
theorem reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Mix

end
-- ==== Proof.LnRow.lean ====
/-
  The gradient of a layer norm along one row, over the extended reals: what the call and the reference both compute of it.
-/
module

public import Idealize.ShloMosaic.Lib.Pointwise

@[expose] public section

noncomputable section

namespace Cert.Ln

open Idealize.ShloMosaic
open Finset

variable (q w x a b : Fin 1024 → EReal) (s : EReal) (n : Fin 1024)

/-- The row less its mean; its variance, with the small constant added; and the inverse square root of that. -/
def cen : EReal := x n - Ideal.div (∑ k, x k) (Ideal.ofBits .f32 0x44800000#32)
def vr : EReal := Ideal.div (∑ k, cen x k * cen x k) (Ideal.ofBits .f32 0x44800000#32) + Ideal.ofBits .f32 0x3727C5AC#32
def rs : EReal := Ideal.rsqrt (vr x)

/-- The gradient of the variance's square, per element. -/
def slope : EReal :=
  Ideal.div ((∑ k, cen x k * (q k * w k)) * (Ideal.ofBits .f32 0xBF000000#32 * Ideal.div (rs x) (vr x))) (Ideal.ofBits .f32 0x44800000#32)

/-- The gradient of the centred row, and of the row. -/
def mid : EReal := b n + a n * s + s * a n
def fin_ : EReal := mid a b s n + Ideal.div (∑ k, -mid a b s k) (Ideal.ofBits .f32 0x44800000#32)
def out : EReal := fin_ (cen x) (fun k => q k * w k * rs x) (slope q w x) n

/-- What a row adds to the gradient of the norm's gain. -/
def gain : EReal := cen x n * rs x * q n

/-- The network's residual: the constants that scale the input and the half-step's result. -/
def resid (h f : EReal) : EReal := Ideal.ofBits .f32 0x3F9837F0#32 * h + Ideal.ofBits .f32 0x3F000000#32 * f

end Cert.Ln
-- ==== Proof.LnBody.lean ====
/-
  The gradient of a half-step's layer norm: what the body leaves in the blocks of its four results at the first grid point
  and at the later ones.
-/
module

public import proofs.«01_k».proof.Proof.LnRow
public import proofs.«01_k».proof.Proof.Gen.Kernel9Ideal.Value

@[expose] public section

set_option maxRecDepth 16384

noncomputable section

namespace Cert.Ln

open Cert.Kernel9Ideal Cert.Kernel9Ideal.Gen Cert.Kernel9Ideal.Value
open Idealize.ShloMosaic Idealize.ShloMosaic.TcCoe
open Idealize.SL Idealize.SL.Sem

variable {F : FTy → Type} [FloatOps F]

theorem hz : (![0, 0] : Fin 2 → Nat) = fun _ => 0 := funext fun a => by fin_cases a <;> rfl

variable (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S256x1024 .f32) (h3 : arg3.IsWhole)
  (arg4 : Memref sig .tc .vmem S1x1024 .f32) (h4 : arg4.IsWhole) (arg5 : Memref sig .tc .vmem S1x1024 .f32) (h5 : arg5.IsWhole) (arg6 : Memref sig .tc .vmem S256x1024 .f32) (h6 : arg6.IsWhole)
  (arg7 : Memref sig .tc .vmem S256x1024 .bf16) (h7 : arg7.IsWhole) (arg8 : Memref sig .tc .vmem S1x1024 .f32) (h8 : arg8.IsWhole) (arg9 : Memref sig .tc .vmem S1x1024 .f32) (h9 : arg9.IsWhole)
  (x0 x1 x2 : Vec F S256x1024 .f32) (x3 x4 xo xp : Vec F S1x1024 .f32)

/-- At the first point the sums begin; at a later one they go on from what the point before left. -/
theorem left_A (hc0 : cond0_0 i) (hc1 : ¬cond0_1 i) :
    out0_A_5 c i arg1 h1 arg2 h2 arg3 h3 arg4 h4 arg5 h5 arg6 h6 arg7 h7 arg8 h8 arg9 h9 hc0 hc1 x0 x1 x2 x3 x4 = k0_pay2 (k0_pay7 x2) (k0_pay13 x0 x1 x2 x3) (k0_pay14 x0 x1 x2 x3)
    ∧ out0_A_6 c i arg1 h1 arg2 h2 arg3 h3 arg4 h4 arg5 h5 arg6 h6 arg7 h7 arg8 h8 arg9 h9 hc0 hc1 x0 x1 x2 x3 x4 = k0_pay3 (k0_pay7 x2) (k0_pay13 x0 x1 x2 x3) (k0_pay14 x0 x1 x2 x3)
    ∧ out0_A_7 c i arg1 h1 arg2 h2 arg3 h3 arg4 h4 arg5 h5 arg6 h6 arg7 h7 arg8 h8 arg9 h9 hc0 hc1 x0 x1 x2 x3 x4 = k0_pay11 x0 x1 x2
    ∧ out0_A_8 c i arg1 h1 arg2 h2 arg3 h3 arg4 h4 arg5 h5 arg6 h6 arg7 h7 arg8 h8 arg9 h9 hc0 hc1 x0 x1 x2 x3 x4 = k0_pay10 x0 x1 := by
  refine ⟨(View.read_writes_eq_canon _ _ _ (cover0_A_5 c i arg1 h1 arg2 h2 arg3 h3 arg4 h4 arg5 h5 arg6 h6 arg7 h7 arg8 h8 arg9 h9 hc0 hc1 x0 x1 x2 x3 x4)).trans ?_,
    (View.read_writes_eq_canon _ _ _ (cover0_A_6 c i arg1 h1 arg2 h2 arg3 h3 arg4 h4 arg5 h5 arg6 h6 arg7 h7 arg8 h8 arg9 h9 hc0 hc1 x0 x1 x2 x3 x4)).trans ?_,
    (View.read_writes_eq_canon _ _ _ (cover0_A_7 c i arg1 h1 arg2 h2 arg3 h3 arg4 h4 arg5 h5 arg6 h6 arg7 h7 arg8 h8 arg9 h9 hc0 hc1 x0 x1 x2 x3 x4)).trans ?_,
    (View.read_writes_eq_canon _ _ _ (cover0_A_8 c i arg1 h1 arg2 h2 arg3 h3 arg4 h4 arg5 h5 arg6 h6 arg7 h7 arg8 h8 arg9 h9 hc0 hc1 x0 x1 x2 x3 x4)).trans ?_⟩
  all_goals
    unfold kernelRun0_A
    dsimp only
    sl_unfold_words
    rw [View.canon_unit_zero hz]
    simp only [View.readAt_eq_ld, h1.read_unread, h2.read_unread, h3.read_unread, h4.read_unread, h5.read_unread,
      View.ld_unit_zero (S := S256x1024) hz, View.ld_unit_zero (S := S1x1024) hz]

theorem left_B (hc0 : ¬cond0_0 i) (hc1 : cond0_1 i) :
    out0_B_5 c i arg1 h1 arg2 h2 arg3 h3 arg4 h4 arg5 h5 arg6 h6 arg7 h7 arg8 h8 arg9 h9 hc0 hc1 x0 x1 x2 x3 x4 xo xp = k0_pay2 (k0_pay7 x2) (k0_pay13 x0 x1 x2 x3) (k0_pay14 x0 x1 x2 x3)
    ∧ out0_B_6 c i arg1 h1 arg2 h2 arg3 h3 arg4 h4 arg5 h5 arg6 h6 arg7 h7 arg8 h8 arg9 h9 hc0 hc1 x0 x1 x2 x3 x4 xo xp = k0_pay3 (k0_pay7 x2) (k0_pay13 x0 x1 x2 x3) (k0_pay14 x0 x1 x2 x3)
    ∧ out0_B_7 c i arg1 h1 arg2 h2 arg3 h3 arg4 h4 arg5 h5 arg6 h6 arg7 h7 arg8 h8 arg9 h9 hc0 hc1 x0 x1 x2 x3 x4 xo xp = k0_pay4 (k0_pay11 x0 x1 x2) xo
    ∧ out0_B_8 c i arg1 h1 arg2 h2 arg3 h3 arg4 h4 arg5 h5 arg6 h6 arg7 h7 arg8 h8 arg9 h9 hc0 hc1 x0 x1 x2 x3 x4 xo xp = k0_pay5 (k0_pay10 x0 x1) xp := by
  refine ⟨(View.read_writes_eq_canon _ _ _ (cover0_B_5 c i arg1 h1 arg2 h2 arg3 h3 arg4 h4 arg5 h5 arg6 h6 arg7 h7 arg8 h8 arg9 h9 hc0 hc1 x0 x1 x2 x3 x4 xo xp)).trans ?_,
    (View.read_writes_eq_canon _ _ _ (cover0_B_6 c i arg1 h1 arg2 h2 arg3 h3 arg4 h4 arg5 h5 arg6 h6 arg7 h7 arg8 h8 arg9 h9 hc0 hc1 x0 x1 x2 x3 x4 xo xp)).trans ?_,
    (View.read_writes_eq_canon _ _ _ (cover0_B_7 c i arg1 h1 arg2 h2 arg3 h3 arg4 h4 arg5 h5 arg6 h6 arg7 h7 arg8 h8 arg9 h9 hc0 hc1 x0 x1 x2 x3 x4 xo xp)).trans ?_,
    (View.read_writes_eq_canon _ _ _ (cover0_B_8 c i arg1 h1 arg2 h2 arg3 h3 arg4 h4 arg5 h5 arg6 h6 arg7 h7 arg8 h8 arg9 h9 hc0 hc1 x0 x1 x2 x3 x4 xo xp)).trans ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread, h9.read_unread,
      View.ld_unit_zero (S := S256x1024) hz, View.ld_unit_zero (S := S1x1024) hz]

end Cert.Ln
-- ==== Proof.LnRef.lean ====
/-
  The gradient of a half-step's layer norm as the reference computes it.
-/
module

public import proofs.«01_k».proof.Proof.LnRow
public import proofs.«01_k».proof.Proof.Gen.Reference9Ideal.Run

@[expose] public section

set_option maxRecDepth 16384

noncomputable section

namespace Cert.Ln

open Cert.Reference9Ideal Cert.Reference9Ideal.Gen
open Idealize.ShloMosaic
open Idealize.SL Idealize.SL.Sem
open Finset

variable (q x h f : FVec Ideal S8192x1024 .f32) (w : FVec Ideal S1x1024 .f32)

/-- A row's length, and a vector of zeros' one element. -/
def len : FVec Ideal S8192x1 .f32 := broadcastInDim S8192x1 ![] bcast_S_S8192x1 (constant S_ .f32 0x44800000#32)
def zer : FVec Ideal S_ .f32 := constant S_ .f32 0x00000000#32

/-- The residual, and the norm's pieces, for every row. -/
def residH : FVec Ideal S8192x1024 .f32 :=
  addf (mulf (broadcastInDim S8192x1024 ![] bcast_S_S8192x1024 (constant S_ .f32 0x3F9837F0#32)) h)
    (mulf (broadcastInDim S8192x1024 ![] bcast_S_S8192x1024 (constant S_ .f32 0x3F000000#32)) f)
def cenH : FVec Ideal S8192x1024 .f32 :=
  subf x (broadcastInDim S8192x1024 ![0, 1] bcast_S8192x1_S8192x1024_0_1
    (Host.divf (broadcastInDim S8192x1 ![0] bcast_S8192_S8192x1_0 (Host.reduceAdd x zer reducesTo_S8192x1024_S8192_d1 h_S_)) len))
def varH : FVec Ideal S8192x1 .f32 :=
  addf (Host.divf (broadcastInDim S8192x1 ![0] bcast_S8192_S8192x1_0
      (Host.reduceAdd (mulf (cenH x) (cenH x)) zer reducesTo_S8192x1024_S8192_d1 h_S_)) len)
    (broadcastInDim S8192x1 ![] bcast_S_S8192x1 (constant S_ .f32 0x3727C5AC#32))
def rsH : FVec Ideal S8192x1 .f32 := Host.rsqrt (varH x)
def wdH : FVec Ideal S8192x1024 .f32 :=
  mulf q (broadcastInDim S8192x1024 ![0, 1] bcast_S1x1024_S8192x1024_0_1
    (broadcastInDim S1x1024 ![1] bcast_S1024_S1x1024_1 (shapeCast _ w shapeCasts_S1x1024_S1024)))
def slopeH : FVec Ideal S8192x1 .f32 :=
  Host.divf (mulf (shapeCast _ (Host.reduceAdd (mulf (cenH x) (wdH q w)) zer reducesTo_S8192x1024_S8192_d1 h_S_) shapeCasts_S8192_S8192x1)
    (mulf (broadcastInDim S8192x1 ![] bcast_S_S8192x1 (constant S_ .f32 0xBF000000#32)) (Host.divf (rsH x) (varH x)))) len
def spreadH (v : FVec Ideal S8192x1 .f32) : FVec Ideal S8192x1024 .f32 :=
  broadcastInDim S8192x1024 ![0] bcast_S8192_S8192x1024_0 (Host.reduceAdd v zer reducesTo_S8192x1_S8192_d1 h_S_)
def midH : FVec Ideal S8192x1024 .f32 :=
  addf (addf (mulf (wdH q w) (broadcastInDim S8192x1024 ![0, 1] bcast_S8192x1_S8192x1024_0_1 (rsH x)))
    (mulf (cenH x) (spreadH (slopeH q x w)))) (mulf (spreadH (slopeH q x w)) (cenH x))
def meanH (v : FVec Ideal S8192x1024 .f32) : FVec Ideal S8192x1 .f32 :=
  Host.divf (shapeCast _ (Host.reduceAdd (Host.negf v) zer reducesTo_S8192x1024_S8192_d1 h_S_) shapeCasts_S8192_S8192x1) len
def outH : FVec Ideal S8192x1024 .f32 := addf (midH q x w) (spreadH (meanH (midH q x w)))
def scaledH : FVec Ideal S8192x1024 .f32 :=
  mulf (broadcastInDim S8192x1024 ![] bcast_S_S8192x1024 (constant S_ .f32 0x3F9837F0#32)) (outH q x w)
def halvedH : FVec Ideal S8192x1024 .f32 :=
  mulf (broadcastInDim S8192x1024 ![] bcast_S_S8192x1024 (constant S_ .f32 0x3F000000#32)) (outH q x w)
def gainH : FVec Ideal S8192x1024 .f32 :=
  mulf (mulf (cenH x) (broadcastInDim S8192x1024 ![0, 1] bcast_S8192x1_S8192x1024_0_1 (rsH x))) q
def colSum (v : FVec Ideal S8192x1024 .f32) : FVec Ideal S1x1024 .f32 :=
  broadcastInDim S1x1024 ![1] bcast_S1024_S1x1024_1 (Host.reduceAdd (shapeCast _ (Host.reduceAdd v
    zer reducesTo_S8192x1024_S1024_d0 h_S_) shapeCasts_S1024_S1x1024) zer reducesTo_S1x1024_S1024_d0 h_S_)

/-- A row of a matrix. -/
def rowOf (v : FVec Ideal S8192x1024 .f32) (s : Fin 8192) (k : Fin 1024) : EReal := v (ix2 s k)

variable (s : Fin 8192) (n : Fin 1024)

theorem residH_at : (residH h f (ix2 s n) : EReal) = resid (h (ix2 s n)) (f (ix2 s n)) := by
  pointwise [residH]
  rfl

theorem cenH_at : (cenH x (ix2 s n) : EReal) = cen (rowOf x s) n := by
  pointwise [cenH, zer, len]
  rfl

theorem varH_at : (varH x (ix2 s 0) : EReal) = vr (rowOf x s) := by
  pointwise [varH, zer, len]
  simp only [cenH_at]
  rfl

theorem rsH_at : (rsH x (ix2 s 0) : EReal) = rs (rowOf x s) := by
  pointwise [rsH]
  rw [varH_at]
  rfl

theorem wdH_at : (wdH q w (ix2 s n) : EReal) = rowOf q s n * w (ix2 0 n) := by
  pointwise [wdH]
  rfl

theorem slopeH_at : (slopeH q x w (ix2 s 0) : EReal) = slope (rowOf q s) (fun k => w (ix2 0 k)) (rowOf x s) := by
  pointwise [slopeH, zer, len]
  simp only [cenH_at, wdH_at, varH_at, rsH_at]
  rfl

theorem spreadH_at (v : FVec Ideal S8192x1 .f32) : (spreadH v (ix2 s n) : EReal) = v (ix2 s 0) := by
  pointwise [spreadH, zer]
  simp

theorem midH_at : (midH q x w (ix2 s n) : EReal)
    = mid (cen (rowOf x s)) (fun k => rowOf q s k * w (ix2 0 k) * rs (rowOf x s)) (slope (rowOf q s) (fun k => w (ix2 0 k)) (rowOf x s)) n := by
  pointwise [midH]
  simp only [cenH_at, wdH_at, spreadH_at, slopeH_at, rsH_at]
  rfl

theorem meanH_at (v : FVec Ideal S8192x1024 .f32) : (meanH v (ix2 s 0) : EReal) = Ideal.div (∑ k, -v (ix2 s k)) (Ideal.ofBits .f32 0x44800000#32) := by
  pointwise [meanH, zer, len]

theorem outH_at : (outH q x w (ix2 s n) : EReal) = out (rowOf q s) (fun k => w (ix2 0 k)) (rowOf x s) n := by
  pointwise [outH]
  simp only [spreadH_at, meanH_at, midH_at]
  rfl

theorem scaledH_at : (scaledH q x w (ix2 s n) : EReal) = Ideal.ofBits .f32 0x3F9837F0#32 * out (rowOf q s) (fun k => w (ix2 0 k)) (rowOf x s) n := by
  pointwise [scaledH]
  rw [outH_at]

theorem halvedH_at : (halvedH q x w (ix2 s n) : EReal) = Ideal.ofBits .f32 0x3F000000#32 * out (rowOf q s) (fun k => w (ix2 0 k)) (rowOf x s) n := by
  pointwise [halvedH]
  rw [outH_at]

theorem gainH_at : (gainH q x (ix2 s n) : EReal) = gain (rowOf q s) (rowOf x s) n := by
  pointwise [gainH]
  rw [cenH_at, rsH_at]
  rfl

theorem colSum_at (v : FVec Ideal S8192x1024 .f32) : (colSum v (ix2 0 n) : EReal) = ∑ s : Fin 8192, v (ix2 s n) := by
  pointwise [colSum, zer]
  simp

variable (m : (ℓ : Loc nD τ sig) → Buf (Elt Ideal) ℓ) (ρ : Dev nD → PrngReg) (c : Dev nD)

/-- The output's gradient, and the residual, of a memory. -/
def dyOf : FVec Ideal S8192x1024 .f32 :=
  addf (F := Ideal) (φ := .f32) (s := S8192x1024) (m ((c.tc : Thread nD τ).loc main_arg0)) (m ((c.tc : Thread nD τ).loc main_arg1))
def resOf : FVec Ideal S8192x1024 .f32 := residH (m ((c.tc : Thread nD τ).loc main_arg2)) (m ((c.tc : Thread nD τ).loc main_arg3))
def wOf : FVec Ideal S1x1024 .f32 := m ((c.tc : Thread nD τ).loc main_arg4)

/-- The reference's run, its results by these names. -/
theorem ref_run : θ_run defs (onTc (τ := τ) (main (F := Ideal))) ⟨m, fun _ => 0, ρ⟩ fun r => ∀ c : Dev nD,
      r.2.mem ((c.tc : Thread nD τ).loc main_v67) = scaledH (dyOf m c) (resOf m c) (wOf m c)
      ∧ r.2.mem ((c.tc : Thread nD τ).loc main_v68) = truncf .bf16 (halvedH (dyOf m c) (resOf m c) (wOf m c)) bitsLt_bf16_f32
      ∧ r.2.mem ((c.tc : Thread nD τ).loc main_v69) = colSum (gainH (dyOf m c) (resOf m c))
      ∧ r.2.mem ((c.tc : Thread nD τ).loc main_v70) = colSum (dyOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold Value.res_main_v67; rfl), (h c).2.1.trans (by unfold Value.res_main_v68; rfl),
    (h c).2.2.1, (h c).2.2.2⟩) (Cert.Reference9Ideal.Value.run (F := Ideal) m ρ)

end Cert.Ln
-- ==== Proof.Sums.lean ====
/-
  Sums over the extended reals: a sum over a long axis by its blocks, and a sum of a range over its indices.
-/
module

public import Mathlib.Algebra.BigOperators.Fin
public import Mathlib.Data.EReal.Basic
public import Mathlib.Algebra.BigOperators.Intervals

@[expose] public section

namespace Cert.Ffn

open Finset

/-- A sum over `k * n` places is the sum over `k` blocks of the sums over their `n` places. -/
theorem sum_blocks {β : Type*} [AddCommMonoid β] (k n : ℕ) (f : Fin (k * n) → β) :
    ∑ x, f x = ∑ a : Fin k, ∑ b : Fin n, f ⟨a.val * n + b.val, by
      have h1 := a.isLt; have h2 := b.isLt
      calc a.val * n + b.val < a.val * n + n := by omega
        _ = (a.val + 1) * n := by ring
        _ ≤ k * n := Nat.mul_le_mul_right _ (by omega)⟩ := by
  rw [← Equiv.sum_comp finProdFinEquiv f, Fintype.sum_prod_type]
  refine sum_congr rfl fun a _ => sum_congr rfl fun b _ => congrArg f (Fin.ext ?_)
  show b.val + n * a.val = a.val * n + b.val
  ring

/-- A sum over a range, by its indices. -/
theorem sum_range_fin {β : Type*} [AddCommMonoid β] (n : ℕ) (f : ℕ → β) : ∑ s ∈ range n, f s = ∑ s : Fin n, f s.val :=
  sum_range f

/-- Equal arguments of a function of three. -/
theorem congr3 {α β γ δ : Sort*} (f : α → β → γ → δ) {a a' : α} {b b' : β} {e e' : γ} (h1 : a = a') (h2 : b = b') (h3 : e = e') : f a b e = f a' b' e' := by
  rw [h1, h2, h3]

end Cert.Ffn
-- ==== Proof.Tiles.lean ====
/-
  Sums down a long axis that a call makes tile by tile: what is left after each tile, and after the last one.
-/
module

public import proofs.«01_k».proof.Proof.Sums

@[expose] public section

noncomputable section

namespace Cert.Tiles

open Finset

/-- What a sum holds that takes one addend more at every step. -/
theorem sum_steps {β : Type*} [AddCommMonoid β] {N : ℕ} (S : (n : ℕ) → n < N → β) (f : ℕ → β) (h0 : ∀ h, S 0 h = f 0)
    (hs : ∀ n (h : n + 1 < N), S (n + 1) h = S n (Nat.lt_of_succ_lt h) + f (n + 1)) : ∀ n (h : n < N), S n h = ∑ s ∈ range (n + 1), f s
  | 0, h => (h0 h).trans (sum_range_one f).symm
  | n + 1, h => by rw [hs n h, sum_steps S f h0 hs n, sum_range_succ f (n + 1)]

/-- A row of a long axis, zero beyond its end. -/
def row (X : Fin 8192 → EReal) (k : ℕ) : EReal := if h : k < 8192 then X ⟨k, h⟩ else 0

theorem row_eq (X : Fin 8192 → EReal) {k : ℕ} (h : k < 8192) : row X k = X ⟨k, h⟩ := dif_pos h

/-- The sum of one tile of 256 rows. -/
def tile (X : Fin 8192 → EReal) (t : ℕ) : EReal := ∑ r : Fin 256, row X (256 * t + r.val)

/-- The 32 tiles' sums, together. -/
theorem tiles (X : Fin 8192 → EReal) : ∑ t ∈ range 32, tile X t = ∑ s, X s := by
  rw [Cert.Ffn.sum_range_fin]
  refine Eq.trans (sum_congr rfl fun t _ => sum_congr rfl fun r _ => ?_) (Cert.Ffn.sum_blocks 32 256 X).symm
  have ht := t.isLt
  have hr := r.isLt
  rw [row_eq X (by omega)]
  exact congrArg X (Fin.ext (by show 256 * t.val + r.val = t.val * 256 + r.val; omega))

end Cert.Tiles
-- ==== Proof.Ln.lean ====
/-
  The gradient of a half-step's layer norm: what the call leaves in its four results, and that the reference computes the
  same.
-/
module

public import proofs.«01_k».proof.Proof.LnBody
public import proofs.«01_k».proof.Proof.LnRef
public import proofs.«01_k».proof.Proof.Tiles
public import proofs.«01_k».proof.Defs
public import Idealize.ShloMosaic.Lib.Pointwise
public import Idealize.ShloMosaic.Lib.Pipeline.ValueKit.Geometry

@[expose] public section

set_option maxRecDepth 16384

noncomputable section

namespace Cert.Ln

open Cert.Kernel9Ideal Cert.Kernel9Ideal.Gen Cert.Kernel9Ideal.Value
open Cert.Tiles (row tile)
open Idealize.ShloMosaic Idealize.ShloMosaic.TcCoe Idealize.ShloMosaic.StableHlo
open Idealize.SL Idealize.SL.Sem
open Finset

/-! ## What the body computes -/

section
variable (x0 x1 x2 v11 v36 : FVec Ideal S256x1024 .f32) (x3 xo : FVec Ideal S1x1024 .f32) (v39 : FVec Ideal S256x1 .f32) (r : Fin 256) (n : Fin 1024)

/-- A row of a block, the output's gradient's, and the gain. -/
def brow (x : S256x1024.Idx → EReal) (r : Fin 256) (k : Fin 1024) : EReal := x (ix2 r k)
def bdy (x y : S256x1024.Idx → EReal) (r : Fin 256) (k : Fin 1024) : EReal := x (ix2 r k) + y (ix2 r k)
def bw (w : S1x1024.Idx → EReal) (k : Fin 1024) : EReal := w (ix2 0 k)

theorem pay6_at : (k0_pay6 (F := Ideal) x0 x1 : S256x1024.Idx → EReal) (ix2 r n) = bdy x0 x1 r n := by
  pointwise [k0_pay6]
  rfl

theorem pay7_at : (k0_pay7 (F := Ideal) x2 : S256x1024.Idx → EReal) (ix2 r n) = cen (brow x2 r) n := by
  pointwise [k0_pay7]
  rfl

theorem pay8_at : (k0_pay8 (F := Ideal) x2 : S256x1.Idx → EReal) (ix2 r 0) = vr (brow x2 r) := by
  pointwise [k0_pay8]
  simp only [pay7_at]
  rfl

theorem pay9_at : (k0_pay9 (F := Ideal) x2 : S256x1.Idx → EReal) (ix2 r 0) = rs (brow x2 r) := by
  pointwise [k0_pay9]
  rw [pay8_at]
  rfl

theorem pay12_at : (k0_pay12 (F := Ideal) x0 x1 x3 : S256x1024.Idx → EReal) (ix2 r n) = bdy x0 x1 r n * bw x3 n := by
  pointwise [k0_pay12]
  rw [pay6_at]
  rfl

theorem pay13_at : (k0_pay13 (F := Ideal) x0 x1 x2 x3 : S256x1024.Idx → EReal) (ix2 r n) = bdy x0 x1 r n * bw x3 n * rs (brow x2 r) := by
  pointwise [k0_pay13]
  rw [pay12_at, pay9_at]

theorem pay14_at : (k0_pay14 (F := Ideal) x0 x1 x2 x3 : S256x1.Idx → EReal) (ix2 r 0) = slope (bdy x0 x1 r) (bw x3) (brow x2 r) := by
  pointwise [k0_pay14]
  simp only [pay7_at, pay12_at, pay9_at, pay8_at]
  rfl

theorem pay1_at : (k0_pay1 (F := Ideal) v11 v36 v39 : S256x1024.Idx → EReal) (ix2 r n) = fin_ (brow v11 r) (brow v36 r) (v39 (ix2 r 0)) n := by
  pointwise [k0_pay1]
  simp only [Fin.sum_univ_one, zero_sub]
  rfl

/-- The gradient of the residual, from the blocks. -/
theorem body_at : (k0_pay1 (F := Ideal) (k0_pay7 x2) (k0_pay13 x0 x1 x2 x3) (k0_pay14 x0 x1 x2 x3) : S256x1024.Idx → EReal) (ix2 r n)
    = out (bdy x0 x1 r) (bw x3) (brow x2 r) n := by
  have ea : brow (k0_pay7 (F := Ideal) x2) r = cen (brow x2 r) := funext fun k => pay7_at x2 r k
  have eb : brow (k0_pay13 (F := Ideal) x0 x1 x2 x3) r = fun k => bdy x0 x1 r k * bw x3 k * rs (brow x2 r) := funext fun k => pay13_at x0 x1 x2 x3 r k
  rw [pay1_at, ea, eb, pay14_at]
  rfl

theorem pay2_at : (k0_pay2 (F := Ideal) v11 v36 v39 : S256x1024.Idx → EReal) (ix2 r n)
    = Ideal.ofBits .f32 0x3F9837F0#32 * (k0_pay1 (F := Ideal) v11 v36 v39 : S256x1024.Idx → EReal) (ix2 r n) := by
  pointwise [k0_pay2]

theorem pay3_at : (k0_pay3 (F := Ideal) v11 v36 v39 : S256x1024.Idx → EReal) (ix2 r n)
    = Ideal.ofBits .f32 0x3F000000#32 * (k0_pay1 (F := Ideal) v11 v36 v39 : S256x1024.Idx → EReal) (ix2 r n) := by
  pointwise [k0_pay3]

theorem pay11_at : (k0_pay11 (F := Ideal) x0 x1 x2 : S1x1024.Idx → EReal) (ix2 0 n) = ∑ r : Fin 256, gain (bdy x0 x1 r) (brow x2 r) n := by
  pointwise [k0_pay11]
  simp only [pay7_at, pay9_at, pay6_at]
  rfl

theorem pay10_at : (k0_pay10 (F := Ideal) x0 x1 : S1x1024.Idx → EReal) (ix2 0 n) = ∑ r : Fin 256, bdy x0 x1 r n := by
  pointwise [k0_pay10]
  simp only [pay6_at]

theorem pay4_at : (k0_pay4 (F := Ideal) x3 xo : S1x1024.Idx → EReal) (ix2 0 n) = xo (ix2 0 n) + x3 (ix2 0 n) := by
  pointwise [k0_pay4]

theorem pay5_at : (k0_pay5 (F := Ideal) x3 xo : S1x1024.Idx → EReal) (ix2 0 n) = xo (ix2 0 n) + x3 (ix2 0 n) := by
  pointwise [k0_pay5]

end

/-! ## The blocks -/

variable (c : Dev nD) (m : (ℓ : Loc nD τ sig) → Buf (Elt Ideal) ℓ)

/-- The operands, and the blocks that a grid point stages. -/
def opD : FVec Ideal S8192x1024 .f32 := m ((c : Thread nD τ).loc main_arg0)
def opE : FVec Ideal S8192x1024 .f32 := m ((c : Thread nD τ).loc main_arg1)
def opH : FVec Ideal S8192x1024 .f32 := m ((c : Thread nD τ).loc main_arg2)
def opF : FVec Ideal S8192x1024 .f32 := m ((c : Thread nD τ).loc main_arg3)
def opW : FVec Ideal S1x1024 .f32 := m ((c : Thread nD τ).loc main_arg4)
def st0 (t : Fin cfg0.N) : S256x1024.Idx → EReal := iblk m c 0 t
def st1 (t : Fin cfg0.N) : S256x1024.Idx → EReal := iblk m c 1 t
def st2 (t : Fin cfg0.N) : S256x1024.Idx → EReal := iblk m c 2 t
def st3 (t : Fin cfg0.N) : S1x1024.Idx → EReal := iblk m c 3 t

/-- The residual, which the host makes before the call. -/
theorem V_resid : (V m c main_v4 : FVec Ideal S8192x1024 .f32) = residH (opH c m) (opF c m) := by
  unfold V
  rw [hostOps0]
  after_results
  rfl

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![0, 0] := (by decide +kernel : ∀ t : Fin grid0.N, _)
theorem index0_8 : ∀ t : Fin cfg0.N, win0_8.index t = ![0, 0] := (by decide +kernel : ∀ t : Fin grid0.N, _)

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

variable (t : Fin cfg0.N) (r : Fin 256) (n : Fin 1024)

theorem blk0 : st0 c m t (ix2 r n) = opD c m (ix2 (at_ t r) n) := by
  unfold st0 iblk
  refine Eq.trans (congrArg (V m c main_arg0) (funext fun a => Fin.ext ?_)) (congrFun (V_main_arg0 m c) _)
  match a with
  | ⟨0, _⟩ => show win0_0.index t 0 * 256 + 1 * r.val = _; rw [index0_0]; show t.val * 256 + 1 * r.val = 256 * t.val + r.val; omega
  | ⟨1, _⟩ => show win0_0.index t 1 * 1024 + 1 * n.val = _; rw [index0_0]; show 0 * 1024 + 1 * n.val = n.val; omega

theorem blk1 : st1 c m t (ix2 r n) = opE c m (ix2 (at_ t r) n) := by
  unfold st1 iblk
  refine Eq.trans (congrArg (V m c main_arg1) (funext fun a => Fin.ext ?_)) (congrFun (V_main_arg1 m c) _)
  match a with
  | ⟨0, _⟩ => show win0_1.index t 0 * 256 + 1 * r.val = _; rw [index0_1]; show t.val * 256 + 1 * r.val = 256 * t.val + r.val; omega
  | ⟨1, _⟩ => show win0_1.index t 1 * 1024 + 1 * n.val = _; rw [index0_1]; show 0 * 1024 + 1 * n.val = n.val; omega

theorem blk2 : st2 c m t (ix2 r n) = residH (opH c m) (opF c m) (ix2 (at_ t r) n) := by
  unfold st2 iblk
  refine Eq.trans (congrArg (V m c main_v4) (funext fun a => Fin.ext ?_)) (congrFun (V_resid c m) _)
  match a with
  | ⟨0, _⟩ => show win0_2.index t 0 * 256 + 1 * r.val = _; rw [index0_2]; show t.val * 256 + 1 * r.val = 256 * t.val + r.val; omega
  | ⟨1, _⟩ => show win0_2.index t 1 * 1024 + 1 * n.val = _; rw [index0_2]; show 0 * 1024 + 1 * n.val = n.val; omega

theorem blk3 : st3 c m t (ix2 0 n) = opW c m (ix2 0 n) := by
  unfold st3 iblk
  refine Eq.trans (congrArg (V m c main_arg4) (funext fun a => Fin.ext ?_)) (congrFun (V_main_arg4 m c) _)
  match a with
  | ⟨0, _⟩ => show win0_3.index t 0 * 1 + 1 * 0 = _; rw [index0_3]; rfl
  | ⟨1, _⟩ => show win0_3.index t 1 * 1024 + 1 * n.val = _; rw [index0_3]; show 0 * 1024 + 1 * n.val = n.val; omega

/-! ## The arrays after the run -/

/-- The rows of the output's gradient and of the residual, and the gain. -/
def dy (s : Fin 8192) (k : Fin 1024) : EReal := opD c m (ix2 s k) + opE c m (ix2 s k)
def xr (s : Fin 8192) (k : Fin 1024) : EReal := residH (opH c m) (opF c m) (ix2 s k)
def wr (k : Fin 1024) : EReal := opW c m (ix2 0 k)

/-- The gradient of the residual, and what each row adds to the gradients of the gain and the bias. -/
def o1 (s : Fin 8192) : EReal := out (dy c m s) (wr c m) (xr c m s) n
def g1 (s : Fin 8192) : EReal := gain (dy c m s) (xr c m s) n
def g2 (s : Fin 8192) : EReal := dy c m s n

theorem dy_eq : bdy (st0 c m t) (st1 c m t) r = dy c m (at_ t r) := funext fun k => congrArg₂ _ (blk0 c m t r k) (blk1 c m t r k)
theorem xr_eq : brow (st2 c m t) r = xr c m (at_ t r) := funext fun k => blk2 c m t r k
theorem wr_eq : bw (st3 c m t) = wr c m := funext fun k => blk3 c m t k

theorem el1 : (k0_pay1 (F := Ideal) (k0_pay7 (st2 c m t)) (k0_pay13 (st0 c m t) (st1 c m t) (st2 c m t) (st3 c m t)) (k0_pay14 (st0 c m t) (st1 c m t) (st2 c m t) (st3 c m t)) : S256x1024.Idx → EReal) (ix2 r n)
    = o1 c m n (at_ t r) := by
  rw [body_at, dy_eq, xr_eq, wr_eq]
  rfl

/-- What a grid point leaves in the blocks of the first two results. -/
theorem outs2 : ((outsAt0 m c t.val t.isLt).1 (ix2 r n) : EReal) = Ideal.ofBits .f32 0x3F9837F0#32 * o1 c m n (at_ t r)
    ∧ ((outsAt0 m c t.val t.isLt).2.1 (ix2 r n) : EReal) = Ideal.ofBits .f32 0x3F000000#32 * o1 c m n (at_ t r) := by
  have ht := lt32 t
  by_cases h : t.val % 32 = 0
  · rw [outsAt0_A m c t h (by omega)]
    dsimp only
    constructor
    · rw [(left_A (F := Ideal) ..).1]
      exact (pay2_at _ _ _ r n).trans (congrArg _ (el1 c m t r n))
    · rw [(left_A (F := Ideal) ..).2.1]
      exact (pay3_at _ _ _ r n).trans (congrArg _ (el1 c m t r n))
  · rw [outsAt0_B m c t h (by omega)]
    dsimp only
    constructor
    · rw [(left_B (F := Ideal) ..).1]
      exact (pay2_at _ _ _ r n).trans (congrArg _ (el1 c m t r n))
    · rw [(left_B (F := Ideal) ..).2.1]
      exact (pay3_at _ _ _ r n).trans (congrArg _ (el1 c m t r n))

/-- A tile's part of the two column sums. -/
theorem part1 : (k0_pay11 (F := Ideal) (st0 c m t) (st1 c m t) (st2 c m t) : S1x1024.Idx → EReal) (ix2 0 n) = tile (g1 c m n) t.val :=
  (pay11_at _ _ _ n).trans (sum_congr rfl fun r _ => by rw [dy_eq, xr_eq]; exact (Cert.Tiles.row_eq (g1 c m n) (at_ t r).isLt).symm)

theorem part2 : (k0_pay10 (F := Ideal) (st0 c m t) (st1 c m t) : S1x1024.Idx → EReal) (ix2 0 n) = tile (g2 c m n) t.val :=
  (pay10_at _ _ n).trans (sum_congr rfl fun r _ => by rw [dy_eq]; exact (Cert.Tiles.row_eq (g2 c m n) (at_ t r).isLt).symm)

theorem first (h : 0 < cfg0.N) : ((outsAt0 m c 0 h).2.2.1 (ix2 0 n) : EReal) = tile (g1 c m n) 0
    ∧ ((outsAt0 m c 0 h).2.2.2 (ix2 0 n) : EReal) = tile (g2 c m n) 0 := by
  have e := outsAt0_A m c ⟨0, h⟩ (Nat.zero_mod _) (by show ¬1 ≤ 0; omega)
  rw [show outsAt0 m c 0 h = _ from e]
  dsimp only
  constructor
  · rw [(left_A (F := Ideal) ..).2.2.1]
    exact part1 c m ⟨0, h⟩ n
  · rw [(left_A (F := Ideal) ..).2.2.2]
    exact part2 c m ⟨0, h⟩ n

theorem next (k : ℕ) (h : k + 1 < cfg0.N) : ((outsAt0 m c (k + 1) h).2.2.1 (ix2 0 n) : EReal) = (outsAt0 m c k (Nat.lt_of_succ_lt h)).2.2.1 (ix2 0 n) + tile (g1 c m n) (k + 1)
    ∧ ((outsAt0 m c (k + 1) h).2.2.2 (ix2 0 n) : EReal) = (outsAt0 m c k (Nat.lt_of_succ_lt h)).2.2.2 (ix2 0 n) + tile (g2 c m n) (k + 1) := by
  have hk : k + 1 < 32 := lt_of_lt_of_eq h N_0
  have e := outsAt0_B m c ⟨k + 1, h⟩ (by show ¬(k + 1) % 32 = 0; omega) (by show 1 ≤ k + 1; omega)
  rw [show outsAt0 m c (k + 1) h = _ from e]
  dsimp only
  constructor
  · rw [(left_B (F := Ideal) ..).2.2.1]
    exact (pay4_at _ _ n).trans (congrArg _ (part1 c m ⟨k + 1, h⟩ n))
  · rw [(left_B (F := Ideal) ..).2.2.2]
    exact (pay5_at _ _ n).trans (congrArg _ (part2 c m ⟨k + 1, h⟩ n))

/-- What the last grid point leaves of the column sums. -/
theorem last1 (h : t.val = 31) : ((outsAt0 m c t.val t.isLt).2.2.1 (ix2 0 n) : EReal) = ∑ s, g1 c m n s := by
  refine (Cert.Tiles.sum_steps (fun k hk => ((outsAt0 m c k hk).2.2.1 (ix2 0 n) : EReal)) (tile (g1 c m n)) (fun h => (first c m n h).1) (fun k h => (next c m n k h).1) t.val t.isLt).trans ?_
  rw [h]
  exact Cert.Tiles.tiles _

theorem last2 (h : t.val = 31) : ((outsAt0 m c t.val t.isLt).2.2.2 (ix2 0 n) : EReal) = ∑ s, g2 c m n s := by
  refine (Cert.Tiles.sum_steps (fun k hk => ((outsAt0 m c k hk).2.2.2 (ix2 0 n) : EReal)) (tile (g2 c m n)) (fun h => (first c m n h).2) (fun k h => (next c m n k h).2) t.val t.isLt).trans ?_
  rw [h]
  exact Cert.Tiles.tiles _

/-- The place in an array of a place in a block. -/
theorem emb_row {s : Fin 8192} {k : Fin 1024} {y : S256x1024.Idx} (f : Fin 1024 → Fin 8192 → EReal) (h0 : s.val = 256 * t.val + (y 0).val) (h1 : k.val = (y 1).val) :
    f (y 1) (at_ t (y 0)) = f k s := by
  have e0 : at_ t (y 0) = s := Fin.ext h0.symm
  have e1 : (y 1 : Fin 1024) = k := Fin.ext h1.symm
  rw [e0, e1]

theorem array5 (i : S8192x1024.Idx) : ((dats m 0 c).arrAt 5 cfg0.N i : EReal) = Ideal.ofBits .f32 0x3F9837F0#32 * o1 c m (i 1) (i 0) := by
  refine (dats m 0 c).arrAt_forall_of_covers 5 (fun i v => (v : EReal) = Ideal.ofBits .f32 0x3F9837F0#32 * o1 c m (i 1) (i 0)) (by decide +kernel) (fun t hf y => ?_) i
  blk_simp
  rw [after0_5]
  refine (congrArg (outsAt0 m c t.val t.isLt).1 (eq_ix2 y)).trans ((outs2 c m t (y 0) (y 1)).1.trans (congrArg _ (emb_row t (o1 c m) ?_ ?_)))
  · show win0_5.index t 0 * 256 + 1 * (y 0).val = _; rw [index0_5]; show t.val * 256 + 1 * (y 0).val = _; omega
  · show win0_5.index t 1 * 1024 + 1 * (y 1).val = _; rw [index0_5]; show 0 * 1024 + 1 * (y 1).val = _; omega

theorem array6 (i : S8192x1024.Idx) : ((dats m 0 c).arrAt 6 cfg0.N i : EReal) = Ideal.ofBits .f32 0x3F000000#32 * o1 c m (i 1) (i 0) := by
  refine (dats m 0 c).arrAt_forall_of_covers 6 (fun i v => (v : EReal) = Ideal.ofBits .f32 0x3F000000#32 * o1 c m (i 1) (i 0)) (by decide +kernel) (fun t hf y => ?_) i
  blk_simp
  rw [after0_6]
  refine (congrArg (outsAt0 m c t.val t.isLt).2.1 (eq_ix2 y)).trans ((outs2 c m t (y 0) (y 1)).2.trans (congrArg _ (emb_row t (o1 c m) ?_ ?_)))
  · show win0_6.index t 0 * 256 + 1 * (y 0).val = _; rw [index0_6]; show t.val * 256 + 1 * (y 0).val = _; omega
  · show win0_6.index t 1 * 1024 + 1 * (y 1).val = _; rw [index0_6]; show 0 * 1024 + 1 * (y 1).val = _; omega

theorem flush7 : ∀ t : Fin cfg0.N, (cfg0.win 7).flush t = true → t.val = 31 := (by decide +kernel : ∀ t : Fin grid0.N, _)
theorem flush8 : ∀ t : Fin cfg0.N, (cfg0.win 8).flush t = true → t.val = 31 := (by decide +kernel : ∀ t : Fin grid0.N, _)

theorem array7 (i : S1x1024.Idx) : ((dats m 0 c).arrAt 7 cfg0.N i : EReal) = ∑ s, g1 c m (i 1) s := by
  refine (dats m 0 c).arrAt_forall_of_covers 7 (fun i v => (v : EReal) = ∑ s, g1 c m (i 1) s) (by decide +kernel) (fun t hf y => ?_) i
  blk_simp
  rw [after0_7]
  obtain ⟨a, k, rfl⟩ : ∃ (a : Fin 1) (k : Fin 1024), y = ix2 a k := ⟨y 0, y 1, eq_ix2 y⟩
  obtain rfl : a = 0 := Subsingleton.elim _ _
  refine (last1 c m t k (flush7 t hf)).trans (congrArg (fun k => ∑ s, g1 c m k s) (Fin.ext ?_))
  show k.val = win0_7.index t 1 * 1024 + 1 * k.val; rw [index0_7]; show k.val = 0 * 1024 + 1 * k.val; omega

theorem array8 (i : S1x1024.Idx) : ((dats m 0 c).arrAt 8 cfg0.N i : EReal) = ∑ s, g2 c m (i 1) s := by
  refine (dats m 0 c).arrAt_forall_of_covers 8 (fun i v => (v : EReal) = ∑ s, g2 c m (i 1) s) (by decide +kernel) (fun t hf y => ?_) i
  blk_simp
  rw [after0_8]
  obtain ⟨a, k, rfl⟩ : ∃ (a : Fin 1) (k : Fin 1024), y = ix2 a k := ⟨y 0, y 1, eq_ix2 y⟩
  obtain rfl : a = 0 := Subsingleton.elim _ _
  refine (last2 c m t k (flush8 t hf)).trans (congrArg (fun k => ∑ s, g2 c m k s) (Fin.ext ?_))
  show k.val = win0_8.index t 1 * 1024 + 1 * k.val; rw [index0_8]; show k.val = 0 * 1024 + 1 * k.val; omega

/-! ## Both -/

/-- The run leaves what the reference computes. -/
theorem algebraic : Cert.algebraic_Kernel9Ideal_Reference9Ideal := by
  intro m ρ m' ρ' _ hagree
  refine ⟨fun c => (dats m 0 c).arrAt 5 cfg0.N, fun c => (dats m 0 c).arrAt 6 cfg0.N, fun c => (dats m 0 c).arrAt 7 cfg0.N, fun c => (dats m 0 c).arrAt 8 cfg0.N,
    run_blocks (F := Ideal) m ρ, (θ_run Cert.Reference9Ideal.defs _ _).mono (fun _ h c => ?_) (ref_run m' ρ')⟩
  obtain ⟨h1, h2, h3, h4, hk⟩ := h c
  have ed : ∀ s, rowOf (dyOf m' c) s = dy c m s := fun s => funext fun k =>
    congrArg₂ (fun a b : EReal => a + b) (congrFun (hagree c).1 (ix2 s k)) (congrFun (hagree c).2.1 (ix2 s k))
  have ex : ∀ s, rowOf (resOf m' c) s = xr c m s := fun s => funext fun k =>
    congrFun (congrArg₂ residH (hagree c).2.2.1 (hagree c).2.2.2.1) (ix2 s k)
  have ew : (fun k => wOf m' c (ix2 0 k)) = wr c m := funext fun k => congrFun (hagree c).2.2.2.2.1 (ix2 0 k)
  refine ⟨h1.trans (funext fun i => ?_), h2.trans (funext fun i => ?_), h3.trans (funext fun i => ?_), h4.trans (funext fun i => ?_), hk⟩
  · obtain ⟨s, n, rfl⟩ : ∃ (s : Fin 8192) (n : Fin 1024), i = ix2 s n := ⟨i 0, i 1, eq_ix2 i⟩
    refine (scaledH_at _ _ _ _ _).trans (Eq.trans ?_ (array5 c m (ix2 s n)).symm)
    rw [ed, ex, ew]
    rfl
  · obtain ⟨s, n, rfl⟩ : ∃ (s : Fin 8192) (n : Fin 1024), i = ix2 s n := ⟨i 0, i 1, eq_ix2 i⟩
    refine (halvedH_at _ _ _ _ _).trans (Eq.trans ?_ (array6 c m (ix2 s n)).symm)
    rw [ed, ex, ew]
    rfl
  · obtain ⟨a, k, rfl⟩ : ∃ (a : Fin 1) (k : Fin 1024), i = ix2 a k := ⟨i 0, i 1, eq_ix2 i⟩
    obtain rfl : a = 0 := Subsingleton.elim _ _
    refine (colSum_at _ _).trans (Eq.trans (sum_congr rfl fun s _ => (gainH_at _ _ _ _).trans ?_) (array7 c m (ix2 0 k)).symm)
    rw [ed, ex]
    rfl
  · obtain ⟨a, k, rfl⟩ : ∃ (a : Fin 1) (k : Fin 1024), i = ix2 a k := ⟨i 0, i 1, eq_ix2 i⟩
    obtain rfl : a = 0 := Subsingleton.elim _ _
    exact (colSum_at _ _).trans (Eq.trans (sum_congr rfl fun s _ => congrFun (ed s) k) (array8 c m (ix2 0 k)).symm)

end Cert.Ln
-- ==== Proof.MergeBody.lean ====
/-
  The gradient of the branch gates: what the body leaves in the blocks of its six results at the first grid point and at
  the later ones.
-/
module

public import proofs.«01_k».proof.Proof.Gen.Kernel10Ideal.Value

@[expose] public section

set_option maxRecDepth 16384

noncomputable section

namespace Cert.Merge

open Cert.Kernel10Ideal Cert.Kernel10Ideal.Gen Cert.Kernel10Ideal.Value
open Idealize.ShloMosaic Idealize.ShloMosaic.TcCoe
open Idealize.SL Idealize.SL.Sem

variable {F : FTy → Type} [FloatOps F]

theorem hz : (![0, 0] : Fin 2 → Nat) = fun _ => 0 := funext fun a => by fin_cases a <;> rfl

variable (c : Dev nD) (i : grid0.Coords) (arg1 : Memref sig .tc .vmem S256x1024 .f32) (h1 : arg1.IsWhole) (arg2 : Memref sig .tc .vmem S256x1024 .f32) (h2 : arg2.IsWhole) (arg3 : Memref sig .tc .vmem S256x1024 .f32) (h3 : arg3.IsWhole)
  (arg4 : Memref sig .tc .vmem S256x1024 .f32) (h4 : arg4.IsWhole) (arg5 : Memref sig .tc .vmem S256x1024 .f32) (h5 : arg5.IsWhole) (arg6 : Memref sig .tc .vmem S1x1024 .f32) (h6 : arg6.IsWhole)
  (arg7 : Memref sig .tc .vmem S1x1024 .f32) (h7 : arg7.IsWhole) (arg8 : Memref sig .tc .vmem S256x1024 .bf16) (h8 : arg8.IsWhole) (arg9 : Memref sig .tc .vmem S256x1024 .bf16) (h9 : arg9.IsWhole)
  (arg10 : Memref sig .tc .vmem S256x1024 .bf16) (h10 : arg10.IsWhole) (arg11 : Memref sig .tc .vmem S256x1024 .bf16) (h11 : arg11.IsWhole) (arg12 : Memref sig .tc .vmem S1x1024 .f32) (h12 : arg12.IsWhole)
  (arg13 : Memref sig .tc .vmem S1x1024 .f32) (h13 : arg13.IsWhole)
  (x0 x1 x2 x3 x4 : Vec F S256x1024 .f32) (x5 x6 xo xp : Vec F S1x1024 .f32)

/-- At the first point the sums begin; at a later one they go on from what the point before left. -/
theorem left_A (hc0 : cond0_0 i) (hc1 : ¬cond0_1 i) :
    out0_A_7 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay3 (k0_pay11 x0 x1 x3 x5)
    ∧ out0_A_8 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay4 (k0_pay12 x0 x2 x4 x6)
    ∧ out0_A_9 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay5 x0 (k0_pay9 x1 x5)
    ∧ out0_A_10 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay6 x0 (k0_pay10 x2 x6)
    ∧ out0_A_11 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay1 (k0_pay11 x0 x1 x3 x5)
    ∧ out0_A_12 c i arg1 h1 arg2 h2 arg3 h3 arg4 h4 arg5 h5 arg6 h6 arg7 h7 arg8 h8 arg9 h9 arg10 h10 arg11 h11 arg12 h12 arg13 h13 hc0 hc1 x0 x1 x2 x3 x4 x5 x6 = k0_pay2 (k0_pay12 x0 x2 x4 x6) := by
  refine ⟨(View.read_writes_eq_canon _ _ _ (cover0_A_7 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_,
    (View.read_writes_eq_canon _ _ _ (cover0_A_8 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_,
    (View.read_writes_eq_canon _ _ _ (cover0_A_9 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_,
    (View.read_writes_eq_canon _ _ _ (cover0_A_10 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_,
    (View.read_writes_eq_canon _ _ _ (cover0_A_11 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_,
    (View.read_writes_eq_canon _ _ _ (cover0_A_12 c i arg1 h1 arg2 h2 arg3 h3 arg4 h4 arg5 h5 arg6 h6 arg7 h7 arg8 h8 arg9 h9 arg10 h10 arg11 h11 arg12 h12 arg13 h13 hc0 hc1 x0 x1 x2 x3 x4 x5 x6)).trans ?_⟩
  all_goals
    unfold kernelRun0_A
    dsimp only
    sl_unfold_words
    rw [View.canon_unit_zero hz]
    simp only [View.readAt_eq_ld, h1.read_unread, h2.read_unread, h3.read_unread, h4.read_unread, h5.read_unread, h6.read_unread, h7.read_unread,
      View.ld_unit_zero (S := S256x1024) hz, View.ld_unit_zero (S := S1x1024) hz]

theorem left_B (hc0 : ¬cond0_0 i) (hc1 : cond0_1 i) :
    out0_B_7 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay3 (k0_pay11 x0 x1 x3 x5)
    ∧ out0_B_8 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay4 (k0_pay12 x0 x2 x4 x6)
    ∧ out0_B_9 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay5 x0 (k0_pay9 x1 x5)
    ∧ out0_B_10 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay6 x0 (k0_pay10 x2 x6)
    ∧ out0_B_11 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay7 (k0_pay11 x0 x1 x3 x5) xo
    ∧ out0_B_12 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp = k0_pay8 (k0_pay12 x0 x2 x4 x6) xp := by
  refine ⟨(View.read_writes_eq_canon _ _ _ (cover0_B_7 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_,
    (View.read_writes_eq_canon _ _ _ (cover0_B_8 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_,
    (View.read_writes_eq_canon _ _ _ (cover0_B_9 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_,
    (View.read_writes_eq_canon _ _ _ (cover0_B_10 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_,
    (View.read_writes_eq_canon _ _ _ (cover0_B_11 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_,
    (View.read_writes_eq_canon _ _ _ (cover0_B_12 c i arg1 h1 arg2 h2 arg3 h3 arg4 h4 arg5 h5 arg6 h6 arg7 h7 arg8 h8 arg9 h9 arg10 h10 arg11 h11 arg12 h12 arg13 h13 hc0 hc1 x0 x1 x2 x3 x4 x5 x6 xo xp)).trans ?_⟩
  all_goals
    unfold kernelRun0_B
    dsimp only
    sl_unfold_words
    rw [View.canon_unit_zero hz]
    simp only [View.readAt_eq_ld, h1.read_unread, h2.read_unread, h3.read_unread, h4.read_unread, h5.read_unread, h6.read_unread, h7.read_unread, h12.read_unread, h13.read_unread,
      View.ld_unit_zero (S := S256x1024) hz, View.ld_unit_zero (S := S1x1024) hz]

end Cert.Merge
-- ==== Proof.FfnUpRef.lean ====
/-
  The feed-forward network's first product and its gated activation, as the reference computes them, element by element.
-/
module

public import proofs.«01_k».proof.Proof.Gen.Reference7Ideal.Run
public import proofs.«01_k».proof.Proof.Sums
public import Idealize.ShloMosaic.Lib.Pointwise

@[expose] public section

set_option maxRecDepth 16384

noncomputable section

namespace Cert.FfnUp

open Cert.Reference7Ideal Cert.Reference7Ideal.Gen
open Idealize.ShloMosaic
open Idealize.SL Idealize.SL.Sem
open Finset

variable (x : FVec Ideal S8192x1024 .bf16) (y : FVec Ideal S8x1024x704 .bf16)

/-- The first product: all the gates, then all the values they multiply. -/
def both : FVec Ideal S8192x5632 .f32 :=
  Host.dotGeneral dot_S8192x1024_S1024x5632_S8192x5632_1_0_0_1_n_n none (extf .f32 x bitsLt_bf16_f32)
    (shapeCast _ (transpose S1024x8x704 [1, 0, 2] (extf .f32 y bitsLt_bf16_f32) transposes_S8x1024x704_S1024x8x704_1_0_2) shapeCasts_S1024x8x704_S1024x5632)
def gates : FVec Ideal S8192x2816 .f32 := extractStridedSlice S8192x2816 ![0, 0] (both x y) slices_S8192x5632_S8192x2816_0_0
def ups : FVec Ideal S8192x2816 .f32 := extractStridedSlice S8192x2816 ![0, 2816] (both x y) slices_S8192x5632_S8192x2816_0_2816
def sigm (g : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf g)))
def cut (g : FVec Ideal S8192x2816 .f32) : FVec Ideal S4x8192x704 .f32 :=
  transpose S4x8192x704 [1, 0, 2] (shapeCast _ g shapeCasts_S8192x2816_S8192x4x704) transposes_S8192x4x704_S4x8192x704_1_0_2
def stack (g u : FVec Ideal S4x8192x704 .f32) : FVec Ideal S2x4x8192x704 .bf16 :=
  truncf .bf16 (concatenate S2x4x8192x704 0 [⟨S1x4x8192x704, (broadcastInDim S1x4x8192x704 ![1, 2, 3] bcast_S4x8192x704_S1x4x8192x704_1_2_3 g)⟩,
    ⟨S1x4x8192x704, (broadcastInDim S1x4x8192x704 ![1, 2, 3] bcast_S4x8192x704_S1x4x8192x704_1_2_3 u)⟩] concatenates_S1x4x8192x704_S1x4x8192x704_S2x4x8192x704_d0) bitsLt_bf16_f32

/-- One element of the product of the input with block `b` of the weights. -/
def elt (b : Fin 8) (s : Fin 8192) (d : Fin 704) : EReal := ∑ e : Fin 1024, (x (ix2 s e) : EReal) * y (ix3 b e d)

theorem gates_at (s : Fin 8192) (j : Fin 2816) : gates x y (ix2 s j) = elt x y ⟨j.val / 704, by omega⟩ s ⟨j.val % 704, by omega⟩ := by
  pointwise [gates, both]
  rfl

theorem ups_at (s : Fin 8192) (j : Fin 2816) : ups x y (ix2 s j) = elt x y ⟨j.val / 704 + 4, by omega⟩ s ⟨j.val % 704, by omega⟩ := by
  pointwise [ups, both]
  unfold elt
  have h1 : (2816 + j.val) / 704 = j.val / 704 + 4 := by omega
  have h2 : (2816 + j.val) % 704 = j.val % 704 := by omega
  simp only [h1, h2]

theorem sigm_at (g : FVec Ideal S8192x2816 .f32) (s : Fin 8192) (j : Fin 2816) : sigm g (ix2 s j) = Ideal.div 1 (1 + Ideal.exp (-(g (ix2 s j) : EReal))) := by
  pointwise [sigm]

theorem cut_at (g : FVec Ideal S8192x2816 .f32) (k : Fin 4) (s : Fin 8192) (d : Fin 704) : cut g (ix3 k s d) = g (ix2 s ⟨k.val * 704 + d.val, by omega⟩) := by
  pointwise [cut]

theorem stack_at0 (g u : FVec Ideal S4x8192x704 .f32) (k : Fin 4) (s : Fin 8192) (d : Fin 704) : stack g u (ix4 0 k s d) = g (ix3 k s d) := by
  pointwise [stack]

theorem stack_at1 (g u : FVec Ideal S4x8192x704 .f32) (k : Fin 4) (s : Fin 8192) (d : Fin 704) : stack g u (ix4 1 k s d) = u (ix3 k s d) := by
  pointwise [stack]

/-- The activations, and the gates and the values they multiply, as the reference returns them. -/
def activ : FVec Ideal S4x8192x704 .bf16 := truncf .bf16 (cut (mulf (mulf (gates x y) (sigm (gates x y))) (ups x y))) bitsLt_bf16_f32
def saved : FVec Ideal S2x4x8192x704 .bf16 := stack (cut (gates x y)) (cut (ups x y))

/-- The gated activation of one element. -/
def swish (g u : EReal) : EReal := g * Ideal.div 1 (1 + Ideal.exp (-g)) * u

theorem cut_gates (k : Fin 4) (s : Fin 8192) (d : Fin 704) : cut (gates x y) (ix3 k s d) = elt x y ⟨k.val, by omega⟩ s d := by
  rw [cut_at, gates_at]
  have h1 : (k.val * 704 + d.val) / 704 = k.val := by omega
  have h2 : (k.val * 704 + d.val) % 704 = d.val := by omega
  simp only [h1, h2]

theorem cut_ups (k : Fin 4) (s : Fin 8192) (d : Fin 704) : cut (ups x y) (ix3 k s d) = elt x y ⟨k.val + 4, by omega⟩ s d := by
  rw [cut_at, ups_at]
  have h1 : (k.val * 704 + d.val) / 704 = k.val := by omega
  have h2 : (k.val * 704 + d.val) % 704 = d.val := by omega
  simp only [h1, h2]

theorem activ_at (k : Fin 4) (s : Fin 8192) (d : Fin 704) :
    (activ x y (ix3 k s d) : EReal) = swish (elt x y ⟨k.val, by omega⟩ s d) (elt x y ⟨k.val + 4, by omega⟩ s d) := by
  rw [← cut_gates, ← cut_ups]
  pointwise [activ, cut, sigm]
  rfl

theorem saved_at0 (k : Fin 4) (s : Fin 8192) (d : Fin 704) : (saved x y (ix4 0 k s d) : EReal) = elt x y ⟨k.val, by omega⟩ s d :=
  (stack_at0 _ _ k s d).trans (cut_gates x y k s d)
theorem saved_at1 (k : Fin 4) (s : Fin 8192) (d : Fin 704) : (saved x y (ix4 1 k s d) : EReal) = elt x y ⟨k.val + 4, by omega⟩ s d :=
  (stack_at1 _ _ k s d).trans (cut_ups x y k s d)

variable (m : (ℓ : Loc nD τ sig) → Buf (Elt Ideal) ℓ) (ρ : Dev nD → PrngReg)

/-- The reference's run, its results by these names. -/
theorem ref_run : θ_run defs (onTc (τ := τ) (main (F := Ideal))) ⟨m, fun _ => 0, ρ⟩ fun r => ∀ c : Dev nD,
      r.2.mem ((c.tc : Thread nD τ).loc main_v11) = activ (m ((c.tc : Thread nD τ).loc main_arg0)) (m ((c.tc : Thread nD τ).loc main_arg1))
      ∧ r.2.mem ((c.tc : Thread nD τ).loc main_v19) = saved (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference7Ideal.Value.run (F := Ideal) m ρ

end Cert.FfnUp
-- ==== Proof.FfnActRef.lean ====
/-
  The derivative of the gated activation, as the reference computes it, element by element, and that over the real numbers its
  two forms agree.
-/
module

public import proofs.«01_k».proof.Proof.Gen.Reference2Ideal.Run
public import proofs.«01_k».proof.Proof.FfnUpRef

@[expose] public section

set_option maxRecDepth 16384

noncomputable section

namespace Cert.FfnAct

open Cert.Reference2Ideal Cert.Reference2Ideal.Gen
open Cert.FfnUp (gates ups sigm cut stack elt)
open Idealize.ShloMosaic
open Idealize.SL Idealize.SL.Sem
open Finset

variable (x : FVec Ideal S8192x1024 .bf16) (y : FVec Ideal S8x1024x704 .bf16) (w : FVec Ideal S4x704x1024 .bf16) (d : FVec Ideal S8192x1024 .bf16)

/-- The gradient of the activations. -/
def grad : FVec Ideal S8192x2816 .f32 :=
  Host.dotGeneral dot_S8192x1024_S2816x1024_S8192x2816_1_1_0_0_n_n none (extf .f32 d bitsLt_bf16_f32)
    (shapeCast _ (extf .f32 w bitsLt_bf16_f32) shapeCasts_S4x704x1024_S2816x1024)
def ones : FVec Ideal S8192x2816 .f32 := broadcastInDim S8192x2816 ![] bcast_S_S8192x2816 (constant S_ .f32 0x3F800000#32)

/-- The gradients of the gates and of the values they multiply. -/
def gradG : FVec Ideal S8192x2816 .f32 :=
  addf (mulf (mulf (grad w d) (ups x y)) (sigm (gates x y)))
    (mulf (mulf (gates x y) (mulf (grad w d) (ups x y))) (mulf (sigm (gates x y)) (subf ones (sigm (gates x y)))))
def gradU : FVec Ideal S8192x2816 .f32 := mulf (mulf (gates x y) (sigm (gates x y))) (grad w d)
def grads : FVec Ideal S2x4x8192x704 .bf16 := stack (cut (gradG x y w d)) (cut (gradU x y w d))

/-- One element of the activations' gradient. -/
def delt (k : Fin 4) (s : Fin 8192) (n : Fin 704) : EReal := ∑ e : Fin 1024, (d (ix2 s e) : EReal) * w (ix3 k n e)

def sg (g : EReal) : EReal := Ideal.div 1 (1 + Ideal.exp (-g))
/-- One element of each gradient, from the gate, the value and the activation's gradient. -/
def oneG (a g u : EReal) : EReal := a * u * sg g + g * (a * u) * (sg g * (1 - sg g))
def oneU (a g : EReal) : EReal := g * sg g * a

theorem cut_grad (k : Fin 4) (s : Fin 8192) (n : Fin 704) : cut (grad w d) (ix3 k s n) = delt w d k s n := by
  rw [Cert.FfnUp.cut_at]
  pointwise [grad]
  unfold delt
  have h1 : (k.val * 704 + n.val) / 704 = k.val := by omega
  have h2 : (k.val * 704 + n.val) % 704 = n.val := by omega
  simp only [h1, h2]

theorem grads_at0 (k : Fin 4) (s : Fin 8192) (n : Fin 704) :
    (grads x y w d (ix4 0 k s n) : EReal) = oneG (delt w d k s n) (elt x y ⟨k.val, by omega⟩ s n) (elt x y ⟨k.val + 4, by omega⟩ s n) := by
  rw [← Cert.FfnUp.cut_gates, ← Cert.FfnUp.cut_ups, ← cut_grad]
  refine (Cert.FfnUp.stack_at0 _ _ k s n).trans ?_
  pointwise [Cert.FfnUp.cut, gradG, sigm, ones]
  rfl

theorem grads_at1 (k : Fin 4) (s : Fin 8192) (n : Fin 704) :
    (grads x y w d (ix4 1 k s n) : EReal) = oneU (delt w d k s n) (elt x y ⟨k.val, by omega⟩ s n) := by
  rw [← Cert.FfnUp.cut_gates, ← cut_grad]
  refine (Cert.FfnUp.stack_at1 _ _ k s n).trans ?_
  pointwise [Cert.FfnUp.cut, gradU, sigm]
  rfl

/-! ## Over the real numbers -/

theorem sg_coe (g : ℝ) : sg (g : EReal) = ((1 / (1 + Real.exp (-g)) : ℝ) : EReal) := by
  unfold sg
  rw [← EReal.coe_neg, Ideal.exp_coe, ← EReal.coe_one, ← EReal.coe_add, Ideal.div, if_neg, ← EReal.coe_inv, ← EReal.coe_mul, one_div, one_mul]
  exact fun h => (by positivity : (1 + Real.exp (-g)) ≠ 0) (EReal.coe_eq_zero.mp h)

/-- The form the call computes is the reference's. -/
theorem oneG_coe (a g u : ℝ) : (a : EReal) * u * (sg g * (1 + g * (1 - sg g))) = oneG a g u := by
  unfold oneG
  rw [sg_coe, ← EReal.coe_one]
  simp only [← EReal.coe_mul, ← EReal.coe_add, ← EReal.coe_sub]
  exact congrArg _ (by ring)

theorem oneU_eq (a g : EReal) : a * (g * sg g) = oneU a g := mul_comm _ _

/-- A sum of products of real numbers is real. -/
theorem real_sum {ι : Type} [Fintype ι] {f g : ι → EReal} (hf : ∀ i, f i = ((f i).toReal : EReal)) (hg : ∀ i, g i = ((g i).toReal : EReal)) :
    ∃ r : ℝ, ∑ i, f i * g i = (r : EReal) := by
  refine ⟨∑ i, (f i).toReal * (g i).toReal, Eq.trans (sum_congr rfl fun i _ => ?_)
    (map_sum (⟨⟨Real.toEReal, EReal.coe_zero⟩, EReal.coe_add⟩ : ℝ →+ EReal) (fun i => (f i).toReal * (g i).toReal) univ).symm⟩
  exact (congrArg₂ _ (hf i) (hg i)).trans (EReal.coe_mul _ _).symm

variable (m : (ℓ : Loc nD τ sig) → Buf (Elt Ideal) ℓ) (ρ : Dev nD → PrngReg)

/-- The reference's run, its result by this name. -/
theorem ref_run : θ_run defs (onTc (τ := τ) (main (F := Ideal))) ⟨m, fun _ => 0, ρ⟩ fun r => ∀ c : Dev nD,
      r.2.mem ((c.tc : Thread nD τ).loc main_v24) = grads (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference2Ideal.Value.run (F := Ideal) m ρ

end Cert.FfnAct
-- ==== Proof.MergeRef.lean ====
/-
  The gradient of the branch gates as the reference computes it: the derivative of the sum of the two branches under
  their gates.
-/
module

public import proofs.«01_k».proof.Proof.FfnActRef
public import proofs.«01_k».proof.Proof.Gen.Reference10Ideal.Run

@[expose] public section

set_option maxRecDepth 16384

noncomputable section

namespace Cert.Merge

open Cert.Reference10Ideal Cert.Reference10Ideal.Gen
open Cert.FfnAct (sg)
open Idealize.ShloMosaic
open Idealize.SL Idealize.SL.Sem
open Finset

variable (a : FVec Ideal S8192x1024 .f32) (x : FVec Ideal S8192x2048 .f32) (y z : FVec Ideal S8192x1024 .f32) (b : FVec Ideal S1x2048 .f32)

/-- The logistic function of every element. -/
def sigm (z : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf z)))

/-- The two branches' gates before the logistic function. -/
def pre1 : FVec Ideal S8192x1024 .f32 :=
  addf (extractStridedSlice S8192x1024 ![0, 0] x slices_S8192x2048_S8192x1024_0_0)
    (broadcastInDim S8192x1024 ![0, 1] bcast_S1x1024_S8192x1024_0_1 (broadcastInDim S1x1024 ![1] bcast_S1024_S1x1024_1
      (shapeCast _ (extractStridedSlice S1x1024 ![0, 0] b slices_S1x2048_S1x1024_0_0) shapeCasts_S1x1024_S1024)))
def pre2 : FVec Ideal S8192x1024 .f32 :=
  addf (extractStridedSlice S8192x1024 ![0, 1024] x slices_S8192x2048_S8192x1024_0_1024)
    (broadcastInDim S8192x1024 ![0, 1] bcast_S1x1024_S8192x1024_0_1 (broadcastInDim S1x1024 ![1] bcast_S1024_S1x1024_1
      (shapeCast _ (extractStridedSlice S1x1024 ![0, 1024] b slices_S1x2048_S1x1024_0_1024) shapeCasts_S1x1024_S1024)))

/-- A gate's gradient, a branch's gradient, and a column's sum, from the gate before the logistic function. -/
def gradGate (v y : FVec Ideal S8192x1024 .f32) : FVec Ideal S8192x1024 .f32 :=
  mulf (mulf (shapeCast _ a shapeCasts_S8192x1024_S8192x1024) y)
    (mulf (sigm v) (subf (broadcastInDim S8192x1024 ![] bcast_S_S8192x1024 (constant S_ .f32 0x3F800000#32)) (sigm v)))
def gradBranch (v : FVec Ideal S8192x1024 .f32) : FVec Ideal S8192x1024 .f32 :=
  mulf (sigm v) (shapeCast _ a shapeCasts_S8192x1024_S8192x1024)
def colSum (v : FVec Ideal S8192x1024 .f32) : FVec Ideal S1x1024 .f32 :=
  broadcastInDim S1x1024 ![1] bcast_S1024_S1x1024_1 (Host.reduceAdd (shapeCast _ (Host.reduceAdd v
    (constant S_ .f32 0x00000000#32) reducesTo_S8192x1024_S1024_d0 h_S_) shapeCasts_S1024_S1x1024) (constant S_ .f32 0x00000000#32) reducesTo_S1x1024_S1024_d0 h_S_)

/-- One element of a gate's gradient and of a branch's. -/
def gateEl (a y v : EReal) : EReal := a * y * (sg v * (1 - sg v))
def branchEl (a v : EReal) : EReal := sg v * a

variable (s : Fin 8192) (n : Fin 1024)

theorem sigm_at (v : FVec Ideal S8192x1024 .f32) : (sigm v (ix2 s n) : EReal) = sg (v (ix2 s n)) := by
  pointwise [sigm]
  rfl

theorem pre1_at : (pre1 x b (ix2 s n) : EReal) = x (ix2 s (⟨n.val, by omega⟩ : Fin 2048)) + b (ix2 0 (⟨n.val, by omega⟩ : Fin 2048)) := by
  pointwise [pre1]

theorem pre2_at : (pre2 x b (ix2 s n) : EReal) = x (ix2 s (⟨1024 + n.val, by omega⟩ : Fin 2048)) + b (ix2 0 (⟨1024 + n.val, by omega⟩ : Fin 2048)) := by
  pointwise [pre2]

theorem gradGate_at (v : FVec Ideal S8192x1024 .f32) : (gradGate a v y (ix2 s n) : EReal) = gateEl (a (ix2 s n)) (y (ix2 s n)) (v (ix2 s n)) := by
  unfold gateEl
  rw [← sigm_at]
  pointwise [gradGate]

theorem gradBranch_at (v : FVec Ideal S8192x1024 .f32) : (gradBranch a v (ix2 s n) : EReal) = branchEl (a (ix2 s n)) (v (ix2 s n)) := by
  unfold branchEl
  rw [← sigm_at]
  pointwise [gradBranch]

theorem colSum_at (v : FVec Ideal S8192x1024 .f32) : (colSum v (ix2 0 n) : EReal) = ∑ s : Fin 8192, v (ix2 s n) := by
  pointwise [colSum]
  simp

variable (m : (ℓ : Loc nD τ sig) → Buf (Elt Ideal) ℓ) (ρ : Dev nD → PrngReg)

/-- The reference's run, its results by these names. -/
theorem ref_run : θ_run defs (onTc (τ := τ) (main (F := Ideal))) ⟨m, fun _ => 0, ρ⟩ fun r => ∀ c : Dev nD,
      r.2.mem ((c.tc : Thread nD τ).loc main_v47) = truncf .bf16 (gradGate (m ((c.tc : Thread nD τ).loc main_arg0)) (pre1 (m ((c.tc : Thread nD τ).loc main_arg1)) (m ((c.tc : Thread nD τ).loc main_arg4))) (m ((c.tc : Thread nD τ).loc main_arg2))) bitsLt_bf16_f32
      ∧ r.2.mem ((c.tc : Thread nD τ).loc main_v48) = truncf .bf16 (gradGate (m ((c.tc : Thread nD τ).loc main_arg0)) (pre2 (m ((c.tc : Thread nD τ).loc main_arg1)) (m ((c.tc : Thread nD τ).loc main_arg4))) (m ((c.tc : Thread nD τ).loc main_arg3))) bitsLt_bf16_f32
      ∧ r.2.mem ((c.tc : Thread nD τ).loc main_v49) = truncf .bf16 (gradBranch (m ((c.tc : Thread nD τ).loc main_arg0)) (pre1 (m ((c.tc : Thread nD τ).loc main_arg1)) (m ((c.tc : Thread nD τ).loc main_arg4)))) bitsLt_bf16_f32
      ∧ r.2.mem ((c.tc : Thread nD τ).loc main_v50) = truncf .bf16 (gradBranch (m ((c.tc : Thread nD τ).loc main_arg0)) (pre2 (m ((c.tc : Thread nD τ).loc main_arg1)) (m ((c.tc : Thread nD τ).loc main_arg4)))) bitsLt_bf16_f32
      ∧ r.2.mem ((c.tc : Thread nD τ).loc main_v51) = colSum (gradGate (m ((c.tc : Thread nD τ).loc main_arg0)) (pre1 (m ((c.tc : Thread nD τ).loc main_arg1)) (m ((c.tc : Thread nD τ).loc main_arg4))) (m ((c.tc : Thread nD τ).loc main_arg2)))
      ∧ r.2.mem ((c.tc : Thread nD τ).loc main_v52) = colSum (gradGate (m ((c.tc : Thread nD τ).loc main_arg0)) (pre2 (m ((c.tc : Thread nD τ).loc main_arg1)) (m ((c.tc : Thread nD τ).loc main_arg4))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference10Ideal.Value.run (F := Ideal) m ρ

end Cert.Merge
-- ==== Proof.Merge.lean ====
/-
  The gradient of the branch gates: what the call leaves in its six results, and that the reference computes the same.
-/
module

public import proofs.«01_k».proof.Proof.MergeBody
public import proofs.«01_k».proof.Proof.MergeRef
public import proofs.«01_k».proof.Proof.Tiles
public import proofs.«01_k».proof.Defs
public import Idealize.ShloMosaic.Lib.Pointwise
public import Idealize.ShloMosaic.Lib.Pipeline.ValueKit.Geometry

@[expose] public section

set_option maxRecDepth 16384

noncomputable section

namespace Cert.Merge

open Cert.Kernel10Ideal Cert.Kernel10Ideal.Gen Cert.Kernel10Ideal.Value
open Cert.FfnAct (sg)
open Cert.Tiles (row tile)
open Idealize.ShloMosaic Idealize.ShloMosaic.TcCoe Idealize.ShloMosaic.StableHlo
open Idealize.SL Idealize.SL.Sem
open Finset

/-! ## What the body computes -/

section
variable (x0 x1 x2 x3 x4 : Vec Ideal S256x1024 .f32) (x5 x6 xo : Vec Ideal S1x1024 .f32) (r : Fin 256) (n : Fin 1024)

theorem pay9_at : (k0_pay9 (F := Ideal) x1 x5 : S256x1024.Idx → EReal) (ix2 r n) = sg (x1 (ix2 r n) + x5 (ix2 0 n)) := by
  pointwise [k0_pay9]
  rw [zero_sub]
  rfl

theorem pay10_at : (k0_pay10 (F := Ideal) x2 x6 : S256x1024.Idx → EReal) (ix2 r n) = sg (x2 (ix2 r n) + x6 (ix2 0 n)) := by
  pointwise [k0_pay10]
  rw [zero_sub]
  rfl

theorem pay11_at : (k0_pay11 (F := Ideal) x0 x1 x3 x5 : S256x1024.Idx → EReal) (ix2 r n)
    = gateEl (x0 (ix2 r n)) (x3 (ix2 r n)) (x1 (ix2 r n) + x5 (ix2 0 n)) := by
  unfold gateEl
  rw [← pay9_at, ← mul_assoc]
  pointwise [k0_pay11]

theorem pay12_at : (k0_pay12 (F := Ideal) x0 x2 x4 x6 : S256x1024.Idx → EReal) (ix2 r n)
    = gateEl (x0 (ix2 r n)) (x4 (ix2 r n)) (x2 (ix2 r n) + x6 (ix2 0 n)) := by
  unfold gateEl
  rw [← pay10_at, ← mul_assoc]
  pointwise [k0_pay12]

theorem pay5_at : (k0_pay5 (F := Ideal) x0 (k0_pay9 x1 x5) : S256x1024.Idx → EReal) (ix2 r n) = branchEl (x0 (ix2 r n)) (x1 (ix2 r n) + x5 (ix2 0 n)) := by
  unfold branchEl
  rw [← pay9_at, mul_comm]
  pointwise [k0_pay5]

theorem pay6_at : (k0_pay6 (F := Ideal) x0 (k0_pay10 x2 x6) : S256x1024.Idx → EReal) (ix2 r n) = branchEl (x0 (ix2 r n)) (x2 (ix2 r n) + x6 (ix2 0 n)) := by
  unfold branchEl
  rw [← pay10_at, mul_comm]
  pointwise [k0_pay6]

theorem pay1_at : (k0_pay1 (F := Ideal) x0 : S1x1024.Idx → EReal) (ix2 0 n) = ∑ r : Fin 256, x0 (ix2 r n) := by
  pointwise [k0_pay1]

theorem pay2_at : (k0_pay2 (F := Ideal) x0 : S1x1024.Idx → EReal) (ix2 0 n) = ∑ r : Fin 256, x0 (ix2 r n) := by
  pointwise [k0_pay2]

theorem pay7_at : (k0_pay7 (F := Ideal) x0 xo : S1x1024.Idx → EReal) (ix2 0 n) = xo (ix2 0 n) + ∑ r : Fin 256, x0 (ix2 r n) := by
  rw [← pay1_at]
  pointwise [k0_pay7]

theorem pay8_at : (k0_pay8 (F := Ideal) x0 xo : S1x1024.Idx → EReal) (ix2 0 n) = xo (ix2 0 n) + ∑ r : Fin 256, x0 (ix2 r n) := by
  rw [← pay2_at]
  pointwise [k0_pay8]

end

/-! ## The blocks -/

variable (c : Dev nD) (m : (ℓ : Loc nD τ sig) → Buf (Elt Ideal) ℓ)

/-- The operands, and the blocks that a grid point stages. -/
def opD : FVec Ideal S8192x1024 .f32 := m ((c : Thread nD τ).loc main_arg0)
def opG : FVec Ideal S8192x2048 .f32 := m ((c : Thread nD τ).loc main_arg1)
def opY : FVec Ideal S8192x1024 .f32 := m ((c : Thread nD τ).loc main_arg2)
def opZ : FVec Ideal S8192x1024 .f32 := m ((c : Thread nD τ).loc main_arg3)
def opB : FVec Ideal S1x2048 .f32 := m ((c : Thread nD τ).loc main_arg4)
def st0 (t : Fin cfg0.N) : S256x1024.Idx → EReal := iblk m c 0 t
def st1 (t : Fin cfg0.N) : S256x1024.Idx → EReal := iblk m c 1 t
def st2 (t : Fin cfg0.N) : S256x1024.Idx → EReal := iblk m c 2 t
def st3 (t : Fin cfg0.N) : S256x1024.Idx → EReal := iblk m c 3 t
def st4 (t : Fin cfg0.N) : S256x1024.Idx → EReal := iblk m c 4 t
def st5 (t : Fin cfg0.N) : S1x1024.Idx → EReal := iblk m c 5 t
def st6 (t : Fin cfg0.N) : S1x1024.Idx → EReal := iblk m c 6 t

theorem V_bias1 (n : Fin 1024) : (V m c main_v0 : S1x1024.Idx → EReal) (ix2 0 n) = opB c m (ix2 0 (⟨n.val, by omega⟩ : Fin 2048)) := by
  have e : (V m c main_v0 : FVec Ideal S1x1024 .f32) = extractStridedSlice S1x1024 ![0, 0] (opB c m) slices_S1x2048_S1x1024_0_0 := by
    unfold V
    rw [hostOps0]
    after_results
    rfl
  rw [e]
  pointwise []

theorem V_bias2 (n : Fin 1024) : (V m c main_v1 : S1x1024.Idx → EReal) (ix2 0 n) = opB c m (ix2 0 (⟨1024 + n.val, by omega⟩ : Fin 2048)) := by
  have e : (V m c main_v1 : FVec Ideal S1x1024 .f32) = extractStridedSlice S1x1024 ![0, 1024] (opB c m) slices_S1x2048_S1x1024_0_1024 := by
    unfold V
    rw [hostOps0]
    after_results
    rfl
  rw [e]
  pointwise []

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 1] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![t.val, 0] := (by decide +kernel : ∀ t : Fin grid0.N, _)
theorem index0_8 : ∀ t : Fin cfg0.N, win0_8.index t = ![t.val, 0] := (by decide +kernel : ∀ t : Fin grid0.N, _)
theorem index0_9 : ∀ t : Fin cfg0.N, win0_9.index t = ![t.val, 0] := (by decide +kernel : ∀ t : Fin grid0.N, _)
theorem index0_10 : ∀ t : Fin cfg0.N, win0_10.index t = ![t.val, 0] := (by decide +kernel : ∀ t : Fin grid0.N, _)
theorem index0_11 : ∀ t : Fin cfg0.N, win0_11.index t = ![0, 0] := (by decide +kernel : ∀ t : Fin grid0.N, _)
theorem index0_12 : ∀ t : Fin cfg0.N, win0_12.index t = ![0, 0] := (by decide +kernel : ∀ t : Fin grid0.N, _)

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

variable (t : Fin cfg0.N) (r : Fin 256) (n : Fin 1024)

theorem blk0 : st0 c m t (ix2 r n) = opD c m (ix2 (at_ t r) n) := by
  unfold st0 iblk
  refine Eq.trans (congrArg (V m c main_arg0) (funext fun a => Fin.ext ?_)) (congrFun (V_main_arg0 m c) _)
  match a with
  | ⟨0, _⟩ => show win0_0.index t 0 * 256 + 1 * r.val = _; rw [index0_0]; show t.val * 256 + 1 * r.val = 256 * t.val + r.val; omega
  | ⟨1, _⟩ => show win0_0.index t 1 * 1024 + 1 * n.val = _; rw [index0_0]; show 0 * 1024 + 1 * n.val = n.val; omega

theorem blk1 : st1 c m t (ix2 r n) = opG c m (ix2 (at_ t r) (⟨n.val, by omega⟩ : Fin 2048)) := by
  unfold st1 iblk
  refine Eq.trans (congrArg (V m c main_arg1) (funext fun a => Fin.ext ?_)) (congrFun (V_main_arg1 m c) _)
  match a with
  | ⟨0, _⟩ => show win0_1.index t 0 * 256 + 1 * r.val = _; rw [index0_1]; show t.val * 256 + 1 * r.val = 256 * t.val + r.val; omega
  | ⟨1, _⟩ => show win0_1.index t 1 * 1024 + 1 * n.val = _; rw [index0_1]; show 0 * 1024 + 1 * n.val = n.val; omega

theorem blk2 : st2 c m t (ix2 r n) = opG c m (ix2 (at_ t r) (⟨1024 + n.val, by omega⟩ : Fin 2048)) := by
  unfold st2 iblk
  refine Eq.trans (congrArg (V m c main_arg1) (funext fun a => Fin.ext ?_)) (congrFun (V_main_arg1 m c) _)
  match a with
  | ⟨0, _⟩ => show win0_2.index t 0 * 256 + 1 * r.val = _; rw [index0_2]; show t.val * 256 + 1 * r.val = 256 * t.val + r.val; omega
  | ⟨1, _⟩ => show win0_2.index t 1 * 1024 + 1 * n.val = _; rw [index0_2]; show 1 * 1024 + 1 * n.val = 1024 + n.val; omega

theorem blk3 : st3 c m t (ix2 r n) = opY c m (ix2 (at_ t r) n) := by
  unfold st3 iblk
  refine Eq.trans (congrArg (V m c main_arg2) (funext fun a => Fin.ext ?_)) (congrFun (V_main_arg2 m c) _)
  match a with
  | ⟨0, _⟩ => show win0_3.index t 0 * 256 + 1 * r.val = _; rw [index0_3]; show t.val * 256 + 1 * r.val = 256 * t.val + r.val; omega
  | ⟨1, _⟩ => show win0_3.index t 1 * 1024 + 1 * n.val = _; rw [index0_3]; show 0 * 1024 + 1 * n.val = n.val; omega

theorem blk4 : st4 c m t (ix2 r n) = opZ c m (ix2 (at_ t r) n) := by
  unfold st4 iblk
  refine Eq.trans (congrArg (V m c main_arg3) (funext fun a => Fin.ext ?_)) (congrFun (V_main_arg3 m c) _)
  match a with
  | ⟨0, _⟩ => show win0_4.index t 0 * 256 + 1 * r.val = _; rw [index0_4]; show t.val * 256 + 1 * r.val = 256 * t.val + r.val; omega
  | ⟨1, _⟩ => show win0_4.index t 1 * 1024 + 1 * n.val = _; rw [index0_4]; show 0 * 1024 + 1 * n.val = n.val; omega

theorem blk5 : st5 c m t (ix2 0 n) = opB c m (ix2 0 (⟨n.val, by omega⟩ : Fin 2048)) := by
  unfold st5 iblk
  refine Eq.trans (congrArg (V m c main_v0) (funext fun a => Fin.ext ?_)) (V_bias1 c m n)
  match a with
  | ⟨0, _⟩ => show win0_5.index t 0 * 1 + 1 * 0 = _; rw [index0_5]; rfl
  | ⟨1, _⟩ => show win0_5.index t 1 * 1024 + 1 * n.val = _; rw [index0_5]; show 0 * 1024 + 1 * n.val = n.val; omega

theorem blk6 : st6 c m t (ix2 0 n) = opB c m (ix2 0 (⟨1024 + n.val, by omega⟩ : Fin 2048)) := by
  unfold st6 iblk
  refine Eq.trans (congrArg (V m c main_v1) (funext fun a => Fin.ext ?_)) (V_bias2 c m n)
  match a with
  | ⟨0, _⟩ => show win0_6.index t 0 * 1 + 1 * 0 = _; rw [index0_6]; rfl
  | ⟨1, _⟩ => show win0_6.index t 1 * 1024 + 1 * n.val = _; rw [index0_6]; show 0 * 1024 + 1 * n.val = n.val; omega

/-! ## The arrays after the run -/

/-- The gates before the logistic function, and the two gates' and branches' gradients. -/
def z1 (s : Fin 8192) : EReal := opG c m (ix2 s (⟨n.val, by omega⟩ : Fin 2048)) + opB c m (ix2 0 (⟨n.val, by omega⟩ : Fin 2048))
def z2 (s : Fin 8192) : EReal := opG c m (ix2 s (⟨1024 + n.val, by omega⟩ : Fin 2048)) + opB c m (ix2 0 (⟨1024 + n.val, by omega⟩ : Fin 2048))
def g1 (s : Fin 8192) : EReal := gateEl (opD c m (ix2 s n)) (opY c m (ix2 s n)) (z1 c m n s)
def g2 (s : Fin 8192) : EReal := gateEl (opD c m (ix2 s n)) (opZ c m (ix2 s n)) (z2 c m n s)
def b1 (s : Fin 8192) : EReal := branchEl (opD c m (ix2 s n)) (z1 c m n s)
def b2 (s : Fin 8192) : EReal := branchEl (opD c m (ix2 s n)) (z2 c m n s)

theorem el1 : (k0_pay11 (F := Ideal) (st0 c m t) (st1 c m t) (st3 c m t) (st5 c m t) : S256x1024.Idx → EReal) (ix2 r n) = g1 c m n (at_ t r) :=
  (pay11_at _ _ _ _ r n).trans (Cert.Ffn.congr3 gateEl (blk0 c m t r n) (blk3 c m t r n) (congrArg₂ _ (blk1 c m t r n) (blk5 c m t n)))

theorem el2 : (k0_pay12 (F := Ideal) (st0 c m t) (st2 c m t) (st4 c m t) (st6 c m t) : S256x1024.Idx → EReal) (ix2 r n) = g2 c m n (at_ t r) :=
  (pay12_at _ _ _ _ r n).trans (Cert.Ffn.congr3 gateEl (blk0 c m t r n) (blk4 c m t r n) (congrArg₂ _ (blk2 c m t r n) (blk6 c m t n)))

theorem el3 : (k0_pay5 (F := Ideal) (st0 c m t) (k0_pay9 (st1 c m t) (st5 c m t)) : S256x1024.Idx → EReal) (ix2 r n) = b1 c m n (at_ t r) :=
  (pay5_at _ _ _ r n).trans (congrArg₂ branchEl (blk0 c m t r n) (congrArg₂ _ (blk1 c m t r n) (blk5 c m t n)))

theorem el4 : (k0_pay6 (F := Ideal) (st0 c m t) (k0_pay10 (st2 c m t) (st6 c m t)) : S256x1024.Idx → EReal) (ix2 r n) = b2 c m n (at_ t r) :=
  (pay6_at _ _ _ r n).trans (congrArg₂ branchEl (blk0 c m t r n) (congrArg₂ _ (blk2 c m t r n) (blk6 c m t n)))

/-- What a grid point leaves in the blocks of the first four results. -/
theorem outs4 : ((outsAt0 m c t.val t.isLt).1 (ix2 r n) : EReal) = g1 c m n (at_ t r)
    ∧ ((outsAt0 m c t.val t.isLt).2.1 (ix2 r n) : EReal) = g2 c m n (at_ t r)
    ∧ ((outsAt0 m c t.val t.isLt).2.2.1 (ix2 r n) : EReal) = b1 c m n (at_ t r)
    ∧ ((outsAt0 m c t.val t.isLt).2.2.2.1 (ix2 r n) : EReal) = b2 c m n (at_ t r) := by
  have ht := lt32 t
  by_cases h : t.val % 32 = 0
  · rw [outsAt0_A m c t h (by omega)]
    dsimp only
    obtain ⟨e7, e8, e9, e10, -, -⟩ := left_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) ((hcond0_0 t).mpr h) (fun h' => by have := (hcond0_1 t).mp h'; omega)
    rw [e7, e8, e9, e10]
    exact ⟨el1 c m t r n, el2 c m t r n, el3 c m t r n, el4 c m t r n⟩
  · rw [outsAt0_B m c t h (by omega)]
    dsimp only
    obtain ⟨e7, e8, e9, e10, -, -⟩ := left_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h' => h ((hcond0_0 t).mp h')) ((hcond0_1 t).mpr (by omega))
    rw [e7, e8, e9, e10]
    exact ⟨el1 c m t r n, el2 c m t r n, el3 c m t r n, el4 c m t r n⟩

/-- A tile's part of the two column sums. -/
theorem part1 : (∑ r : Fin 256, (k0_pay11 (F := Ideal) (st0 c m t) (st1 c m t) (st3 c m t) (st5 c m t) : S256x1024.Idx → EReal) (ix2 r n)) = tile (g1 c m n) t.val :=
  sum_congr rfl fun r _ => (el1 c m t r n).trans (Cert.Tiles.row_eq _ _).symm

theorem part2 : (∑ r : Fin 256, (k0_pay12 (F := Ideal) (st0 c m t) (st2 c m t) (st4 c m t) (st6 c m t) : S256x1024.Idx → EReal) (ix2 r n)) = tile (g2 c m n) t.val :=
  sum_congr rfl fun r _ => (el2 c m t r n).trans (Cert.Tiles.row_eq _ _).symm

theorem first (h : 0 < cfg0.N) : ((outsAt0 m c 0 h).2.2.2.2.1 (ix2 0 n) : EReal) = tile (g1 c m n) 0
    ∧ ((outsAt0 m c 0 h).2.2.2.2.2 (ix2 0 n) : EReal) = tile (g2 c m n) 0 := by
  have e := outsAt0_A m c ⟨0, h⟩ (Nat.zero_mod _) (by show ¬1 ≤ 0; omega)
  rw [show outsAt0 m c 0 h = _ from e]
  dsimp only
  constructor
  · rw [(left_A (F := Ideal) ..).2.2.2.2.1]
    exact (pay1_at _ n).trans (part1 c m ⟨0, h⟩ n)
  · rw [(left_A (F := Ideal) ..).2.2.2.2.2]
    exact (pay2_at _ n).trans (part2 c m ⟨0, h⟩ n)

theorem next (k : ℕ) (h : k + 1 < cfg0.N) : ((outsAt0 m c (k + 1) h).2.2.2.2.1 (ix2 0 n) : EReal) = (outsAt0 m c k (Nat.lt_of_succ_lt h)).2.2.2.2.1 (ix2 0 n) + tile (g1 c m n) (k + 1)
    ∧ ((outsAt0 m c (k + 1) h).2.2.2.2.2 (ix2 0 n) : EReal) = (outsAt0 m c k (Nat.lt_of_succ_lt h)).2.2.2.2.2 (ix2 0 n) + tile (g2 c m n) (k + 1) := by
  have hk : k + 1 < 32 := lt_of_lt_of_eq h N_0
  have e := outsAt0_B m c ⟨k + 1, h⟩ (by show ¬(k + 1) % 32 = 0; omega) (by show 1 ≤ k + 1; omega)
  rw [show outsAt0 m c (k + 1) h = _ from e]
  dsimp only
  constructor
  · rw [(left_B (F := Ideal) ..).2.2.2.2.1]
    exact (pay7_at _ _ n).trans (congrArg _ (part1 c m ⟨k + 1, h⟩ n))
  · rw [(left_B (F := Ideal) ..).2.2.2.2.2]
    exact (pay8_at _ _ n).trans (congrArg _ (part2 c m ⟨k + 1, h⟩ n))

/-- What the last grid point leaves of the column sums. -/
theorem last1 (h : t.val = 31) : ((outsAt0 m c t.val t.isLt).2.2.2.2.1 (ix2 0 n) : EReal) = ∑ s, g1 c m n s := by
  refine (Cert.Tiles.sum_steps (fun k hk => ((outsAt0 m c k hk).2.2.2.2.1 (ix2 0 n) : EReal)) (tile (g1 c m n)) (fun h => (first c m n h).1) (fun k h => (next c m n k h).1) t.val t.isLt).trans ?_
  rw [h]
  exact Cert.Tiles.tiles _

theorem last2 (h : t.val = 31) : ((outsAt0 m c t.val t.isLt).2.2.2.2.2 (ix2 0 n) : EReal) = ∑ s, g2 c m n s := by
  refine (Cert.Tiles.sum_steps (fun k hk => ((outsAt0 m c k hk).2.2.2.2.2 (ix2 0 n) : EReal)) (tile (g2 c m n)) (fun h => (first c m n h).2) (fun k h => (next c m n k h).2) t.val t.isLt).trans ?_
  rw [h]
  exact Cert.Tiles.tiles _

/-- The place in an array of a place in a block. -/
theorem emb_row {s : Fin 8192} {k : Fin 1024} {y : S256x1024.Idx} (f : Fin 1024 → Fin 8192 → EReal) (h0 : s.val = 256 * t.val + (y 0).val) (h1 : k.val = (y 1).val) :
    f (y 1) (at_ t (y 0)) = f k s := by
  have e0 : at_ t (y 0) = s := Fin.ext h0.symm
  have e1 : (y 1 : Fin 1024) = k := Fin.ext h1.symm
  rw [e0, e1]

theorem array7 (i : S8192x1024.Idx) : ((dats m 0 c).arrAt 7 cfg0.N i : EReal) = g1 c m (i 1) (i 0) := by
  refine (dats m 0 c).arrAt_forall_of_covers 7 (fun i v => (v : EReal) = g1 c m (i 1) (i 0)) (by decide +kernel) (fun t hf y => ?_) i
  blk_simp
  rw [after0_7]
  refine (congrArg (outsAt0 m c t.val t.isLt).1 (eq_ix2 y)).trans ((outs4 c m t (y 0) (y 1)).1.trans (emb_row t (g1 c m) ?_ ?_))
  · show win0_7.index t 0 * 256 + 1 * (y 0).val = _; rw [index0_7]; show t.val * 256 + 1 * (y 0).val = _; omega
  · show win0_7.index t 1 * 1024 + 1 * (y 1).val = _; rw [index0_7]; show 0 * 1024 + 1 * (y 1).val = _; omega

theorem array8 (i : S8192x1024.Idx) : ((dats m 0 c).arrAt 8 cfg0.N i : EReal) = g2 c m (i 1) (i 0) := by
  refine (dats m 0 c).arrAt_forall_of_covers 8 (fun i v => (v : EReal) = g2 c m (i 1) (i 0)) (by decide +kernel) (fun t hf y => ?_) i
  blk_simp
  rw [after0_8]
  refine (congrArg (outsAt0 m c t.val t.isLt).2.1 (eq_ix2 y)).trans ((outs4 c m t (y 0) (y 1)).2.1.trans (emb_row t (g2 c m) ?_ ?_))
  · show win0_8.index t 0 * 256 + 1 * (y 0).val = _; rw [index0_8]; show t.val * 256 + 1 * (y 0).val = _; omega
  · show win0_8.index t 1 * 1024 + 1 * (y 1).val = _; rw [index0_8]; show 0 * 1024 + 1 * (y 1).val = _; omega

theorem array9 (i : S8192x1024.Idx) : ((dats m 0 c).arrAt 9 cfg0.N i : EReal) = b1 c m (i 1) (i 0) := by
  refine (dats m 0 c).arrAt_forall_of_covers 9 (fun i v => (v : EReal) = b1 c m (i 1) (i 0)) (by decide +kernel) (fun t hf y => ?_) i
  blk_simp
  rw [after0_9]
  refine (congrArg (outsAt0 m c t.val t.isLt).2.2.1 (eq_ix2 y)).trans ((outs4 c m t (y 0) (y 1)).2.2.1.trans (emb_row t (b1 c m) ?_ ?_))
  · show win0_9.index t 0 * 256 + 1 * (y 0).val = _; rw [index0_9]; show t.val * 256 + 1 * (y 0).val = _; omega
  · show win0_9.index t 1 * 1024 + 1 * (y 1).val = _; rw [index0_9]; show 0 * 1024 + 1 * (y 1).val = _; omega

theorem array10 (i : S8192x1024.Idx) : ((dats m 0 c).arrAt 10 cfg0.N i : EReal) = b2 c m (i 1) (i 0) := by
  refine (dats m 0 c).arrAt_forall_of_covers 10 (fun i v => (v : EReal) = b2 c m (i 1) (i 0)) (by decide +kernel) (fun t hf y => ?_) i
  blk_simp
  rw [after0_10]
  refine (congrArg (outsAt0 m c t.val t.isLt).2.2.2.1 (eq_ix2 y)).trans ((outs4 c m t (y 0) (y 1)).2.2.2.trans (emb_row t (b2 c m) ?_ ?_))
  · show win0_10.index t 0 * 256 + 1 * (y 0).val = _; rw [index0_10]; show t.val * 256 + 1 * (y 0).val = _; omega
  · show win0_10.index t 1 * 1024 + 1 * (y 1).val = _; rw [index0_10]; show 0 * 1024 + 1 * (y 1).val = _; omega

theorem flush11 : ∀ t : Fin cfg0.N, (cfg0.win 11).flush t = true → t.val = 31 := (by decide +kernel : ∀ t : Fin grid0.N, _)
theorem flush12 : ∀ t : Fin cfg0.N, (cfg0.win 12).flush t = true → t.val = 31 := (by decide +kernel : ∀ t : Fin grid0.N, _)

theorem array11 (i : S1x1024.Idx) : ((dats m 0 c).arrAt 11 cfg0.N i : EReal) = ∑ s, g1 c m (i 1) s := by
  refine (dats m 0 c).arrAt_forall_of_covers 11 (fun i v => (v : EReal) = ∑ s, g1 c m (i 1) s) (by decide +kernel) (fun t hf y => ?_) i
  blk_simp
  rw [after0_11]
  obtain ⟨a, k, rfl⟩ : ∃ (a : Fin 1) (k : Fin 1024), y = ix2 a k := ⟨y 0, y 1, eq_ix2 y⟩
  obtain rfl : a = 0 := Subsingleton.elim _ _
  refine (last1 c m t k (flush11 t hf)).trans (congrArg (fun k => ∑ s, g1 c m k s) (Fin.ext ?_))
  show k.val = win0_11.index t 1 * 1024 + 1 * k.val; rw [index0_11]; show k.val = 0 * 1024 + 1 * k.val; omega

theorem array12 (i : S1x1024.Idx) : ((dats m 0 c).arrAt 12 cfg0.N i : EReal) = ∑ s, g2 c m (i 1) s := by
  refine (dats m 0 c).arrAt_forall_of_covers 12 (fun i v => (v : EReal) = ∑ s, g2 c m (i 1) s) (by decide +kernel) (fun t hf y => ?_) i
  blk_simp
  rw [after0_12]
  obtain ⟨a, k, rfl⟩ : ∃ (a : Fin 1) (k : Fin 1024), y = ix2 a k := ⟨y 0, y 1, eq_ix2 y⟩
  obtain rfl : a = 0 := Subsingleton.elim _ _
  refine (last2 c m t k (flush12 t hf)).trans (congrArg (fun k => ∑ s, g2 c m k s) (Fin.ext ?_))
  show k.val = win0_12.index t 1 * 1024 + 1 * k.val; rw [index0_12]; show k.val = 0 * 1024 + 1 * k.val; omega

/-! ## Both -/

/-- The run leaves what the reference computes. -/
theorem algebraic : Cert.algebraic_Kernel10Ideal_Reference10Ideal := by
  intro m ρ m' ρ' _ hagree
  refine ⟨fun c => (dats m 0 c).arrAt 7 cfg0.N, fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, run_blocks (F := Ideal) m ρ,
    (θ_run Cert.Reference10Ideal.defs _ _).mono (fun _ h c => ?_) (ref_run m' ρ')⟩
  obtain ⟨h1, h2, h3, h4, h5, h6, hk⟩ := h c
  rw [(hagree c).1, (hagree c).2.1, (hagree c).2.2.2.2] at h1 h2 h3 h4 h5 h6
  rw [(hagree c).2.2.1] at h1 h5
  rw [(hagree c).2.2.2.1] at h2 h6
  refine ⟨h1.trans (funext fun i => ?_), h2.trans (funext fun i => ?_), h3.trans (funext fun i => ?_), h4.trans (funext fun i => ?_),
    h5.trans (funext fun i => ?_), h6.trans (funext fun i => ?_), hk⟩
  · rw [eq_ix2 i]
    exact (gradGate_at _ _ _ _ _).trans ((congrArg (gateEl _ _) (pre1_at _ _ _ _)).trans (array7 c m (ix2 (i 0) (i 1))).symm)
  · rw [eq_ix2 i]
    exact (gradGate_at _ _ _ _ _).trans ((congrArg (gateEl _ _) (pre2_at _ _ _ _)).trans (array8 c m (ix2 (i 0) (i 1))).symm)
  · rw [eq_ix2 i]
    exact (gradBranch_at _ _ _ _).trans ((congrArg (branchEl _) (pre1_at _ _ _ _)).trans (array9 c m (ix2 (i 0) (i 1))).symm)
  · rw [eq_ix2 i]
    exact (gradBranch_at _ _ _ _).trans ((congrArg (branchEl _) (pre2_at _ _ _ _)).trans (array10 c m (ix2 (i 0) (i 1))).symm)
  · obtain ⟨a, k, rfl⟩ : ∃ (a : Fin 1) (k : Fin 1024), i = ix2 a k := ⟨i 0, i 1, eq_ix2 i⟩
    obtain rfl : a = 0 := Subsingleton.elim _ _
    exact (colSum_at _ _).trans ((sum_congr rfl fun s _ => (gradGate_at _ _ _ _ _).trans (congrArg (gateEl _ _) (pre1_at _ _ _ _))).trans (array11 c m (ix2 0 k)).symm)
  · obtain ⟨a, k, rfl⟩ : ∃ (a : Fin 1) (k : Fin 1024), i = ix2 a k := ⟨i 0, i 1, eq_ix2 i⟩
    obtain rfl : a = 0 := Subsingleton.elim _ _
    exact (colSum_at _ _).trans ((sum_congr rfl fun s _ => (gradGate_at _ _ _ _ _).trans (congrArg (gateEl _ _) (pre2_at _ _ _ _))).trans (array12 c m (ix2 0 k)).symm)

end Cert.Merge
-- ==== Proof.MixIn.lean ====
/-
  The gradient of the mixer's input: what the call that multiplies the gradient of the combined projection by the
  transposed weights leaves, and that the reference computes the same.
-/
module

public import proofs.«01_k».proof.Proof.Gen.Kernel11Ideal.Value
public import proofs.«01_k».proof.Proof.Gen.Reference11Ideal.Run
public import proofs.«01_k».proof.Proof.Sums
public import proofs.«01_k».proof.Defs
public import Idealize.ShloMosaic.Lib.Pointwise

@[expose] public section

set_option maxRecDepth 16384

noncomputable section

namespace Cert.MixIn

open Cert.Kernel11Ideal Cert.Kernel11Ideal.Gen Cert.Kernel11Ideal.Value
open Idealize.ShloMosaic Idealize.ShloMosaic.TcCoe
open Idealize.SL Idealize.SL.Sem
open Finset

variable {F : FTy → Type} [FloatOps F]

/-! ## What a grid point leaves in the accumulator, and what the last one of five writes -/

theorem hz : (![0, 0] : Fin 2 → Nat) = fun _ => 0 := funext fun a => by fin_cases a <;> rfl

variable (c : Dev nD) (i : grid0.Coords) (arg3 : Memref sig .tc .vmem S1024x1152 .bf16) (h3 : arg3.IsWhole)
  (arg4 : Memref sig .tc .vmem S1024x1152 .bf16) (h4 : arg4.IsWhole) (arg5 : Memref sig .tc .vmem S1024x1024 .f32) (h5 : arg5.IsWhole)
  (arg6 : Memref sig .tc .vmem S1024x1024 .f32) (h6 : arg6.IsWhole) (x0 x1 : Vec F S1024x1152 .bf16) (xs : Vec F S1024x1024 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1152) hz]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1152) hz, View.ld_unit_zero (S := S1024x1024) hz]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1152) hz, View.ld_unit_zero (S := S1024x1024) hz]

theorem written_C (hc0 : ¬cond0_0 i) (hc1 : cond0_1 i) : out0_C_2 c i arg3 h3 arg4 h4 arg5 h5 arg6 h6 hc0 hc1 x0 x1 xs = k0_pay2 xs x0 x1 := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1152) hz, View.ld_unit_zero (S := S1024x1024) hz]

/-! ## Over the extended reals -/

section
variable (acc : Vec Ideal S1024x1024 .f32) (x y : Vec Ideal S1024x1152 .bf16) (r n : Fin 1024)

theorem pay1_at : (k0_pay1 (F := Ideal) : S1024x1024.Idx → EReal) (ix2 r n) = 0 := by
  pointwise [k0_pay1]

theorem pay2_at : (k0_pay2 (F := Ideal) acc x y : S1024x1024.Idx → EReal) (ix2 r n)
    = acc (ix2 r n) + ∑ d : Fin 1152, (x (ix2 r d) : EReal) * y (ix2 n d) := by
  pointwise [k0_pay2]

end

variable (m : (ℓ : Loc nD τ sig) → Buf (Elt Ideal) ℓ)

theorem index0_0 : ∀ t : Fin cfg0.N, win0_0.index t = ![t.val / 5, t.val % 5] := (by decide +kernel : ∀ t : Fin grid0.N, _)
theorem index0_1 : ∀ t : Fin cfg0.N, win0_1.index t = ![0, t.val % 5] := (by decide +kernel : ∀ t : Fin grid0.N, _)

/-- The operands, and the blocks of them that a grid point stages. -/
def opA : S8192x5760.Idx → EReal := m ((c : Thread nD τ).loc main_arg0)
def opB : S1024x5760.Idx → EReal := m ((c : Thread nD τ).loc main_arg1)
def stA (t : Fin cfg0.N) : S1024x1152.Idx → EReal := iblk m c 0 t
def stB (t : Fin cfg0.N) : S1024x1152.Idx → EReal := iblk m c 1 t

theorem lt40 (t : Fin cfg0.N) : t.val < 40 := lt_of_lt_of_eq t.isLt N_0

theorem blk0 (t : Fin cfg0.N) (r : Fin 1024) (d : Fin 1152) : stA c m t (ix2 r d)
    = opA c m (ix2 (⟨1024 * (t.val / 5) + r.val, by have := lt40 t; omega⟩ : Fin 8192) (⟨t.val % 5 * 1152 + d.val, by omega⟩ : Fin 5760)) := by
  unfold stA iblk
  refine Eq.trans (congrArg (V m c main_arg0) (funext fun a => Fin.ext ?_)) (congrFun (V_main_arg0 m c) _)
  match a with
  | ⟨0, _⟩ => show win0_0.index t 0 * 1024 + 1 * r.val = _; rw [index0_0]; show t.val / 5 * 1024 + 1 * r.val = 1024 * (t.val / 5) + r.val; omega
  | ⟨1, _⟩ => show win0_0.index t 1 * 1152 + 1 * d.val = _; rw [index0_0]; show t.val % 5 * 1152 + 1 * d.val = t.val % 5 * 1152 + d.val; omega

theorem blk1 (t : Fin cfg0.N) (n : Fin 1024) (d : Fin 1152) : stB c m t (ix2 n d)
    = opB c m (ix2 n (⟨t.val % 5 * 1152 + d.val, by omega⟩ : Fin 5760)) := by
  unfold stB iblk
  refine Eq.trans (congrArg (V m c main_arg1) (funext fun a => Fin.ext ?_)) (congrFun (V_main_arg1 m c) _)
  match a with
  | ⟨0, _⟩ => show win0_1.index t 0 * 1024 + 1 * n.val = _; rw [index0_1]; show 0 * 1024 + 1 * n.val = n.val; omega
  | ⟨1, _⟩ => show win0_1.index t 1 * 1152 + 1 * d.val = _; rw [index0_1]; show t.val % 5 * 1152 + 1 * d.val = t.val % 5 * 1152 + d.val; omega

/-- What grid point `n` adds to the accumulator. -/
def addend (n : ℕ) (i : S1024x1024.Idx) : EReal :=
  if h : n < cfg0.N then ∑ d : Fin 1152, stA c m ⟨n, h⟩ (ix2 (i 0) d) * stB c m ⟨n, h⟩ (ix2 (i 1) d)
  else 0

/-- What the accumulator holds after a grid point: the addends since its row of blocks began. -/
theorem acc_at (t : Fin cfg0.N) (i : S1024x1024.Idx) :
    ((outsAt0 m c t.val t.isLt).2 i : EReal) = ∑ s ∈ range (t.val % 5 + 1), addend c m (5 * (t.val / 5) + s) i := by
  have ht := lt40 t
  rw [soutsAt0_0_eq]
  refine (Pipeline.accAt_add_apply _ _ (fun _ => (0 : EReal)) (addend c m) _ 4 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of five the block written is the accumulator. -/
theorem out_eq (t : Fin cfg0.N) (h : t.val % 5 = 4) : (outsAt0 m c t.val t.isLt).1 = (outsAt0 m c t.val t.isLt).2 := by
  rw [outsAt0_C m c t (by omega) h]
  dsimp only
  rw [written_C, left_C]

/-- The array after the run. -/
theorem result_at (s : Fin 8192) (n : Fin 1024) : (G2 m c : S8192x1024.Idx → EReal) (ix2 s n)
    = ∑ k : Fin 5, ∑ d : Fin 1152, opA c m (ix2 s (⟨k.val * 1152 + d.val, by omega⟩ : Fin 5760)) * opB c m (ix2 n (⟨k.val * 1152 + d.val, by omega⟩ : Fin 5760)) := by
  have hs := s.isLt
  have hn := n.isLt
  have hp : pt2Of (ix2 s n) = 5 * (s.val / 1024) + 4 := by
    show 5 * (1 * (s.val / 1024 - 0) + 1 * (n.val / 1024 - 0)) + 4 = _
    omega
  have hN : pt2Of (ix2 s n) < cfg0.N := by rw [hp, show cfg0.N = 40 from N_0]; omega
  unfold G2
  rw [dif_pos hN, ← outsAt0_sweep m c _ hN, out_eq c m ⟨_, hN⟩ (by show pt2Of (ix2 s n) % 5 = 4; omega), acc_at c m ⟨_, hN⟩]
  show ∑ k ∈ range (pt2Of (ix2 s n) % 5 + 1), addend c m (5 * (pt2Of (ix2 s n) / 5) + k) _ = _
  rw [hp, show (5 * (s.val / 1024) + 4) % 5 + 1 = 5 by omega, show (5 * (s.val / 1024) + 4) / 5 = s.val / 1024 by omega, sum_range]
  refine sum_congr rfl fun k _ => ?_
  have hk := k.isLt
  have hk' : 5 * (s.val / 1024) + k.val < cfg0.N := by rw [show cfg0.N = 40 from N_0]; omega
  unfold addend
  rw [dif_pos hk']
  refine sum_congr rfl fun d _ => ?_
  refine (congrArg₂ (fun p q : EReal => p * q) (blk0 c m _ _ d) (blk1 c m _ _ d)).trans (congrArg₂ _ (congrArg _ ?_) (congrArg _ ?_))
  · refine congrArg₂ _ (Fin.ext ?_) (Fin.ext ?_)
    · show 1024 * ((5 * (s.val / 1024) + k.val) / 5) + s.val % 1024 = s.val; omega
    · show (5 * (s.val / 1024) + k.val) % 5 * 1152 + d.val = k.val * 1152 + d.val; omega
  · refine congrArg₂ _ (Fin.ext ?_) (Fin.ext ?_)
    · show n.val % 1024 = n.val; omega
    · show (5 * (s.val / 1024) + k.val) % 5 * 1152 + d.val = k.val * 1152 + d.val; omega

/-! ## The reference -/

open Cert.Reference11Ideal Cert.Reference11Ideal.Gen in
/-- The reference's product, by the blocks of the long axis. -/
theorem ref_at (x : FVec Ideal Cert.Reference11Ideal.S8192x5760 .bf16) (y : FVec Ideal Cert.Reference11Ideal.S1024x5760 .bf16) (s : Fin 8192) (n : Fin 1024) :
    (Host.dotGeneral dot_S8192x5760_S1024x5760_S8192x1024_1_1_0_0_n_n none (extf .f32 x bitsLt_bf16_f32) (extf .f32 y bitsLt_bf16_f32) :
        Cert.Reference11Ideal.S8192x1024.Idx → EReal) (ix2 s n)
    = ∑ k : Fin 5, ∑ d : Fin 1152, (x (ix2 s (⟨k.val * 1152 + d.val, by omega⟩ : Fin 5760)) : EReal) * y (ix2 n (⟨k.val * 1152 + d.val, by omega⟩ : Fin 5760)) := by
  pointwise []
  exact Cert.Ffn.sum_blocks 5 1152 _

/-- The run leaves what the reference computes. -/
theorem algebraic : Cert.algebraic_Kernel11Ideal_Reference11Ideal := by
  intro m ρ m' ρ' _ hagree
  refine ⟨fun c => G2 m c, (θ_run Cert.Kernel11Ideal.defs _ _).mono (fun _ h c => h c) (Cert.Kernel11Ideal.Value.run (F := Ideal) m ρ),
    (θ_run Cert.Reference11Ideal.defs _ _).mono (fun _ h c => ⟨(h c).1.trans (funext fun i => ?_), (h c).2⟩) (Cert.Reference11Ideal.Value.run (F := Ideal) m' ρ')⟩
  obtain ⟨s, n, rfl⟩ : ∃ s n, i = ix2 s n := ⟨i 0, i 1, eq_ix2 i⟩
  rw [(hagree c).1, (hagree c).2]
  exact (ref_at _ _ s n).trans (result_at c m s n).symm

end Cert.MixIn
-- ==== Proof.MixWin.lean ====
/-
  The gradient of the mixer's combined weights: what the call that multiplies the transposed input by the gradient of the
  combined projection leaves, and that the reference computes the same.
-/
module

public import proofs.«01_k».proof.Proof.Gen.Kernel12Ideal.Value
public import proofs.«01_k».proof.Proof.Gen.Reference12Ideal.Run
public import proofs.«01_k».proof.Proof.Sums
public import proofs.«01_k».proof.Defs
public import Idealize.ShloMosaic.Lib.Pointwise

@[expose] public section

set_option maxRecDepth 16384

noncomputable section

namespace Cert.MixWin

/-! ## The reference -/

section
open Cert.Reference12Ideal Cert.Reference12Ideal.Gen
open Idealize.ShloMosaic
open Finset

/-- The reference's product, by the blocks of the long axis. -/
theorem ref_at (x : FVec Ideal S8192x1024 .bf16) (y : FVec Ideal S8192x5760 .bf16) (r : Fin 1024) (n : Fin 5760) :
    (truncf .bf16 (transpose S1024x5760 [1, 0] (Host.dotGeneral dot_S8192x5760_S8192x1024_S5760x1024_0_0_1_1_n_n none (extf .f32 y bitsLt_bf16_f32) (extf .f32 x bitsLt_bf16_f32)) transposes_S5760x1024_S1024x5760_1_0) bitsLt_bf16_f32 :
        S1024x5760.Idx → EReal) (ix2 r n)
    = ∑ k : Fin 8, ∑ d : Fin 1024, (x (ix2 (⟨k.val * 1024 + d.val, by omega⟩ : Fin 8192) r) : EReal) * y (ix2 (⟨k.val * 1024 + d.val, by omega⟩ : Fin 8192) n) := by
  pointwise []
  refine (Cert.Ffn.sum_blocks 8 1024 _).trans (sum_congr rfl fun k _ => sum_congr rfl fun d _ => mul_comm _ _)

end

/-! ## The kernel -/

open Cert.Kernel12Ideal Cert.Kernel12Ideal.Gen Cert.Kernel12Ideal.Value
open Idealize.ShloMosaic Idealize.ShloMosaic.TcCoe
open Idealize.SL Idealize.SL.Sem
open Finset

variable {F : FTy → Type} [FloatOps F]

/-! ## What a grid point leaves in the accumulator, and what the last one of eight writes -/

theorem hz : (![0, 0] : Fin 2 → Nat) = fun _ => 0 := funext fun a => by fin_cases a <;> rfl

variable (c : Dev nD) (i : grid0.Coords) (arg3 : Memref sig .tc .vmem S1024x1024 .bf16) (h3 : arg3.IsWhole)
  (arg4 : Memref sig .tc .vmem S1024x640 .bf16) (h4 : arg4.IsWhole) (arg5 : Memref sig .tc .vmem S1024x640 .bf16) (h5 : arg5.IsWhole)
  (arg6 : Memref sig .tc .vmem S1024x640 .f32) (h6 : arg6.IsWhole) (x0 : Vec F S1024x1024 .bf16) (x1 : Vec F S1024x640 .bf16) (xs : Vec F S1024x640 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1024x640) hz]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x640) hz]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x640) hz]

theorem written_C (hc0 : ¬cond0_0 i) (hc1 : cond0_1 i) : out0_C_2 c i arg3 h3 arg4 h4 arg5 h5 arg6 h6 hc0 hc1 x0 x1 xs = k0_pay3 (k0_pay2 xs x0 x1) := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1024) hz, View.ld_unit_zero (S := S1024x640) hz]

/-! ## Over the extended reals -/

section
variable (acc : Vec Ideal S1024x640 .f32) (x : Vec Ideal S1024x1024 .bf16) (y : Vec Ideal S1024x640 .bf16) (r : Fin 1024) (n : Fin 640)

theorem pay1_at : (k0_pay1 (F := Ideal) : S1024x640.Idx → EReal) (ix2 r n) = 0 := by
  pointwise [k0_pay1]

theorem pay2_at : (k0_pay2 (F := Ideal) acc x y : S1024x640.Idx → EReal) (ix2 r n)
    = acc (ix2 r n) + ∑ d : Fin 1024, (x (ix2 d r) : EReal) * y (ix2 d n) := by
  pointwise [k0_pay2]

theorem pay3_at : (k0_pay3 (F := Ideal) acc : S1024x640.Idx → EReal) (ix2 r n) = acc (ix2 r n) := by
  pointwise [k0_pay3]

end

variable (m : (ℓ : Loc nD τ sig) → Buf (Elt Ideal) ℓ)

theorem index0_0 : ∀ t : Fin cfg0.N, win0_0.index t = ![t.val % 8, 0] := (by decide +kernel : ∀ t : Fin grid0.N, _)
theorem index0_1 : ∀ t : Fin cfg0.N, win0_1.index t = ![t.val % 8, t.val / 8] := (by decide +kernel : ∀ t : Fin grid0.N, _)

/-- The operands, and the blocks of them that a grid point stages. -/
def opA : S8192x1024.Idx → EReal := m ((c : Thread nD τ).loc main_arg0)
def opB : S8192x5760.Idx → EReal := m ((c : Thread nD τ).loc main_arg1)
def stA (t : Fin cfg0.N) : S1024x1024.Idx → EReal := iblk m c 0 t
def stB (t : Fin cfg0.N) : S1024x640.Idx → EReal := iblk m c 1 t

theorem ltN (t : Fin cfg0.N) : t.val < 72 := lt_of_lt_of_eq t.isLt N_0

theorem blk0 (t : Fin cfg0.N) (d : Fin 1024) (r : Fin 1024) : stA c m t (ix2 d r)
    = opA c m (ix2 (⟨1024 * (t.val % 8) + d.val, by have := ltN t; omega⟩ : Fin 8192) r) := by
  have ht := ltN t
  unfold stA iblk
  refine Eq.trans (congrArg (V m c main_arg0) (funext fun a => Fin.ext ?_)) (congrFun (V_main_arg0 m c) _)
  match a with
  | ⟨0, _⟩ => show win0_0.index t 0 * 1024 + 1 * d.val = _; rw [index0_0]; show (t.val % 8) * 1024 + 1 * d.val = 1024 * (t.val % 8) + d.val; omega
  | ⟨1, _⟩ => show win0_0.index t 1 * 1024 + 1 * r.val = _; rw [index0_0]; show 0 * 1024 + 1 * r.val = r.val; omega

theorem blk1 (t : Fin cfg0.N) (d : Fin 1024) (n : Fin 640) : stB c m t (ix2 d n)
    = opB c m (ix2 (⟨1024 * (t.val % 8) + d.val, by have := ltN t; omega⟩ : Fin 8192) (⟨640 * (t.val / 8) + n.val, by have := ltN t; omega⟩ : Fin 5760)) := by
  have ht := ltN t
  unfold stB iblk
  refine Eq.trans (congrArg (V m c main_arg1) (funext fun a => Fin.ext ?_)) (congrFun (V_main_arg1 m c) _)
  match a with
  | ⟨0, _⟩ => show win0_1.index t 0 * 1024 + 1 * d.val = _; rw [index0_1]; show (t.val % 8) * 1024 + 1 * d.val = 1024 * (t.val % 8) + d.val; omega
  | ⟨1, _⟩ => show win0_1.index t 1 * 640 + 1 * n.val = _; rw [index0_1]; show (t.val / 8) * 640 + 1 * n.val = 640 * (t.val / 8) + n.val; omega

/-- What grid point `n` adds to the accumulator. -/
def addend (n : ℕ) (i : S1024x640.Idx) : EReal :=
  if h : n < cfg0.N then ∑ d : Fin 1024, stA c m ⟨n, h⟩ (ix2 d (i 0)) * stB c m ⟨n, h⟩ (ix2 d (i 1))
  else 0

/-- What the accumulator holds after a grid point: the addends since its row of blocks began. -/
theorem acc_at (t : Fin cfg0.N) (i : S1024x640.Idx) :
    ((outsAt0 m c t.val t.isLt).2 i : EReal) = ∑ s ∈ range (t.val % 8 + 1), addend c m (8 * (t.val / 8) + s) i := by
  have ht := ltN t
  rw [soutsAt0_0_eq]
  refine (Pipeline.accAt_add_apply _ _ (fun _ => (0 : EReal)) (addend c m) _ 7 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of a row of blocks the block written is the accumulator. -/
theorem out_eq (t : Fin cfg0.N) (h : t.val % 8 = 7) (r : Fin 1024) (n : Fin 640) :
    ((outsAt0 m c t.val t.isLt).1 (ix2 r n) : EReal) = (outsAt0 m c t.val t.isLt).2 (ix2 r n) := by
  rw [outsAt0_C m c t (by omega) h]
  dsimp only
  rw [written_C, left_C]
  exact pay3_at _ r n

/-- The array after the run. -/
theorem result_at (r : Fin 1024) (n : Fin 5760) : (G2 m c : S1024x5760.Idx → EReal) (ix2 r n)
    = ∑ k : Fin 8, ∑ d : Fin 1024, opA c m (ix2 (⟨k.val * 1024 + d.val, by omega⟩ : Fin 8192) r) * opB c m (ix2 (⟨k.val * 1024 + d.val, by omega⟩ : Fin 8192) n) := by
  have hr := r.isLt
  have hn := n.isLt
  have hp : pt2Of (ix2 r n) = 8 * (n.val / 640) + 7 := by
    show 8 * (9 * (r.val / 1024 - 0) + 1 * (n.val / 640 - 0)) + 7 = _
    omega
  have hN : pt2Of (ix2 r n) < cfg0.N := by rw [hp, show cfg0.N = 72 from N_0]; omega
  have hl : loc2Of (ix2 r n) = ix2 r (⟨n.val % 640, Nat.mod_lt _ (by decide)⟩ : Fin 640) := funext fun a => Fin.ext (by
    match a with
    | ⟨0, _⟩ => show r.val % 1024 = r.val; omega
    | ⟨1, _⟩ => rfl)
  unfold G2
  rw [dif_pos hN, ← outsAt0_sweep m c _ hN, hl]
  refine ((out_eq c m ⟨_, hN⟩ (by show pt2Of (ix2 r n) % 8 = 7; omega) r _).trans (acc_at c m ⟨_, hN⟩ _)).trans ?_
  show ∑ k ∈ range (pt2Of (ix2 r n) % 8 + 1), addend c m (8 * (pt2Of (ix2 r n) / 8) + k) _ = _
  rw [hp, show (8 * (n.val / 640) + 7) % 8 + 1 = 8 by omega, show (8 * (n.val / 640) + 7) / 8 = n.val / 640 by omega, sum_range]
  refine sum_congr rfl fun k _ => ?_
  have hk := k.isLt
  have hk' : 8 * (n.val / 640) + k.val < cfg0.N := by rw [show cfg0.N = 72 from N_0]; omega
  unfold addend
  rw [dif_pos hk']
  refine sum_congr rfl fun d _ => ?_
  have h3 : 1024 * ((8 * (n.val / 640) + k.val) % 8) + d.val = k.val * 1024 + d.val := by omega
  have h4 : 640 * ((8 * (n.val / 640) + k.val) / 8) + n.val % 640 = n.val := by omega
  refine (congrArg₂ (fun p q : EReal => p * q) (blk0 c m _ d r) (blk1 c m _ d _)).trans (congrArg₂ _ (congrArg _ ?_) (congrArg _ ?_))
  · exact congrArg₂ _ (Fin.ext h3) rfl
  · exact congrArg₂ _ (Fin.ext h3) (Fin.ext h4)

/-! ## Both -/

/-- The run leaves what the reference computes. -/
theorem algebraic : Cert.algebraic_Kernel12Ideal_Reference12Ideal := by
  intro m ρ m' ρ' _ hagree
  refine ⟨fun c => G2 m c, (θ_run Cert.Kernel12Ideal.defs _ _).mono (fun _ h c => h c) (Cert.Kernel12Ideal.Value.run (F := Ideal) m ρ),
    (θ_run Cert.Reference12Ideal.defs _ _).mono (fun _ h c => ⟨(h c).1.trans (funext fun i => ?_), (h c).2⟩) (Cert.Reference12Ideal.Value.run (F := Ideal) m' ρ')⟩
  obtain ⟨r, n, rfl⟩ : ∃ r n, i = ix2 r n := ⟨i 0, i 1, eq_ix2 i⟩
  rw [(hagree c).1, (hagree c).2]
  exact (ref_at _ _ r n).trans (result_at c m r n).symm

end Cert.MixWin
-- ==== Proof.MatmulFrames.lean ====
/-
  The runs of the programs that multiply two matrices: each ends with its arguments as they were and every semaphore counter at zero.
-/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run

@[expose] public section

set_option maxRecDepth 16384

noncomputable section

namespace Cert.Mm

open Idealize.ShloMosaic Idealize.ShloMosaic.TcCoe
open Idealize.SL Idealize.SL.Sem

theorem kernel8 : Cert.quiescent_Kernel8 := fun m ρ _ => Cert.Kernel8.Gen.frame m ρ
theorem ideal8 : Cert.quiescent_Kernel8Ideal := fun m ρ _ => Cert.Kernel8Ideal.Gen.frame m ρ
theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem kernel13 : Cert.quiescent_Kernel13 := fun m ρ _ => Cert.Kernel13.Gen.frame m ρ
theorem ideal13 : Cert.quiescent_Kernel13Ideal := fun m ρ _ => Cert.Kernel13Ideal.Gen.frame m ρ
theorem reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem kernel14 : Cert.quiescent_Kernel14 := fun m ρ _ => Cert.Kernel14.Gen.frame m ρ
theorem ideal14 : Cert.quiescent_Kernel14Ideal := fun m ρ _ => Cert.Kernel14Ideal.Gen.frame m ρ
theorem reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem kernel15 : Cert.quiescent_Kernel15 := fun m ρ _ => Cert.Kernel15.Gen.frame m ρ
theorem ideal15 : Cert.quiescent_Kernel15Ideal := fun m ρ _ => Cert.Kernel15Ideal.Gen.frame m ρ
theorem reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem kernel16 : Cert.quiescent_Kernel16 := fun m ρ _ => Cert.Kernel16.Gen.frame m ρ
theorem ideal16 : Cert.quiescent_Kernel16Ideal := fun m ρ _ => Cert.Kernel16Ideal.Gen.frame m ρ
theorem reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem kernel17 : Cert.quiescent_Kernel17 := fun m ρ _ => Cert.Kernel17.Gen.frame m ρ
theorem ideal17 : Cert.quiescent_Kernel17Ideal := fun m ρ _ => Cert.Kernel17Ideal.Gen.frame m ρ
theorem reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem kernel18 : Cert.quiescent_Kernel18 := fun m ρ _ => Cert.Kernel18.Gen.frame m ρ
theorem ideal18 : Cert.quiescent_Kernel18Ideal := fun m ρ _ => Cert.Kernel18Ideal.Gen.frame m ρ
theorem reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem kernel19 : Cert.quiescent_Kernel19 := fun m ρ _ => Cert.Kernel19.Gen.frame m ρ
theorem ideal19 : Cert.quiescent_Kernel19Ideal := fun m ρ _ => Cert.Kernel19Ideal.Gen.frame m ρ
theorem reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem kernel20 : Cert.quiescent_Kernel20 := fun m ρ _ => Cert.Kernel20.Gen.frame m ρ
theorem ideal20 : Cert.quiescent_Kernel20Ideal := fun m ρ _ => Cert.Kernel20Ideal.Gen.frame m ρ
theorem reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem kernel21 : Cert.quiescent_Kernel21 := fun m ρ _ => Cert.Kernel21.Gen.frame m ρ
theorem ideal21 : Cert.quiescent_Kernel21Ideal := fun m ρ _ => Cert.Kernel21Ideal.Gen.frame m ρ
theorem reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem kernel22 : Cert.quiescent_Kernel22 := fun m ρ _ => Cert.Kernel22.Gen.frame m ρ
theorem ideal22 : Cert.quiescent_Kernel22Ideal := fun m ρ _ => Cert.Kernel22Ideal.Gen.frame m ρ
theorem reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem kernel23 : Cert.quiescent_Kernel23 := fun m ρ _ => Cert.Kernel23.Gen.frame m ρ
theorem ideal23 : Cert.quiescent_Kernel23Ideal := fun m ρ _ => Cert.Kernel23Ideal.Gen.frame m ρ
theorem reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem kernel24 : Cert.quiescent_Kernel24 := fun m ρ _ => Cert.Kernel24.Gen.frame m ρ
theorem ideal24 : Cert.quiescent_Kernel24Ideal := fun m ρ _ => Cert.Kernel24Ideal.Gen.frame m ρ
theorem reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

end Cert.Mm

end
-- ==== Proof.Matmul.lean ====
/-
  What the modules of the calls that multiply two matrices share: reading an array at a position given by its coordinates.
-/
module

public import proofs.«01_k».proof.Proof.Sums
public import Idealize.ShloMosaic.Lib.Pointwise
public import Idealize.ShloMosaic.Lib.Pipeline.ValueKit.Geometry
public import Idealize.ShloMosaic.Lib.Pipeline.ValueKit.Acc

@[expose] public section

noncomputable section

namespace Cert.Mm

open Idealize.ShloMosaic
open Finset

/-- A position is its two coordinates. -/
theorem pos2 {A B : ℕ} (e : (⟨2, ![A, B]⟩ : Shape).Idx) (r : Fin A) (n : Fin B) (h0 : (e 0).val = r.val) (h1 : (e 1).val = n.val) : e = ix2 r n :=
  funext fun a => Fin.ext (by
    match a with
    | ⟨0, _⟩ => exact h0
    | ⟨1, _⟩ => exact h1)

/-- Two sums of products agree when their factors do. -/
theorem dot_congr {K : ℕ} {f g f' g' : Fin K → EReal} (hf : ∀ d, f d = f' d) (hg : ∀ d, g d = g' d) : ∑ d, f d * g d = ∑ d, f' d * g' d :=
  sum_congr rfl fun d _ => congrArg₂ (· * ·) (hf d) (hg d)

end Cert.Mm

end
-- ==== Proof.MixSb.lean ====
/-
  The columns of the mixer's combined projection for the attention: what the call leaves, and that the reference computes the same.
-/
module

public import proofs.«01_k».proof.Proof.Matmul
public import proofs.«01_k».proof.Proof.Gen.Kernel8Ideal.Value
public import proofs.«01_k».proof.Proof.Gen.Reference8Ideal.Run
public import proofs.«01_k».proof.Defs

@[expose] public section

set_option maxRecDepth 16384

noncomputable section

namespace Cert.MixSb

open Cert.Kernel8Ideal Cert.Kernel8Ideal.Gen Cert.Kernel8Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x512 .bf16) (r : Fin 1024) (n : Fin 512) :
    (k0_pay3 (F := Ideal) (k0_pay2 (F := Ideal) (k0_pay1 (F := Ideal)) x y) : S1024x512.Idx → EReal) (ix2 r n) = ∑ d : Fin 1024, (x (ix2 r d) : EReal) * y (ix2 d n) := by
  pointwise [k0_pay1, k0_pay2, k0_pay3]

variable (c : Dev nD) (m : (ℓ : Loc nD τ sig) → Buf (Elt Ideal) ℓ)

theorem index0_0 : ∀ t : Fin cfg0.N, win0_0.index t = ![t.val / 3, 0] := (by decide +kernel : ∀ t : Fin grid0.N, _)
theorem index0_1 : ∀ t : Fin cfg0.N, win0_1.index t = ![0, t.val % 3] := (by decide +kernel : ∀ t : Fin grid0.N, _)
theorem index0_2 : ∀ t : Fin cfg0.N, win0_2.index t = ![t.val / 3, t.val % 3] := (by decide +kernel : ∀ t : Fin grid0.N, _)

/-- The operands, and an element of their product. -/
def opA : S8192x1024.Idx → EReal := m ((c : Thread nD τ).loc main_arg0)
def opB : S1024x5760.Idx → EReal := m ((c : Thread nD τ).loc main_arg1)
def dot (s : Fin 8192) (n : Fin 1536) : EReal := ∑ d : Fin 1024, opA c m (ix2 s d) * opB c m (ix2 d (⟨n.val, by omega⟩ : Fin 5760))

/-- The array after the run. -/
theorem result (i : S8192x1536.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 1024 + 1 * d.val = d.val; rw [index0_0]; show 0 * 1024 + 1 * d.val = _; omega
  · unfold X0_1 Pipeline.Window.fill
    rw [dif_pos (moved0_1 t _)]
    refine Eq.trans (b := opB c m _) (congrFun (V_main_arg1 m c) _) (congrArg (opB c m) (pos2 _ _ _ ?_ ?_))
    · show win0_1.index t 0 * 1024 + 1 * d.val = d.val; rw [index0_1]; show 0 * 1024 + 1 * d.val = _; omega
    · show win0_1.index t 1 * 512 + 1 * (y 1).val = win0_2.index t 1 * 512 + 1 * (y 1).val; rw [index0_1, index0_2]; rfl

/-- The run leaves what the reference computes. -/
theorem algebraic : Cert.algebraic_Kernel8Ideal_Reference8Ideal := by
  intro m ρ m' ρ' _ hagree
  refine ⟨fun c => (dats m 0 c).arrAt 2 cfg0.N, run_blocks (F := Ideal) m ρ,
    (θ_run Cert.Reference8Ideal.defs _ _).mono (fun _ h c => ⟨(h c).1.trans (funext fun i => ?_), (h c).2⟩) (Cert.Reference8Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixSb
-- ==== Proof.MixGdn.lean ====
/-
  The columns of the mixer's combined projection for the gated DeltaNet: what the call leaves, and that the reference computes the same.
-/
module

public import proofs.«01_k».proof.Proof.Matmul
public import proofs.«01_k».proof.Proof.Gen.Kernel13Ideal.Value
public import proofs.«01_k».proof.Proof.Gen.Reference13Ideal.Run
public import proofs.«01_k».proof.Defs

@[expose] public section

set_option maxRecDepth 16384

noncomputable section

namespace Cert.MixGdn

open Cert.Kernel13Ideal Cert.Kernel13Ideal.Gen Cert.Kernel13Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x512 .bf16) (r : Fin 1024) (n : Fin 512) :
    (k0_pay2 (F := Ideal) (k0_pay1 (F := Ideal)) x y : S1024x512.Idx → EReal) (ix2 r n) = ∑ d : Fin 1024, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val / 4, 0] := (by decide +kernel : ∀ t : Fin grid0.N, _)
theorem index0_1 : ∀ t : Fin cfg0.N, win0_1.index t = ![0, t.val % 4 + 3] := (by decide +kernel : ∀ t : Fin grid0.N, _)
theorem index0_2 : ∀ t : Fin cfg0.N, win0_2.index t = ![t.val / 4, t.val % 4] := (by decide +kernel : ∀ t : Fin grid0.N, _)

/-- The operands, and an element of their product. -/
def opA : S8192x1024.Idx → EReal := m ((c : Thread nD τ).loc main_arg0)
def opB : S1024x5760.Idx → EReal := m ((c : Thread nD τ).loc main_arg1)
def dot (s : Fin 8192) (n : Fin 2048) : EReal := ∑ d : Fin 1024, opA c m (ix2 s d) * opB c m (ix2 d (⟨1536 + n.val, by omega⟩ : Fin 5760))

/-- The array after the run. -/
theorem result (i : S8192x2048.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 1024 + 1 * d.val = d.val; rw [index0_0]; show 0 * 1024 + 1 * d.val = _; omega
  · unfold X0_1 Pipeline.Window.fill
    rw [dif_pos (moved0_1 t _)]
    refine Eq.trans (b := opB c m _) (congrFun (V_main_arg1 m c) _) (congrArg (opB c m) (pos2 _ _ _ ?_ ?_))
    · show win0_1.index t 0 * 1024 + 1 * d.val = d.val; rw [index0_1]; show 0 * 1024 + 1 * d.val = _; omega
    · show win0_1.index t 1 * 512 + 1 * (y 1).val = 1536 + (win0_2.index t 1 * 512 + 1 * (y 1).val)
      rw [index0_1, index0_2]; show (t.val % 4 + 3) * 512 + 1 * (y 1).val = 1536 + (t.val % 4 * 512 + 1 * (y 1).val); omega

/-- The run leaves what the reference computes. -/
theorem algebraic : Cert.algebraic_Kernel13Ideal_Reference13Ideal := by
  intro m ρ m' ρ' _ hagree
  refine ⟨fun c => (dats m 0 c).arrAt 2 cfg0.N, run_blocks (F := Ideal) m ρ,
    (θ_run Cert.Reference13Ideal.defs _ _).mono (fun _ h c => ⟨(h c).1.trans (funext fun i => ?_), (h c).2⟩) (Cert.Reference13Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixGdn
-- ==== Proof.MixGates.lean ====
/-
  The columns of the mixer's combined projection for the branches' gates: what the call leaves, and that the reference computes the same.
-/
module

public import proofs.«01_k».proof.Proof.Matmul
public import proofs.«01_k».proof.Proof.Gen.Kernel14Ideal.Value
public import proofs.«01_k».proof.Proof.Gen.Reference14Ideal.Run
public import proofs.«01_k».proof.Defs

@[expose] public section

set_option maxRecDepth 16384

noncomputable section

namespace Cert.MixGates

open Cert.Kernel14Ideal Cert.Kernel14Ideal.Gen Cert.Kernel14Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x512 .bf16) (r : Fin 1024) (n : Fin 512) :
    (k0_pay2 (F := Ideal) (k0_pay1 (F := Ideal)) x y : S1024x512.Idx → EReal) (ix2 r n) = ∑ d : Fin 1024, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val / 4, 0] := (by decide +kernel : ∀ t : Fin grid0.N, _)
theorem index0_1 : ∀ t : Fin cfg0.N, win0_1.index t = ![0, t.val % 4 + 7] := (by decide +kernel : ∀ t : Fin grid0.N, _)
theorem index0_2 : ∀ t : Fin cfg0.N, win0_2.index t = ![t.val / 4, t.val % 4] := (by decide +kernel : ∀ t : Fin grid0.N, _)

/-- The operands, and an element of their product. -/
def opA : S8192x1024.Idx → EReal := m ((c : Thread nD τ).loc main_arg0)
def opB : S1024x5760.Idx → EReal := m ((c : Thread nD τ).loc main_arg1)
def dot (s : Fin 8192) (n : Fin 2048) : EReal := ∑ d : Fin 1024, opA c m (ix2 s d) * opB c m (ix2 d (⟨3584 + n.val, by omega⟩ : Fin 5760))

/-- The array after the run. -/
theorem result (i : S8192x2048.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 1024 + 1 * d.val = d.val; rw [index0_0]; show 0 * 1024 + 1 * d.val = _; omega
  · unfold X0_1 Pipeline.Window.fill
    rw [dif_pos (moved0_1 t _)]
    refine Eq.trans (b := opB c m _) (congrFun (V_main_arg1 m c) _) (congrArg (opB c m) (pos2 _ _ _ ?_ ?_))
    · show win0_1.index t 0 * 1024 + 1 * d.val = d.val; rw [index0_1]; show 0 * 1024 + 1 * d.val = _; omega
    · show win0_1.index t 1 * 512 + 1 * (y 1).val = 3584 + (win0_2.index t 1 * 512 + 1 * (y 1).val)
      rw [index0_1, index0_2]; show (t.val % 4 + 7) * 512 + 1 * (y 1).val = 3584 + (t.val % 4 * 512 + 1 * (y 1).val); omega

/-- The run leaves what the reference computes. -/
theorem algebraic : Cert.algebraic_Kernel14Ideal_Reference14Ideal := by
  intro m ρ m' ρ' _ hagree
  refine ⟨fun c => (dats m 0 c).arrAt 2 cfg0.N, run_blocks (F := Ideal) m ρ,
    (θ_run Cert.Reference14Ideal.defs _ _).mono (fun _ h c => ⟨(h c).1.trans (funext fun i => ?_), (h c).2⟩) (Cert.Reference14Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixGates
-- ==== Proof.MixBa.lean ====
/-
  The columns of the mixer's combined projection for the gated DeltaNet's step size and decay: what the call leaves, and that the reference computes the same.
-/
module

public import proofs.«01_k».proof.Proof.Matmul
public import proofs.«01_k».proof.Proof.Gen.Kernel15Ideal.Value
public import proofs.«01_k».proof.Proof.Gen.Reference15Ideal.Run
public import proofs.«01_k».proof.Defs

@[expose] public section

set_option maxRecDepth 16384

noncomputable section

namespace Cert.MixBa

open Cert.Kernel15Ideal Cert.Kernel15Ideal.Gen Cert.Kernel15Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x128 .bf16) (r : Fin 1024) (n : Fin 128) :
    (k0_pay2 (F := Ideal) (k0_pay1 (F := Ideal)) x y : S1024x128.Idx → EReal) (ix2 r n) = ∑ d : Fin 1024, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![0, 44] := (by decide +kernel : ∀ t : Fin grid0.N, _)
theorem index0_2 : ∀ t : Fin cfg0.N, win0_2.index t = ![t.val, 0] := (by decide +kernel : ∀ t : Fin grid0.N, _)

/-- The operands, and an element of their product. -/
def opA : S8192x1024.Idx → EReal := m ((c : Thread nD τ).loc main_arg0)
def opB : S1024x5760.Idx → EReal := m ((c : Thread nD τ).loc main_arg1)
def dot (s : Fin 8192) (n : Fin 128) : EReal := ∑ d : Fin 1024, opA c m (ix2 s d) * opB c m (ix2 d (⟨5632 + n.val, by omega⟩ : Fin 5760))

/-- The array after the run. -/
theorem result (i : S8192x128.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]
    · show win0_0.index t 1 * 1024 + 1 * d.val = d.val; rw [index0_0]; show 0 * 1024 + 1 * d.val = _; omega
  · refine Eq.trans (b := opB c m _) (congrFun (V_main_arg1 m c) _) (congrArg (opB c m) (pos2 _ _ _ ?_ ?_))
    · show win0_1.index t 0 * 1024 + 1 * d.val = d.val; rw [index0_1]; show 0 * 1024 + 1 * d.val = _; omega
    · show win0_1.index t 1 * 128 + 1 * (y 1).val = 5632 + (win0_2.index t 1 * 128 + 1 * (y 1).val)
      rw [index0_1, index0_2]; show 44 * 128 + 1 * (y 1).val = 5632 + (0 * 128 + 1 * (y 1).val); omega

/-- The run leaves what the reference computes. -/
theorem algebraic : Cert.algebraic_Kernel15Ideal_Reference15Ideal := by
  intro m ρ m' ρ' _ hagree
  refine ⟨fun c => (dats m 0 c).arrAt 2 cfg0.N, run_blocks (F := Ideal) m ρ,
    (θ_run Cert.Reference15Ideal.defs _ _).mono (fun _ h c => ⟨(h c).1.trans (funext fun i => ?_), (h c).2⟩) (Cert.Reference15Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixBa
-- ==== Proof.MixOut.lean ====
/-
  The mixer's output projection: what the call leaves, and that the reference computes the same.
-/
module

public import proofs.«01_k».proof.Proof.Matmul
public import proofs.«01_k».proof.Proof.Gen.Kernel16Ideal.Value
public import proofs.«01_k».proof.Proof.Gen.Reference16Ideal.Run
public import proofs.«01_k».proof.Defs

@[expose] public section

set_option maxRecDepth 16384

noncomputable section

namespace Cert.MixOut

open Cert.Kernel16Ideal Cert.Kernel16Ideal.Gen Cert.Kernel16Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x512 .bf16) (r : Fin 1024) (n : Fin 512) :
    (k0_pay2 (F := Ideal) (k0_pay1 (F := Ideal)) x y : S1024x512.Idx → EReal) (ix2 r n) = ∑ d : Fin 1024, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val / 2, 0] := (by decide +kernel : ∀ t : Fin grid0.N, _)
theorem index0_1 : ∀ t : Fin cfg0.N, win0_1.index t = ![0, t.val % 2] := (by decide +kernel : ∀ t : Fin grid0.N, _)
theorem index0_2 : ∀ t : Fin cfg0.N, win0_2.index t = ![t.val / 2, t.val % 2] := (by decide +kernel : ∀ t : Fin grid0.N, _)

/-- The operands, and an element of their product. -/
def opA : S8192x1024.Idx → EReal := m ((c : Thread nD τ).loc main_arg0)
def opB : S1024x1024.Idx → EReal := m ((c : Thread nD τ).loc main_arg1)
def dot (s : Fin 8192) (n : Fin 1024) : EReal := ∑ d : Fin 1024, opA c m (ix2 s d) * opB c m (ix2 d n)

/-- The array after the run. -/
theorem result (i : S8192x1024.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 1024 + 1 * d.val = d.val; rw [index0_0]; show 0 * 1024 + 1 * d.val = _; omega
  · refine (congrFun (V_main_arg1 m c) _).trans (congrArg (opB c m) (pos2 _ _ _ ?_ ?_))
    · show win0_1.index t 0 * 1024 + 1 * d.val = d.val; rw [index0_1]; show 0 * 1024 + 1 * d.val = _; omega
    · show win0_1.index t 1 * 512 + 1 * (y 1).val = win0_2.index t 1 * 512 + 1 * (y 1).val; rw [index0_1, index0_2]; rfl

/-- The run leaves what the reference computes. -/
theorem algebraic : Cert.algebraic_Kernel16Ideal_Reference16Ideal := by
  intro m ρ m' ρ' _ hagree
  refine ⟨fun c => (dats m 0 c).arrAt 2 cfg0.N, run_blocks (F := Ideal) m ρ,
    (θ_run Cert.Reference16Ideal.defs _ _).mono (fun _ h c => ⟨(h c).1.trans (funext fun i => ?_), (h c).2⟩) (Cert.Reference16Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixOut
-- ==== Proof.MixOutBwd.lean ====
/-
  The gradient of the mixer's merged branches, through its output projection: what the call leaves, and that the reference computes the same.
-/
module

public import proofs.«01_k».proof.Proof.Matmul
public import proofs.«01_k».proof.Proof.Gen.Kernel17Ideal.Value
public import proofs.«01_k».proof.Proof.Gen.Reference17Ideal.Run
public import proofs.«01_k».proof.Defs

@[expose] public section

set_option maxRecDepth 16384

noncomputable section

namespace Cert.MixOutBwd

open Cert.Kernel17Ideal Cert.Kernel17Ideal.Gen Cert.Kernel17Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S1024x1024 .bf16) (r : Fin 1024) (n : Fin 1024) :
    (k0_pay2 (F := Ideal) (k0_pay1 (F := Ideal)) x y : S1024x1024.Idx → EReal) (ix2 r n) = ∑ d : Fin 1024, (x (ix2 r d) : EReal) * y (ix2 n d) := by
  pointwise [k0_pay1, k0_pay2]

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

/-- The operands, and an element of their product. -/
def opA : S8192x1024.Idx → EReal := m ((c : Thread nD τ).loc main_arg0)
def opB : S1024x1024.Idx → EReal := m ((c : Thread nD τ).loc main_arg1)
def dot (s : Fin 8192) (n : Fin 1024) : EReal := ∑ d : Fin 1024, opA c m (ix2 s d) * opB c m (ix2 n d)

/-- The array after the run. -/
theorem result (i : S8192x1024.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]
    · show win0_0.index t 1 * 1024 + 1 * d.val = d.val; rw [index0_0]; show 0 * 1024 + 1 * d.val = _; omega
  · refine (congrFun (V_main_arg1 m c) _).trans (congrArg (opB c m) (pos2 _ _ _ ?_ ?_))
    · show win0_1.index t 0 * 1024 + 1 * (y 1).val = win0_2.index t 1 * 1024 + 1 * (y 1).val; rw [index0_1, index0_2]; rfl
    · show win0_1.index t 1 * 1024 + 1 * d.val = d.val; rw [index0_1]; show 0 * 1024 + 1 * d.val = _; omega

/-- The run leaves what the reference computes. -/
theorem algebraic : Cert.algebraic_Kernel17Ideal_Reference17Ideal := by
  intro m ρ m' ρ' _ hagree
  refine ⟨fun c => (dats m 0 c).arrAt 2 cfg0.N, run_blocks (F := Ideal) m ρ,
    (θ_run Cert.Reference17Ideal.defs _ _).mono (fun _ h c => ⟨(h c).1.trans (funext fun i => ?_), (h c).2⟩) (Cert.Reference17Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.MixOutBwd
-- ==== Proof.MixOutW.lean ====
/-
  The gradient of the mixer's output projection's weights: what the call leaves, and that the reference computes the same.
-/
module

public import proofs.«01_k».proof.Proof.Matmul
public import proofs.«01_k».proof.Proof.Gen.Kernel18Ideal.Value
public import proofs.«01_k».proof.Proof.Gen.Reference18Ideal.Run
public import proofs.«01_k».proof.Defs

@[expose] public section

set_option maxRecDepth 16384

noncomputable section

namespace Cert.MixOutW

open Cert.Kernel18Ideal Cert.Kernel18Ideal.Gen Cert.Kernel18Ideal.Value Cert.Mm
open Idealize.ShloMosaic Idealize.ShloMosaic.TcCoe
open Idealize.SL Idealize.SL.Sem
open Finset

section
variable (acc : Vec Ideal S1024x1024 .f32) (x : Vec Ideal S1024x1024 .bf16) (y : Vec Ideal S1024x1024 .bf16) (r : Fin 1024) (n : Fin 1024)

/-- The first step starts from zero, every step adds the product of its two blocks, the last one writes the sum. -/
theorem start_at : (k0_pay1 (F := Ideal) : S1024x1024.Idx → EReal) (ix2 r n) = 0 := by
  pointwise [k0_pay1]

theorem step_at : (k0_pay2 (F := Ideal) acc x y : S1024x1024.Idx → EReal) (ix2 r n) = acc (ix2 r n) + ∑ d : Fin 1024, (x (ix2 d r) : EReal) * y (ix2 d n) := by
  pointwise [k0_pay2]

theorem write_at : (k0_pay3 (F := Ideal) acc : S1024x1024.Idx → EReal) (ix2 r n) = acc (ix2 r n) := by
  pointwise [k0_pay3]

end

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem lt8 (t : Fin cfg0.N) : t.val < 8 := lt_of_lt_of_eq t.isLt N_0

/-- The operands, the blocks of them that a grid point stages, and what a tile of 1024 rows contributes. -/
def opA : S8192x1024.Idx → EReal := m ((c : Thread nD τ).loc main_arg0)
def opB : S8192x1024.Idx → EReal := m ((c : Thread nD τ).loc main_arg1)
def stA (t : Fin cfg0.N) : S1024x1024.Idx → EReal := iblk m c 0 t
def stB (t : Fin cfg0.N) : S1024x1024.Idx → EReal := iblk m c 1 t
def part (k : Fin 8) (i : S1024x1024.Idx) : EReal :=
  ∑ d : Fin 1024, opA c m (ix2 (⟨k.val * 1024 + d.val, by omega⟩ : Fin 8192) (i 0)) * opB c m (ix2 (⟨k.val * 1024 + d.val, by omega⟩ : Fin 8192) (i 1))

theorem part_eq (t : Fin cfg0.N) (i : S1024x1024.Idx) :
    ∑ d : Fin 1024, stA c m t (ix2 d (i 0)) * stB c m t (ix2 d (i 1)) = part c m ⟨t.val, lt8 t⟩ i := by
  refine dot_congr (fun d => ?_) (fun d => ?_)
  · refine (congrFun (V_main_arg0 m c) _).trans (congrArg (opA c m) (pos2 _ _ _ ?_ ?_))
    · show win0_0.index t 0 * 1024 + 1 * d.val = t.val * 1024 + d.val; rw [index0_0]; show t.val * 1024 + 1 * d.val = _; omega
    · show win0_0.index t 1 * 1024 + 1 * (i 0).val = (i 0).val; rw [index0_0]; show 0 * 1024 + 1 * (i 0).val = _; omega
  · refine (congrFun (V_main_arg1 m c) _).trans (congrArg (opB c m) (pos2 _ _ _ ?_ ?_))
    · show win0_1.index t 0 * 1024 + 1 * d.val = t.val * 1024 + d.val; rw [index0_1]; show t.val * 1024 + 1 * d.val = _; omega
    · show win0_1.index t 1 * 1024 + 1 * (i 1).val = (i 1).val; rw [index0_1]; show 0 * 1024 + 1 * (i 1).val = _; omega

/-- What the accumulator holds after the last point. -/
theorem acc_last (t : Fin cfg0.N) (h : t.val % 8 = 7) (i : S1024x1024.Idx) : ((outsAt0 m c t.val t.isLt).2 i : EReal) = ∑ k : Fin 8, part c m k i := by
  have ht := lt8 t
  refine (Pipeline.eq_sum_fin_of_reset_step_apply_last (fun n h => ((outsAt0 m c n h).2 : S1024x1024.Idx → EReal)) 8 (fun _ => 0)
    (fun t i => part c m ⟨t.val, lt8 t⟩ i) (fun t h i => ?_) (fun t h i => ?_) (le_of_eq N_0) t (by have h8 : cfg0.N = 8 := N_0; omega) i).trans ?_
  · rw [outsAt0_A m c t h (by omega)]
    frame_out
    rw [eq_ix2 i]
    exact (step_at _ _ _ _ _).trans (congrArg₂ _ (start_at _ _) (part_eq c m t _))
  · by_cases h7 : t.val % 8 = 7
    · rw [outsAt0_C m c t h h7]
      frame_out
      rw [eq_ix2 i]
      exact (step_at _ _ _ _ _).trans (congrArg₂ _ (congrFun ((Memref.isWhole_whole _).read_unread _) _) (part_eq c m t _))
    · rw [outsAt0_B m c t h h7]
      frame_out
      rw [eq_ix2 i]
      exact (step_at _ _ _ _ _).trans (congrArg₂ _ (congrFun ((Memref.isWhole_whole _).read_unread _) _) (part_eq c m t _))
  · exact (zero_add _).trans (Fintype.sum_equiv (finCongr N_0) _ _ fun p => rfl)

theorem out_eq (t : Fin cfg0.N) (h : t.val % 8 = 7) (r : Fin 1024) (n : Fin 1024) :
    ((outsAt0 m c t.val t.isLt).1 (ix2 r n) : EReal) = (outsAt0 m c t.val t.isLt).2 (ix2 r n) := by
  rw [outsAt0_C m c t (by omega) h]
  frame_out
  exact write_at _ r n

/-- The array after the run. -/
theorem result (i : S1024x1024.Idx) : ((dats m 0 c).arrAt 2 cfg0.N i : EReal) = ∑ k : Fin 8, part c m k i := by
  refine (dats m 0 c).arrAt_forall_of_covers 2 (fun i v => (v : EReal) = ∑ k : Fin 8, part c m k i) (by decide +kernel) (fun t hf y => ?_) i
  have h := (flush0_2 t).mp hf
  blk_simp
  rw [after0_2, eq_ix2 y]
  refine (out_eq c m t h _ _).trans ((acc_last c m t h _).trans (sum_congr rfl fun k _ => congrArg _ (pos2 _ _ _ ?_ ?_).symm))
  · show win0_2.index t 0 * 1024 + 1 * (y 0).val = (y 0).val; rw [index0_2]; show 0 * 1024 + 1 * (y 0).val = _; omega
  · show win0_2.index t 1 * 1024 + 1 * (y 1).val = (y 1).val; rw [index0_2]; show 0 * 1024 + 1 * (y 1).val = _; omega

/-- The run leaves what the reference computes. -/
theorem algebraic : Cert.algebraic_Kernel18Ideal_Reference18Ideal := by
  intro m ρ m' ρ' _ hagree
  refine ⟨fun c => (dats m 0 c).arrAt 2 cfg0.N, run_blocks (F := Ideal) m ρ,
    (θ_run Cert.Reference18Ideal.defs _ _).mono (fun _ h c => ⟨(h c).1.trans (funext fun i => ?_), (h c).2⟩) (Cert.Reference18Ideal.Value.run (F := Ideal) m' ρ')⟩
  obtain ⟨r, n, rfl⟩ : ∃ r n, i = ix2 r n := ⟨i 0, i 1, eq_ix2 i⟩
  rw [(hagree c).1, (hagree c).2]
  refine Eq.trans ?_ (result c m (ix2 r n)).symm
  pointwise []
  exact (Cert.Ffn.sum_blocks 8 1024 _).trans (sum_congr rfl fun k _ => sum_congr rfl fun d _ => mul_comm _ _)

end Cert.MixOutW
-- ==== Proof.BranchOut.lean ====
/-
  The output projection of a branch of the mixer: what the call leaves, and that the reference computes the same.
-/
module

public import proofs.«01_k».proof.Proof.Matmul
public import proofs.«01_k».proof.Proof.Gen.Kernel19Ideal.Value
public import proofs.«01_k».proof.Proof.Gen.Reference19Ideal.Run
public import proofs.«01_k».proof.Defs

@[expose] public section

set_option maxRecDepth 16384

noncomputable section

namespace Cert.BranchOut

open Cert.Kernel19Ideal Cert.Kernel19Ideal.Gen Cert.Kernel19Ideal.Value Cert.Mm
open Idealize.ShloMosaic Idealize.ShloMosaic.TcCoe
open Idealize.SL Idealize.SL.Sem
open Finset

/-- A grid point writes the product of its two blocks, added to zero. -/
theorem block_at (x : Vec Ideal S1024x512 .bf16) (y : Vec Ideal S512x512 .bf16) (r : Fin 1024) (n : Fin 512) :
    (k0_pay2 (F := Ideal) (k0_pay1 (F := Ideal)) x y : S1024x512.Idx → EReal) (ix2 r n) = ∑ d : Fin 512, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val / 2, 0] := (by decide +kernel : ∀ t : Fin grid0.N, _)
theorem index0_1 : ∀ t : Fin cfg0.N, win0_1.index t = ![0, t.val % 2] := (by decide +kernel : ∀ t : Fin grid0.N, _)
theorem index0_2 : ∀ t : Fin cfg0.N, win0_2.index t = ![t.val / 2, t.val % 2] := (by decide +kernel : ∀ t : Fin grid0.N, _)

/-- The operands, and an element of their product. -/
def opA : S8192x512.Idx → EReal := m ((c : Thread nD τ).loc main_arg0)
def opB : S512x1024.Idx → EReal := m ((c : Thread nD τ).loc main_arg1)
def dot (s : Fin 8192) (n : Fin 1024) : EReal := ∑ d : Fin 512, opA c m (ix2 s d) * opB c m (ix2 d n)

/-- The array after the run. -/
theorem result (i : S8192x1024.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 512 + 1 * d.val = d.val; rw [index0_0]; show 0 * 512 + 1 * d.val = _; omega
  · refine (congrFun (V_main_arg1 m c) _).trans (congrArg (opB c m) (pos2 _ _ _ ?_ ?_))
    · show win0_1.index t 0 * 512 + 1 * d.val = d.val; rw [index0_1]; show 0 * 512 + 1 * d.val = _; omega
    · show win0_1.index t 1 * 512 + 1 * (y 1).val = win0_2.index t 1 * 512 + 1 * (y 1).val; rw [index0_1, index0_2]; rfl

/-- The run leaves what the reference computes. -/
theorem algebraic : Cert.algebraic_Kernel19Ideal_Reference19Ideal := by
  intro m ρ m' ρ' _ hagree
  refine ⟨fun c => (dats m 0 c).arrAt 2 cfg0.N, run_blocks (F := Ideal) m ρ,
    (θ_run Cert.Reference19Ideal.defs _ _).mono (fun _ h c => ⟨(h c).1.trans (funext fun i => ?_), (h c).2⟩) (Cert.Reference19Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.BranchOut
-- ==== Proof.SbOutBwd.lean ====
/-
  The gradient of the attention, through its branch's output projection: what the call leaves, and that the reference computes the same.
-/
module

public import proofs.«01_k».proof.Proof.Matmul
public import proofs.«01_k».proof.Proof.Gen.Kernel20Ideal.Value
public import proofs.«01_k».proof.Proof.Gen.Reference20Ideal.Run
public import proofs.«01_k».proof.Defs

@[expose] public section

set_option maxRecDepth 16384

noncomputable section

namespace Cert.SbOutBwd

open Cert.Kernel20Ideal Cert.Kernel20Ideal.Gen Cert.Kernel20Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S512x1024 .bf16) (r : Fin 1024) (n : Fin 512) :
    (k0_pay3 (F := Ideal) (k0_pay2 (F := Ideal) (k0_pay1 (F := Ideal)) x y) : S1024x512.Idx → EReal) (ix2 r n) = ∑ d : Fin 1024, (x (ix2 r d) : EReal) * y (ix2 n d) := by
  pointwise [k0_pay1, k0_pay2, k0_pay3]

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

/-- The operands, and an element of their product. -/
def opA : S8192x1024.Idx → EReal := m ((c : Thread nD τ).loc main_arg0)
def opB : S512x1024.Idx → EReal := m ((c : Thread nD τ).loc main_arg1)
def dot (s : Fin 8192) (n : Fin 512) : EReal := ∑ d : Fin 1024, opA c m (ix2 s d) * opB c m (ix2 n d)

/-- The array after the run. -/
theorem result (i : S8192x512.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]
    · show win0_0.index t 1 * 1024 + 1 * d.val = d.val; rw [index0_0]; show 0 * 1024 + 1 * d.val = _; omega
  · refine (congrFun (V_main_arg1 m c) _).trans (congrArg (opB c m) (pos2 _ _ _ ?_ ?_))
    · show win0_1.index t 0 * 512 + 1 * (y 1).val = win0_2.index t 1 * 512 + 1 * (y 1).val; rw [index0_1, index0_2]; rfl
    · show win0_1.index t 1 * 1024 + 1 * d.val = d.val; rw [index0_1]; show 0 * 1024 + 1 * d.val = _; omega

/-- The run leaves what the reference computes. -/
theorem algebraic : Cert.algebraic_Kernel20Ideal_Reference20Ideal := by
  intro m ρ m' ρ' _ hagree
  refine ⟨fun c => (dats m 0 c).arrAt 2 cfg0.N, run_blocks (F := Ideal) m ρ,
    (θ_run Cert.Reference20Ideal.defs _ _).mono (fun _ h c => ⟨(h c).1.trans (funext fun i => ?_), (h c).2⟩) (Cert.Reference20Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.SbOutBwd
-- ==== Proof.GdnOutBwd.lean ====
/-
  The gradient of the gated DeltaNet, through its branch's output projection: what the call leaves, and that the reference computes the same.
-/
module

public import proofs.«01_k».proof.Proof.Matmul
public import proofs.«01_k».proof.Proof.Gen.Kernel21Ideal.Value
public import proofs.«01_k».proof.Proof.Gen.Reference21Ideal.Run
public import proofs.«01_k».proof.Defs

@[expose] public section

set_option maxRecDepth 16384

noncomputable section

namespace Cert.GdnOutBwd

open Cert.Kernel21Ideal Cert.Kernel21Ideal.Gen Cert.Kernel21Ideal.Value Cert.Mm
open Idealize.ShloMosaic Idealize.ShloMosaic.TcCoe
open Idealize.SL Idealize.SL.Sem
open Finset

/-- A grid point writes the product of its two blocks, added to zero. -/
theorem block_at (x : Vec Ideal S1024x1024 .bf16) (y : Vec Ideal S512x1024 .bf16) (r : Fin 1024) (n : Fin 512) :
    (k0_pay2 (F := Ideal) (k0_pay1 (F := Ideal)) x y : S1024x512.Idx → EReal) (ix2 r n) = ∑ d : Fin 1024, (x (ix2 r d) : EReal) * y (ix2 n d) := by
  pointwise [k0_pay1, k0_pay2]

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

/-- The operands, and an element of their product. -/
def opA : S8192x1024.Idx → EReal := m ((c : Thread nD τ).loc main_arg0)
def opB : S512x1024.Idx → EReal := m ((c : Thread nD τ).loc main_arg1)
def dot (s : Fin 8192) (n : Fin 512) : EReal := ∑ d : Fin 1024, opA c m (ix2 s d) * opB c m (ix2 n d)

/-- The array after the run. -/
theorem result (i : S8192x512.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]
    · show win0_0.index t 1 * 1024 + 1 * d.val = d.val; rw [index0_0]; show 0 * 1024 + 1 * d.val = _; omega
  · refine (congrFun (V_main_arg1 m c) _).trans (congrArg (opB c m) (pos2 _ _ _ ?_ ?_))
    · show win0_1.index t 0 * 512 + 1 * (y 1).val = win0_2.index t 1 * 512 + 1 * (y 1).val; rw [index0_1, index0_2]; rfl
    · show win0_1.index t 1 * 1024 + 1 * d.val = d.val; rw [index0_1]; show 0 * 1024 + 1 * d.val = _; omega

/-- The run leaves what the reference computes. -/
theorem algebraic : Cert.algebraic_Kernel21Ideal_Reference21Ideal := by
  intro m ρ m' ρ' _ hagree
  refine ⟨fun c => (dats m 0 c).arrAt 2 cfg0.N, run_blocks (F := Ideal) m ρ,
    (θ_run Cert.Reference21Ideal.defs _ _).mono (fun _ h c => ⟨(h c).1.trans (funext fun i => ?_), (h c).2⟩) (Cert.Reference21Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.GdnOutBwd
-- ==== Proof.BranchW.lean ====
/-
  The gradient of the weights of a branch's output projection: what the call leaves, and that the reference computes the same.
-/
module

public import proofs.«01_k».proof.Proof.Matmul
public import proofs.«01_k».proof.Proof.Gen.Kernel22Ideal.Value
public import proofs.«01_k».proof.Proof.Gen.Reference22Ideal.Run
public import proofs.«01_k».proof.Defs

@[expose] public section

set_option maxRecDepth 16384

noncomputable section

namespace Cert.BranchW

open Cert.Kernel22Ideal Cert.Kernel22Ideal.Gen Cert.Kernel22Ideal.Value Cert.Mm
open Idealize.ShloMosaic Idealize.ShloMosaic.TcCoe
open Idealize.SL Idealize.SL.Sem
open Finset

section
variable (acc : Vec Ideal S512x1024 .f32) (x : Vec Ideal S1024x512 .bf16) (y : Vec Ideal S1024x1024 .bf16) (r : Fin 512) (n : Fin 1024)

/-- The first step starts from zero, every step adds the product of its two blocks, the last one writes the sum. -/
theorem start_at : (k0_pay1 (F := Ideal) : S512x1024.Idx → EReal) (ix2 r n) = 0 := by
  pointwise [k0_pay1]

theorem step_at : (k0_pay2 (F := Ideal) acc x y : S512x1024.Idx → EReal) (ix2 r n) = acc (ix2 r n) + ∑ d : Fin 1024, (x (ix2 d r) : EReal) * y (ix2 d n) := by
  pointwise [k0_pay2]

theorem write_at : (k0_pay3 (F := Ideal) acc : S512x1024.Idx → EReal) (ix2 r n) = acc (ix2 r n) := by
  pointwise [k0_pay3]

end

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem lt8 (t : Fin cfg0.N) : t.val < 8 := lt_of_lt_of_eq t.isLt N_0

/-- The operands, the blocks of them that a grid point stages, and what a tile of 1024 rows contributes. -/
def opA : S8192x512.Idx → EReal := m ((c : Thread nD τ).loc main_arg0)
def opB : S8192x1024.Idx → EReal := m ((c : Thread nD τ).loc main_arg1)
def stA (t : Fin cfg0.N) : S1024x512.Idx → EReal := iblk m c 0 t
def stB (t : Fin cfg0.N) : S1024x1024.Idx → EReal := iblk m c 1 t
def part (k : Fin 8) (i : S512x1024.Idx) : EReal :=
  ∑ d : Fin 1024, opA c m (ix2 (⟨k.val * 1024 + d.val, by omega⟩ : Fin 8192) (i 0)) * opB c m (ix2 (⟨k.val * 1024 + d.val, by omega⟩ : Fin 8192) (i 1))

theorem part_eq (t : Fin cfg0.N) (i : S512x1024.Idx) :
    ∑ d : Fin 1024, stA c m t (ix2 d (i 0)) * stB c m t (ix2 d (i 1)) = part c m ⟨t.val, lt8 t⟩ i := by
  refine dot_congr (fun d => ?_) (fun d => ?_)
  · refine (congrFun (V_main_arg0 m c) _).trans (congrArg (opA c m) (pos2 _ _ _ ?_ ?_))
    · show win0_0.index t 0 * 1024 + 1 * d.val = t.val * 1024 + d.val; rw [index0_0]; show t.val * 1024 + 1 * d.val = _; omega
    · show win0_0.index t 1 * 512 + 1 * (i 0).val = (i 0).val; rw [index0_0]; show 0 * 512 + 1 * (i 0).val = _; omega
  · refine (congrFun (V_main_arg1 m c) _).trans (congrArg (opB c m) (pos2 _ _ _ ?_ ?_))
    · show win0_1.index t 0 * 1024 + 1 * d.val = t.val * 1024 + d.val; rw [index0_1]; show t.val * 1024 + 1 * d.val = _; omega
    · show win0_1.index t 1 * 1024 + 1 * (i 1).val = (i 1).val; rw [index0_1]; show 0 * 1024 + 1 * (i 1).val = _; omega

/-- What the accumulator holds after the last point. -/
theorem acc_last (t : Fin cfg0.N) (h : t.val % 8 = 7) (i : S512x1024.Idx) : ((outsAt0 m c t.val t.isLt).2 i : EReal) = ∑ k : Fin 8, part c m k i := by
  have ht := lt8 t
  refine (Pipeline.eq_sum_fin_of_reset_step_apply_last (fun n h => ((outsAt0 m c n h).2 : S512x1024.Idx → EReal)) 8 (fun _ => 0)
    (fun t i => part c m ⟨t.val, lt8 t⟩ i) (fun t h i => ?_) (fun t h i => ?_) (le_of_eq N_0) t (by have h8 : cfg0.N = 8 := N_0; omega) i).trans ?_
  · rw [outsAt0_A m c t h (by omega)]
    frame_out
    rw [eq_ix2 i]
    exact (step_at _ _ _ _ _).trans (congrArg₂ _ (start_at _ _) (part_eq c m t _))
  · by_cases h7 : t.val % 8 = 7
    · rw [outsAt0_C m c t h h7]
      frame_out
      rw [eq_ix2 i]
      exact (step_at _ _ _ _ _).trans (congrArg₂ _ (congrFun ((Memref.isWhole_whole _).read_unread _) _) (part_eq c m t _))
    · rw [outsAt0_B m c t h h7]
      frame_out
      rw [eq_ix2 i]
      exact (step_at _ _ _ _ _).trans (congrArg₂ _ (congrFun ((Memref.isWhole_whole _).read_unread _) _) (part_eq c m t _))
  · exact (zero_add _).trans (Fintype.sum_equiv (finCongr N_0) _ _ fun p => rfl)

theorem out_eq (t : Fin cfg0.N) (h : t.val % 8 = 7) (r : Fin 512) (n : Fin 1024) :
    ((outsAt0 m c t.val t.isLt).1 (ix2 r n) : EReal) = (outsAt0 m c t.val t.isLt).2 (ix2 r n) := by
  rw [outsAt0_C m c t (by omega) h]
  frame_out
  exact write_at _ r n

/-- The array after the run. -/
theorem result (i : S512x1024.Idx) : ((dats m 0 c).arrAt 2 cfg0.N i : EReal) = ∑ k : Fin 8, part c m k i := by
  refine (dats m 0 c).arrAt_forall_of_covers 2 (fun i v => (v : EReal) = ∑ k : Fin 8, part c m k i) (by decide +kernel) (fun t hf y => ?_) i
  have h := (flush0_2 t).mp hf
  blk_simp
  rw [after0_2, eq_ix2 y]
  refine (out_eq c m t h _ _).trans ((acc_last c m t h _).trans (sum_congr rfl fun k _ => congrArg _ (pos2 _ _ _ ?_ ?_).symm))
  · show win0_2.index t 0 * 512 + 1 * (y 0).val = (y 0).val; rw [index0_2]; show 0 * 512 + 1 * (y 0).val = _; omega
  · show win0_2.index t 1 * 1024 + 1 * (y 1).val = (y 1).val; rw [index0_2]; show 0 * 1024 + 1 * (y 1).val = _; omega

/-- The run leaves what the reference computes. -/
theorem algebraic : Cert.algebraic_Kernel22Ideal_Reference22Ideal := by
  intro m ρ m' ρ' _ hagree
  refine ⟨fun c => (dats m 0 c).arrAt 2 cfg0.N, run_blocks (F := Ideal) m ρ,
    (θ_run Cert.Reference22Ideal.defs _ _).mono (fun _ h c => ⟨(h c).1.trans (funext fun i => ?_), (h c).2⟩) (Cert.Reference22Ideal.Value.run (F := Ideal) m' ρ')⟩
  obtain ⟨r, n, rfl⟩ : ∃ r n, i = ix2 r n := ⟨i 0, i 1, eq_ix2 i⟩
  rw [(hagree c).1, (hagree c).2]
  refine Eq.trans ?_ (result c m (ix2 r n)).symm
  pointwise []
  exact (Cert.Ffn.sum_blocks 8 1024 _).trans (sum_congr rfl fun k _ => sum_congr rfl fun d _ => mul_comm _ _)

end Cert.BranchW
-- ==== Proof.PleProj.lean ====
/-
  The projection of the per-layer input: what the call leaves, and that the reference computes the same.
-/
module

public import proofs.«01_k».proof.Proof.Matmul
public import proofs.«01_k».proof.Proof.Gen.Kernel23Ideal.Value
public import proofs.«01_k».proof.Proof.Gen.Reference23Ideal.Run
public import proofs.«01_k».proof.Defs

@[expose] public section

set_option maxRecDepth 16384

noncomputable section

namespace Cert.PleProj

open Cert.Kernel23Ideal Cert.Kernel23Ideal.Gen Cert.Kernel23Ideal.Value Cert.Mm
open Idealize.ShloMosaic Idealize.ShloMosaic.TcCoe
open Idealize.SL Idealize.SL.Sem
open Finset

/-- A grid point writes the product of its two blocks, added to zero. -/
theorem block_at (x : Vec Ideal S1024x256 .bf16) (y : Vec Ideal S256x512 .bf16) (r : Fin 1024) (n : Fin 512) :
    (k0_pay2 (F := Ideal) (k0_pay1 (F := Ideal)) x y : S1024x512.Idx → EReal) (ix2 r n) = ∑ d : Fin 256, (x (ix2 r d) : EReal) * y (ix2 d n) := by
  pointwise [k0_pay1, k0_pay2]

variable (c : Dev nD) (m : (ℓ : Loc nD τ sig) → Buf (Elt Ideal) ℓ)

theorem index0_0 : ∀ t : Fin cfg0.N, win0_0.index t = ![t.val / 2, 0] := (by decide +kernel : ∀ t : Fin grid0.N, _)
theorem index0_1 : ∀ t : Fin cfg0.N, win0_1.index t = ![0, t.val % 2] := (by decide +kernel : ∀ t : Fin grid0.N, _)
theorem index0_2 : ∀ t : Fin cfg0.N, win0_2.index t = ![t.val / 2, t.val % 2] := (by decide +kernel : ∀ t : Fin grid0.N, _)

/-- The operands, and an element of their product. -/
def opA : S8192x256.Idx → EReal := m ((c : Thread nD τ).loc main_arg0)
def opB : S256x1024.Idx → EReal := m ((c : Thread nD τ).loc main_arg1)
def dot (s : Fin 8192) (n : Fin 1024) : EReal := ∑ d : Fin 256, opA c m (ix2 s d) * opB c m (ix2 d n)

/-- The array after the run. -/
theorem result (i : S8192x1024.Idx) : ((dats m 0 c).arrAt 2 cfg0.N i : EReal) = dot c m (i 0) (i 1) := by
  refine (dats m 0 c).arrAt_forall_of_covers 2 (fun i v => (v : EReal) = dot c m (i 0) (i 1)) (by decide +kernel) (fun t hf y => ?_) i
  blk_simp
  rw [after0_2]
  unfold outsAt0
  frame_out
  rw [eq_ix2 y]
  refine (block_at _ _ _ _).trans (dot_congr (fun d => ?_) (fun d => ?_))
  · refine (congrFun (V_main_arg0 m c) _).trans (congrArg (opA c m) (pos2 _ _ _ ?_ ?_))
    · show win0_0.index t 0 * 1024 + 1 * (y 0).val = win0_2.index t 0 * 1024 + 1 * (y 0).val; rw [index0_0, index0_2]; rfl
    · show win0_0.index t 1 * 256 + 1 * d.val = d.val; rw [index0_0]; show 0 * 256 + 1 * d.val = _; omega
  · refine (congrFun (V_main_arg1 m c) _).trans (congrArg (opB c m) (pos2 _ _ _ ?_ ?_))
    · show win0_1.index t 0 * 256 + 1 * d.val = d.val; rw [index0_1]; show 0 * 256 + 1 * d.val = _; omega
    · show win0_1.index t 1 * 512 + 1 * (y 1).val = win0_2.index t 1 * 512 + 1 * (y 1).val; rw [index0_1, index0_2]; rfl

/-- The run leaves what the reference computes. -/
theorem algebraic : Cert.algebraic_Kernel23Ideal_Reference23Ideal := by
  intro m ρ m' ρ' _ hagree
  refine ⟨fun c => (dats m 0 c).arrAt 2 cfg0.N, run_blocks (F := Ideal) m ρ,
    (θ_run Cert.Reference23Ideal.defs _ _).mono (fun _ h c => ⟨(h c).1.trans (funext fun i => ?_), (h c).2⟩) (Cert.Reference23Ideal.Value.run (F := Ideal) m' ρ')⟩
  obtain ⟨s, n, rfl⟩ : ∃ s n, i = ix2 s n := ⟨i 0, i 1, eq_ix2 i⟩
  rw [(hagree c).1, (hagree c).2]
  refine Eq.trans ?_ (result c m (ix2 s n)).symm
  pointwise []
  rfl

end Cert.PleProj
-- ==== Proof.PleW.lean ====
/-
  The gradient of the weights of the per-layer input's projection: what the call leaves, and that the reference computes the same.
-/
module

public import proofs.«01_k».proof.Proof.Matmul
public import proofs.«01_k».proof.Proof.Gen.Kernel24Ideal.Value
public import proofs.«01_k».proof.Proof.Gen.Reference24Ideal.Run
public import proofs.«01_k».proof.Defs

@[expose] public section

set_option maxRecDepth 16384

noncomputable section

namespace Cert.PleW

open Cert.Kernel24Ideal Cert.Kernel24Ideal.Gen Cert.Kernel24Ideal.Value Cert.Mm
open Idealize.ShloMosaic Idealize.ShloMosaic.TcCoe
open Idealize.SL Idealize.SL.Sem
open Finset

section
variable (acc : Vec Ideal S256x1024 .f32) (x : Vec Ideal S1024x256 .bf16) (y : Vec Ideal S1024x1024 .bf16) (r : Fin 256) (n : Fin 1024)

/-- The first step starts from zero, every step adds the product of its two blocks, the last one writes the sum. -/
theorem start_at : (k0_pay1 (F := Ideal) : S256x1024.Idx → EReal) (ix2 r n) = 0 := by
  pointwise [k0_pay1]

theorem step_at : (k0_pay2 (F := Ideal) acc x y : S256x1024.Idx → EReal) (ix2 r n) = acc (ix2 r n) + ∑ d : Fin 1024, (x (ix2 d r) : EReal) * y (ix2 d n) := by
  pointwise [k0_pay2]

theorem write_at : (k0_pay3 (F := Ideal) acc : S256x1024.Idx → EReal) (ix2 r n) = acc (ix2 r n) := by
  pointwise [k0_pay3]

end

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem lt8 (t : Fin cfg0.N) : t.val < 8 := lt_of_lt_of_eq t.isLt N_0

/-- The operands, the blocks of them that a grid point stages, and what a tile of 1024 rows contributes. -/
def opA : S8192x256.Idx → EReal := m ((c : Thread nD τ).loc main_arg0)
def opB : S8192x1024.Idx → EReal := m ((c : Thread nD τ).loc main_arg1)
def stA (t : Fin cfg0.N) : S1024x256.Idx → EReal := iblk m c 0 t
def stB (t : Fin cfg0.N) : S1024x1024.Idx → EReal := iblk m c 1 t
def part (k : Fin 8) (i : S256x1024.Idx) : EReal :=
  ∑ d : Fin 1024, opA c m (ix2 (⟨k.val * 1024 + d.val, by omega⟩ : Fin 8192) (i 0)) * opB c m (ix2 (⟨k.val * 1024 + d.val, by omega⟩ : Fin 8192) (i 1))

theorem part_eq (t : Fin cfg0.N) (i : S256x1024.Idx) :
    ∑ d : Fin 1024, stA c m t (ix2 d (i 0)) * stB c m t (ix2 d (i 1)) = part c m ⟨t.val, lt8 t⟩ i := by
  refine dot_congr (fun d => ?_) (fun d => ?_)
  · refine (congrFun (V_main_arg0 m c) _).trans (congrArg (opA c m) (pos2 _ _ _ ?_ ?_))
    · show win0_0.index t 0 * 1024 + 1 * d.val = t.val * 1024 + d.val; rw [index0_0]; show t.val * 1024 + 1 * d.val = _; omega
    · show win0_0.index t 1 * 256 + 1 * (i 0).val = (i 0).val; rw [index0_0]; show 0 * 256 + 1 * (i 0).val = _; omega
  · refine (congrFun (V_main_arg1 m c) _).trans (congrArg (opB c m) (pos2 _ _ _ ?_ ?_))
    · show win0_1.index t 0 * 1024 + 1 * d.val = t.val * 1024 + d.val; rw [index0_1]; show t.val * 1024 + 1 * d.val = _; omega
    · show win0_1.index t 1 * 1024 + 1 * (i 1).val = (i 1).val; rw [index0_1]; show 0 * 1024 + 1 * (i 1).val = _; omega

/-- What the accumulator holds after the last point. -/
theorem acc_last (t : Fin cfg0.N) (h : t.val % 8 = 7) (i : S256x1024.Idx) : ((outsAt0 m c t.val t.isLt).2 i : EReal) = ∑ k : Fin 8, part c m k i := by
  have ht := lt8 t
  refine (Pipeline.eq_sum_fin_of_reset_step_apply_last (fun n h => ((outsAt0 m c n h).2 : S256x1024.Idx → EReal)) 8 (fun _ => 0)
    (fun t i => part c m ⟨t.val, lt8 t⟩ i) (fun t h i => ?_) (fun t h i => ?_) (le_of_eq N_0) t (by have h8 : cfg0.N = 8 := N_0; omega) i).trans ?_
  · rw [outsAt0_A m c t h (by omega)]
    frame_out
    rw [eq_ix2 i]
    exact (step_at _ _ _ _ _).trans (congrArg₂ _ (start_at _ _) (part_eq c m t _))
  · by_cases h7 : t.val % 8 = 7
    · rw [outsAt0_C m c t h h7]
      frame_out
      rw [eq_ix2 i]
      exact (step_at _ _ _ _ _).trans (congrArg₂ _ (congrFun ((Memref.isWhole_whole _).read_unread _) _) (part_eq c m t _))
    · rw [outsAt0_B m c t h h7]
      frame_out
      rw [eq_ix2 i]
      exact (step_at _ _ _ _ _).trans (congrArg₂ _ (congrFun ((Memref.isWhole_whole _).read_unread _) _) (part_eq c m t _))
  · exact (zero_add _).trans (Fintype.sum_equiv (finCongr N_0) _ _ fun p => rfl)

theorem out_eq (t : Fin cfg0.N) (h : t.val % 8 = 7) (r : Fin 256) (n : Fin 1024) :
    ((outsAt0 m c t.val t.isLt).1 (ix2 r n) : EReal) = (outsAt0 m c t.val t.isLt).2 (ix2 r n) := by
  rw [outsAt0_C m c t (by omega) h]
  frame_out
  exact write_at _ r n

/-- The array after the run. -/
theorem result (i : S256x1024.Idx) : ((dats m 0 c).arrAt 2 cfg0.N i : EReal) = ∑ k : Fin 8, part c m k i := by
  refine (dats m 0 c).arrAt_forall_of_covers 2 (fun i v => (v : EReal) = ∑ k : Fin 8, part c m k i) (by decide +kernel) (fun t hf y => ?_) i
  have h := (flush0_2 t).mp hf
  blk_simp
  rw [after0_2, eq_ix2 y]
  refine (out_eq c m t h _ _).trans ((acc_last c m t h _).trans (sum_congr rfl fun k _ => congrArg _ (pos2 _ _ _ ?_ ?_).symm))
  · show win0_2.index t 0 * 256 + 1 * (y 0).val = (y 0).val; rw [index0_2]; show 0 * 256 + 1 * (y 0).val = _; omega
  · show win0_2.index t 1 * 1024 + 1 * (y 1).val = (y 1).val; rw [index0_2]; show 0 * 1024 + 1 * (y 1).val = _; omega

/-- The run leaves what the reference computes. -/
theorem algebraic : Cert.algebraic_Kernel24Ideal_Reference24Ideal := by
  intro m ρ m' ρ' _ hagree
  refine ⟨fun c => (dats m 0 c).arrAt 2 cfg0.N, run_blocks (F := Ideal) m ρ,
    (θ_run Cert.Reference24Ideal.defs _ _).mono (fun _ h c => ⟨(h c).1.trans (funext fun i => ?_), (h c).2⟩) (Cert.Reference24Ideal.Value.run (F := Ideal) m' ρ')⟩
  obtain ⟨r, n, rfl⟩ : ∃ r n, i = ix2 r n := ⟨i 0, i 1, eq_ix2 i⟩
  rw [(hagree c).1, (hagree c).2]
  refine Eq.trans ?_ (result c m (ix2 r n)).symm
  pointwise []
  exact (Cert.Ffn.sum_blocks 8 1024 _).trans (sum_congr rfl fun k _ => sum_congr rfl fun d _ => mul_comm _ _)

end Cert.PleW
-- ==== Proof.RowFrames.lean ====
/-
  The forward pointwise programs' runs, the mixer's norm's gradient's and the short convolution's: each ends with its
  arguments as they were and every semaphore counter at zero.
-/
module

public import proofs.«01_k».proof.Defs
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Gen.Reference29Ideal.Run

@[expose] public section

set_option maxRecDepth 16384

noncomputable section

namespace Cert.Row

open Idealize.ShloMosaic Idealize.ShloMosaic.TcCoe
open Idealize.SL Idealize.SL.Sem

theorem kernel25 : Cert.quiescent_Kernel25 := fun m ρ _ => Cert.Kernel25.Gen.frame m ρ
theorem ideal25 : Cert.quiescent_Kernel25Ideal := fun m ρ _ => Cert.Kernel25Ideal.Gen.frame m ρ
theorem reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem kernel26 : Cert.quiescent_Kernel26 := fun m ρ _ => Cert.Kernel26.Gen.frame m ρ
theorem ideal26 : Cert.quiescent_Kernel26Ideal := fun m ρ _ => Cert.Kernel26Ideal.Gen.frame m ρ
theorem reference26 : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

theorem kernel27 : Cert.quiescent_Kernel27 := fun m ρ _ => Cert.Kernel27.Gen.frame m ρ
theorem ideal27 : Cert.quiescent_Kernel27Ideal := fun m ρ _ => Cert.Kernel27Ideal.Gen.frame m ρ
theorem reference27 : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem kernel28 : Cert.quiescent_Kernel28 := fun m ρ _ => Cert.Kernel28.Gen.frame m ρ
theorem ideal28 : Cert.quiescent_Kernel28Ideal := fun m ρ _ => Cert.Kernel28Ideal.Gen.frame m ρ
theorem reference28 : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem kernel29 : Cert.quiescent_Kernel29 := fun m ρ _ => Cert.Kernel29.Gen.frame m ρ
theorem ideal29 : Cert.quiescent_Kernel29Ideal := fun m ρ _ => Cert.Kernel29Ideal.Gen.frame m ρ
theorem reference29 : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

end Cert.Row
-- ==== Proof.AdamFrames.lean ====
/-
  The AdamW programs' runs: each ends with its arguments as they were and every semaphore counter at zero.
-/
module

public import proofs.«01_k».proof.Defs
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.Gen.Reference31Ideal.Run

@[expose] public section

set_option maxRecDepth 16384

noncomputable section

namespace Cert.Adam

open Idealize.ShloMosaic Idealize.ShloMosaic.TcCoe
open Idealize.SL Idealize.SL.Sem

theorem kernel30 : Cert.quiescent_Kernel30 := fun m ρ _ => Cert.Kernel30.Gen.frame m ρ
theorem ideal30 : Cert.quiescent_Kernel30Ideal := fun m ρ _ => Cert.Kernel30Ideal.Gen.frame m ρ
theorem reference30 : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

theorem kernel31 : Cert.quiescent_Kernel31 := fun m ρ _ => Cert.Kernel31.Gen.frame m ρ
theorem ideal31 : Cert.quiescent_Kernel31Ideal := fun m ρ _ => Cert.Kernel31Ideal.Gen.frame m ρ
theorem reference31 : Cert.quiescent_Reference31Ideal := fun m ρ _ =>
  (θ_run Cert.Reference31Ideal.defs _ _).mono (fun r h => ⟨fun c => (h c).2.2.2.2, sem_eq_zero_of_no_sems (by decide) r.2⟩)
    (Cert.Reference31Ideal.Value.run (F := Ideal) m ρ)

end Cert.Adam
-- ==== Proof.Adam.lean ====
/-
  One element of the AdamW step, and the reference's sum over the parts of a gradient.
-/
module

public import proofs.«01_k».proof.Proof.Matmul

@[expose] public section

noncomputable section

namespace Cert.Adam

open Cert.Mm
open Idealize.ShloMosaic

/-- A place in an array of three axes, by its coordinates. -/
theorem pos3 {A B C : ℕ} (e : (⟨3, ![A, B, C]⟩ : Shape).Idx) (k : Fin A) (r : Fin B) (n : Fin C)
    (h0 : (e 0).val = k.val) (h1 : (e 1).val = r.val) (h2 : (e 2).val = n.val) : e = ix3 k r n :=
  funext fun a => Fin.ext (by
    match a with
    | ⟨0, _⟩ => exact h0
    | ⟨1, _⟩ => exact h1
    | ⟨2, _⟩ => exact h2)

/-- A place in a tile of `T` rows whose window walks down the rows, in the array. -/
theorem down2 {A B T t : ℕ} {f : Fin 2 → ℕ} (hf : f = ![t, 0]) (e : (⟨2, ![A, B]⟩ : Shape).Idx) (s : Fin A) {r : ℕ} (n : Fin B)
    (hs : s.val = T * t + r) (h0 : (e 0).val = f 0 * T + 1 * r) (h1 : (e 1).val = f 1 * B + 1 * n.val) : e = ix2 s n := by
  subst hf
  refine pos2 _ _ _ (h0.trans ?_) (h1.trans ?_)
  · show t * T + 1 * r = s.val; rw [hs, Nat.mul_comm, Nat.one_mul]
  · show 0 * B + 1 * n.val = n.val; rw [Nat.zero_mul, Nat.zero_add, Nat.one_mul]

theorem down3 {C A B T t : ℕ} {f : Fin 3 → ℕ} (hf : f = ![0, t, 0]) (e : (⟨3, ![C, A, B]⟩ : Shape).Idx) (k : Fin C) (s : Fin A) {r : ℕ} (n : Fin B)
    (hs : s.val = T * t + r) (h : (e 0).val = f 0 * C + 1 * k.val) (h0 : (e 1).val = f 1 * T + 1 * r) (h1 : (e 2).val = f 2 * B + 1 * n.val) :
    e = ix3 k s n := by
  subst hf
  refine pos3 _ _ _ _ (h.trans ?_) (h0.trans ?_) (h1.trans ?_)
  · show 0 * C + 1 * k.val = k.val; rw [Nat.zero_mul, Nat.zero_add, Nat.one_mul]
  · show t * T + 1 * r = s.val; rw [hs, Nat.mul_comm, Nat.one_mul]
  · show 0 * B + 1 * n.val = n.val; rw [Nat.zero_mul, Nat.zero_add, Nat.one_mul]

theorem back2 {A B : ℕ} (P : Fin A → Fin B → EReal) {e : (⟨2, ![A, B]⟩ : Shape).Idx} {s : Fin A} {n : Fin B} (h : e = ix2 s n) :
    P s n = P (e 0) (e 1) := by rw [h]; rfl

/-- The gradient from its four parts. -/
def grad (p : Fin 4 → EReal) : EReal := p 0 + p 1 + p 2 + p 3

/-- The new first and second moments. -/
def mom (p : Fin 4 → EReal) (m : EReal) : EReal := Ideal.ofBits .f32 0x3F666666#32 * m + Ideal.ofBits .f32 0x3DCCCCCD#32 * grad p
def vel (p : Fin 4 → EReal) (v : EReal) : EReal :=
  Ideal.ofBits .f32 0x3F7FBE77#32 * v + Ideal.ofBits .f32 0x3A83126F#32 * (grad p * grad p)

/-- The update of a weight from its new moments. -/
def step (m v w : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The sum over the parts starts from nothing. -/
theorem sum_grad (p : Fin 4 → EReal) : ∑ k : Fin 4, p k = grad p := Fin.sum_univ_four p

/-- The step, written with the sum. -/
theorem mom_sum (p : Fin 4 → EReal) (m : EReal) :
    Ideal.ofBits .f32 0x3F666666#32 * m + Ideal.ofBits .f32 0x3DCCCCCD#32 * ∑ k : Fin 4, p k = mom p m := by
  rw [sum_grad]; rfl

theorem vel_sum (p : Fin 4 → EReal) (v : EReal) : Ideal.ofBits .f32 0x3F7FBE77#32 * v
    + Ideal.ofBits .f32 0x3A83126F#32 * ((∑ k : Fin 4, p k) * ∑ k : Fin 4, p k) = vel p v := by
  rw [sum_grad]; rfl

theorem step_sum (p : Fin 4 → EReal) (m v w : EReal) :
    step (Ideal.ofBits .f32 0x3F666666#32 * m + Ideal.ofBits .f32 0x3DCCCCCD#32 * ∑ k : Fin 4, p k)
      (Ideal.ofBits .f32 0x3F7FBE77#32 * v + Ideal.ofBits .f32 0x3A83126F#32 * ((∑ k : Fin 4, p k) * ∑ k : Fin 4, p k)) w
    = step (mom p m) (vel p v) w := by
  rw [mom_sum, vel_sum]

theorem mom_congr {p q : Fin 4 → EReal} {a b : EReal} (hp : p = q) (h : a = b) : mom p a = mom q b := by rw [hp, h]
theorem vel_congr {p q : Fin 4 → EReal} {a b : EReal} (hp : p = q) (h : a = b) : vel p a = vel q b := by rw [hp, h]
theorem step_congr {a b d e x y : EReal} (h : a = b) (h' : d = e) (h'' : x = y) : step a d x = step b e y := by rw [h, h', h'']

end Cert.Adam
-- ==== Proof.AdamIn.lean ====
/-
  The AdamW step of a feed-forward input weight: what the call leaves, and that the reference computes the same.
-/
module

public import proofs.«01_k».proof.Proof.Adam
public import proofs.«01_k».proof.Proof.Gen.Kernel30Ideal.Value
public import proofs.«01_k».proof.Proof.Gen.Reference30Ideal.Run
public import proofs.«01_k».proof.Defs

@[expose] public section

set_option maxRecDepth 16384

noncomputable section

namespace Cert.AdamIn

open Cert.Kernel30Ideal Cert.Kernel30Ideal.Gen Cert.Kernel30Ideal.Value Cert.Mm Cert.Adam
open Idealize.ShloMosaic Idealize.ShloMosaic.TcCoe
open Idealize.SL Idealize.SL.Sem

section
variable (p0 p1 p2 p3 : Vec Ideal S1x256x704 .bf16) (x y z : Vec Ideal S256x704 .f32) (r : Fin 256) (n : Fin 704)

/-- The four loaded parts at one place. -/
def four : Fin 4 → EReal := ![p0 (ix3 0 r n), p1 (ix3 0 r n), p2 (ix3 0 r n), p3 (ix3 0 r n)]

theorem pay2_at : (k0_pay2 (F := Ideal) p0 p1 p2 p3 : S256x704.Idx → EReal) (ix2 r n) = grad (four p0 p1 p2 p3 r n) := by
  pointwise [k0_pay2]
  rfl

theorem pay3_at : (k0_pay3 (F := Ideal) p0 p1 p2 p3 x : S256x704.Idx → EReal) (ix2 r n) = mom (four p0 p1 p2 p3 r n) (x (ix2 r n)) := by
  pointwise [k0_pay3]
  simp only [pay2_at]
  rfl

theorem pay4_at : (k0_pay4 (F := Ideal) p0 p1 p2 p3 x : S256x704.Idx → EReal) (ix2 r n) = vel (four p0 p1 p2 p3 r n) (x (ix2 r n)) := by
  pointwise [k0_pay4]
  simp only [pay2_at]
  rfl

theorem pay1_at : (k0_pay1 (F := Ideal) x y z : S256x704.Idx → EReal) (ix2 r n) = step (x (ix2 r n)) (y (ix2 r n)) (z (ix2 r n)) := by
  pointwise [k0_pay1]
  rfl

end

variable (c : Dev nD) (m : (ℓ : Loc nD τ sig) → Buf (Elt Ideal) ℓ)

/-- Every window walks down the rows. -/
theorem walk (t : Fin cfg0.N) : win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]) t

theorem walk0 (t : Fin cfg0.N) : win0_0.index t = ![0, t.val, 0] :=
  (by decide +kernel : ∀ t : Fin grid0.N, win0_0.index t = ![0, t.val, 0]) t

theorem ltN (t : Fin cfg0.N) : t.val < 4 := lt_of_lt_of_eq t.isLt N_0

/-- The row of the arrays that a row of a block is. -/
def at_ (t : Fin cfg0.N) (r : Fin 256) : Fin 1024 := ⟨256 * t.val + r.val, by have := ltN t; omega⟩

/-- The operands: the parts of the gradient, the weight and its moments. -/
def opP : S4x1024x704.Idx → EReal := m ((c : Thread nD τ).loc main_arg0)
def opW : S1024x704.Idx → EReal := m ((c : Thread nD τ).loc main_arg1)
def opM : S1024x704.Idx → EReal := m ((c : Thread nD τ).loc main_arg2)
def opV : S1024x704.Idx → EReal := m ((c : Thread nD τ).loc main_arg3)

/-- The results at one place. -/
def parts (s : Fin 1024) (n : Fin 704) (k : Fin 4) : EReal := opP c m (ix3 k s n)
def newM (s : Fin 1024) (n : Fin 704) : EReal := mom (parts c m s n) (opM c m (ix2 s n))
def newV (s : Fin 1024) (n : Fin 704) : EReal := vel (parts c m s n) (opV c m (ix2 s n))
def delta (s : Fin 1024) (n : Fin 704) : EReal := step (newM c m s n) (newV c m s n) (opW c m (ix2 s n))

variable (t : Fin cfg0.N) (r : Fin 256) (n : Fin 704)

/-- The blocks, read as they stand. -/
def stP : S4x256x704.Idx → EReal := iblk m c 0 t

theorem blk0 (k : Fin 4) : stP c m t (ix3 k r n) = parts c m (at_ t r) n k :=
  (congrFun (V_main_arg0 m c) _).trans (congrArg (opP c m) (down3 (walk0 t) _ k (at_ t r) n rfl rfl rfl rfl))

theorem blk1 : (iblk m c 1 t : S256x704.Idx → EReal) (ix2 r n) = opW c m (ix2 (at_ t r) n) :=
  (congrFun (V_main_arg1 m c) _).trans (congrArg (opW c m) (down2 (walk t).1 _ (at_ t r) n rfl rfl rfl))

theorem blk2 : (iblk m c 2 t : S256x704.Idx → EReal) (ix2 r n) = opM c m (ix2 (at_ t r) n) :=
  (congrFun (V_main_arg2 m c) _).trans (congrArg (opM c m) (down2 (walk t).2.1 _ (at_ t r) n rfl rfl rfl))

theorem blk3 : (iblk m c 3 t : S256x704.Idx → EReal) (ix2 r n) = opV c m (ix2 (at_ t r) n) :=
  (congrFun (V_main_arg3 m c) _).trans (congrArg (opV c m) (down2 (walk t).2.2.1 _ (at_ t r) n rfl rfl rfl))

/-- The four parts as the body loads them, one after the other. -/
theorem parts_eq : four (View.ld (iblk m c 0 t) r0_0) (View.ld (iblk m c 0 t) r0_1) (View.ld (iblk m c 0 t) r0_2) (View.ld (iblk m c 0 t) r0_3) r n
    = parts c m (at_ t r) n := by
  funext k
  refine Eq.trans ?_ (blk0 c m t r n k)
  match k with
  | 0 => exact congrArg (stP c m t) (pos3 _ 0 r n rfl (by show 0 + 1 * r.val = _; omega) (by show 0 + 1 * n.val = _; omega))
  | 1 => exact congrArg (stP c m t) (pos3 _ 1 r n rfl (by show 0 + 1 * r.val = _; omega) (by show 0 + 1 * n.val = _; omega))
  | 2 => exact congrArg (stP c m t) (pos3 _ 2 r n rfl (by show 0 + 1 * r.val = _; omega) (by show 0 + 1 * n.val = _; omega))
  | 3 => exact congrArg (stP c m t) (pos3 _ 3 r n rfl (by show 0 + 1 * r.val = _; omega) (by show 0 + 1 * n.val = _; omega))

/-- The new moments and the update of a block, at the arrays' own place. -/
theorem mom_eq : (k0_pay3 (F := Ideal) (View.ld (iblk m c 0 t) r0_0) (View.ld (iblk m c 0 t) r0_1) (View.ld (iblk m c 0 t) r0_2)
    (View.ld (iblk m c 0 t) r0_3) (iblk m c 2 t) : S256x704.Idx → EReal) (ix2 r n) = newM c m (at_ t r) n :=
  (pay3_at _ _ _ _ _ r n).trans (mom_congr (parts_eq c m t r n) (blk2 c m t r n))

theorem vel_eq : (k0_pay4 (F := Ideal) (View.ld (iblk m c 0 t) r0_0) (View.ld (iblk m c 0 t) r0_1) (View.ld (iblk m c 0 t) r0_2)
    (View.ld (iblk m c 0 t) r0_3) (iblk m c 3 t) : S256x704.Idx → EReal) (ix2 r n) = newV c m (at_ t r) n :=
  (pay4_at _ _ _ _ _ r n).trans (vel_congr (parts_eq c m t r n) (blk3 c m t r n))

theorem vel_eq' : (k0_pay5 (F := Ideal) (iblk m c 0 t) (iblk m c 1 t) (iblk m c 2 t) (iblk m c 3 t) : S256x704.Idx → EReal) (ix2 r n)
    = newV c m (at_ t r) n := by
  rw [← vel_eq]
  exact congrArg (fun x => k0_pay4 (F := Ideal) (View.ld (iblk m c 0 t) r0_0) (View.ld (iblk m c 0 t) r0_1) (View.ld (iblk m c 0 t) r0_2)
    (View.ld (iblk m c 0 t) r0_3) x (ix2 r n)) (View.ld_unit_zero (by decide +kernel) _ _)

/-- The arrays after the run. -/
theorem result4 (i : S1024x704.Idx) : ((dats m 0 c).arrAt 4 cfg0.N i : EReal) = grad (parts c m (i 0) (i 1)) := by
  refine (dats m 0 c).arrAt_forall_of_covers 4 (fun i v => (v : EReal) = grad (parts c m (i 0) (i 1))) (by decide +kernel) (fun t hf y => ?_) i
  blk_simp
  rw [after0_4]
  frame_out
  rw [eq_ix2 y]
  refine (pay2_at _ _ _ _ _ _).trans ((congrArg grad (parts_eq c m t (y 0) (y 1))).trans ?_)
  exact back2 (fun s n => grad (parts c m s n)) (down2 (walk t).2.2.2.1 _ (at_ t (y 0)) (y 1) rfl rfl rfl)

theorem result5 (i : S1024x704.Idx) : ((dats m 0 c).arrAt 5 cfg0.N i : EReal) = delta c m (i 0) (i 1) := by
  refine (dats m 0 c).arrAt_forall_of_covers 5 (fun i v => (v : EReal) = delta c m (i 0) (i 1)) (by decide +kernel) (fun t hf y => ?_) i
  blk_simp
  rw [after0_5]
  frame_out
  rw [eq_ix2 y]
  refine (pay1_at _ _ _ _ _).trans ((step_congr (mom_eq c m t (y 0) (y 1)) (vel_eq' c m t (y 0) (y 1)) (blk1 c m t (y 0) (y 1))).trans ?_)
  exact back2 (delta c m) (down2 (walk t).2.2.2.2.1 _ (at_ t (y 0)) (y 1) rfl rfl rfl)

theorem result6 (i : S1024x704.Idx) : ((dats m 0 c).arrAt 6 cfg0.N i : EReal) = newM c m (i 0) (i 1) := by
  refine (dats m 0 c).arrAt_forall_of_covers 6 (fun i v => (v : EReal) = newM c m (i 0) (i 1)) (by decide +kernel) (fun t hf y => ?_) i
  blk_simp
  rw [after0_6]
  frame_out
  rw [eq_ix2 y]
  refine (mom_eq c m t (y 0) (y 1)).trans ?_
  exact back2 (newM c m) (down2 (walk t).2.2.2.2.2.1 _ (at_ t (y 0)) (y 1) rfl rfl rfl)

theorem result7 (i : S1024x704.Idx) : ((dats m 0 c).arrAt 7 cfg0.N i : EReal) = newV c m (i 0) (i 1) := by
  refine (dats m 0 c).arrAt_forall_of_covers 7 (fun i v => (v : EReal) = newV c m (i 0) (i 1)) (by decide +kernel) (fun t hf y => ?_) i
  blk_simp
  rw [after0_7]
  frame_out
  rw [eq_ix2 y]
  refine (vel_eq' c m t (y 0) (y 1)).trans ?_
  exact back2 (newV c m) (down2 (walk t).2.2.2.2.2.2 _ (at_ t (y 0)) (y 1) rfl rfl rfl)

/-- The run leaves what the reference computes. -/
theorem algebraic : Cert.algebraic_Kernel30Ideal_Reference30Ideal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks (F := Ideal) m ρ,
    (θ_run Cert.Reference30Ideal.defs _ _).mono (fun _ h c => ⟨(h c).1.trans (funext fun i => ?_), (h c).2.1.trans (funext fun i => ?_),
      (h c).2.2.1.trans (funext fun i => ?_), (h c).2.2.2.1.trans (funext fun i => ?_), (h c).2.2.2.2⟩)
      (Cert.Reference30Ideal.Value.run (F := Ideal) m' ρ')⟩
  all_goals
    obtain ⟨s, n, rfl⟩ : ∃ (s : Fin 1024) (n : Fin 704), i = ix2 s n := ⟨i 0, i 1, eq_ix2 i⟩
    rw [(hagree c).1]
  · refine Eq.trans ?_ (result4 c m (ix2 s n)).symm
    pointwise []
    exact sum_grad (parts c m s n)
  · rw [(hagree c).2.1, (hagree c).2.2.1, (hagree c).2.2.2]
    refine Eq.trans ?_ (result5 c m (ix2 s n)).symm
    pointwise []
    exact step_sum (parts c m s n) _ _ _
  · rw [(hagree c).2.2.1]
    refine Eq.trans ?_ (result6 c m (ix2 s n)).symm
    pointwise []
    exact mom_sum (parts c m s n) _
  · rw [(hagree c).2.2.2]
    refine Eq.trans ?_ (result7 c m (ix2 s n)).symm
    pointwise []
    exact vel_sum (parts c m s n) _

end Cert.AdamIn
-- ==== Proof.AdamOut.lean ====
/-
  The AdamW step of the mixer's output weight: one block holds the device's whole share.
-/
module

public import proofs.«01_k».proof.Proof.Adam
public import proofs.«01_k».proof.Proof.Gen.Kernel31Ideal.Value
public import proofs.«01_k».proof.Proof.Gen.Reference31Ideal.Run
public import proofs.«01_k».proof.Defs

@[expose] public section

set_option maxRecDepth 16384

noncomputable section

namespace Cert.AdamOut

open Cert.Kernel31Ideal Cert.Kernel31Ideal.Gen Cert.Kernel31Ideal.Value Cert.Mm Cert.Adam
open Idealize.ShloMosaic Idealize.ShloMosaic.TcCoe
open Idealize.SL Idealize.SL.Sem

section
variable (p : Vec Ideal S4x128x1024 .bf16) (w x v : Vec Ideal S128x1024 .f32) (r : Fin 128) (n : Fin 1024)

/-- The four parts at one place. -/
def four (r : Fin 128) (n : Fin 1024) (k : Fin 4) : EReal := p (ix3 k r n)

theorem grad_at : (k0_pay2 (F := Ideal) (View.ld p r0_0) (View.ld p r0_1) (View.ld p r0_2) (View.ld p r0_3) : S128x1024.Idx → EReal) (ix2 r n)
    = grad (four p r n) := by
  pointwise [k0_pay2]
  rfl

theorem mom_at : (k0_pay3 (F := Ideal) (View.ld p r0_0) (View.ld p r0_1) (View.ld p r0_2) (View.ld p r0_3) x : S128x1024.Idx → EReal) (ix2 r n)
    = mom (four p r n) (x (ix2 r n)) := by
  pointwise [k0_pay3]
  rw [grad_at]
  rfl

theorem vel_at : (k0_pay5 (F := Ideal) p w x v : S128x1024.Idx → EReal) (ix2 r n) = vel (four p r n) (v (ix2 r n)) := by
  unfold k0_pay5
  rw [View.ld_unit_zero (by decide +kernel)]
  pointwise [k0_pay4]
  rw [grad_at]
  rfl

theorem step_at (a b : Vec Ideal S128x1024 .f32) : (k0_pay1 (F := Ideal) a b w : S128x1024.Idx → EReal) (ix2 r n)
    = step (a (ix2 r n)) (b (ix2 r n)) (w (ix2 r n)) := by
  pointwise [k0_pay1]
  rfl

end

variable (c : Dev nD) (m : (ℓ : Loc nD τ sig) → Buf (Elt Ideal) ℓ)

/-- Every window stays on the whole array. -/
theorem stay (t : Fin cfg0.N) : win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]) t

theorem stay0 (t : Fin cfg0.N) : win0_0.index t = ![0, 0, 0] :=
  (by decide +kernel : ∀ t : Fin grid0.N, win0_0.index t = ![0, 0, 0]) t

/-- The operands: the parts of the gradient, the weight and its moments. -/
def opP : S4x128x1024.Idx → EReal := m ((c : Thread nD τ).loc main_arg0)
def opW : S128x1024.Idx → EReal := m ((c : Thread nD τ).loc main_arg1)
def opM : S128x1024.Idx → EReal := m ((c : Thread nD τ).loc main_arg2)
def opV : S128x1024.Idx → EReal := m ((c : Thread nD τ).loc main_arg3)

/-- The results at one place. -/
def parts (s : Fin 128) (n : Fin 1024) (k : Fin 4) : EReal := opP c m (ix3 k s n)
def newM (s : Fin 128) (n : Fin 1024) : EReal := mom (parts c m s n) (opM c m (ix2 s n))
def newV (s : Fin 128) (n : Fin 1024) : EReal := vel (parts c m s n) (opV c m (ix2 s n))
def delta (s : Fin 128) (n : Fin 1024) : EReal := step (newM c m s n) (newV c m s n) (opW c m (ix2 s n))

theorem start (r : Fin 128) : r.val = 128 * 0 + r.val := (Nat.zero_add _).symm

variable (t : Fin cfg0.N) (r : Fin 128) (n : Fin 1024)

/-- The blocks are the arrays. -/
theorem blk0 : four (iblk m c 0 t) r n = parts c m r n :=
  funext fun k => (congrFun (V_main_arg0 m c) _).trans (congrArg (opP c m) (down3 (stay0 t) _ k r n (start r) rfl rfl rfl))

theorem blk1 : (iblk m c 1 t : S128x1024.Idx → EReal) (ix2 r n) = opW c m (ix2 r n) :=
  (congrFun (V_main_arg1 m c) _).trans (congrArg (opW c m) (down2 (stay t).1 _ r n (start r) rfl rfl))

theorem blk2 : (iblk m c 2 t : S128x1024.Idx → EReal) (ix2 r n) = opM c m (ix2 r n) :=
  (congrFun (V_main_arg2 m c) _).trans (congrArg (opM c m) (down2 (stay t).2.1 _ r n (start r) rfl rfl))

theorem blk3 : (iblk m c 3 t : S128x1024.Idx → EReal) (ix2 r n) = opV c m (ix2 r n) :=
  (congrFun (V_main_arg3 m c) _).trans (congrArg (opV c m) (down2 (stay t).2.2.1 _ r n (start r) rfl rfl))

/-- The arrays after the run. -/
theorem result4 (i : S128x1024.Idx) : ((dats m 0 c).arrAt 4 cfg0.N i : EReal) = grad (parts c m (i 0) (i 1)) := by
  refine (dats m 0 c).arrAt_forall_of_covers 4 (fun i v => (v : EReal) = grad (parts c m (i 0) (i 1))) (by decide +kernel) (fun t hf y => ?_) i
  blk_simp
  rw [after0_4]
  frame_out
  rw [eq_ix2 y]
  refine (grad_at _ _ _).trans ((congrArg grad (blk0 c m t (y 0) (y 1))).trans ?_)
  exact back2 (fun s n => grad (parts c m s n)) (down2 (stay t).2.2.2.1 _ (y 0) (y 1) (start _) rfl rfl)

theorem result5 (i : S128x1024.Idx) : ((dats m 0 c).arrAt 5 cfg0.N i : EReal) = delta c m (i 0) (i 1) := by
  refine (dats m 0 c).arrAt_forall_of_covers 5 (fun i v => (v : EReal) = delta c m (i 0) (i 1)) (by decide +kernel) (fun t hf y => ?_) i
  blk_simp
  rw [after0_5]
  frame_out
  rw [eq_ix2 y]
  have hm := (mom_at _ (iblk m c 2 t) (y 0) (y 1)).trans (mom_congr (blk0 c m t (y 0) (y 1)) (blk2 c m t (y 0) (y 1)))
  have hv := (vel_at _ (iblk m c 1 t) (iblk m c 2 t) (iblk m c 3 t) (y 0) (y 1)).trans
    (vel_congr (blk0 c m t (y 0) (y 1)) (blk3 c m t (y 0) (y 1)))
  refine (step_at _ _ _ _ _).trans ((step_congr hm hv (blk1 c m t (y 0) (y 1))).trans ?_)
  exact back2 (delta c m) (down2 (stay t).2.2.2.2.1 _ (y 0) (y 1) (start _) rfl rfl)

theorem result6 (i : S128x1024.Idx) : ((dats m 0 c).arrAt 6 cfg0.N i : EReal) = newM c m (i 0) (i 1) := by
  refine (dats m 0 c).arrAt_forall_of_covers 6 (fun i v => (v : EReal) = newM c m (i 0) (i 1)) (by decide +kernel) (fun t hf y => ?_) i
  blk_simp
  rw [after0_6]
  frame_out
  rw [eq_ix2 y]
  refine (mom_at _ _ _ _).trans ((mom_congr (blk0 c m t (y 0) (y 1)) (blk2 c m t (y 0) (y 1))).trans ?_)
  exact back2 (newM c m) (down2 (stay t).2.2.2.2.2.1 _ (y 0) (y 1) (start _) rfl rfl)

theorem result7 (i : S128x1024.Idx) : ((dats m 0 c).arrAt 7 cfg0.N i : EReal) = newV c m (i 0) (i 1) := by
  refine (dats m 0 c).arrAt_forall_of_covers 7 (fun i v => (v : EReal) = newV c m (i 0) (i 1)) (by decide +kernel) (fun t hf y => ?_) i
  blk_simp
  rw [after0_7]
  frame_out
  rw [eq_ix2 y]
  refine (vel_at _ _ _ _ _ _).trans ((vel_congr (blk0 c m t (y 0) (y 1)) (blk3 c m t (y 0) (y 1))).trans ?_)
  exact back2 (newV c m) (down2 (stay t).2.2.2.2.2.2 _ (y 0) (y 1) (start _) rfl rfl)

/-- The run leaves what the reference computes. -/
theorem algebraic : Cert.algebraic_Kernel31Ideal_Reference31Ideal := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks (F := Ideal) m ρ,
    (θ_run Cert.Reference31Ideal.defs _ _).mono (fun _ h c => ⟨(h c).1.trans (funext fun i => ?_), (h c).2.1.trans (funext fun i => ?_),
      (h c).2.2.1.trans (funext fun i => ?_), (h c).2.2.2.1.trans (funext fun i => ?_), (h c).2.2.2.2⟩)
      (Cert.Reference31Ideal.Value.run (F := Ideal) m' ρ')⟩
  all_goals
    obtain ⟨s, n, rfl⟩ : ∃ (s : Fin 128) (n : Fin 1024), i = ix2 s n := ⟨i 0, i 1, eq_ix2 i⟩
    rw [(hagree c).1]
  · refine Eq.trans ?_ (result4 c m (ix2 s n)).symm
    pointwise []
    exact sum_grad (parts c m s n)
  · rw [(hagree c).2.1, (hagree c).2.2.1, (hagree c).2.2.2]
    refine Eq.trans ?_ (result5 c m (ix2 s n)).symm
    pointwise []
    exact step_sum (parts c m s n) _ _ _
  · rw [(hagree c).2.2.1]
    refine Eq.trans ?_ (result6 c m (ix2 s n)).symm
    pointwise []
    exact mom_sum (parts c m s n) _
  · rw [(hagree c).2.2.2]
    refine Eq.trans ?_ (result7 c m (ix2 s n)).symm
    pointwise []
    exact vel_sum (parts c m s n) _

end Cert.AdamOut
-- ==== Proof.MergeFwd.lean ====
/-
  The two branches, each times the sigmoid of its gate, and their sum: what the call leaves, and that the reference computes
  the same.
-/
module

public import proofs.«01_k».proof.Proof.Matmul
public import proofs.«01_k».proof.Proof.FfnActRef
public import proofs.«01_k».proof.Proof.Gen.Kernel25Ideal.Value
public import proofs.«01_k».proof.Proof.Gen.Reference25Ideal.Run
public import proofs.«01_k».proof.Defs

@[expose] public section

set_option maxRecDepth 16384

noncomputable section

namespace Cert.MergeFwd

open Cert.Kernel25Ideal Cert.Kernel25Ideal.Gen Cert.Kernel25Ideal.Value Cert.Mm
open Cert.FfnAct (sg)
open Idealize.ShloMosaic Idealize.ShloMosaic.TcCoe Idealize.ShloMosaic.StableHlo
open Idealize.SL Idealize.SL.Sem
open Finset

/-- An element: the two gates with their biases, and the two branches. -/
def el (a p b q y z : EReal) : EReal := sg (a + p) * y + sg (b + q) * z

theorem el_congr {a p b q y z a' p' b' q' y' z' : EReal} (h1 : a = a') (h2 : p = p') (h3 : b = b') (h4 : q = q') (h5 : y = y') (h6 : z = z') :
    el a p b q y z = el a' p' b' q' y' z' := by subst h1 h2 h3 h4 h5 h6; rfl

theorem block_at (x0 x1 x2 x3 : Vec Ideal S256x1024 .f32) (x4 x5 : Vec Ideal S1x1024 .f32) (r : Fin 256) (n : Fin 1024) :
    (k0_pay1 (F := Ideal) x0 x1 x2 x3 x4 x5 : S256x1024.Idx → EReal) (ix2 r n)
      = el (x0 (ix2 r n)) (x4 (ix2 0 n)) (x1 (ix2 r n)) (x5 (ix2 0 n)) (x2 (ix2 r n)) (x3 (ix2 r n)) := by
  pointwise [k0_pay1]
  simp only [zero_sub]
  rfl

variable (c : Dev nD) (m : (ℓ : Loc nD τ sig) → Buf (Elt Ideal) ℓ)

/-- The operands. -/
def opG : FVec Ideal S8192x2048 .f32 := m ((c : Thread nD τ).loc main_arg0)
def opY : FVec Ideal S8192x1024 .f32 := m ((c : Thread nD τ).loc main_arg1)
def opZ : FVec Ideal S8192x1024 .f32 := m ((c : Thread nD τ).loc main_arg2)
def opB : FVec Ideal S1x2048 .f32 := m ((c : Thread nD τ).loc main_arg3)

theorem V_bias1 : (V m c main_v0 : FVec Ideal S1x1024 .f32) = extractStridedSlice S1x1024 ![0, 0] (opB c m) slices_S1x2048_S1x1024_0_0 := by
  unfold V
  rw [hostOps0]
  after_results
  rfl

theorem V_bias2 : (V m c main_v1 : FVec Ideal S1x1024 .f32) = extractStridedSlice S1x1024 ![0, 1024] (opB c m) slices_S1x2048_S1x1024_0_1024 := by
  unfold V
  rw [hostOps0]
  after_results
  rfl

theorem bias1_at (n : Fin 1024) : (extractStridedSlice S1x1024 ![0, 0] (opB c m) slices_S1x2048_S1x1024_0_0 : S1x1024.Idx → EReal) (ix2 0 n)
    = opB c m (ix2 0 (⟨n.val, by omega⟩ : Fin 2048)) := by
  pointwise []

theorem bias2_at (n : Fin 1024) : (extractStridedSlice S1x1024 ![0, 1024] (opB c m) slices_S1x2048_S1x1024_0_1024 : S1x1024.Idx → EReal) (ix2 0 n)
    = opB c m (ix2 0 (⟨1024 + n.val, by omega⟩ : Fin 2048)) := by
  pointwise []

theorem index0_0 : ∀ t : Fin cfg0.N, win0_0.index t = ![t.val, 0] := (by decide +kernel : ∀ t : Fin grid0.N, _)
theorem index0_1 : ∀ t : Fin cfg0.N, win0_1.index t = ![t.val, 1] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![t.val, 0] := (by decide +kernel : ∀ t : Fin grid0.N, _)

/-- An element of the sum, from the operands. -/
def val (s : Fin 8192) (n : Fin 1024) : EReal :=
  el (opG c m (ix2 s (⟨n.val, by omega⟩ : Fin 2048))) (opB c m (ix2 0 (⟨n.val, by omega⟩ : Fin 2048)))
    (opG c m (ix2 s (⟨1024 + n.val, by omega⟩ : Fin 2048))) (opB c m (ix2 0 (⟨1024 + n.val, by omega⟩ : Fin 2048)))
    (opY c m (ix2 s n)) (opZ c m (ix2 s n))

/-- The array after the run. -/
theorem result (i : S8192x1024.Idx) : ((dats m 0 c).arrAt 6 cfg0.N i : EReal) = val c m (i 0) (i 1) := by
  refine (dats m 0 c).arrAt_forall_of_covers 6 (fun i v => (v : EReal) = val c m (i 0) (i 1)) (by decide +kernel) (fun t hf y => ?_) i
  blk_simp
  rw [after0_6]
  frame_out
  rw [eq_ix2 y]
  refine (block_at _ _ _ _ _ _ _ _).trans (el_congr ?_ ?_ ?_ ?_ ?_ ?_)
  · refine (congrFun (V_main_arg0 m c) _).trans (congrArg (opG c m) (pos2 _ _ _ ?_ ?_))
    · show win0_0.index t 0 * 256 + 1 * (y 0).val = win0_6.index t 0 * 256 + 1 * (y 0).val; rw [index0_0, index0_6]
    · show win0_0.index t 1 * 1024 + 1 * (y 1).val = win0_6.index t 1 * 1024 + 1 * (y 1).val; rw [index0_0, index0_6]
  · refine (congrFun (V_bias1 c m) _).trans ((congrArg _ (pos2 _ 0 (_ : Fin 1024) ?_ ?_)).trans (bias1_at c m _))
    · show win0_4.index t 0 * 1 + 1 * 0 = 0; rw [index0_4]; rfl
    · show win0_4.index t 1 * 1024 + 1 * (y 1).val = win0_6.index t 1 * 1024 + 1 * (y 1).val; rw [index0_4, index0_6]; rfl
  · refine (congrFun (V_main_arg0 m c) _).trans (congrArg (opG c m) (pos2 _ _ _ ?_ ?_))
    · show win0_1.index t 0 * 256 + 1 * (y 0).val = win0_6.index t 0 * 256 + 1 * (y 0).val; rw [index0_1, index0_6]; rfl
    · show win0_1.index t 1 * 1024 + 1 * (y 1).val = 1024 + (win0_6.index t 1 * 1024 + 1 * (y 1).val); rw [index0_1, index0_6]
      show 1 * 1024 + 1 * (y 1).val = 1024 + (0 * 1024 + 1 * (y 1).val); omega
  · refine (congrFun (V_bias2 c m) _).trans ((congrArg _ (pos2 _ 0 (_ : Fin 1024) ?_ ?_)).trans (bias2_at c m _))
    · show win0_5.index t 0 * 1 + 1 * 0 = 0; rw [index0_5]; rfl
    · show win0_5.index t 1 * 1024 + 1 * (y 1).val = win0_6.index t 1 * 1024 + 1 * (y 1).val; rw [index0_5, index0_6]; rfl
  · refine (congrFun (V_main_arg1 m c) _).trans (congrArg (opY c m) (pos2 _ _ _ ?_ ?_))
    · show win0_2.index t 0 * 256 + 1 * (y 0).val = win0_6.index t 0 * 256 + 1 * (y 0).val; rw [index0_2, index0_6]
    · show win0_2.index t 1 * 1024 + 1 * (y 1).val = win0_6.index t 1 * 1024 + 1 * (y 1).val; rw [index0_2, index0_6]
  · refine (congrFun (V_main_arg2 m c) _).trans (congrArg (opZ c m) (pos2 _ _ _ ?_ ?_))
    · show win0_3.index t 0 * 256 + 1 * (y 0).val = win0_6.index t 0 * 256 + 1 * (y 0).val; rw [index0_3, index0_6]
    · show win0_3.index t 1 * 1024 + 1 * (y 1).val = win0_6.index t 1 * 1024 + 1 * (y 1).val; rw [index0_3, index0_6]

/-- The run leaves what the reference computes. -/
theorem algebraic : Cert.algebraic_Kernel25Ideal_Reference25Ideal := by
  intro m ρ m' ρ' _ hagree
  refine ⟨fun c => (dats m 0 c).arrAt 6 cfg0.N, run_blocks (F := Ideal) m ρ,
    (θ_run Cert.Reference25Ideal.defs _ _).mono (fun _ h c => ⟨(h c).1.trans (funext fun i => ?_), (h c).2⟩) (Cert.Reference25Ideal.Value.run (F := Ideal) m' ρ')⟩
  obtain ⟨s, n, rfl⟩ : ∃ (s : Fin 8192) (n : Fin 1024), i = ix2 s n := ⟨i 0, i 1, eq_ix2 i⟩
  rw [(hagree c).1, (hagree c).2.1, (hagree c).2.2.1, (hagree c).2.2.2]
  refine Eq.trans ?_ (result c m (ix2 s n)).symm
  pointwise []
  rfl

end Cert.MergeFwd
-- ==== Proof.NormRow.lean ====
/-
  A layer norm along one row, over the extended reals.
-/
module

public import proofs.«01_k».proof.Proof.LnRow

@[expose] public section

noncomputable section

namespace Cert.Ln

open Idealize.ShloMosaic

/-- The row less its mean, over its deviation, times the gain, and the bias. -/
def norm (x g b : Fin 1024 → EReal) (n : Fin 1024) : EReal := cen x n * rs x * g n + b n

theorem norm_congr {x g b x' g' b' : Fin 1024 → EReal} {n n' : Fin 1024} (hx : ∀ k, x k = x' k) (hg : ∀ k, g k = g' k) (hb : ∀ k, b k = b' k) (hn : n = n') :
    norm x g b n = norm x' g' b' n' := by
  obtain rfl : x = x' := funext hx
  obtain rfl : g = g' := funext hg
  obtain rfl : b = b' := funext hb
  rw [hn]

/-- The mixer's residual. -/
def resid2 (h f : EReal) : EReal := Ideal.ofBits .f32 0x3F9837F0#32 * h + f

theorem resid_congr {h f h' f' : EReal} (e1 : h = h') (e2 : f = f') : resid h f = resid h' f' := congrArg₂ _ e1 e2
theorem resid2_congr {h f h' f' : EReal} (e1 : h = h') (e2 : f = f') : resid2 h f = resid2 h' f' := congrArg₂ _ e1 e2

end Cert.Ln

end
-- ==== Proof.FfnLn.lean ====
/-
  A half-step's residual and norm: what the call leaves, and that the reference computes the
  same.
-/
module

public import proofs.«01_k».proof.Proof.Matmul
public import proofs.«01_k».proof.Proof.NormRow
public import proofs.«01_k».proof.Proof.Gen.Kernel26Ideal.Value
public import proofs.«01_k».proof.Proof.Gen.Reference26Ideal.Run
public import proofs.«01_k».proof.Defs

@[expose] public section

set_option maxRecDepth 16384

noncomputable section

namespace Cert.FfnLn

open Cert.Kernel26Ideal Cert.Kernel26Ideal.Gen Cert.Kernel26Ideal.Value Cert.Mm
open Cert.Ln (norm norm_congr resid resid_congr)
open Idealize.ShloMosaic Idealize.ShloMosaic.TcCoe
open Idealize.SL Idealize.SL.Sem
open Finset

section
variable (x0 x1 : Vec Ideal S256x1024 .f32) (x2 x3 : Vec Ideal S1x1024 .f32) (r : Fin 256) (n : Fin 1024)

/-- The row of the residual. -/
def brow (k : Fin 1024) : EReal := resid (x0 (ix2 r k)) (x1 (ix2 r k))

theorem pay1_at : (k0_pay1 (F := Ideal) x0 x1 : S256x1024.Idx → EReal) (ix2 r n) = brow x0 x1 r n := by
  pointwise [k0_pay1]
  rfl

theorem pay2_at : (k0_pay2 (F := Ideal) x0 x1 x2 x3 : S256x1024.Idx → EReal) (ix2 r n)
    = norm (brow x0 x1 r) (fun k => x2 (ix2 0 k)) (fun k => x3 (ix2 0 k)) n := by
  pointwise [k0_pay2]
  simp only [pay1_at]
  rfl

theorem pay3_at : (k0_pay3 (F := Ideal) x0 x1 x2 x3 : S256x1024.Idx → EReal) (ix2 r n)
    = norm (brow x0 x1 r) (fun k => x2 (ix2 0 k)) (fun k => x3 (ix2 0 k)) n := by
  rw [← pay2_at]
  pointwise [k0_pay3]

end

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

/-- The operands, and the blocks that a grid point stages. -/
def opH : S8192x1024.Idx → EReal := m ((c : Thread nD τ).loc main_arg0)
def opF : S8192x1024.Idx → EReal := m ((c : Thread nD τ).loc main_arg1)
def opW : S1x1024.Idx → EReal := m ((c : Thread nD τ).loc main_arg2)
def opB : S1x1024.Idx → EReal := m ((c : Thread nD τ).loc main_arg3)
def st0 (t : Fin cfg0.N) : S256x1024.Idx → EReal := iblk m c 0 t
def st1 (t : Fin cfg0.N) : S256x1024.Idx → EReal := iblk m c 1 t
def st2 (t : Fin cfg0.N) : S1x1024.Idx → EReal := iblk m c 2 t
def st3 (t : Fin cfg0.N) : S1x1024.Idx → EReal := iblk m c 3 t

/-- A row of the residual, and of its norm. -/
def res (s : Fin 8192) (k : Fin 1024) : EReal := resid (opH c m (ix2 s k)) (opF c m (ix2 s k))
def nrm (s : Fin 8192) (n : Fin 1024) : EReal := norm (res c m s) (fun k => opW c m (ix2 0 k)) (fun k => opB c m (ix2 0 k)) n

variable (t : Fin cfg0.N) (r : Fin 256) (n : Fin 1024)

theorem blk0 : st0 c m t (ix2 r n) = opH c m (ix2 (at_ t r) n) := by
  refine (congrFun (V_main_arg0 m c) _).trans (congrArg (opH c m) (pos2 _ _ _ ?_ ?_))
  · show win0_0.index t 0 * 256 + 1 * r.val = 256 * t.val + r.val; rw [index0_0]; show t.val * 256 + 1 * r.val = _; omega
  · show win0_0.index t 1 * 1024 + 1 * n.val = n.val; rw [index0_0]; show 0 * 1024 + 1 * n.val = _; omega

theorem blk1 : st1 c m t (ix2 r n) = opF c m (ix2 (at_ t r) n) := by
  refine (congrFun (V_main_arg1 m c) _).trans (congrArg (opF c m) (pos2 _ _ _ ?_ ?_))
  · show win0_1.index t 0 * 256 + 1 * r.val = 256 * t.val + r.val; rw [index0_1]; show t.val * 256 + 1 * r.val = _; omega
  · show win0_1.index t 1 * 1024 + 1 * n.val = n.val; rw [index0_1]; show 0 * 1024 + 1 * n.val = _; omega

theorem blk2 : st2 c m t (ix2 0 n) = opW c m (ix2 0 n) := by
  refine (congrFun (V_main_arg2 m c) _).trans (congrArg (opW c m) (pos2 _ _ _ ?_ ?_))
  · show win0_2.index t 0 * 1 + 1 * 0 = 0; rw [index0_2]; rfl
  · show win0_2.index t 1 * 1024 + 1 * n.val = n.val; rw [index0_2]; show 0 * 1024 + 1 * n.val = _; omega

theorem blk3 : st3 c m t (ix2 0 n) = opB c m (ix2 0 n) := by
  refine (congrFun (V_main_arg3 m c) _).trans (congrArg (opB c m) (pos2 _ _ _ ?_ ?_))
  · show win0_3.index t 0 * 1 + 1 * 0 = 0; rw [index0_3]; rfl
  · show win0_3.index t 1 * 1024 + 1 * n.val = n.val; rw [index0_3]; show 0 * 1024 + 1 * n.val = _; omega

theorem row_eq (k : Fin 1024) : brow (st0 c m t) (st1 c m t) r k = res c m (at_ t r) k := resid_congr (blk0 c m t r k) (blk1 c m t r k)

theorem nrm_eq {s : Fin 8192} {k : Fin 1024} (hs : at_ t r = s) (hk : n = k) :
    norm (brow (st0 c m t) (st1 c m t) r) (fun k => st2 c m t (ix2 0 k)) (fun k => st3 c m t (ix2 0 k)) n = nrm c m s k := by
  subst hs
  exact norm_congr (row_eq c m t r) (blk2 c m t) (blk3 c m t) hk

/-- The arrays after the run. -/
theorem result4 (i : S8192x1024.Idx) : ((dats m 0 c).arrAt 4 cfg0.N i : EReal) = res c m (i 0) (i 1) := by
  refine (dats m 0 c).arrAt_forall_of_covers 4 (fun i v => (v : EReal) = res c m (i 0) (i 1)) (by decide +kernel) (fun t hf y => ?_) i
  blk_simp
  rw [after0_4]
  frame_out
  rw [eq_ix2 y]
  refine (pay1_at _ _ _ _).trans ((row_eq c m t (y 0) (y 1)).trans (congrArg₂ (res c m) (Fin.ext ?_) (Fin.ext ?_)))
  · show 256 * t.val + (y 0).val = win0_4.index t 0 * 256 + 1 * (y 0).val; rw [index0_4]; show _ = t.val * 256 + 1 * (y 0).val; omega
  · show (y 1).val = win0_4.index t 1 * 1024 + 1 * (y 1).val; rw [index0_4]; show _ = 0 * 1024 + 1 * (y 1).val; omega

theorem result5 (i : S8192x1024.Idx) : ((dats m 0 c).arrAt 5 cfg0.N i : EReal) = nrm c m (i 0) (i 1) := by
  refine (dats m 0 c).arrAt_forall_of_covers 5 (fun i v => (v : EReal) = nrm c m (i 0) (i 1)) (by decide +kernel) (fun t hf y => ?_) i
  blk_simp
  rw [after0_5]
  frame_out
  rw [eq_ix2 y]
  refine (pay2_at _ _ _ _ _ _).trans (nrm_eq c m t (y 0) (y 1) (Fin.ext ?_) (Fin.ext ?_))
  · show 256 * t.val + (y 0).val = win0_5.index t 0 * 256 + 1 * (y 0).val; rw [index0_5]; show _ = t.val * 256 + 1 * (y 0).val; omega
  · show (y 1).val = win0_5.index t 1 * 1024 + 1 * (y 1).val; rw [index0_5]; show _ = 0 * 1024 + 1 * (y 1).val; omega

theorem result6 (i : S8192x1024.Idx) : ((dats m 0 c).arrAt 6 cfg0.N i : EReal) = nrm c m (i 0) (i 1) := by
  refine (dats m 0 c).arrAt_forall_of_covers 6 (fun i v => (v : EReal) = nrm c m (i 0) (i 1)) (by decide +kernel) (fun t hf y => ?_) i
  blk_simp
  rw [after0_6]
  frame_out
  rw [eq_ix2 y]
  refine (pay3_at _ _ _ _ _ _).trans (nrm_eq c m t (y 0) (y 1) (Fin.ext ?_) (Fin.ext ?_))
  · show 256 * t.val + (y 0).val = win0_6.index t 0 * 256 + 1 * (y 0).val; rw [index0_6]; show _ = t.val * 256 + 1 * (y 0).val; omega
  · show (y 1).val = win0_6.index t 1 * 1024 + 1 * (y 1).val; rw [index0_6]; show _ = 0 * 1024 + 1 * (y 1).val; omega

/-- The run leaves what the reference computes. -/
theorem algebraic : Cert.algebraic_Kernel26Ideal_Reference26Ideal := by
  intro m ρ m' ρ' _ hagree
  refine ⟨fun c => (dats m 0 c).arrAt 4 cfg0.N, fun c => (dats m 0 c).arrAt 5 cfg0.N, fun c => (dats m 0 c).arrAt 6 cfg0.N, run_blocks (F := Ideal) m ρ,
    (θ_run Cert.Reference26Ideal.defs _ _).mono (fun _ h c => ⟨(h c).1.trans (funext fun i => ?_), (h c).2.1.trans (funext fun i => ?_),
      (h c).2.2.1.trans (funext fun i => ?_), (h c).2.2.2⟩) (Cert.Reference26Ideal.Value.run (F := Ideal) m' ρ')⟩
  all_goals
    obtain ⟨s, n, rfl⟩ : ∃ (s : Fin 8192) (n : Fin 1024), i = ix2 s n := ⟨i 0, i 1, eq_ix2 i⟩
    rw [(hagree c).1, (hagree c).2.1]
  · refine Eq.trans ?_ (result4 c m (ix2 s n)).symm
    pointwise []
    rfl
  · rw [(hagree c).2.2.1, (hagree c).2.2.2]
    refine Eq.trans ?_ (result5 c m (ix2 s n)).symm
    pointwise []
    rfl
  · rw [(hagree c).2.2.1, (hagree c).2.2.2]
    refine Eq.trans ?_ (result6 c m (ix2 s n)).symm
    pointwise []
    rfl

end Cert.FfnLn
-- ==== Proof.MixLn.lean ====
/-
  The mixer's residual and norm: what the call leaves, and that the reference computes the same.
-/
module

public import proofs.«01_k».proof.Proof.Matmul
public import proofs.«01_k».proof.Proof.NormRow
public import proofs.«01_k».proof.Proof.Gen.Kernel27Ideal.Value
public import proofs.«01_k».proof.Proof.Gen.Reference27Ideal.Run
public import proofs.«01_k».proof.Defs

@[expose] public section

set_option maxRecDepth 16384

noncomputable section

namespace Cert.MixLn

open Cert.Kernel27Ideal Cert.Kernel27Ideal.Gen Cert.Kernel27Ideal.Value Cert.Mm
open Cert.Ln (norm norm_congr resid2 resid2_congr)
open Idealize.ShloMosaic Idealize.ShloMosaic.TcCoe
open Idealize.SL Idealize.SL.Sem

section
variable (x0 x1 : Vec Ideal S256x1024 .f32) (x2 x3 : Vec Ideal S1x1024 .f32) (r : Fin 256) (n : Fin 1024)

/-- A row of a block's residual, and the gain or the bias. -/
def brow (k : Fin 1024) : EReal := resid2 (x0 (ix2 r k)) (x1 (ix2 r k))
def par (x : S1x1024.Idx → EReal) (k : Fin 1024) : EReal := x (ix2 0 k)

theorem pay1_at : (k0_pay1 (F := Ideal) x0 x1 : S256x1024.Idx → EReal) (ix2 r n) = brow x0 x1 r n := by
  pointwise [k0_pay1]
  rfl

theorem pay2_at : (k0_pay2 (F := Ideal) x0 x1 x2 x3 : S256x1024.Idx → EReal) (ix2 r n) = norm (brow x0 x1 r) (par x2) (par x3) n := by
  pointwise [k0_pay2]
  simp only [pay1_at]
  rfl

theorem pay3_at : (k0_pay3 (F := Ideal) x0 x1 x2 x3 : S256x1024.Idx → EReal) (ix2 r n) = norm (brow x0 x1 r) (par x2) (par x3) n := by
  rw [← pay2_at]
  pointwise [k0_pay3]

end

variable (c : Dev nD) (m : (ℓ : Loc nD τ sig) → Buf (Elt Ideal) ℓ)

/-- The rows' windows walk down the arrays; the gain's and the bias's stay. -/
theorem walk (t : Fin cfg0.N) : win0_0.index t = ![t.val, 0] ∧ win0_1.index t = ![t.val, 0] ∧ win0_4.index t = ![t.val, 0]
    ∧ win0_5.index t = ![t.val, 0] ∧ win0_6.index t = ![t.val, 0] :=
  (by decide +kernel : ∀ t : Fin grid0.N, win0_0.index t = ![t.val, 0] ∧ win0_1.index t = ![t.val, 0] ∧ win0_4.index t = ![t.val, 0]
    ∧ win0_5.index t = ![t.val, 0] ∧ win0_6.index t = ![t.val, 0]) t

theorem stay (t : Fin cfg0.N) : win0_2.index t = ![0, 0] ∧ win0_3.index t = ![0, 0] :=
  (by decide +kernel : ∀ t : Fin grid0.N, win0_2.index t = ![0, 0] ∧ win0_3.index t = ![0, 0]) t

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

/-- The operands. -/
def opH : S8192x1024.Idx → EReal := m ((c : Thread nD τ).loc main_arg0)
def opF : S8192x1024.Idx → EReal := m ((c : Thread nD τ).loc main_arg1)
def opW : S1x1024.Idx → EReal := m ((c : Thread nD τ).loc main_arg2)
def opB : S1x1024.Idx → EReal := m ((c : Thread nD τ).loc main_arg3)

/-- A row of the residual, and of its norm. -/
def res (s : Fin 8192) (k : Fin 1024) : EReal := resid2 (opH c m (ix2 s k)) (opF c m (ix2 s k))
def nrm (s : Fin 8192) (n : Fin 1024) : EReal := norm (res c m s) (par (opW c m)) (par (opB c m)) n

variable (t : Fin cfg0.N) (r : Fin 256)

theorem row_eq (k : Fin 1024) : brow (iblk m c 0 t) (iblk m c 1 t) r k = res c m (at_ t r) k := by
  have hw := walk t
  refine resid2_congr ((congrFun (V_main_arg0 m c) _).trans (congrArg (opH c m) (pos2 _ _ _ ?_ ?_)))
    ((congrFun (V_main_arg1 m c) _).trans (congrArg (opF c m) (pos2 _ _ _ ?_ ?_)))
  · show win0_0.index t 0 * 256 + 1 * r.val = 256 * t.val + r.val; rw [hw.1]; show t.val * 256 + 1 * r.val = _; omega
  · show win0_0.index t 1 * 1024 + 1 * k.val = k.val; rw [hw.1]; show 0 * 1024 + 1 * k.val = _; omega
  · show win0_1.index t 0 * 256 + 1 * r.val = 256 * t.val + r.val; rw [hw.2.1]; show t.val * 256 + 1 * r.val = _; omega
  · show win0_1.index t 1 * 1024 + 1 * k.val = k.val; rw [hw.2.1]; show 0 * 1024 + 1 * k.val = _; omega

theorem gain_eq (k : Fin 1024) : par (iblk m c 2 t) k = par (opW c m) k := by
  refine (congrFun (V_main_arg2 m c) _).trans (congrArg (opW c m) (pos2 _ _ _ ?_ ?_))
  · show win0_2.index t 0 * 1 + 1 * 0 = 0; rw [(stay t).1]; rfl
  · show win0_2.index t 1 * 1024 + 1 * k.val = k.val; rw [(stay t).1]; show 0 * 1024 + 1 * k.val = _; omega

theorem bias_eq (k : Fin 1024) : par (iblk m c 3 t) k = par (opB c m) k := by
  refine (congrFun (V_main_arg3 m c) _).trans (congrArg (opB c m) (pos2 _ _ _ ?_ ?_))
  · show win0_3.index t 0 * 1 + 1 * 0 = 0; rw [(stay t).2]; rfl
  · show win0_3.index t 1 * 1024 + 1 * k.val = k.val; rw [(stay t).2]; show 0 * 1024 + 1 * k.val = _; omega

/-- An element of a result's block, at the array's own place. -/
theorem nrm_eq {s : Fin 8192} {n k : Fin 1024} (hs : at_ t r = s) (hk : n = k) :
    norm (brow (iblk m c 0 t) (iblk m c 1 t) r) (par (iblk m c 2 t)) (par (iblk m c 3 t)) n = nrm c m s k := by
  subst hs
  exact norm_congr (row_eq c m t r) (gain_eq c m t) (bias_eq c m t) hk

/-- The arrays after the run. -/
theorem result4 (i : S8192x1024.Idx) : ((dats m 0 c).arrAt 4 cfg0.N i : EReal) = res c m (i 0) (i 1) := by
  refine (dats m 0 c).arrAt_forall_of_covers 4 (fun i v => (v : EReal) = res c m (i 0) (i 1)) (by decide +kernel) (fun t hf y => ?_) i
  blk_simp
  rw [after0_4]
  frame_out
  rw [eq_ix2 y]
  refine (pay1_at _ _ _ _).trans ((row_eq c m t (y 0) (y 1)).trans (congrArg₂ (res c m) (Fin.ext ?_) (Fin.ext ?_)))
  · show 256 * t.val + (y 0).val = win0_4.index t 0 * 256 + 1 * (y 0).val; rw [(walk t).2.2.1]; show _ = t.val * 256 + 1 * (y 0).val; omega
  · show (y 1).val = win0_4.index t 1 * 1024 + 1 * (y 1).val; rw [(walk t).2.2.1]; show _ = 0 * 1024 + 1 * (y 1).val; omega

theorem result5 (i : S8192x1024.Idx) : ((dats m 0 c).arrAt 5 cfg0.N i : EReal) = nrm c m (i 0) (i 1) := by
  refine (dats m 0 c).arrAt_forall_of_covers 5 (fun i v => (v : EReal) = nrm c m (i 0) (i 1)) (by decide +kernel) (fun t hf y => ?_) i
  blk_simp
  rw [after0_5]
  frame_out
  rw [eq_ix2 y]
  refine (pay2_at _ _ _ _ _ _).trans (nrm_eq c m t (y 0) (Fin.ext ?_) (Fin.ext ?_))
  · show 256 * t.val + (y 0).val = win0_5.index t 0 * 256 + 1 * (y 0).val; rw [(walk t).2.2.2.1]; show _ = t.val * 256 + 1 * (y 0).val; omega
  · show (y 1).val = win0_5.index t 1 * 1024 + 1 * (y 1).val; rw [(walk t).2.2.2.1]; show _ = 0 * 1024 + 1 * (y 1).val; omega

theorem result6 (i : S8192x1024.Idx) : ((dats m 0 c).arrAt 6 cfg0.N i : EReal) = nrm c m (i 0) (i 1) := by
  refine (dats m 0 c).arrAt_forall_of_covers 6 (fun i v => (v : EReal) = nrm c m (i 0) (i 1)) (by decide +kernel) (fun t hf y => ?_) i
  blk_simp
  rw [after0_6]
  frame_out
  rw [eq_ix2 y]
  refine (pay3_at _ _ _ _ _ _).trans (nrm_eq c m t (y 0) (Fin.ext ?_) (Fin.ext ?_))
  · show 256 * t.val + (y 0).val = win0_6.index t 0 * 256 + 1 * (y 0).val; rw [(walk t).2.2.2.2]; show _ = t.val * 256 + 1 * (y 0).val; omega
  · show (y 1).val = win0_6.index t 1 * 1024 + 1 * (y 1).val; rw [(walk t).2.2.2.2]; show _ = 0 * 1024 + 1 * (y 1).val; omega

/-- The run leaves what the reference computes. -/
theorem algebraic : Cert.algebraic_Kernel27Ideal_Reference27Ideal := by
  intro m ρ m' ρ' _ hagree
  refine ⟨fun c => (dats m 0 c).arrAt 4 cfg0.N, fun c => (dats m 0 c).arrAt 5 cfg0.N, fun c => (dats m 0 c).arrAt 6 cfg0.N, run_blocks (F := Ideal) m ρ,
    (θ_run Cert.Reference27Ideal.defs _ _).mono (fun _ h c => ⟨(h c).1.trans (funext fun i => ?_), (h c).2.1.trans (funext fun i => ?_),
      (h c).2.2.1.trans (funext fun i => ?_), (h c).2.2.2⟩) (Cert.Reference27Ideal.Value.run (F := Ideal) m' ρ')⟩
  all_goals
    obtain ⟨s, n, rfl⟩ : ∃ (s : Fin 8192) (n : Fin 1024), i = ix2 s n := ⟨i 0, i 1, eq_ix2 i⟩
    rw [(hagree c).1, (hagree c).2.1]
  · refine Eq.trans ?_ (result4 c m (ix2 s n)).symm
    pointwise []
    rfl
  · rw [(hagree c).2.2.1, (hagree c).2.2.2]
    refine Eq.trans ?_ (result5 c m (ix2 s n)).symm
    pointwise []
    rfl
  · rw [(hagree c).2.2.1, (hagree c).2.2.2]
    refine Eq.trans ?_ (result6 c m (ix2 s n)).symm
    pointwise []
    rfl

end Cert.MixLn
-- ==== Proof.Ln2Body.lean ====
/-
  The gradient of the mixer's norm: the body computes what a half-step's does, and what it leaves in the blocks of its
  four results at the first grid point and at the later ones.
-/
module

public import proofs.«01_k».proof.Proof.Ln
public import proofs.«01_k».proof.Proof.Gen.Kernel28Ideal.Value

@[expose] public section

set_option maxRecDepth 16384

noncomputable section

namespace Cert.Ln2

open Cert.Kernel28Ideal Cert.Kernel28Ideal.Gen Cert.Kernel28Ideal.Value
open Cert.Ln (brow bdy bw out gain hz)
open Idealize.ShloMosaic Idealize.ShloMosaic.TcCoe
open Idealize.SL Idealize.SL.Sem

section
variable {F : FTy → Type} [FloatOps F]

variable (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole)
  (a4 : Memref sig .tc .vmem S1x1024 .f32) (h4 : a4.IsWhole) (a5 : Memref sig .tc .vmem S1x1024 .f32) (h5 : a5.IsWhole) (a6 : Memref sig .tc .vmem S256x1024 .f32) (h6 : a6.IsWhole)
  (a7 : Memref sig .tc .vmem S256x1024 .bf16) (h7 : a7.IsWhole) (a8 : Memref sig .tc .vmem S1x1024 .f32) (h8 : a8.IsWhole) (a9 : Memref sig .tc .vmem S1x1024 .f32) (h9 : a9.IsWhole)
  (x0 x1 x2 : Vec F S256x1024 .f32) (x3 x4 xo xp : Vec F S1x1024 .f32)

/-- At the first point the sums begin. -/
theorem left_A (hc0 : cond0_0 i) (hc1 : ¬cond0_1 i) :
    out0_A_5 c i a1 h1 a2 h2 a3 h3 a4 h4 a5 h5 a6 h6 a7 h7 a8 h8 a9 h9 hc0 hc1 x0 x1 x2 x3 x4 = k0_pay2 (k0_pay7 x2) (k0_pay13 x0 x1 x2 x3) (k0_pay14 x0 x1 x2 x3)
    ∧ out0_A_6 c i a1 h1 a2 h2 a3 h3 a4 h4 a5 h5 a6 h6 a7 h7 a8 h8 a9 h9 hc0 hc1 x0 x1 x2 x3 x4 = k0_pay3 (k0_pay7 x2) (k0_pay13 x0 x1 x2 x3) (k0_pay14 x0 x1 x2 x3)
    ∧ out0_A_7 c i a1 h1 a2 h2 a3 h3 a4 h4 a5 h5 a6 h6 a7 h7 a8 h8 a9 h9 hc0 hc1 x0 x1 x2 x3 x4 = k0_pay11 x0 x1 x2
    ∧ out0_A_8 c i a1 h1 a2 h2 a3 h3 a4 h4 a5 h5 a6 h6 a7 h7 a8 h8 a9 h9 hc0 hc1 x0 x1 x2 x3 x4 = k0_pay10 x0 x1 := by
  refine ⟨(View.read_writes_eq_canon _ _ _ (fun y => cover0_A_5 (y := y) ..)).trans ?_, (View.read_writes_eq_canon _ _ _ (fun y => cover0_A_6 (y := y) ..)).trans ?_,
    (View.read_writes_eq_canon _ _ _ (fun y => cover0_A_7 (y := y) ..)).trans ?_, (View.read_writes_eq_canon _ _ _ (fun y => cover0_A_8 (y := y) ..)).trans ?_⟩
  all_goals
    unfold kernelRun0_A
    dsimp only
    sl_unfold_words
    rw [View.canon_unit_zero hz]
    simp only [View.readAt_eq_ld, h1.read_unread, h2.read_unread, h3.read_unread, h4.read_unread, h5.read_unread,
      View.ld_unit_zero (S := S256x1024) hz, View.ld_unit_zero (S := S1x1024) hz]

/-- At a later one they go on from what the point before left. -/
theorem left_B (hc0 : ¬cond0_0 i) (hc1 : cond0_1 i) :
    out0_B_5 c i a1 h1 a2 h2 a3 h3 a4 h4 a5 h5 a6 h6 a7 h7 a8 h8 a9 h9 hc0 hc1 x0 x1 x2 x3 x4 xo xp = k0_pay2 (k0_pay7 x2) (k0_pay13 x0 x1 x2 x3) (k0_pay14 x0 x1 x2 x3)
    ∧ out0_B_6 c i a1 h1 a2 h2 a3 h3 a4 h4 a5 h5 a6 h6 a7 h7 a8 h8 a9 h9 hc0 hc1 x0 x1 x2 x3 x4 xo xp = k0_pay3 (k0_pay7 x2) (k0_pay13 x0 x1 x2 x3) (k0_pay14 x0 x1 x2 x3)
    ∧ out0_B_7 c i a1 h1 a2 h2 a3 h3 a4 h4 a5 h5 a6 h6 a7 h7 a8 h8 a9 h9 hc0 hc1 x0 x1 x2 x3 x4 xo xp = k0_pay4 (k0_pay11 x0 x1 x2) xo
    ∧ out0_B_8 c i a1 h1 a2 h2 a3 h3 a4 h4 a5 h5 a6 h6 a7 h7 a8 h8 a9 h9 hc0 hc1 x0 x1 x2 x3 x4 xo xp = k0_pay5 (k0_pay10 x0 x1) xp := by
  refine ⟨(View.read_writes_eq_canon _ _ _ (fun y => cover0_B_5 (y := y) ..)).trans ?_, (View.read_writes_eq_canon _ _ _ (fun y => cover0_B_6 (y := y) ..)).trans ?_,
    (View.read_writes_eq_canon _ _ _ (fun y => cover0_B_7 (y := y) ..)).trans ?_, (View.read_writes_eq_canon _ _ _ (fun y => cover0_B_8 (y := y) ..)).trans ?_⟩
  all_goals
    unfold kernelRun0_B
    dsimp only
    sl_unfold_words
    rw [View.canon_unit_zero hz]
    simp only [View.readAt_eq_ld, h1.read_unread, h2.read_unread, h3.read_unread, h4.read_unread, h5.read_unread, h8.read_unread, h9.read_unread,
      View.ld_unit_zero (S := S256x1024) hz, View.ld_unit_zero (S := S1x1024) hz]

end

/-! ## Elements of it, the half-step's -/

variable (x0 x1 x2 : FVec Ideal S256x1024 .f32) (x3 xo : FVec Ideal S1x1024 .f32) (r : Fin 256) (n : Fin 1024)

theorem scaled_at : (k0_pay2 (F := Ideal) (k0_pay7 x2) (k0_pay13 x0 x1 x2 x3) (k0_pay14 x0 x1 x2 x3) : S256x1024.Idx → EReal) (ix2 r n)
    = Ideal.ofBits .f32 0x3F9837F0#32 * out (bdy x0 x1 r) (bw x3) (brow x2 r) n :=
  (Cert.Ln.pay2_at (Cert.Kernel9Ideal.Gen.k0_pay7 x2) (Cert.Kernel9Ideal.Gen.k0_pay13 x0 x1 x2 x3) (Cert.Kernel9Ideal.Gen.k0_pay14 x0 x1 x2 x3) r n).trans
    (congrArg _ (Cert.Ln.body_at x0 x1 x2 x3 r n))

theorem plain_at : (k0_pay3 (F := Ideal) (k0_pay7 x2) (k0_pay13 x0 x1 x2 x3) (k0_pay14 x0 x1 x2 x3) : S256x1024.Idx → EReal) (ix2 r n)
    = out (bdy x0 x1 r) (bw x3) (brow x2 r) n := by
  refine Eq.trans ?_ (Cert.Ln.body_at x0 x1 x2 x3 r n)
  pointwise [k0_pay3]
  rfl

theorem gains_at : (k0_pay11 (F := Ideal) x0 x1 x2 : S1x1024.Idx → EReal) (ix2 0 n) = ∑ r : Fin 256, gain (bdy x0 x1 r) (brow x2 r) n :=
  Cert.Ln.pay11_at x0 x1 x2 n

theorem biases_at : (k0_pay10 (F := Ideal) x0 x1 : S1x1024.Idx → EReal) (ix2 0 n) = ∑ r : Fin 256, bdy x0 x1 r n := Cert.Ln.pay10_at x0 x1 n

theorem more_gains : (k0_pay4 (F := Ideal) x3 xo : S1x1024.Idx → EReal) (ix2 0 n) = xo (ix2 0 n) + x3 (ix2 0 n) := Cert.Ln.pay4_at x3 xo n
theorem more_biases : (k0_pay5 (F := Ideal) x3 xo : S1x1024.Idx → EReal) (ix2 0 n) = xo (ix2 0 n) + x3 (ix2 0 n) := Cert.Ln.pay5_at x3 xo n

end Cert.Ln2
-- ==== Proof.Ln2.lean ====
/-
  The gradient of the mixer's norm: what the call leaves in its four results, and that the reference computes the same.
-/
module

public import proofs.«01_k».proof.Proof.Ln2Body
public import proofs.«01_k».proof.Proof.NormRow
public import proofs.«01_k».proof.Proof.Matmul
public import proofs.«01_k».proof.Proof.Gen.Reference28Ideal.Run
public import proofs.«01_k».proof.Defs

@[expose] public section

set_option maxRecDepth 16384

noncomputable section

namespace Cert.Ln2

open Cert.Kernel28Ideal Cert.Kernel28Ideal.Gen Cert.Kernel28Ideal.Value
open Cert.Ln (brow bdy bw out gain resid2 rowOf outH scaledH gainH colSum outH_at scaledH_at gainH_at colSum_at)
open Cert.Tiles (tile)
open Cert.Mm (pos2)
open Idealize.ShloMosaic Idealize.ShloMosaic.TcCoe Idealize.ShloMosaic.StableHlo
open Idealize.SL Idealize.SL.Sem
open Finset

/-- The mixer's residual for every row, which the host makes before the call, and the reference within its own. -/
def resH (h f : FVec Ideal S8192x1024 .f32) : FVec Ideal S8192x1024 .f32 :=
  addf (mulf (broadcastInDim S8192x1024 ![] bcast_S_S8192x1024 (constant S_ .f32 0x3F9837F0#32)) h) f

variable (c : Dev nD) (m : (ℓ : Loc nD τ sig) → Buf (Elt Ideal) ℓ)

/-- The operands: the two parts of the output's gradient, the residual, and the gain. -/
def opD : FVec Ideal S8192x1024 .f32 := m ((c : Thread nD τ).loc main_arg0)
def opE : FVec Ideal S8192x1024 .f32 := m ((c : Thread nD τ).loc main_arg1)
def opX : FVec Ideal S8192x1024 .f32 := resH (m ((c : Thread nD τ).loc main_arg2)) (m ((c : Thread nD τ).loc main_arg3))
def opW : FVec Ideal S1x1024 .f32 := m ((c : Thread nD τ).loc main_arg4)

theorem V_resid : (V m c main_v2 : FVec Ideal S8192x1024 .f32) = opX c m := by
  unfold V
  rw [hostOps0]
  after_results
  rfl

/-- The rows' windows walk down the arrays; the gain's and the sums' stay. -/
theorem walk (t : Fin cfg0.N) : win0_0.index t = ![t.val, 0] ∧ win0_1.index t = ![t.val, 0] ∧ win0_2.index t = ![t.val, 0]
    ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_5.index t = ![t.val, 0] ∧ win0_6.index t = ![t.val, 0]) t

theorem stay (t : Fin cfg0.N) : win0_3.index t = ![0, 0] ∧ win0_7.index t = ![0, 0] ∧ win0_8.index t = ![0, 0] :=
  (by decide +kernel : ∀ t : Fin grid0.N, win0_3.index t = ![0, 0] ∧ win0_7.index t = ![0, 0] ∧ win0_8.index t = ![0, 0]) t

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

/-- A place of a walking window's block in its array. -/
theorem down {ix : Fin 2 → ℕ} {t : ℕ} (h : ix = ![t, 0]) (r n : ℕ) : ix 0 * 256 + 1 * r = 256 * t + r ∧ ix 1 * 1024 + 1 * n = n := by
  subst h
  constructor
  · show t * 256 + 1 * r = _; omega
  · show 0 * 1024 + 1 * n = _; omega

/-- A place of a staying window's block in its array. -/
theorem same {ix : Fin 2 → ℕ} (h : ix = ![0, 0]) (n : ℕ) : ix 1 * 1024 + 1 * n = n := by
  subst h
  show 0 * 1024 + 1 * n = _; omega

/-- The rows of the output's gradient and of the residual, and the gain. -/
def dy (s : Fin 8192) (k : Fin 1024) : EReal := opD c m (ix2 s k) + opE c m (ix2 s k)
def xr (s : Fin 8192) (k : Fin 1024) : EReal := opX c m (ix2 s k)
def wr (k : Fin 1024) : EReal := opW c m (ix2 0 k)

/-- The gradient of the residual, and what each row adds to the gradients of the gain and the bias. -/
def o1 (s : Fin 8192) (n : Fin 1024) : EReal := out (dy c m s) (wr c m) (xr c m s) n
def g1 (n : Fin 1024) (s : Fin 8192) : EReal := gain (dy c m s) (xr c m s) n
def g2 (n : Fin 1024) (s : Fin 8192) : EReal := dy c m s n

variable (t : Fin cfg0.N) (r : Fin 256) (n : Fin 1024)

theorem dy_eq : bdy (iblk m c 0 t) (iblk m c 1 t) r = dy c m (at_ t r) := funext fun k => congrArg₂ (fun a b : EReal => a + b)
  ((congrFun (V_main_arg0 m c) _).trans (congrArg (opD c m) (pos2 _ _ _ (down (walk t).1 r.val k.val).1 (down (walk t).1 r.val k.val).2)))
  ((congrFun (V_main_arg1 m c) _).trans (congrArg (opE c m) (pos2 _ _ _ (down (walk t).2.1 r.val k.val).1 (down (walk t).2.1 r.val k.val).2)))

theorem xr_eq : brow (iblk m c 2 t) r = xr c m (at_ t r) := funext fun k =>
  (congrFun (V_resid c m) _).trans (congrArg (opX c m) (pos2 _ _ _ (down (walk t).2.2.1 r.val k.val).1 (down (walk t).2.2.1 r.val k.val).2))

theorem wr_eq : bw (iblk m c 3 t) = wr c m := funext fun k =>
  (congrFun (V_main_arg4 m c) _).trans (congrArg (opW c m) (pos2 _ _ _ (by show win0_3.index t 0 * 1 + 1 * 0 = 0; rw [(stay t).1]; rfl) (same (stay t).1 k.val)))

/-! ## The blocks after a grid point -/

theorem el1 : out (bdy (iblk m c 0 t) (iblk m c 1 t) r) (bw (iblk m c 3 t)) (brow (iblk m c 2 t) r) n = o1 c m (at_ t r) n := by
  rw [dy_eq, xr_eq, wr_eq]
  rfl

theorem outs2 : ((outsAt0 m c t.val t.isLt).1 (ix2 r n) : EReal) = Ideal.ofBits .f32 0x3F9837F0#32 * o1 c m (at_ t r) n
    ∧ ((outsAt0 m c t.val t.isLt).2.1 (ix2 r n) : EReal) = o1 c m (at_ t r) n := by
  have ht := lt32 t
  by_cases h : t.val % 32 = 0
  · rw [outsAt0_A m c t h (by omega)]
    dsimp only
    rw [(left_A (F := Ideal) ..).1, (left_A (F := Ideal) ..).2.1]
    exact ⟨(scaled_at _ _ _ _ r n).trans (congrArg _ (el1 c m t r n)), (plain_at _ _ _ _ r n).trans (el1 c m t r n)⟩
  · rw [outsAt0_B m c t h (by omega)]
    dsimp only
    rw [(left_B (F := Ideal) ..).1, (left_B (F := Ideal) ..).2.1]
    exact ⟨(scaled_at _ _ _ _ r n).trans (congrArg _ (el1 c m t r n)), (plain_at _ _ _ _ r n).trans (el1 c m t r n)⟩

/-- A tile's part of the two column sums. -/
theorem part1 : (k0_pay11 (F := Ideal) (iblk m c 0 t) (iblk m c 1 t) (iblk m c 2 t) : S1x1024.Idx → EReal) (ix2 0 n) = tile (g1 c m n) t.val :=
  (gains_at _ _ _ n).trans (sum_congr rfl fun r _ => by rw [dy_eq, xr_eq]; exact (Cert.Tiles.row_eq (g1 c m n) (at_ t r).isLt).symm)

theorem part2 : (k0_pay10 (F := Ideal) (iblk m c 0 t) (iblk m c 1 t) : S1x1024.Idx → EReal) (ix2 0 n) = tile (g2 c m n) t.val :=
  (biases_at _ _ n).trans (sum_congr rfl fun r _ => by rw [dy_eq]; exact (Cert.Tiles.row_eq (g2 c m n) (at_ t r).isLt).symm)

theorem first (h : 0 < cfg0.N) : ((outsAt0 m c 0 h).2.2.1 (ix2 0 n) : EReal) = tile (g1 c m n) 0
    ∧ ((outsAt0 m c 0 h).2.2.2 (ix2 0 n) : EReal) = tile (g2 c m n) 0 := by
  have e := outsAt0_A m c ⟨0, h⟩ (Nat.zero_mod _) (by show ¬1 ≤ 0; omega)
  rw [show outsAt0 m c 0 h = _ from e]
  dsimp only
  rw [(left_A (F := Ideal) ..).2.2.1, (left_A (F := Ideal) ..).2.2.2]
  exact ⟨part1 c m ⟨0, h⟩ n, part2 c m ⟨0, h⟩ n⟩

theorem next (k : ℕ) (h : k + 1 < cfg0.N) : ((outsAt0 m c (k + 1) h).2.2.1 (ix2 0 n) : EReal) = (outsAt0 m c k (Nat.lt_of_succ_lt h)).2.2.1 (ix2 0 n) + tile (g1 c m n) (k + 1)
    ∧ ((outsAt0 m c (k + 1) h).2.2.2 (ix2 0 n) : EReal) = (outsAt0 m c k (Nat.lt_of_succ_lt h)).2.2.2 (ix2 0 n) + tile (g2 c m n) (k + 1) := by
  have hk : k + 1 < 32 := lt_of_lt_of_eq h N_0
  have e := outsAt0_B m c ⟨k + 1, h⟩ (by show ¬(k + 1) % 32 = 0; omega) (by show 1 ≤ k + 1; omega)
  rw [show outsAt0 m c (k + 1) h = _ from e]
  dsimp only
  rw [(left_B (F := Ideal) ..).2.2.1, (left_B (F := Ideal) ..).2.2.2]
  exact ⟨(more_gains _ _ n).trans (congrArg _ (part1 c m ⟨k + 1, h⟩ n)), (more_biases _ _ n).trans (congrArg _ (part2 c m ⟨k + 1, h⟩ n))⟩

/-- What the last grid point leaves of the column sums. -/
theorem last (h : t.val = 31) : ((outsAt0 m c t.val t.isLt).2.2.1 (ix2 0 n) : EReal) = ∑ s, g1 c m n s
    ∧ ((outsAt0 m c t.val t.isLt).2.2.2 (ix2 0 n) : EReal) = ∑ s, g2 c m n s := by
  constructor
  · refine (Cert.Tiles.sum_steps (fun k hk => ((outsAt0 m c k hk).2.2.1 (ix2 0 n) : EReal)) (tile (g1 c m n)) (fun h => (first c m n h).1) (fun k h => (next c m n k h).1) t.val t.isLt).trans ?_
    rw [h]
    exact Cert.Tiles.tiles _
  · refine (Cert.Tiles.sum_steps (fun k hk => ((outsAt0 m c k hk).2.2.2 (ix2 0 n) : EReal)) (tile (g2 c m n)) (fun h => (first c m n h).2) (fun k h => (next c m n k h).2) t.val t.isLt).trans ?_
    rw [h]
    exact Cert.Tiles.tiles _

/-! ## The arrays after the run -/

theorem o1_congr {t : Fin cfg0.N} {a : Fin 256} {k : Fin 1024} {s : Fin 8192} {l : Fin 1024} (h0 : s.val = 256 * t.val + a.val) (h1 : l.val = k.val) :
    o1 c m (at_ t a) k = o1 c m s l := congrArg₂ (o1 c m) (Fin.ext h0.symm) (Fin.ext h1.symm)

theorem array5 (i : S8192x1024.Idx) : ((dats m 0 c).arrAt 5 cfg0.N i : EReal) = Ideal.ofBits .f32 0x3F9837F0#32 * o1 c m (i 0) (i 1) := by
  refine (dats m 0 c).arrAt_forall_of_covers 5 (fun i v => (v : EReal) = Ideal.ofBits .f32 0x3F9837F0#32 * o1 c m (i 0) (i 1)) (by decide +kernel) (fun t hf y => ?_) i
  blk_simp
  rw [after0_5]
  have e := down (walk t).2.2.2.1 (y 0).val (y 1).val
  exact (congrArg (outsAt0 m c t.val t.isLt).1 (eq_ix2 y)).trans ((outs2 c m t (y 0) (y 1)).1.trans (congrArg _ (o1_congr c m e.1 e.2)))

theorem array6 (i : S8192x1024.Idx) : ((dats m 0 c).arrAt 6 cfg0.N i : EReal) = o1 c m (i 0) (i 1) := by
  refine (dats m 0 c).arrAt_forall_of_covers 6 (fun i v => (v : EReal) = o1 c m (i 0) (i 1)) (by decide +kernel) (fun t hf y => ?_) i
  blk_simp
  rw [after0_6]
  have e := down (walk t).2.2.2.2 (y 0).val (y 1).val
  exact (congrArg (outsAt0 m c t.val t.isLt).2.1 (eq_ix2 y)).trans ((outs2 c m t (y 0) (y 1)).2.trans (o1_congr c m e.1 e.2))

theorem flush (t : Fin cfg0.N) : ((cfg0.win 7).flush t = true → t.val = 31) ∧ ((cfg0.win 8).flush t = true → t.val = 31) :=
  (by decide +kernel : ∀ t : Fin grid0.N, ((cfg0.win 7).flush t = true → t.val = 31) ∧ ((cfg0.win 8).flush t = true → t.val = 31)) t

theorem array7 (i : S1x1024.Idx) : ((dats m 0 c).arrAt 7 cfg0.N i : EReal) = ∑ s, g1 c m (i 1) s := by
  refine (dats m 0 c).arrAt_forall_of_covers 7 (fun i v => (v : EReal) = ∑ s, g1 c m (i 1) s) (by decide +kernel) (fun t hf y => ?_) i
  blk_simp
  rw [after0_7]
  obtain ⟨a, k, rfl⟩ : ∃ (a : Fin 1) (k : Fin 1024), y = ix2 a k := ⟨y 0, y 1, eq_ix2 y⟩
  obtain rfl : a = 0 := Subsingleton.elim _ _
  exact (last c m t k ((flush t).1 hf)).1.trans (congrArg (fun k => ∑ s, g1 c m k s) (Fin.ext (same (stay t).2.1 k.val).symm))

theorem array8 (i : S1x1024.Idx) : ((dats m 0 c).arrAt 8 cfg0.N i : EReal) = ∑ s, g2 c m (i 1) s := by
  refine (dats m 0 c).arrAt_forall_of_covers 8 (fun i v => (v : EReal) = ∑ s, g2 c m (i 1) s) (by decide +kernel) (fun t hf y => ?_) i
  blk_simp
  rw [after0_8]
  obtain ⟨a, k, rfl⟩ : ∃ (a : Fin 1) (k : Fin 1024), y = ix2 a k := ⟨y 0, y 1, eq_ix2 y⟩
  obtain rfl : a = 0 := Subsingleton.elim _ _
  exact (last c m t k ((flush t).2 hf)).2.trans (congrArg (fun k => ∑ s, g2 c m k s) (Fin.ext (same (stay t).2.2 k.val).symm))

/-! ## Both -/

section
variable (m : (ℓ : Loc Cert.Reference28Ideal.nD Cert.Reference28Ideal.τ Cert.Reference28Ideal.sig) → Buf (Elt Ideal) ℓ) (ρ : Dev Cert.Reference28Ideal.nD → PrngReg)
  (c : Dev Cert.Reference28Ideal.nD)

/-- The output's gradient, the residual and the gain of the reference's memory. -/
def dyOf : FVec Ideal S8192x1024 .f32 :=
  addf (F := Ideal) (φ := .f32) (s := S8192x1024) (m ((c.tc : Thread _ _).loc Cert.Reference28Ideal.main_arg0)) (m ((c.tc : Thread _ _).loc Cert.Reference28Ideal.main_arg1))
def resOf : FVec Ideal S8192x1024 .f32 := resH (m ((c.tc : Thread _ _).loc Cert.Reference28Ideal.main_arg2)) (m ((c.tc : Thread _ _).loc Cert.Reference28Ideal.main_arg3))
def wOf : FVec Ideal S1x1024 .f32 := m ((c.tc : Thread _ _).loc Cert.Reference28Ideal.main_arg4)

/-- The reference's two larger results are the half-step's, of this residual. -/
theorem ref1 : Cert.Reference28Ideal.Value.res_main_v63 (F := Ideal) m c = scaledH (dyOf m c) (resOf m c) (wOf m c) := by
  unfold Cert.Reference28Ideal.Value.res_main_v63
  rfl

theorem ref2 : Cert.Reference28Ideal.Value.res_main_v64 (F := Ideal) m c = truncf .bf16 (outH (dyOf m c) (resOf m c) (wOf m c)) Cert.Reference28Ideal.Gen.bitsLt_bf16_f32 := by
  unfold Cert.Reference28Ideal.Value.res_main_v64
  rfl

end

/-- The run leaves what the reference computes. -/
theorem algebraic : Cert.algebraic_Kernel28Ideal_Reference28Ideal := by
  intro m ρ m' ρ' _ hagree
  refine ⟨fun c => (dats m 0 c).arrAt 5 cfg0.N, fun c => (dats m 0 c).arrAt 6 cfg0.N, fun c => (dats m 0 c).arrAt 7 cfg0.N, fun c => (dats m 0 c).arrAt 8 cfg0.N,
    run_blocks (F := Ideal) m ρ, (θ_run Cert.Reference28Ideal.defs _ _).mono (fun _ h c => ?_) (Cert.Reference28Ideal.Value.run (F := Ideal) m' ρ')⟩
  obtain ⟨h1, h2, h3, h4, hk⟩ := h c
  have h3' := h3.trans (show _ = colSum (gainH (dyOf m' c) (resOf m' c)) from rfl)
  have h4' := h4.trans (show _ = colSum (dyOf m' c) from rfl)
  have ed : ∀ s, rowOf (dyOf m' c) s = dy c m s := fun s => funext fun k =>
    congrArg₂ (fun a b : EReal => a + b) (congrFun (hagree c).1 (ix2 s k)) (congrFun (hagree c).2.1 (ix2 s k))
  have ex : ∀ s, rowOf (resOf m' c) s = xr c m s := fun s => funext fun k =>
    congrFun (congrArg₂ resH (hagree c).2.2.1 (hagree c).2.2.2.1) (ix2 s k)
  have ew : (fun k => wOf m' c (ix2 0 k)) = wr c m := funext fun k => congrFun (hagree c).2.2.2.2.1 (ix2 0 k)
  refine ⟨(h1.trans (ref1 m' c)).trans (funext fun i => ?_), (h2.trans (ref2 m' c)).trans (funext fun i => ?_), h3'.trans (funext fun i => ?_), h4'.trans (funext fun i => ?_), hk⟩
  · obtain ⟨s, n, rfl⟩ : ∃ (s : Fin 8192) (n : Fin 1024), i = ix2 s n := ⟨i 0, i 1, eq_ix2 i⟩
    refine (scaledH_at _ _ _ _ _).trans (Eq.trans ?_ (array5 c m (ix2 s n)).symm)
    rw [ed, ex, ew]
    rfl
  · obtain ⟨s, n, rfl⟩ : ∃ (s : Fin 8192) (n : Fin 1024), i = ix2 s n := ⟨i 0, i 1, eq_ix2 i⟩
    refine (outH_at _ _ _ _ _).trans (Eq.trans ?_ (array6 c m (ix2 s n)).symm)
    rw [ed, ex, ew]
    rfl
  · obtain ⟨a, k, rfl⟩ : ∃ (a : Fin 1) (k : Fin 1024), i = ix2 a k := ⟨i 0, i 1, eq_ix2 i⟩
    obtain rfl : a = 0 := Subsingleton.elim _ _
    refine (colSum_at _ _).trans (Eq.trans (sum_congr rfl fun s _ => (gainH_at _ _ _ _).trans ?_) (array7 c m (ix2 0 k)).symm)
    rw [ed, ex]
    rfl
  · obtain ⟨a, k, rfl⟩ : ∃ (a : Fin 1) (k : Fin 1024), i = ix2 a k := ⟨i 0, i 1, eq_ix2 i⟩
    obtain rfl : a = 0 := Subsingleton.elim _ _
    exact (colSum_at _ _).trans (Eq.trans (sum_congr rfl fun s _ => congrFun (ed s) k) (array8 c m (ix2 0 k)).symm)

end Cert.Ln2
-- ==== Proof.ConvBody.lean ====
/-
  The short convolution: what the body leaves in its block, and an element of it.
-/
module

public import proofs.«01_k».proof.Proof.Matmul
public import proofs.«01_k».proof.Proof.Gen.Kernel29Ideal.Value

@[expose] public section

set_option maxRecDepth 16384

noncomputable section

namespace Cert.Conv

open Cert.Kernel29Ideal Cert.Kernel29Ideal.Gen Cert.Kernel29Ideal.Value
open Idealize.ShloMosaic Idealize.ShloMosaic.TcCoe
open Idealize.SL Idealize.SL.Sem

section
variable {F : FTy → Type} [FloatOps F]

theorem hz : (![0, 0] : Fin 2 → Nat) = fun _ => 0 := funext fun a => by fin_cases a <;> rfl

variable (c : Dev nD) (i : grid0.Coords) (arg1 : Memref sig .tc .vmem S256x1536 .f32) (h1 : arg1.IsWhole) (arg2 : Memref sig .tc .vmem S8x1536 .f32) (h2 : arg2.IsWhole)
  (arg3 : Memref sig .tc .vmem S4x1536 .f32) (h3 : arg3.IsWhole) (arg4 : Memref sig .tc .vmem S256x1536 .f32) (h4 : arg4.IsWhole)
  (x0 : Vec F S256x1536 .f32) (x1 : Vec F S8x1536 .f32) (x2 : Vec F S4x1536 .f32)

/-- The body's one store covers its block. -/
theorem left : out0_A_3 c i arg1 h1 arg2 h2 arg3 h3 arg4 h4 x0 x1 x2
    = k0_pay1 i x1 x0 (View.ld x2 (Rect.unit (s := S4x1536) ![0, 0] S1x1536.size inb_S4x1536_S1x1536_0_0)) (View.ld x2 (Rect.unit (s := S4x1536) ![1, 0] S1x1536.size inb_S4x1536_S1x1536_1_0))
      (View.ld x2 (Rect.unit (s := S4x1536) ![2, 0] S1x1536.size inb_S4x1536_S1x1536_2_0)) (View.ld x2 (Rect.unit (s := S4x1536) ![3, 0] S1x1536.size inb_S4x1536_S1x1536_3_0)) := by
  refine (View.read_writes_eq_canon _ _ _ (cover0_A_3 c i arg1 h1 arg2 h2 arg3 h3 arg4 h4 x0 x1 x2)).trans ?_
  unfold kernelRun0_A
  dsimp only
  sl_unfold_words
  rw [View.canon_unit_zero hz]
  simp only [View.readAt_eq_ld, h1.read_unread, h2.read_unread, h3.read_unread,
    View.ld_unit_zero (S := S256x1536) hz, View.ld_unit_zero (S := S8x1536) hz]

end

/-- The four taps' sum, and its product with its own sigmoid. -/
def taps (w0 a0 w1 a1 w2 a2 w3 a3 : EReal) : EReal := w0 * a0 + w1 * a1 + w2 * a2 + w3 * a3
def act (y : EReal) : EReal := y * Ideal.div 1 (1 + Ideal.exp (-y))

/-- What the body takes for the row `d` rows above a row of its block: of the eight rows before the block where it lies above it. -/
def above (i : grid0.Coords) (p : S8x1536.Idx → EReal) (x : S256x1536.Idx → EReal) (r : Fin 256) (d : ℕ) (n : Fin 1536) : EReal :=
  if h : (8 + r.val + 264 - d) % 264 < 8 then
    Scalar.select (Scalar.cmpi CmpIPredicate.sgt (BitVec.ofNat 32 (i 0).val) 0#32) (p (ix2 ⟨(8 + r.val + 264 - d) % 264, h⟩ n)) 0
  else x (ix2 ⟨(8 + r.val + 264 - d) % 264 - 8, by have := Nat.mod_lt (8 + r.val + 264 - d) (show 0 < 264 by omega); omega⟩ n)

theorem block_at (i : grid0.Coords) (p : Vec Ideal S8x1536 .f32) (x : Vec Ideal S256x1536 .f32) (w0 w1 w2 w3 : Vec Ideal S1x1536 .f32) (r : Fin 256) (n : Fin 1536) :
    (k0_pay1 (F := Ideal) i p x w0 w1 w2 w3 : S256x1536.Idx → EReal) (ix2 r n)
      = act (taps (w0 (ix2 0 n)) (above i p x r 3 n) (w1 (ix2 0 n)) (above i p x r 2 n) (w2 (ix2 0 n)) (above i p x r 1 n) (w3 (ix2 0 n)) (x (ix2 r n))) := by
  pointwise [k0_pay1]
  rw [zero_sub]
  rfl

end Cert.Conv
-- ==== Proof.ConvFwd.lean ====
/-
  The short convolution and its activation: what the call leaves, and that the reference computes
  the same.
-/
module

public import proofs.«01_k».proof.Proof.ConvBody
public import proofs.«01_k».proof.Proof.Gen.Reference29Ideal.Run
public import proofs.«01_k».proof.Defs

@[expose] public section

set_option maxRecDepth 16384

noncomputable section

namespace Cert.Conv

open Cert.Kernel29Ideal Cert.Kernel29Ideal.Gen Cert.Kernel29Ideal.Value Cert.Mm
open Idealize.ShloMosaic Idealize.ShloMosaic.TcCoe
open Idealize.SL Idealize.SL.Sem

/-- The element `d` rows up a column, zero above its top. -/
def past (x : Fin 8192 → EReal) (s d : ℕ) : EReal := if h : d ≤ s ∧ s - d < 8192 then x ⟨s - d, h.2⟩ else 0

theorem later : ∀ t : Fin 32, Scalar.cmpi CmpIPredicate.sgt (BitVec.ofNat 32 t.val) 0#32 = if 0 < t.val then 1#1 else 0#1 := by decide +kernel

/-- The body takes the rows of the column itself, its block and the rows before it given. -/
theorem above_eq (X : Fin 8192 → EReal) (i : grid0.Coords) (t : ℕ) (ht : t < 32) (hi : (i 0).val = t)
    (p : S8x1536.Idx → EReal) (x : S256x1536.Idx → EReal) (r : Fin 256) (d : ℕ) (hd : d ≤ 8) (n : Fin 1536)
    (hx : ∀ (e : Fin 256) (q : Fin 8192), q.val = 256 * t + e.val → x (ix2 e n) = X q)
    (hp : 0 < t → ∀ (e : Fin 8) (q : Fin 8192), q.val + 8 = 256 * t + e.val → p (ix2 e n) = X q) :
    above i p x r d n = past X (256 * t + r.val) d := by
  have hr := r.isLt
  unfold above past
  rw [hi]
  rcases Nat.lt_or_ge r.val d with h | h
  · have e : (8 + r.val + 264 - d) % 264 = 8 + r.val - d := by omega
    rw [dif_pos (by omega), later ⟨t, ht⟩]
    rcases Nat.eq_zero_or_pos t with h0 | h0
    · rw [if_neg (by show ¬ 0 < t; omega), dif_neg (by omega)]; rfl
    · rw [if_pos h0, dif_pos (by omega)]
      exact hp h0 _ _ (by show 256 * t + r.val - d + 8 = 256 * t + (8 + r.val + 264 - d) % 264; omega)
  · rw [dif_neg (by omega), dif_pos (by omega)]
    exact hx _ _ (by show 256 * t + r.val - d = 256 * t + ((8 + r.val + 264 - d) % 264 - 8); omega)

theorem taps_congr {w0 a0 w1 a1 w2 a2 w3 a3 w0' a0' w1' a1' w2' a2' w3' a3' : EReal} (e0 : w0 = w0') (f0 : a0 = a0') (e1 : w1 = w1') (f1 : a1 = a1')
    (e2 : w2 = w2') (f2 : a2 = a2') (e3 : w3 = w3') (f3 : a3 = a3') :
    act (taps w0 a0 w1 a1 w2 a2 w3 a3) = act (taps w0' a0' w1' a1' w2' a2' w3' a3') := by
  subst e0 f0 e1 f1 e2 f2 e3 f3; rfl

variable (c : Dev nD) (m : (ℓ : Loc nD τ sig) → Buf (Elt Ideal) ℓ)

theorem index0_0 : ∀ t : Fin cfg0.N, win0_0.index t = ![t.val, 0] := (by decide +kernel : ∀ t : Fin grid0.N, _)
theorem index0_1 : ∀ t : Fin cfg0.N, win0_1.index t = ![32 * t.val - 1, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![t.val, 0] := (by decide +kernel : ∀ t : Fin grid0.N, _)
theorem coords0 : ∀ t : Fin cfg0.N, (grid0.coords t 0).val = t.val := (by decide +kernel : ∀ t : Fin grid0.N, _)

theorem lt32 (t : Fin cfg0.N) : t.val < 32 := lt_of_lt_of_eq t.isLt N_0

/-- The row of the arrays that a row of a block is. -/
def at_ (t : Fin cfg0.N) (r : Fin 256) : Fin 8192 := ⟨256 * t.val + r.val, by have := lt32 t; omega⟩

/-- The operands: the rows, and the four taps' weights. -/
def opX : S8192x2048.Idx → EReal := m ((c : Thread nD τ).loc main_arg0)
def opW : S4x1536.Idx → EReal := m ((c : Thread nD τ).loc main_arg1)

/-- A column of the rows, and the activated sum of its four last elements. -/
def col (n : Fin 1536) (s : Fin 8192) : EReal := opX c m (ix2 s ⟨n.val, by have := n.isLt; omega⟩)
def conv (s : Fin 8192) (n : Fin 1536) : EReal :=
  act (taps (opW c m (ix2 0 n)) (past (col c m n) s.val 3) (opW c m (ix2 1 n)) (past (col c m n) s.val 2)
    (opW c m (ix2 2 n)) (past (col c m n) s.val 1) (opW c m (ix2 3 n)) (col c m n s))

/-- The blocks that a grid point stages. -/
def st0 (t : Fin cfg0.N) : S256x1536.Idx → EReal := X0_0 m c t
def st1 (t : Fin cfg0.N) : S8x1536.Idx → EReal := X0_1 m c t
def st2 (t : Fin cfg0.N) : S4x1536.Idx → EReal := iblk m c 2 t

variable (t : Fin cfg0.N) (n : Fin 1536)

theorem blk0 (e : Fin 256) (q : Fin 8192) (h : q.val = 256 * t.val + e.val) : st0 c m t (ix2 e n) = col c m n q := by
  unfold st0 X0_0 Pipeline.Window.fill
  rw [dif_pos (moved0_0 t _)]
  refine Eq.trans (b := opX c m _) (congrFun (V_main_arg0 m c) _) (congrArg (opX c m) (pos2 _ _ _ ?_ ?_))
  · show win0_0.index t 0 * 256 + 1 * e.val = q.val; rw [index0_0]; show t.val * 256 + 1 * e.val = _; omega
  · show win0_0.index t 1 * 1536 + 1 * n.val = n.val; rw [index0_0]; show 0 * 1536 + 1 * n.val = _; omega

theorem blk1 (ht : 0 < t.val) (e : Fin 8) (q : Fin 8192) (h : q.val + 8 = 256 * t.val + e.val) : st1 c m t (ix2 e n) = col c m n q := by
  unfold st1 X0_1 Pipeline.Window.fill
  rw [dif_pos (moved0_1 t _)]
  refine Eq.trans (b := opX c m _) (congrFun (V_main_arg0 m c) _) (congrArg (opX c m) (pos2 _ _ _ ?_ ?_))
  · show win0_1.index t 0 * 8 + 1 * e.val = q.val; rw [index0_1]; show (32 * t.val - 1) * 8 + 1 * e.val = _; omega
  · show win0_1.index t 1 * 1536 + 1 * n.val = n.val; rw [index0_1]; show 0 * 1536 + 1 * n.val = _; omega

theorem blk2 (j : Fin 4) : st2 c m t (ix2 j n) = opW c m (ix2 j n) := by
  refine (congrFun (V_main_arg1 m c) _).trans (congrArg (opW c m) (pos2 _ _ _ ?_ ?_))
  · show win0_2.index t 0 * 4 + 1 * j.val = j.val; rw [index0_2]; show 0 * 4 + 1 * j.val = _; omega
  · show win0_2.index t 1 * 1536 + 1 * n.val = n.val; rw [index0_2]; show 0 * 1536 + 1 * n.val = _; omega

/-- A row of the weights, loaded alone. -/
theorem tap_at (j : ℕ) (hj : j < 4) (hb : ∀ a, (![j, 0] : Fin 2 → ℕ) a + S1x1536.size a ≤ S4x1536.size a) :
    (View.ld (iblk m c 2 t : Vec Ideal S4x1536 .f32) (Rect.unit (s := S4x1536) ![j, 0] S1x1536.size hb) : S1x1536.Idx → EReal) (ix2 0 n)
      = opW c m (ix2 ⟨j, hj⟩ n) := by
  refine Eq.trans (congrArg (st2 c m t) (pos2 _ ⟨j, hj⟩ n ?_ ?_)) (blk2 c m t n ⟨j, hj⟩)
  · show j + 1 * 0 = j; omega
  · show 0 + 1 * n.val = n.val; omega

theorem row_above (r : Fin 256) (d : ℕ) (hd : d ≤ 8) :
    above (grid0.coords t) (st1 c m t) (st0 c m t) r d n = past (col c m n) (256 * t.val + r.val) d :=
  above_eq (col c m n) (grid0.coords t) t.val (lt32 t) (coords0 t) _ _ r d hd n (blk0 c m t n) (blk1 c m t n)

/-- The array after the run. -/
theorem result (i : S8192x1536.Idx) : ((dats m 0 c).arrAt 3 cfg0.N i : EReal) = conv c m (i 0) (i 1) := by
  refine (dats m 0 c).arrAt_forall_of_covers 3 (fun i v => (v : EReal) = conv c m (i 0) (i 1)) (by decide +kernel) (fun t hf y => ?_) i
  blk_simp
  rw [after0_3]
  unfold outsAt0
  rw [left]
  rw [eq_ix2 y]
  refine (block_at _ _ _ _ _ _ _ _ _).trans (Eq.trans (b := conv c m (at_ t (y 0)) (y 1)) ?_ (congrArg₂ (conv c m) (Fin.ext ?_) (Fin.ext ?_)))
  · exact taps_congr (tap_at c m t _ 0 (by omega) _) (row_above c m t _ _ 3 (by omega)) (tap_at c m t _ 1 (by omega) _) (row_above c m t _ _ 2 (by omega))
      (tap_at c m t _ 2 (by omega) _) (row_above c m t _ _ 1 (by omega)) (tap_at c m t _ 3 (by omega) _) (blk0 c m t _ _ _ rfl)
  · show 256 * t.val + (y 0).val = win0_3.index t 0 * 256 + 1 * (y 0).val; rw [index0_3]; show _ = t.val * 256 + 1 * (y 0).val; omega
  · show (y 1).val = win0_3.index t 1 * 1536 + 1 * (y 1).val; rw [index0_3]; show _ = 0 * 1536 + 1 * (y 1).val; omega

theorem sitofp_zero : (FloatOps.sitofp (F := Ideal) FTy.f32 (0#32) : EReal) = 0 := by
  show (((0#32 : BitVec 32).toInt : ℝ) : EReal) = 0
  simp

/-- The padded column read at a tap's offset. -/
theorem padded (x : Fin 8192 → EReal) (s : Fin 8192) (k d : ℕ) (hk : k + d = 3 + s.val) :
    (if h : 3 ≤ k ∧ k - 3 < 8192 then x ⟨k - 3, h.2⟩ else (FloatOps.sitofp (F := Ideal) FTy.f32 (0#32) : EReal)) = past x s.val d := by
  have hs := s.isLt
  unfold past
  rcases Nat.lt_or_ge s.val d with h | h
  · rw [dif_neg (by omega), dif_neg (by omega), sitofp_zero]
  · rw [dif_pos (by omega), dif_pos (by omega)]
    exact congrArg x (Fin.ext (by show k - 3 = s.val - d; omega))

/-- The run leaves what the reference computes. -/
theorem algebraic : Cert.algebraic_Kernel29Ideal_Reference29Ideal := by
  intro m ρ m' ρ' _ hagree
  refine ⟨fun c => (dats m 0 c).arrAt 3 cfg0.N, run_blocks (F := Ideal) m ρ,
    (θ_run Cert.Reference29Ideal.defs _ _).mono (fun _ h c => ⟨(h c).1.trans (funext fun i => ?_), (h c).2⟩) (Cert.Reference29Ideal.Value.run (F := Ideal) m' ρ')⟩
  obtain ⟨s, n, rfl⟩ : ∃ (s : Fin 8192) (n : Fin 1536), i = ix2 s n := ⟨i 0, i 1, eq_ix2 i⟩
  refine Eq.trans ?_ (result c m (ix2 s n)).symm
  unfold Cert.Reference29Ideal.Value.res_main_v31
  pointwise []
  rw [(hagree c).1, (hagree c).2]
  refine Eq.trans ?_ (taps_congr rfl (padded (col c m n) s s.val 3 (by omega)) rfl (padded (col c m n) s (1 + s.val) 2 (by omega)) rfl (padded (col c m n) s (2 + s.val) 1 (by omega)) rfl rfl)
  rfl

end Cert.Conv
-- ==== Proof.Model.lean ====
/-
  The mathematics of the stick breaking attention's gradients over the real numbers, for one pair of heads: the logits,
  the log failures, the weights, and the gradients of the logits, each indexed by natural numbers (head of the pair, query,
  key, lane). And the few facts by which arrays of extended reals hold such numbers.
-/
module

public import Idealize.ShloMosaic.Lib.Pointwise

@[expose] public section

noncomputable section

namespace Cert.SbBwd

open Idealize.ShloMosaic
open Finset

/-! ## Real numbers among the extended reals -/

theorem coe_sum_range (n : ℕ) (f : ℕ → ℝ) : ((∑ i ∈ range n, f i : ℝ) : EReal) = ∑ i ∈ range n, (f i : EReal) := by
  induction n with
  | zero => simp
  | succ n ih => rw [sum_range_succ, sum_range_succ, EReal.coe_add, ih]

theorem sum_coe (n : ℕ) (f : ℕ → ℝ) : ∑ x : Fin n, ((f x.val : ℝ) : EReal) = ((∑ i ∈ range n, f i : ℝ) : EReal) := by
  rw [coe_sum_range, Finset.sum_range]

theorem max_coe (x y : ℝ) : max (x : EReal) (y : EReal) = ((max x y : ℝ) : EReal) := (EReal.coe_strictMono.monotone.map_max).symm

theorem abs_coe (x : ℝ) : max (x : EReal) (-(x : EReal)) = ((|x| : ℝ) : EReal) := by
  rw [← EReal.coe_neg, max_coe]; rfl

theorem log_pos_coe (x : ℝ) (h : 0 < x) : Ideal.log (x : EReal) = ((Real.log x : ℝ) : EReal) := by
  rw [Ideal.log_coe, if_neg (not_le.mpr h)]

theorem ofBits_eighth : Ideal.ofBits .f32 0x3E000000#32 = (((1 : ℝ) / 8 : ℝ) : EReal) := by
  simp [Ideal.ofBits, Ideal.ieee]
  rw [← EReal.coe_mul]
  norm_num

/-- The log of one plus the exponential. -/
def sp (x : ℝ) : ℝ := max x 0 + Real.log (1 + Real.exp (-|x|))

theorem log_one_add_exp (x : ℝ) : Ideal.log (1 + Ideal.exp (x : EReal)) = ((Real.log (1 + Real.exp x) : ℝ) : EReal) := by
  rw [Ideal.exp_coe, ← EReal.coe_one, ← EReal.coe_add, log_pos_coe]
  positivity

/-- A matrix of extended reals holds the numbers `f`, by row and column. -/
def Holds {n m : ℕ} {φ : FTy} (x : FVec Ideal ⟨2, ![n, m]⟩ φ) (f : ℕ → ℕ → ℝ) : Prop :=
  ∀ (r : Fin n) (c : Fin m), x (ix2 r c) = ((f r.val c.val : ℝ) : EReal)

theorem Holds.congr {n m : ℕ} {φ : FTy} {x : FVec Ideal ⟨2, ![n, m]⟩ φ} {f g : ℕ → ℕ → ℝ} (h : Holds x f)
    (e : ∀ r c, r < n → c < m → f r c = g r c) : Holds x g := fun r c => (h r c).trans (by rw [e _ _ r.isLt c.isLt])

/-! ## The model -/

/-- One pair of heads: queries, keys, values and the incoming gradient, by position and lane. -/
structure Mdl where
  q : ℕ → ℕ → ℝ
  k : ℕ → ℕ → ℝ
  v : ℕ → ℕ → ℝ
  o : ℕ → ℕ → ℝ

/-- The lanes of head `h` of the pair, the others zero. -/
def lanes (h : ℕ) (x : ℕ → ℕ → ℝ) (s d : ℕ) : ℝ := if d / 64 = h then x s d else 0

namespace Mdl

variable (M : Mdl)

/-- The logit of query `t` and key `s` under head `h`. -/
def z (h t s : ℕ) : ℝ := ∑ d ∈ range 128, (M.q t d * (1 / 8)) * lanes h M.k s d

/-- The log failure. -/
def lf (h t s : ℕ) : ℝ := if s < t then -sp (M.z h t s) else 0

/-- The sum of a query's log failures. -/
def tot (h t : ℕ) : ℝ := ∑ s ∈ range 8192, M.lf h t s

/-- The weight. -/
def w (h t s : ℕ) : ℝ :=
  if s < t then Real.exp (M.z h t s + M.lf h t s + (M.tot h t - ∑ x ∈ range (s + 1), M.lf h t x)) else 0

/-- The gradient of the weight. -/
def u (h t s : ℕ) : ℝ := ∑ d ∈ range 128, M.o t d * lanes h M.v s d

/-- The gradient of the weight's logarithm. -/
def g (h t s : ℕ) : ℝ := M.u h t s * M.w h t s

/-- The logistic function of the logit. -/
def sg (h t s : ℕ) : ℝ := Real.exp (M.z h t s + -sp (M.z h t s))

/-- The gradient of the logit. -/
def dz (h t s : ℕ) : ℝ := if s < t then M.g h t s - M.sg h t s * ∑ x ∈ range (s + 1), M.g h t x else 0

theorem w_zero {h t s : ℕ} (hs : ¬ s < t) : M.w h t s = 0 := if_neg hs
theorem g_zero {h t s : ℕ} (hs : ¬ s < t) : M.g h t s = 0 := by unfold g; rw [M.w_zero hs, mul_zero]
theorem dz_zero {h t s : ℕ} (hs : ¬ s < t) : M.dz h t s = 0 := if_neg hs

end Mdl

/-! ## Sums over the columns of a tile -/

/-- The sum over a tile's 512 columns, by head and key. -/
theorem sum_cols (F : ℕ → ℕ → ℝ) : ∑ c ∈ range 512, F (c / 256) (c % 256) = ∑ x ∈ range 256, F 0 x + ∑ x ∈ range 256, F 1 x := by
  rw [show (512 : ℕ) = 256 + 256 from rfl, sum_range_add]
  refine congrArg₂ _ (sum_congr rfl fun x hx => ?_) (sum_congr rfl fun x hx => ?_) <;> rw [mem_range] at hx
  · rw [Nat.div_eq_of_lt hx, Nat.mod_eq_of_lt hx]
  · rw [show (256 + x) / 256 = 1 by omega, show (256 + x) % 256 = x by omega]

/-- The sum over the keys of a tile up to one, as the product with the matrix of ones states it. -/
theorem sum_upto (F : ℕ → ℕ → ℝ) {c : ℕ} (hc : c < 512) :
    ∑ x ∈ range 512, F (x / 256) (x % 256) * (if x / 256 % 2 = c / 256 ∧ x % 256 ≤ c % 256 then 1 else 0)
      = ∑ x ∈ range (c % 256 + 1), F (c / 256) x := by
  have hh : c / 256 = 0 ∨ c / 256 = 1 := by omega
  have hk : c % 256 + 1 ≤ 256 := by omega
  have key : ∀ f : ℕ → ℝ, ∑ x ∈ range 256, f x * (if x ≤ c % 256 then 1 else 0) = ∑ x ∈ range (c % 256 + 1), f x := by
    intro f
    rw [← sum_subset (range_subset_range.mpr hk) (fun x _ hx => by
      rw [mem_range, not_lt] at hx
      rw [if_neg (by omega), mul_zero])]
    refine sum_congr rfl fun x hx => ?_
    rw [mem_range] at hx
    rw [if_pos (by omega), mul_one]
  refine (sum_cols (fun h x => F h x * (if h % 2 = c / 256 ∧ x ≤ c % 256 then 1 else 0))).trans ?_
  rcases hh with h | h <;> rw [h] <;> simpa using key _

/-- A running sum goes on through the next tile. -/
theorem sum_tile (f : ℕ → ℝ) (n x : ℕ) : ∑ s ∈ range n, f s + ∑ y ∈ range x, f (n + y) = ∑ s ∈ range (n + x), f s :=
  (sum_range_add f n x).symm

end Cert.SbBwd

end
-- ==== Proof.Finite.lean ====
/-
  The precondition, that every element of the arguments is finite: then the arguments hold real numbers.
-/
module

public import proofs.«01_k».proof.Pre_finite
public import proofs.«01_k».proof.Proof.Model
public import Idealize.ShloMosaic.Lib.ReduceAll

@[expose] public section

noncomputable section

namespace Cert.SbBwd

open Idealize.ShloMosaic

instance pre_finite_facts : Cert.Pre_finite.Facts := by constructor <;> decide

theorem bits_inf : Ideal.ofBits .f32 0x7F800000#32 = (⊤ : EReal) := by simp [Ideal.ofBits, Ideal.ieee]

/-- A number whose absolute value is below infinity is real. -/
theorem real_of_abs_lt {y : EReal} (h : max y (-y) < ⊤) : y = ((y.toReal : ℝ) : EReal) := by
  refine (EReal.coe_toReal ?_ ?_).symm
  · rintro rfl; simp at h
  · rintro rfl; simp at h

theorem ofBool_one {b : Bool} (h : BitVec.ofBool b = 1#1) : b = true := by cases b <;> simp_all

/-- The real numbers of a matrix. -/
def reals {n m : ℕ} (x : FVec Ideal ⟨2, ![n, m]⟩ .bf16) (r c : ℕ) : ℝ :=
  if h : r < n ∧ c < m then EReal.toReal (x (ix2 ⟨r, h.1⟩ ⟨c, h.2⟩)) else 0

theorem holds_reals {n m : ℕ} {x : FVec Ideal ⟨2, ![n, m]⟩ .bf16} (hx : ∀ r c, x (ix2 r c) = ((EReal.toReal (x (ix2 r c)) : ℝ) : EReal)) :
    Holds x (reals x) := fun r c => (hx r c).trans (by rw [reals, dif_pos ⟨r.isLt, c.isLt⟩])

open Cert.Pre_finite in
theorem finite_args (x : FVec Ideal S8192x1536 .bf16) (o : FVec Ideal S8192x512 .bf16) (h : Cert.Pre_finite.fn x o = fun _ => 1#1) :
    Holds (n := 8192) (m := 1536) x (reals (n := 8192) (m := 1536) x) ∧ Holds (n := 8192) (m := 512) o (reals (n := 8192) (m := 512) o) := by
  haveI : Subsingleton S_.Idx := ⟨fun a b => funext fun k => k.elim0⟩
  obtain ⟨h0, h1⟩ := IntOp.andi_eq_one.1 (congrFun h (fun k => k.elim0))
  refine ⟨holds_reals fun r c => real_of_abs_lt ?_, holds_reals fun r c => real_of_abs_lt ?_⟩
  · have e := Host.reduce_andi_all _ _ _ _ _ h0 (ix2 r c)
    rw [← bits_inf]
    exact of_decide_eq_true (ofBool_one e)
  · have e := Host.reduce_andi_all _ _ _ _ _ h1 (ix2 r c)
    rw [← bits_inf]
    exact of_decide_eq_true (ofBool_one e)

end Cert.SbBwd

end
-- ==== Proof.FfnAct.lean ====
/-
  The derivative of the gated activation: what the call leaves, and that for finite arguments the reference computes the same.
-/
module

public import proofs.«01_k».proof.Proof.FfnActRef
public import proofs.«01_k».proof.Proof.Finite
public import proofs.«01_k».proof.Proof.Gen.Kernel2Ideal.Value
public import proofs.«01_k».proof.Defs
public import Idealize.ShloMosaic.Lib.Pipeline.ValueKit.Geometry

@[expose] public section

set_option maxRecDepth 16384

noncomputable section

namespace Cert.FfnAct

open Cert.Kernel2Ideal Cert.Kernel2Ideal.Gen Cert.Kernel2Ideal.Value
open Cert.FfnUp (elt saved)
open Idealize.ShloMosaic Idealize.ShloMosaic.TcCoe Idealize.ShloMosaic.StableHlo
open Idealize.SL Idealize.SL.Sem
open Finset

theorem hz : (![0, 0] : Fin 2 → Nat) = fun _ => 0 := funext fun a => by fin_cases a <;> rfl
theorem hz3 : (![0, 0, 0] : Fin 3 → Nat) = fun _ => 0 := funext fun a => by fin_cases a <;> rfl

/-! ## What the body leaves in a block -/

section
variable (x : Vec Ideal S1024x1024 .bf16) (y : Vec Ideal S1x704x1024 .bf16) (g u : Vec Ideal S1x1x1024x704 .bf16) (r : Fin 1024) (n : Fin 704)

/-- One element of the product of two blocks. -/
def belt (x : S1024x1024.Idx → EReal) (y : S1x704x1024.Idx → EReal) (r : Fin 1024) (n : Fin 704) : EReal := ∑ e : Fin 1024, x (ix2 r e) * y (ix3 0 n e)

/-- The gradients as the body computes them. -/
def bodyG (a g u : EReal) : EReal := a * u * (sg g * (1 + g * (1 - sg g)))
def bodyU (a g : EReal) : EReal := a * (g * sg g)

theorem pay2_at : (k0_pay2 (F := Ideal) x y : S1024x704.Idx → EReal) (ix2 r n) = belt x y r n := by
  pointwise [k0_pay2]
  rfl

theorem pay3_at : (k0_pay3 (F := Ideal) g : S1024x704.Idx → EReal) (ix2 r n) = g (ix4 0 0 r n) := by
  pointwise [k0_pay3]

theorem pay4_at : (k0_pay4 (F := Ideal) g : S1024x704.Idx → EReal) (ix2 r n) = sg (g (ix4 0 0 r n)) := by
  refine Eq.trans ?_ (congrArg sg (pay3_at g r n))
  pointwise [k0_pay4]
  rw [zero_sub]
  rfl

theorem pay5_at : (k0_pay5 (F := Ideal) x y g u : S1x1x1024x704.Idx → EReal) (ix4 0 0 r n) = bodyG (belt x y r n) (g (ix4 0 0 r n)) (u (ix4 0 0 r n)) := by
  unfold bodyG
  rw [← pay4_at, ← pay2_at, ← pay3_at g r n]
  pointwise [k0_pay5]

theorem pay1_at : (k0_pay1 (F := Ideal) (k0_pay6 x y g) : S1x1x1024x704.Idx → EReal) (ix4 0 0 r n) = bodyU (belt x y r n) (g (ix4 0 0 r n)) := by
  unfold bodyU
  rw [← pay4_at, ← pay2_at, ← pay3_at g r n]
  pointwise [k0_pay1, k0_pay6]

variable (z : Vec Ideal S2x1x1024x704 .bf16)

theorem ld0 : (View.ld z r0_2 : S1x1x1024x704.Idx → EReal) (ix4 0 0 r n) = z (ix4 0 0 r n) :=
  congrArg z (funext fun a => Fin.ext (by
    match a with
    | ⟨0, _⟩ => rfl
    | ⟨1, _⟩ => rfl
    | ⟨2, _⟩ => show 0 + 1 * r.val = r.val; omega
    | ⟨3, _⟩ => show 0 + 1 * n.val = n.val; omega))

theorem ld1 : (View.ld z r0_3 : S1x1x1024x704.Idx → EReal) (ix4 0 0 r n) = z (ix4 1 0 r n) :=
  congrArg z (funext fun a => Fin.ext (by
    match a with
    | ⟨0, _⟩ => rfl
    | ⟨1, _⟩ => rfl
    | ⟨2, _⟩ => show 0 + 1 * r.val = r.val; omega
    | ⟨3, _⟩ => show 0 + 1 * n.val = n.val; omega))

/-- The block of gradients: the gates' under 0, the values' under 1. -/
def both4 : Vec Ideal S2x1x1024x704 .bf16 := fun i =>
  if (i 0).val = 0 then bodyG (belt x y (i 2) (i 3)) (z (ix4 0 0 (i 2) (i 3))) (z (ix4 1 0 (i 2) (i 3))) else bodyU (belt x y (i 2) (i 3)) (z (ix4 0 0 (i 2) (i 3)))

theorem left3_at (i : S2x1x1024x704.Idx) : (out0_3 (F := Ideal) x y z : S2x1x1024x704.Idx → EReal) i = both4 x y z i := by
  unfold out0_3
  rw [View.ld_unit_zero (S := S1024x1024) hz, View.ld_unit_zero (S := S1x704x1024) hz3]
  refine View.canon_apply_of_pieces (both4 x y z) _ ?_ i (cover0_3 _ _ i)
  intro p hp
  rcases List.mem_cons.mp hp with rfl | hp
  · intro j
    have e2 : (j 2 : Fin 1024) = (r0_3.emb j) 2 := Fin.ext (by show (j 2).val = 0 + 1 * (j 2).val; omega)
    have e3 : (j 3 : Fin 704) = (r0_3.emb j) 3 := Fin.ext (by show (j 3).val = 0 + 1 * (j 3).val; omega)
    refine Eq.trans (congrArg (k0_pay1 (F := Ideal) (k0_pay6 x y (View.ld z r0_2))) ?_) ((pay1_at x y (View.ld z r0_2) (j 2) (j 3)).trans ?_)
    · funext a
      match a with
      | ⟨0, _⟩ => exact Subsingleton.elim (α := Fin 1) _ _
      | ⟨1, _⟩ => exact Subsingleton.elim (α := Fin 1) _ _
      | ⟨2, _⟩ => rfl
      | ⟨3, _⟩ => rfl
    · have h0 : ¬((r0_3.emb j) 0).val = 0 := by show ¬(1 + 1 * (j 0).val = 0); omega
      unfold both4
      rw [if_neg h0]
      exact congrArg₂ _ (congrArg₂ _ e2 e3) ((ld0 (j 2) (j 3) z).trans (congrArg₂ (fun a b => (z (ix4 0 0 a b) : EReal)) e2 e3))
  rcases List.mem_cons.mp hp with rfl | hp
  · intro j
    have e2 : (j 2 : Fin 1024) = (r0_2.emb j) 2 := Fin.ext (by show (j 2).val = 0 + 1 * (j 2).val; omega)
    have e3 : (j 3 : Fin 704) = (r0_2.emb j) 3 := Fin.ext (by show (j 3).val = 0 + 1 * (j 3).val; omega)
    refine Eq.trans (congrArg (k0_pay5 (F := Ideal) x y (View.ld z r0_2) (View.ld z r0_3)) ?_) ((pay5_at x y (View.ld z r0_2) (View.ld z r0_3) (j 2) (j 3)).trans ?_)
    · funext a
      match a with
      | ⟨0, _⟩ => exact Subsingleton.elim (α := Fin 1) _ _
      | ⟨1, _⟩ => exact Subsingleton.elim (α := Fin 1) _ _
      | ⟨2, _⟩ => rfl
      | ⟨3, _⟩ => rfl
    · have hj : (j 0).val < 1 := (j 0).isLt
      have h0 : ((r0_2.emb j) 0).val = 0 := by show 0 + 1 * (j 0).val = 0; omega
      unfold both4
      rw [if_pos h0]
      exact Cert.Ffn.congr3 bodyG (congrArg₂ _ e2 e3) ((ld0 (j 2) (j 3) z).trans (congrArg₂ (fun a b => (z (ix4 0 0 a b) : EReal)) e2 e3))
        ((ld1 (j 2) (j 3) z).trans (congrArg₂ (fun a b => (z (ix4 1 0 a b) : EReal)) e2 e3))
  nomatch hp

end

/-! ## The array after the run -/

variable (c : Dev nD) (m : (ℓ : Loc nD τ sig) → Buf (Elt Ideal) ℓ)

/-- The operands, and the blocks that a grid point stages. -/
def opX : FVec Ideal S8192x1024 .bf16 := m ((c : Thread nD τ).loc main_arg0)
def opW : FVec Ideal S8x1024x704 .bf16 := m ((c : Thread nD τ).loc main_arg1)
def opO : FVec Ideal S4x704x1024 .bf16 := m ((c : Thread nD τ).loc main_arg2)
def opD : FVec Ideal S8192x1024 .bf16 := m ((c : Thread nD τ).loc main_arg3)
def stD (t : Fin cfg0.N) : S1024x1024.Idx → EReal := iblk m c 0 t
def stO (t : Fin cfg0.N) : S1x704x1024.Idx → EReal := iblk m c 1 t
def stS (t : Fin cfg0.N) : S2x1x1024x704.Idx → EReal := iblk m c 2 t

/-- The host leaves the gates and values that the forward pass saves. -/
theorem V_saved : (V m c main_v14 : S2x4x8192x704.Idx → EReal) = saved (opX c m) (opW c m) := by
  unfold V
  rw [hostOps0]
  after_results
  rfl

theorem index0_0 : ∀ t : Fin cfg0.N, win0_0.index t = ![t.val / 4, 0] := (by decide +kernel : ∀ t : Fin grid0.N, _)
theorem index0_1 : ∀ t : Fin cfg0.N, win0_1.index t = ![t.val % 4, 0, 0] := (by decide +kernel : ∀ t : Fin grid0.N, _)
theorem index0_2 : ∀ t : Fin cfg0.N, win0_2.index t = ![0, t.val % 4, t.val / 4, 0] := (by decide +kernel : ∀ t : Fin grid0.N, _)
theorem index0_3 : ∀ t : Fin cfg0.N, win0_3.index t = ![0, t.val % 4, t.val / 4, 0] := (by decide +kernel : ∀ t : Fin grid0.N, _)

theorem lt32 (t : Fin cfg0.N) : t.val < 32 := lt_of_lt_of_eq t.isLt N_0

theorem blk0 (t : Fin cfg0.N) (r e : Fin 1024) : stD c m t (ix2 r e)
    = opD c m (ix2 (⟨1024 * (t.val / 4) + r.val, by have := lt32 t; omega⟩ : Fin 8192) e) := by
  unfold stD iblk
  refine Eq.trans (congrArg (V m c main_arg3) (funext fun a => Fin.ext ?_)) (congrFun (V_main_arg3 m c) _)
  match a with
  | ⟨0, _⟩ => show win0_0.index t 0 * 1024 + 1 * r.val = _; rw [index0_0]; show t.val / 4 * 1024 + 1 * r.val = 1024 * (t.val / 4) + r.val; omega
  | ⟨1, _⟩ => show win0_0.index t 1 * 1024 + 1 * e.val = _; rw [index0_0]; show 0 * 1024 + 1 * e.val = e.val; omega

theorem blk1 (t : Fin cfg0.N) (n : Fin 704) (e : Fin 1024) : stO c m t (ix3 0 n e)
    = opO c m (ix3 (⟨t.val % 4, by omega⟩ : Fin 4) n e) := by
  unfold stO iblk
  refine Eq.trans (congrArg (V m c main_arg2) (funext fun a => Fin.ext ?_)) (congrFun (V_main_arg2 m c) _)
  match a with
  | ⟨0, _⟩ => show win0_1.index t 0 * 1 + 1 * 0 = _; rw [index0_1]; show t.val % 4 * 1 + 1 * 0 = t.val % 4; omega
  | ⟨1, _⟩ => show win0_1.index t 1 * 704 + 1 * n.val = _; rw [index0_1]; show 0 * 704 + 1 * n.val = n.val; omega
  | ⟨2, _⟩ => show win0_1.index t 2 * 1024 + 1 * e.val = _; rw [index0_1]; show 0 * 1024 + 1 * e.val = e.val; omega

theorem blk2 (t : Fin cfg0.N) (p : Fin 2) (r : Fin 1024) (n : Fin 704) : stS c m t (ix4 p 0 r n)
    = saved (opX c m) (opW c m) (ix4 p (⟨t.val % 4, by omega⟩ : Fin 4) (⟨1024 * (t.val / 4) + r.val, by have := lt32 t; omega⟩ : Fin 8192) n) := by
  unfold stS iblk
  refine Eq.trans (congrArg (V m c main_v14) (funext fun a => Fin.ext ?_)) (congrFun (V_saved c m) _)
  match a with
  | ⟨0, _⟩ => show win0_2.index t 0 * 2 + 1 * p.val = _; rw [index0_2]; show 0 * 2 + 1 * p.val = p.val; omega
  | ⟨1, _⟩ => show win0_2.index t 1 * 1 + 1 * 0 = _; rw [index0_2]; show t.val % 4 * 1 + 1 * 0 = t.val % 4; omega
  | ⟨2, _⟩ => show win0_2.index t 2 * 1024 + 1 * r.val = _; rw [index0_2]; show t.val / 4 * 1024 + 1 * r.val = 1024 * (t.val / 4) + r.val; omega
  | ⟨3, _⟩ => show win0_2.index t 3 * 704 + 1 * n.val = _; rw [index0_2]; show 0 * 704 + 1 * n.val = n.val; omega

/-- One element of the activations' gradient, the gate and the value, of the block a grid point stages. -/
theorem belt_eq (t : Fin cfg0.N) (r : Fin 1024) (n : Fin 704) : belt (stD c m t) (stO c m t) r n
    = delt (opO c m) (opD c m) ⟨t.val % 4, by omega⟩ ⟨1024 * (t.val / 4) + r.val, by have := lt32 t; omega⟩ n := by
  unfold belt delt
  exact sum_congr rfl fun e _ => congrArg₂ _ (blk0 c m t r e) (blk1 c m t n e)

theorem gate_eq (t : Fin cfg0.N) (r : Fin 1024) (n : Fin 704) : stS c m t (ix4 0 0 r n)
    = elt (opX c m) (opW c m) ⟨t.val % 4, by omega⟩ ⟨1024 * (t.val / 4) + r.val, by have := lt32 t; omega⟩ n :=
  (blk2 c m t 0 r n).trans (Cert.FfnUp.saved_at0 _ _ _ _ _)

theorem up_eq (t : Fin cfg0.N) (r : Fin 1024) (n : Fin 704) : stS c m t (ix4 1 0 r n)
    = elt (opX c m) (opW c m) ⟨t.val % 4 + 4, by omega⟩ ⟨1024 * (t.val / 4) + r.val, by have := lt32 t; omega⟩ n :=
  (blk2 c m t 1 r n).trans (Cert.FfnUp.saved_at1 _ _ _ _ _)

/-- What the array holds: under 0 the gates' gradient, under 1 the values'. -/
def res (p : Fin 2) (k : Fin 4) (s : Fin 8192) (n : Fin 704) : EReal :=
  if p.val = 0 then bodyG (delt (opO c m) (opD c m) k s n) (elt (opX c m) (opW c m) ⟨k.val, by omega⟩ s n) (elt (opX c m) (opW c m) ⟨k.val + 4, by omega⟩ s n)
  else bodyU (delt (opO c m) (opD c m) k s n) (elt (opX c m) (opW c m) ⟨k.val, by omega⟩ s n)

theorem res_congr {p p' : Fin 2} {k k' : Fin 4} {s s' : Fin 8192} {n n' : Fin 704}
    (h0 : p.val = p'.val) (h1 : k.val = k'.val) (h2 : s.val = s'.val) (h3 : n.val = n'.val) : res c m p k s n = res c m p' k' s' n' := by
  rw [Fin.ext h0, Fin.ext h1, Fin.ext h2, Fin.ext h3]

theorem block_eq (t : Fin cfg0.N) (i : S2x1x1024x704.Idx) : both4 (stD c m t) (stO c m t) (stS c m t) i
    = res c m (i 0) ⟨t.val % 4, by omega⟩ ⟨1024 * (t.val / 4) + (i 2).val, by have := lt32 t; have h : (i 2).val < 1024 := (i 2).isLt; omega⟩ (i 3) := by
  unfold both4 res
  split
  · exact Cert.Ffn.congr3 bodyG (belt_eq c m t (i 2) (i 3)) (gate_eq c m t (i 2) (i 3)) (up_eq c m t (i 2) (i 3))
  · exact congrArg₂ bodyU (belt_eq c m t (i 2) (i 3)) (gate_eq c m t (i 2) (i 3))

theorem array3 (i : S2x4x8192x704.Idx) : ((dats m 0 c).arrAt 3 cfg0.N i : EReal) = res c m (i 0) (i 1) (i 2) (i 3) := by
  refine (dats m 0 c).arrAt_forall_of_covers 3 (fun i v => (v : EReal) = res c m (i 0) (i 1) (i 2) (i 3)) (by decide +kernel) (fun t hf y => ?_) i
  blk_simp
  rw [after0_3]
  have e0 : ((win0_3.blk t).view.emb y 0).val = (y 0).val := by
    show win0_3.index t 0 * 2 + 1 * (y 0).val = _; rw [index0_3]; show 0 * 2 + 1 * (y 0).val = _; omega
  have hy : (y 1).val < 1 := (y 1).isLt
  have e1 : ((win0_3.blk t).view.emb y 1).val = t.val % 4 := by
    show win0_3.index t 1 * 1 + 1 * (y 1).val = _; rw [index0_3]; show t.val % 4 * 1 + 1 * (y 1).val = _; omega
  have e2 : ((win0_3.blk t).view.emb y 2).val = 1024 * (t.val / 4) + (y 2).val := by
    show win0_3.index t 2 * 1024 + 1 * (y 2).val = _; rw [index0_3]; show t.val / 4 * 1024 + 1 * (y 2).val = _; omega
  have e3 : ((win0_3.blk t).view.emb y 3).val = (y 3).val := by
    show win0_3.index t 3 * 704 + 1 * (y 3).val = _; rw [index0_3]; show 0 * 704 + 1 * (y 3).val = _; omega
  refine (left3_at (stD c m t) (stO c m t) (stS c m t) _).trans ((block_eq c m t _).trans ?_)
  exact res_congr c m e0.symm e1.symm e2.symm e3.symm

/-! ## Finite arguments -/

instance pre_finite2_facts : Cert.Pre_finite2.Facts := by constructor <;> decide

/-- Every element is a real number. -/
def Real1 {s : Shape} (x : s.Idx → EReal) : Prop := ∀ i, x i = ((x i).toReal : EReal)

open Cert.SbBwd in
theorem finite_args2 (x : FVec Ideal S8192x1024 .bf16) (y : FVec Ideal S8x1024x704 .bf16) (w : FVec Ideal S4x704x1024 .bf16) (d : FVec Ideal S8192x1024 .bf16)
    (h : Cert.Pre_finite2.fn x y w d = fun _ => 1#1) : (Real1 x ∧ Real1 y) ∧ Real1 w ∧ Real1 d := by
  haveI : Subsingleton Cert.Pre_finite2.S_.Idx := ⟨fun a b => funext fun k => k.elim0⟩
  obtain ⟨h012, h3⟩ := IntOp.andi_eq_one.1 (congrFun h (fun k => k.elim0))
  obtain ⟨h01, h2⟩ := IntOp.andi_eq_one.1 h012
  obtain ⟨h0, h1⟩ := IntOp.andi_eq_one.1 h01
  refine ⟨⟨fun i => real_of_abs_lt ?_, fun i => real_of_abs_lt ?_⟩, fun i => real_of_abs_lt ?_, fun i => real_of_abs_lt ?_⟩
  all_goals rw [← bits_inf]
  · exact of_decide_eq_true (ofBool_one (Host.reduce_andi_all _ _ _ _ _ h0 i))
  · exact of_decide_eq_true (ofBool_one (Host.reduce_andi_all _ _ _ _ _ h1 i))
  · exact of_decide_eq_true (ofBool_one (Host.reduce_andi_all _ _ _ _ _ h2 i))
  · exact of_decide_eq_true (ofBool_one (Host.reduce_andi_all _ _ _ _ _ h3 i))

variable {x : FVec Ideal S8192x1024 .bf16} {y : FVec Ideal S8x1024x704 .bf16} {w : FVec Ideal S4x704x1024 .bf16} {d : FVec Ideal S8192x1024 .bf16}

theorem elt_real (hx : Real1 x) (hy : Real1 y) (b : Fin 8) (s : Fin 8192) (n : Fin 704) : ∃ r : ℝ, elt x y b s n = (r : EReal) :=
  real_sum (fun e => hx (ix2 s e)) fun e => hy (ix3 b e n)

theorem delt_real (hw : Real1 w) (hd : Real1 d) (k : Fin 4) (s : Fin 8192) (n : Fin 704) : ∃ r : ℝ, delt w d k s n = (r : EReal) :=
  real_sum (fun e => hd (ix2 s e)) fun e => hw (ix3 k n e)

/-! ## Both -/

/-- The run leaves what the reference computes. -/
theorem algebraic : Cert.algebraic_Kernel2Ideal_Reference2Ideal_pre_finite2 := by
  intro m ρ m' ρ' hpre hagree
  refine ⟨fun c => (dats m 0 c).arrAt 3 cfg0.N, run_blocks (F := Ideal) m ρ,
    (θ_run Cert.Reference2Ideal.defs _ _).mono (fun _ h c => ⟨(h c).1.trans (funext fun i => ?_), (h c).2⟩) (ref_run m' ρ')⟩
  obtain ⟨⟨hx, hy⟩, hw, hd⟩ := finite_args2 (opX c m) (opW c m) (opO c m) (opD c m) (hpre c)
  obtain ⟨p, k, s, n, rfl⟩ : ∃ p k s n, i = ix4 p k s n := ⟨i 0, i 1, i 2, i 3, eq_ix4 i⟩
  rw [(hagree c).1, (hagree c).2.1, (hagree c).2.2.1, (hagree c).2.2.2]
  refine Eq.trans ?_ (array3 c m (ix4 p k s n)).symm
  obtain ⟨a, ha⟩ := delt_real hw hd k s n
  obtain ⟨g, hg⟩ := elt_real hx hy ⟨k.val, by omega⟩ s n
  obtain ⟨u, hu⟩ := elt_real hx hy ⟨k.val + 4, by omega⟩ s n
  match p with
  | ⟨0, _⟩ =>
    refine (grads_at0 (opX c m) (opW c m) (opO c m) (opD c m) k s n).trans ?_
    show _ = bodyG (delt (opO c m) (opD c m) k s n) (elt (opX c m) (opW c m) ⟨k.val, by omega⟩ s n) (elt (opX c m) (opW c m) ⟨k.val + 4, by omega⟩ s n)
    rw [ha, hg, hu]
    exact (oneG_coe a g u).symm
  | ⟨1, _⟩ => exact (grads_at1 (opX c m) (opW c m) (opO c m) (opD c m) k s n).trans (oneU_eq _ _).symm

end Cert.FfnAct
-- ==== Proof.FfnWin.lean ====
/-
  The gradient of the feed-forward network's first weights: what the call that multiplies the transposed input by the
  gradient of the first product's result leaves, and that the reference computes the same.
-/
module

public import proofs.«01_k».proof.Proof.Gen.Kernel3Ideal.Value
public import proofs.«01_k».proof.Proof.Gen.Reference3Ideal.Run
public import proofs.«01_k».proof.Proof.Sums
public import proofs.«01_k».proof.Defs
public import Idealize.ShloMosaic.Lib.Pointwise

@[expose] public section

set_option maxRecDepth 16384

noncomputable section

namespace Cert.FfnWin

/-! ## The reference -/

section
open Cert.Reference3Ideal Cert.Reference3Ideal.Gen
open Idealize.ShloMosaic
open Finset

/-- The reference's product, by the blocks of the long axis. -/
theorem ref_at (x : FVec Ideal S8192x1024 .bf16) (y : FVec Ideal S8x8192x704 .bf16) (b : Fin 8) (r : Fin 1024) (n : Fin 704) :
    (truncf .bf16 (transpose S8x1024x704 [1, 0, 2] (shapeCast _ (transpose S1024x5632 [1, 0] (Host.dotGeneral dot_S8192x5632_S8192x1024_S5632x1024_0_0_1_1_n_n none (shapeCast _ (transpose S8192x8x704 [1, 0, 2] (extf .f32 y bitsLt_bf16_f32) transposes_S8x8192x704_S8192x8x704_1_0_2) shapeCasts_S8192x8x704_S8192x5632) (extf .f32 x bitsLt_bf16_f32)) transposes_S5632x1024_S1024x5632_1_0) shapeCasts_S1024x5632_S1024x8x704) transposes_S1024x8x704_S8x1024x704_1_0_2) bitsLt_bf16_f32 :
        S8x1024x704.Idx → EReal) (ix3 b r n)
    = ∑ k : Fin 8, ∑ d : Fin 1024, (x (ix2 (⟨k.val * 1024 + d.val, by have := k.isLt; have := d.isLt; omega⟩ : Fin 8192) r) : EReal) * y (ix3 b (⟨k.val * 1024 + d.val, by have := k.isLt; have := d.isLt; omega⟩ : Fin 8192) n) := by
  pointwise []
  refine (Cert.Ffn.sum_blocks 8 1024 _).trans (sum_congr rfl fun k _ => sum_congr rfl fun d _ => mul_comm _ _)

end

/-! ## The kernel -/

open Cert.Kernel3Ideal Cert.Kernel3Ideal.Gen Cert.Kernel3Ideal.Value
open Idealize.ShloMosaic Idealize.ShloMosaic.TcCoe
open Idealize.SL Idealize.SL.Sem
open Finset

variable {F : FTy → Type} [FloatOps F]

/-! ## What a grid point leaves in the accumulator, and what the last one of eight writes -/

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1024x1024 .bf16) (h3 : arg3.IsWhole)
  (arg4 : Memref sig .tc .vmem S1x1024x704 .bf16) (h4 : arg4.IsWhole) (arg5 : Memref sig .tc .vmem S1x1024x704 .bf16) (h5 : arg5.IsWhole)
  (arg6 : Memref sig .tc .vmem S1024x704 .f32) (h6 : arg6.IsWhole) (x0 : Vec F S1024x1024 .bf16) (x1 : Vec F S1x1024x704 .bf16) (xs : Vec F S1024x704 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1x1024x704) hz3]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1024x704) hz, View.ld_unit_zero (S := S1x1024x704) hz3]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x704) hz, View.ld_unit_zero (S := S1x1024x704) hz3]

theorem written_C (hc0 : ¬cond0_0 i) (hc1 : cond0_1 i) : out0_C_2 c i arg3 h3 arg4 h4 arg5 h5 arg6 h6 hc0 hc1 x0 x1 xs = k0_pay3 (k0_pay2 xs x0 x1) := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz3, View.readCov_unit_zero _ hz]
  simp only [View.readAt_eq_ld, h3.read_unread, h4.read_unread, h6.read_unread, View.ld_unit_zero (S := S1024x1024) hz, View.ld_unit_zero (S := S1024x704) hz, View.ld_unit_zero (S := S1x1024x704) hz3]

/-! ## Over the extended reals -/

section
variable (acc : Vec Ideal S1024x704 .f32) (x : Vec Ideal S1024x1024 .bf16) (y : Vec Ideal S1x1024x704 .bf16) (r : Fin 1024) (n : Fin 704)

theorem pay1_at : (k0_pay1 (F := Ideal) : S1024x704.Idx → EReal) (ix2 r n) = 0 := by
  pointwise [k0_pay1]

theorem pay2_at : (k0_pay2 (F := Ideal) acc x y : S1024x704.Idx → EReal) (ix2 r n)
    = acc (ix2 r n) + ∑ d : Fin 1024, (x (ix2 d r) : EReal) * y (ix3 0 d n) := by
  pointwise [k0_pay2]

theorem pay3_at : (k0_pay3 (F := Ideal) acc : S1x1024x704.Idx → EReal) (ix3 0 r n) = acc (ix2 r n) := by
  pointwise [k0_pay3]

end

variable (m : (ℓ : Loc nD τ sig) → Buf (Elt Ideal) ℓ)

theorem index0_0 : ∀ t : Fin cfg0.N, win0_0.index t = ![t.val % 8, 0] := (by decide +kernel : ∀ t : Fin grid0.N, _)
theorem index0_1 : ∀ t : Fin cfg0.N, win0_1.index t = ![t.val / 8, t.val % 8, 0] := (by decide +kernel : ∀ t : Fin grid0.N, _)

/-- The operands, and the blocks of them that a grid point stages. -/
def opA : S8192x1024.Idx → EReal := m ((c : Thread nD τ).loc main_arg0)
def opB : S8x8192x704.Idx → EReal := m ((c : Thread nD τ).loc main_arg1)
def stA (t : Fin cfg0.N) : S1024x1024.Idx → EReal := iblk m c 0 t
def stB (t : Fin cfg0.N) : S1x1024x704.Idx → EReal := iblk m c 1 t

theorem ltN (t : Fin cfg0.N) : t.val < 64 := lt_of_lt_of_eq t.isLt N_0

theorem blk0 (t : Fin cfg0.N) (d : Fin 1024) (r : Fin 1024) : stA c m t (ix2 d r)
    = opA c m (ix2 (⟨1024 * (t.val % 8) + d.val, by have := ltN t; omega⟩ : Fin 8192) r) := by
  have ht := ltN t
  unfold stA iblk
  refine Eq.trans (congrArg (V m c main_arg0) (funext fun a => Fin.ext ?_)) (congrFun (V_main_arg0 m c) _)
  match a with
  | ⟨0, _⟩ => show win0_0.index t 0 * 1024 + 1 * d.val = _; rw [index0_0]; show (t.val % 8) * 1024 + 1 * d.val = 1024 * (t.val % 8) + d.val; omega
  | ⟨1, _⟩ => show win0_0.index t 1 * 1024 + 1 * r.val = _; rw [index0_0]; show 0 * 1024 + 1 * r.val = r.val; omega

theorem blk1 (t : Fin cfg0.N) (d : Fin 1024) (n : Fin 704) : stB c m t (ix3 0 d n)
    = opB c m (ix3 (⟨t.val / 8, by have := ltN t; omega⟩ : Fin 8) (⟨1024 * (t.val % 8) + d.val, by have := ltN t; omega⟩ : Fin 8192) n) := by
  have ht := ltN t
  unfold stB iblk
  refine Eq.trans (congrArg (V m c main_arg1) (funext fun a => Fin.ext ?_)) (congrFun (V_main_arg1 m c) _)
  match a with
  | ⟨0, _⟩ => show win0_1.index t 0 * 1 + 1 * 0 = _; rw [index0_1]; show (t.val / 8) * 1 + 1 * 0 = t.val / 8; omega
  | ⟨1, _⟩ => show win0_1.index t 1 * 1024 + 1 * d.val = _; rw [index0_1]; show (t.val % 8) * 1024 + 1 * d.val = 1024 * (t.val % 8) + d.val; omega
  | ⟨2, _⟩ => show win0_1.index t 2 * 704 + 1 * n.val = _; rw [index0_1]; show 0 * 704 + 1 * n.val = n.val; omega

/-- What grid point `n` adds to the accumulator. -/
def addend (n : ℕ) (i : S1024x704.Idx) : EReal :=
  if h : n < cfg0.N then ∑ d : Fin 1024, stA c m ⟨n, h⟩ (ix2 d (i 0)) * stB c m ⟨n, h⟩ (ix3 0 d (i 1))
  else 0

/-- What the accumulator holds after a grid point: the addends since its row of blocks began. -/
theorem acc_at (t : Fin cfg0.N) (i : S1024x704.Idx) :
    ((outsAt0 m c t.val t.isLt).2 i : EReal) = ∑ s ∈ range (t.val % 8 + 1), addend c m (8 * (t.val / 8) + s) i := by
  have ht := ltN t
  rw [soutsAt0_0_eq]
  refine (Pipeline.accAt_add_apply _ _ (fun _ => (0 : EReal)) (addend c m) _ 7 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of a row of blocks the block written is the accumulator. -/
theorem out_eq (t : Fin cfg0.N) (h : t.val % 8 = 7) (r : Fin 1024) (n : Fin 704) :
    ((outsAt0 m c t.val t.isLt).1 (ix3 0 r n) : EReal) = (outsAt0 m c t.val t.isLt).2 (ix2 r n) := by
  rw [outsAt0_C m c t (by omega) h]
  dsimp only
  rw [written_C, left_C]
  exact pay3_at _ r n

/-- The array after the run. -/
theorem result_at (b : Fin 8) (r : Fin 1024) (n : Fin 704) : (G2 m c : S8x1024x704.Idx → EReal) (ix3 b r n)
    = ∑ k : Fin 8, ∑ d : Fin 1024, opA c m (ix2 (⟨k.val * 1024 + d.val, by have := k.isLt; have := d.isLt; omega⟩ : Fin 8192) r) * opB c m (ix3 b (⟨k.val * 1024 + d.val, by have := k.isLt; have := d.isLt; omega⟩ : Fin 8192) n) := by
  have hb := b.isLt
  have hr := r.isLt
  have hn := n.isLt
  have hp : pt2Of (ix3 b r n) = 8 * b.val + 7 := by
    show 8 * (1 * (b.val / 1 - 0) + 1 * (r.val / 1024 - 0) + 1 * (n.val / 704 - 0)) + 7 = _
    omega
  have hN : pt2Of (ix3 b r n) < cfg0.N := by rw [hp, show cfg0.N = 64 from N_0]; omega
  have hl : loc2Of (ix3 b r n) = ix3 (0 : Fin 1) r n := funext fun a => Fin.ext (by
    match a with
    | ⟨0, _⟩ => show b.val % 1 = 0; omega
    | ⟨1, _⟩ => show r.val % 1024 = r.val; omega
    | ⟨2, _⟩ => show n.val % 704 = n.val; omega)
  unfold G2
  rw [dif_pos hN, ← outsAt0_sweep m c _ hN, hl]
  refine ((out_eq c m ⟨_, hN⟩ (by show pt2Of (ix3 b r n) % 8 = 7; omega) r n).trans (acc_at c m ⟨_, hN⟩ _)).trans ?_
  show ∑ k ∈ range (pt2Of (ix3 b r n) % 8 + 1), addend c m (8 * (pt2Of (ix3 b r n) / 8) + k) _ = _
  rw [hp, show (8 * b.val + 7) % 8 + 1 = 8 by omega, show (8 * b.val + 7) / 8 = b.val by omega, sum_range]
  refine sum_congr rfl fun k _ => ?_
  have hk := k.isLt
  have hk' : 8 * b.val + k.val < cfg0.N := by rw [show cfg0.N = 64 from N_0]; omega
  have h1 : (8 * b.val + k.val) / 8 = b.val := by omega
  have h2 : (8 * b.val + k.val) % 8 = k.val := by omega
  unfold addend
  rw [dif_pos hk']
  refine sum_congr rfl fun d _ => ?_
  have h3 : 1024 * ((8 * b.val + k.val) % 8) + d.val = k.val * 1024 + d.val := by omega
  refine (congrArg₂ (fun p q : EReal => p * q) (blk0 c m _ d r) (blk1 c m _ d n)).trans (congrArg₂ _ (congrArg _ ?_) (congrArg _ ?_))
  · exact congrArg₂ _ (Fin.ext h3) rfl
  · exact Cert.Ffn.congr3 _ (Fin.ext h1) (Fin.ext h3) rfl

/-! ## Both -/

/-- The run leaves what the reference computes. -/
theorem algebraic : Cert.algebraic_Kernel3Ideal_Reference3Ideal := by
  intro m ρ m' ρ' _ hagree
  refine ⟨fun c => G2 m c, (θ_run Cert.Kernel3Ideal.defs _ _).mono (fun _ h c => h c) (Cert.Kernel3Ideal.Value.run (F := Ideal) m ρ),
    (θ_run Cert.Reference3Ideal.defs _ _).mono (fun _ h c => ⟨(h c).1.trans (funext fun i => ?_), (h c).2⟩) (Cert.Reference3Ideal.Value.run (F := Ideal) m' ρ')⟩
  obtain ⟨b, r, n, rfl⟩ : ∃ b r n, i = ix3 b r n := ⟨i 0, i 1, i 2, eq_ix3 i⟩
  rw [(hagree c).1, (hagree c).2]
  exact (ref_at _ _ b r n).trans (result_at c m b r n).symm

end Cert.FfnWin
-- ==== Proof.FfnIn.lean ====
/-
  The gradient of the feed-forward network's input: what the call that multiplies the gradient of the first product's
  result by the transposed weights leaves, and that the reference computes the same.
-/
module

public import proofs.«01_k».proof.Proof.Gen.Kernel4Ideal.Value
public import proofs.«01_k».proof.Proof.Gen.Reference4Ideal.Run
public import proofs.«01_k».proof.Proof.Sums
public import proofs.«01_k».proof.Defs
public import Idealize.ShloMosaic.Lib.Pointwise

@[expose] public section

set_option maxRecDepth 16384

noncomputable section

namespace Cert.FfnIn

open Cert.Kernel4Ideal Cert.Kernel4Ideal.Gen Cert.Kernel4Ideal.Value
open Idealize.ShloMosaic Idealize.ShloMosaic.TcCoe
open Idealize.SL Idealize.SL.Sem
open Finset

variable {F : FTy → Type} [FloatOps F]

/-! ## What a grid point leaves in the accumulator, and what the last one of eight writes -/

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x1024x704 .bf16) (h3 : arg3.IsWhole)
  (arg4 : Memref sig .tc .vmem S1x1024x704 .bf16) (h4 : arg4.IsWhole) (arg5 : Memref sig .tc .vmem S1024x1024 .f32) (h5 : arg5.IsWhole)
  (arg6 : Memref sig .tc .vmem S1024x1024 .f32) (h6 : arg6.IsWhole) (x0 x1 : Vec F S1x1024x704 .bf16) (xs : Vec F S1024x1024 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1x1024x704) hz3]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1x1024x704) hz3, View.ld_unit_zero (S := S1024x1024) hz]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1x1024x704) hz3, View.ld_unit_zero (S := S1024x1024) hz]

theorem written_C (hc0 : ¬cond0_0 i) (hc1 : cond0_1 i) : out0_C_2 c i arg3 h3 arg4 h4 arg5 h5 arg6 h6 hc0 hc1 x0 x1 xs = k0_pay2 xs x0 x1 := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1x1024x704) hz3, View.ld_unit_zero (S := S1024x1024) hz]

/-! ## Over the extended reals -/

section
variable (acc : Vec Ideal S1024x1024 .f32) (x y : Vec Ideal S1x1024x704 .bf16) (r n : Fin 1024)

theorem pay1_at : (k0_pay1 (F := Ideal) : S1024x1024.Idx → EReal) (ix2 r n) = 0 := by
  pointwise [k0_pay1]

theorem pay2_at : (k0_pay2 (F := Ideal) acc x y : S1024x1024.Idx → EReal) (ix2 r n)
    = acc (ix2 r n) + ∑ d : Fin 704, (x (ix3 0 r d) : EReal) * y (ix3 0 n d) := by
  pointwise [k0_pay2]

end

variable (m : (ℓ : Loc nD τ sig) → Buf (Elt Ideal) ℓ)

theorem index0_0 : ∀ t : Fin cfg0.N, win0_0.index t = ![t.val % 8, t.val / 8, 0] := (by decide +kernel : ∀ t : Fin grid0.N, _)
theorem index0_1 : ∀ t : Fin cfg0.N, win0_1.index t = ![t.val % 8, 0, 0] := (by decide +kernel : ∀ t : Fin grid0.N, _)

/-- The operands, and the blocks of them that a grid point stages. -/
def opA : S8x8192x704.Idx → EReal := m ((c : Thread nD τ).loc main_arg0)
def opB : S8x1024x704.Idx → EReal := m ((c : Thread nD τ).loc main_arg1)
def stA (t : Fin cfg0.N) : S1x1024x704.Idx → EReal := iblk m c 0 t
def stB (t : Fin cfg0.N) : S1x1024x704.Idx → EReal := iblk m c 1 t

theorem lt64 (t : Fin cfg0.N) : t.val < 64 := lt_of_lt_of_eq t.isLt N_0

theorem blk0 (t : Fin cfg0.N) (r : Fin 1024) (d : Fin 704) : stA c m t (ix3 0 r d)
    = opA c m (ix3 (⟨t.val % 8, by omega⟩ : Fin 8) (⟨1024 * (t.val / 8) + r.val, by have := lt64 t; omega⟩ : Fin 8192) d) := by
  unfold stA iblk
  refine Eq.trans (congrArg (V m c main_arg0) (funext fun a => Fin.ext ?_)) (congrFun (V_main_arg0 m c) _)
  match a with
  | ⟨0, _⟩ => show win0_0.index t 0 * 1 + 1 * 0 = _; rw [index0_0]; show t.val % 8 * 1 + 1 * 0 = t.val % 8; omega
  | ⟨1, _⟩ => show win0_0.index t 1 * 1024 + 1 * r.val = _; rw [index0_0]; show t.val / 8 * 1024 + 1 * r.val = 1024 * (t.val / 8) + r.val; omega
  | ⟨2, _⟩ => show win0_0.index t 2 * 704 + 1 * d.val = _; rw [index0_0]; show 0 * 704 + 1 * d.val = d.val; omega

theorem blk1 (t : Fin cfg0.N) (n : Fin 1024) (d : Fin 704) : stB c m t (ix3 0 n d)
    = opB c m (ix3 (⟨t.val % 8, by omega⟩ : Fin 8) n d) := by
  unfold stB iblk
  refine Eq.trans (congrArg (V m c main_arg1) (funext fun a => Fin.ext ?_)) (congrFun (V_main_arg1 m c) _)
  match a with
  | ⟨0, _⟩ => show win0_1.index t 0 * 1 + 1 * 0 = _; rw [index0_1]; show t.val % 8 * 1 + 1 * 0 = t.val % 8; omega
  | ⟨1, _⟩ => show win0_1.index t 1 * 1024 + 1 * n.val = _; rw [index0_1]; show 0 * 1024 + 1 * n.val = n.val; omega
  | ⟨2, _⟩ => show win0_1.index t 2 * 704 + 1 * d.val = _; rw [index0_1]; show 0 * 704 + 1 * d.val = d.val; omega

/-- What grid point `n` adds to the accumulator. -/
def addend (n : ℕ) (i : S1024x1024.Idx) : EReal :=
  if h : n < cfg0.N then ∑ d : Fin 704, stA c m ⟨n, h⟩ (ix3 0 (i 0) d) * stB c m ⟨n, h⟩ (ix3 0 (i 1) d)
  else 0

/-- What the accumulator holds after a grid point: the addends since its row of blocks began. -/
theorem acc_at (t : Fin cfg0.N) (i : S1024x1024.Idx) :
    ((outsAt0 m c t.val t.isLt).2 i : EReal) = ∑ s ∈ range (t.val % 8 + 1), addend c m (8 * (t.val / 8) + s) i := by
  have ht := lt64 t
  rw [soutsAt0_0_eq]
  refine (Pipeline.accAt_add_apply _ _ (fun _ => (0 : EReal)) (addend c m) _ 7 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of eight the block written is the accumulator. -/
theorem out_eq (t : Fin cfg0.N) (h : t.val % 8 = 7) : (outsAt0 m c t.val t.isLt).1 = (outsAt0 m c t.val t.isLt).2 := by
  rw [outsAt0_C m c t (by omega) h]
  dsimp only
  rw [written_C, left_C]

/-- The array after the run. -/
theorem result_at (s : Fin 8192) (n : Fin 1024) : (G2 m c : S8192x1024.Idx → EReal) (ix2 s n)
    = ∑ k : Fin 8, ∑ d : Fin 704, opA c m (ix3 k s d) * opB c m (ix3 k n d) := by
  have hs := s.isLt
  have hn := n.isLt
  have hp : pt2Of (ix2 s n) = 8 * (s.val / 1024) + 7 := by
    show 8 * (1 * (s.val / 1024 - 0) + 1 * (n.val / 1024 - 0)) + 7 = _
    omega
  have hN : pt2Of (ix2 s n) < cfg0.N := by rw [hp, show cfg0.N = 64 from N_0]; omega
  unfold G2
  rw [dif_pos hN, ← outsAt0_sweep m c _ hN, out_eq c m ⟨_, hN⟩ (by show pt2Of (ix2 s n) % 8 = 7; omega), acc_at c m ⟨_, hN⟩]
  show ∑ k ∈ range (pt2Of (ix2 s n) % 8 + 1), addend c m (8 * (pt2Of (ix2 s n) / 8) + k) _ = _
  rw [hp, show (8 * (s.val / 1024) + 7) % 8 + 1 = 8 by omega, show (8 * (s.val / 1024) + 7) / 8 = s.val / 1024 by omega, sum_range]
  refine sum_congr rfl fun k _ => ?_
  have hk := k.isLt
  have hk' : 8 * (s.val / 1024) + k.val < cfg0.N := by rw [show cfg0.N = 64 from N_0]; omega
  unfold addend
  rw [dif_pos hk']
  refine sum_congr rfl fun d _ => ?_
  refine (congrArg₂ (fun p q : EReal => p * q) (blk0 c m _ _ d) (blk1 c m _ _ d)).trans (congrArg₂ _ (congrArg _ ?_) (congrArg _ ?_))
  · refine Cert.Ffn.congr3 _ (Fin.ext ?_) (Fin.ext ?_) rfl
    · show (8 * (s.val / 1024) + k.val) % 8 = k.val; omega
    · show 1024 * ((8 * (s.val / 1024) + k.val) / 8) + s.val % 1024 = s.val; omega
  · refine Cert.Ffn.congr3 _ (Fin.ext ?_) (Fin.ext ?_) rfl
    · show (8 * (s.val / 1024) + k.val) % 8 = k.val; omega
    · show n.val % 1024 = n.val; omega

/-! ## The reference -/

open Cert.Reference4Ideal Cert.Reference4Ideal.Gen in
/-- The reference's product, by the blocks of the long axis. -/
theorem ref_at (x : FVec Ideal Cert.Reference4Ideal.S8x8192x704 .bf16) (y : FVec Ideal Cert.Reference4Ideal.S8x1024x704 .bf16) (s : Fin 8192) (n : Fin 1024) :
    (Host.dotGeneral dot_S8192x5632_S1024x5632_S8192x1024_1_1_0_0_n_n none
      (shapeCast _ (transpose S8192x8x704 [1, 0, 2] (extf .f32 x bitsLt_bf16_f32) transposes_S8x8192x704_S8192x8x704_1_0_2) shapeCasts_S8192x8x704_S8192x5632)
      (shapeCast _ (transpose S1024x8x704 [1, 0, 2] (extf .f32 y bitsLt_bf16_f32) transposes_S8x1024x704_S1024x8x704_1_0_2) shapeCasts_S1024x8x704_S1024x5632) :
        Cert.Reference4Ideal.S8192x1024.Idx → EReal) (ix2 s n)
    = ∑ k : Fin 8, ∑ d : Fin 704, (x (ix3 k s d) : EReal) * y (ix3 k n d) := by
  pointwise []
  refine (Cert.Ffn.sum_blocks 8 704 _).trans (sum_congr rfl fun k _ => sum_congr rfl fun d _ => ?_)
  have hd := d.isLt
  have h1 : (k.val * 704 + d.val) / 704 = k.val := by omega
  have h2 : (k.val * 704 + d.val) % 704 = d.val := by omega
  exact congrArg₂ _ (congrArg _ (Cert.Ffn.congr3 _ (Fin.ext h1) rfl (Fin.ext h2))) (congrArg _ (Cert.Ffn.congr3 _ (Fin.ext h1) rfl (Fin.ext h2)))

/-- The run leaves what the reference computes. -/
theorem algebraic : Cert.algebraic_Kernel4Ideal_Reference4Ideal := by
  intro m ρ m' ρ' _ hagree
  refine ⟨fun c => G2 m c, (θ_run Cert.Kernel4Ideal.defs _ _).mono (fun _ h c => h c) (Cert.Kernel4Ideal.Value.run (F := Ideal) m ρ),
    (θ_run Cert.Reference4Ideal.defs _ _).mono (fun _ h c => ⟨(h c).1.trans (funext fun i => ?_), (h c).2⟩) (Cert.Reference4Ideal.Value.run (F := Ideal) m' ρ')⟩
  obtain ⟨s, n, rfl⟩ : ∃ s n, i = ix2 s n := ⟨i 0, i 1, eq_ix2 i⟩
  rw [(hagree c).1, (hagree c).2]
  exact (ref_at _ _ s n).trans (result_at c m s n).symm

end Cert.FfnIn
-- ==== Proof.FfnWout.lean ====
/-
  The gradient of the feed-forward network's second weights: what the call that multiplies the transposed activations by
  the gradient of the network's result leaves, and that the reference computes the same.
-/
module

public import proofs.«01_k».proof.Proof.Gen.Kernel5Ideal.Value
public import proofs.«01_k».proof.Proof.Gen.Reference5Ideal.Run
public import proofs.«01_k».proof.Proof.Sums
public import proofs.«01_k».proof.Defs
public import Idealize.ShloMosaic.Lib.Pointwise

@[expose] public section

set_option maxRecDepth 16384

noncomputable section

namespace Cert.FfnWout

/-! ## The reference -/

section
open Cert.Reference5Ideal Cert.Reference5Ideal.Gen
open Idealize.ShloMosaic
open Finset

/-- The reference's product, by the blocks of the long axis. -/
theorem ref_at (x : FVec Ideal S4x8192x704 .bf16) (y : FVec Ideal S8192x1024 .bf16) (b : Fin 4) (r : Fin 704) (n : Fin 1024) :
    (truncf .bf16 (shapeCast _ (transpose S2816x1024 [1, 0] (Host.dotGeneral dot_S8192x1024_S8192x2816_S1024x2816_0_0_1_1_n_n none (extf .f32 y bitsLt_bf16_f32) (shapeCast _ (transpose S8192x4x704 [1, 0, 2] (extf .f32 x bitsLt_bf16_f32) transposes_S4x8192x704_S8192x4x704_1_0_2) shapeCasts_S8192x4x704_S8192x2816)) transposes_S1024x2816_S2816x1024_1_0) shapeCasts_S2816x1024_S4x704x1024) bitsLt_bf16_f32 :
        S4x704x1024.Idx → EReal) (ix3 b r n)
    = ∑ k : Fin 8, ∑ d : Fin 1024, (x (ix3 b (⟨k.val * 1024 + d.val, by have := k.isLt; have := d.isLt; omega⟩ : Fin 8192) r) : EReal) * y (ix2 (⟨k.val * 1024 + d.val, by have := k.isLt; have := d.isLt; omega⟩ : Fin 8192) n) := by
  pointwise []
  refine (Cert.Ffn.sum_blocks 8 1024 _).trans (sum_congr rfl fun k _ => sum_congr rfl fun d _ => mul_comm _ _)

end

/-! ## The kernel -/

open Cert.Kernel5Ideal Cert.Kernel5Ideal.Gen Cert.Kernel5Ideal.Value
open Idealize.ShloMosaic Idealize.ShloMosaic.TcCoe
open Idealize.SL Idealize.SL.Sem
open Finset

variable {F : FTy → Type} [FloatOps F]

/-! ## What a grid point leaves in the accumulator, and what the last one of eight writes -/

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x1024x704 .bf16) (h3 : arg3.IsWhole)
  (arg4 : Memref sig .tc .vmem S1024x1024 .bf16) (h4 : arg4.IsWhole) (arg5 : Memref sig .tc .vmem S1x704x1024 .bf16) (h5 : arg5.IsWhole)
  (arg6 : Memref sig .tc .vmem S704x1024 .f32) (h6 : arg6.IsWhole) (x0 : Vec F S1x1024x704 .bf16) (x1 : Vec F S1024x1024 .bf16) (xs : Vec F S704x1024 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz, View.ld_unit_zero (S := S1x1024x704) hz3]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1x1024x704) hz3, View.ld_unit_zero (S := S704x1024) hz]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1x1024x704) hz3, View.ld_unit_zero (S := S704x1024) hz]

theorem written_C (hc0 : ¬cond0_0 i) (hc1 : cond0_1 i) : out0_C_2 c i arg3 h3 arg4 h4 arg5 h5 arg6 h6 hc0 hc1 x0 x1 xs = k0_pay3 (k0_pay2 xs x0 x1) := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz3, View.readCov_unit_zero _ hz]
  simp only [View.readAt_eq_ld, h3.read_unread, h4.read_unread, h6.read_unread, View.ld_unit_zero (S := S1024x1024) hz, View.ld_unit_zero (S := S1x1024x704) hz3, View.ld_unit_zero (S := S704x1024) hz]

/-! ## Over the extended reals -/

section
variable (acc : Vec Ideal S704x1024 .f32) (x : Vec Ideal S1x1024x704 .bf16) (y : Vec Ideal S1024x1024 .bf16) (r : Fin 704) (n : Fin 1024)

theorem pay1_at : (k0_pay1 (F := Ideal) : S704x1024.Idx → EReal) (ix2 r n) = 0 := by
  pointwise [k0_pay1]

theorem pay2_at : (k0_pay2 (F := Ideal) acc x y : S704x1024.Idx → EReal) (ix2 r n)
    = acc (ix2 r n) + ∑ d : Fin 1024, (x (ix3 0 d r) : EReal) * y (ix2 d n) := by
  pointwise [k0_pay2]

theorem pay3_at : (k0_pay3 (F := Ideal) acc : S1x704x1024.Idx → EReal) (ix3 0 r n) = acc (ix2 r n) := by
  pointwise [k0_pay3]

end

variable (m : (ℓ : Loc nD τ sig) → Buf (Elt Ideal) ℓ)

theorem index0_0 : ∀ t : Fin cfg0.N, win0_0.index t = ![t.val / 8, t.val % 8, 0] := (by decide +kernel : ∀ t : Fin grid0.N, _)
theorem index0_1 : ∀ t : Fin cfg0.N, win0_1.index t = ![t.val % 8, 0] := (by decide +kernel : ∀ t : Fin grid0.N, _)

/-- The operands, and the blocks of them that a grid point stages. -/
def opA : S4x8192x704.Idx → EReal := m ((c : Thread nD τ).loc main_arg0)
def opB : S8192x1024.Idx → EReal := m ((c : Thread nD τ).loc main_arg1)
def stA (t : Fin cfg0.N) : S1x1024x704.Idx → EReal := iblk m c 0 t
def stB (t : Fin cfg0.N) : S1024x1024.Idx → EReal := iblk m c 1 t

theorem ltN (t : Fin cfg0.N) : t.val < 32 := lt_of_lt_of_eq t.isLt N_0

theorem blk0 (t : Fin cfg0.N) (d : Fin 1024) (r : Fin 704) : stA c m t (ix3 0 d r)
    = opA c m (ix3 (⟨t.val / 8, by have := ltN t; omega⟩ : Fin 4) (⟨1024 * (t.val % 8) + d.val, by have := ltN t; omega⟩ : Fin 8192) r) := by
  have ht := ltN t
  unfold stA iblk
  refine Eq.trans (congrArg (V m c main_arg0) (funext fun a => Fin.ext ?_)) (congrFun (V_main_arg0 m c) _)
  match a with
  | ⟨0, _⟩ => show win0_0.index t 0 * 1 + 1 * 0 = _; rw [index0_0]; show (t.val / 8) * 1 + 1 * 0 = t.val / 8; omega
  | ⟨1, _⟩ => show win0_0.index t 1 * 1024 + 1 * d.val = _; rw [index0_0]; show (t.val % 8) * 1024 + 1 * d.val = 1024 * (t.val % 8) + d.val; omega
  | ⟨2, _⟩ => show win0_0.index t 2 * 704 + 1 * r.val = _; rw [index0_0]; show 0 * 704 + 1 * r.val = r.val; omega

theorem blk1 (t : Fin cfg0.N) (d : Fin 1024) (n : Fin 1024) : stB c m t (ix2 d n)
    = opB c m (ix2 (⟨1024 * (t.val % 8) + d.val, by have := ltN t; omega⟩ : Fin 8192) n) := by
  have ht := ltN t
  unfold stB iblk
  refine Eq.trans (congrArg (V m c main_arg1) (funext fun a => Fin.ext ?_)) (congrFun (V_main_arg1 m c) _)
  match a with
  | ⟨0, _⟩ => show win0_1.index t 0 * 1024 + 1 * d.val = _; rw [index0_1]; show (t.val % 8) * 1024 + 1 * d.val = 1024 * (t.val % 8) + d.val; omega
  | ⟨1, _⟩ => show win0_1.index t 1 * 1024 + 1 * n.val = _; rw [index0_1]; show 0 * 1024 + 1 * n.val = n.val; omega

/-- What grid point `n` adds to the accumulator. -/
def addend (n : ℕ) (i : S704x1024.Idx) : EReal :=
  if h : n < cfg0.N then ∑ d : Fin 1024, stA c m ⟨n, h⟩ (ix3 0 d (i 0)) * stB c m ⟨n, h⟩ (ix2 d (i 1))
  else 0

/-- What the accumulator holds after a grid point: the addends since its row of blocks began. -/
theorem acc_at (t : Fin cfg0.N) (i : S704x1024.Idx) :
    ((outsAt0 m c t.val t.isLt).2 i : EReal) = ∑ s ∈ range (t.val % 8 + 1), addend c m (8 * (t.val / 8) + s) i := by
  have ht := ltN t
  rw [soutsAt0_0_eq]
  refine (Pipeline.accAt_add_apply _ _ (fun _ => (0 : EReal)) (addend c m) _ 7 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of a row of blocks the block written is the accumulator. -/
theorem out_eq (t : Fin cfg0.N) (h : t.val % 8 = 7) (r : Fin 704) (n : Fin 1024) :
    ((outsAt0 m c t.val t.isLt).1 (ix3 0 r n) : EReal) = (outsAt0 m c t.val t.isLt).2 (ix2 r n) := by
  rw [outsAt0_C m c t (by omega) h]
  dsimp only
  rw [written_C, left_C]
  exact pay3_at _ r n

/-- The array after the run. -/
theorem result_at (b : Fin 4) (r : Fin 704) (n : Fin 1024) : (G2 m c : S4x704x1024.Idx → EReal) (ix3 b r n)
    = ∑ k : Fin 8, ∑ d : Fin 1024, opA c m (ix3 b (⟨k.val * 1024 + d.val, by have := k.isLt; have := d.isLt; omega⟩ : Fin 8192) r) * opB c m (ix2 (⟨k.val * 1024 + d.val, by have := k.isLt; have := d.isLt; omega⟩ : Fin 8192) n) := by
  have hb := b.isLt
  have hr := r.isLt
  have hn := n.isLt
  have hp : pt2Of (ix3 b r n) = 8 * b.val + 7 := by
    show 8 * (1 * (b.val / 1 - 0) + 1 * (r.val / 704 - 0) + 1 * (n.val / 1024 - 0)) + 7 = _
    omega
  have hN : pt2Of (ix3 b r n) < cfg0.N := by rw [hp, show cfg0.N = 32 from N_0]; omega
  have hl : loc2Of (ix3 b r n) = ix3 (0 : Fin 1) r n := funext fun a => Fin.ext (by
    match a with
    | ⟨0, _⟩ => show b.val % 1 = 0; omega
    | ⟨1, _⟩ => show r.val % 704 = r.val; omega
    | ⟨2, _⟩ => show n.val % 1024 = n.val; omega)
  unfold G2
  rw [dif_pos hN, ← outsAt0_sweep m c _ hN, hl]
  refine ((out_eq c m ⟨_, hN⟩ (by show pt2Of (ix3 b r n) % 8 = 7; omega) r n).trans (acc_at c m ⟨_, hN⟩ _)).trans ?_
  show ∑ k ∈ range (pt2Of (ix3 b r n) % 8 + 1), addend c m (8 * (pt2Of (ix3 b r n) / 8) + k) _ = _
  rw [hp, show (8 * b.val + 7) % 8 + 1 = 8 by omega, show (8 * b.val + 7) / 8 = b.val by omega, sum_range]
  refine sum_congr rfl fun k _ => ?_
  have hk := k.isLt
  have hk' : 8 * b.val + k.val < cfg0.N := by rw [show cfg0.N = 32 from N_0]; omega
  have h1 : (8 * b.val + k.val) / 8 = b.val := by omega
  have h2 : (8 * b.val + k.val) % 8 = k.val := by omega
  unfold addend
  rw [dif_pos hk']
  refine sum_congr rfl fun d _ => ?_
  have h3 : 1024 * ((8 * b.val + k.val) % 8) + d.val = k.val * 1024 + d.val := by omega
  refine (congrArg₂ (fun p q : EReal => p * q) (blk0 c m _ d r) (blk1 c m _ d n)).trans (congrArg₂ _ (congrArg _ ?_) (congrArg _ ?_))
  · exact Cert.Ffn.congr3 _ (Fin.ext h1) (Fin.ext h3) rfl
  · exact congrArg₂ _ (Fin.ext h3) rfl

/-! ## Both -/

/-- The run leaves what the reference computes. -/
theorem algebraic : Cert.algebraic_Kernel5Ideal_Reference5Ideal := by
  intro m ρ m' ρ' _ hagree
  refine ⟨fun c => G2 m c, (θ_run Cert.Kernel5Ideal.defs _ _).mono (fun _ h c => h c) (Cert.Kernel5Ideal.Value.run (F := Ideal) m ρ),
    (θ_run Cert.Reference5Ideal.defs _ _).mono (fun _ h c => ⟨(h c).1.trans (funext fun i => ?_), (h c).2⟩) (Cert.Reference5Ideal.Value.run (F := Ideal) m' ρ')⟩
  obtain ⟨b, r, n, rfl⟩ : ∃ b r n, i = ix3 b r n := ⟨i 0, i 1, i 2, eq_ix3 i⟩
  rw [(hagree c).1, (hagree c).2]
  exact (ref_at _ _ b r n).trans (result_at c m b r n).symm

end Cert.FfnWout
-- ==== Proof.FfnDown.lean ====
/-
  The feed-forward network's second product: what the call that multiplies the activations by the second weights leaves,
  and that the reference computes the same.
-/
module

public import proofs.«01_k».proof.Proof.Gen.Kernel6Ideal.Value
public import proofs.«01_k».proof.Proof.Gen.Reference6Ideal.Run
public import proofs.«01_k».proof.Proof.Sums
public import proofs.«01_k».proof.Defs
public import Idealize.ShloMosaic.Lib.Pointwise

@[expose] public section

set_option maxRecDepth 16384

noncomputable section

namespace Cert.FfnDown

/-! ## The reference -/

section
open Cert.Reference6Ideal Cert.Reference6Ideal.Gen
open Idealize.ShloMosaic
open Finset

/-- The reference's product, by the blocks of the long axis. -/
theorem ref_at (x : FVec Ideal S4x8192x704 .bf16) (y : FVec Ideal S4x704x1024 .bf16) (s : Fin 8192) (n : Fin 1024) :
    (Host.dotGeneral dot_S8192x2816_S2816x1024_S8192x1024_1_0_0_1_n_n none (shapeCast _ (transpose S8192x4x704 [1, 0, 2] (extf .f32 x bitsLt_bf16_f32) transposes_S4x8192x704_S8192x4x704_1_0_2) shapeCasts_S8192x4x704_S8192x2816) (shapeCast _ (extf .f32 y bitsLt_bf16_f32) shapeCasts_S4x704x1024_S2816x1024) :
        S8192x1024.Idx → EReal) (ix2 s n)
    = ∑ k : Fin 4, ∑ d : Fin 704, (x (ix3 k s d) : EReal) * y (ix3 k d n) := by
  pointwise []
  refine (Cert.Ffn.sum_blocks 4 704 _).trans (sum_congr rfl fun k _ => sum_congr rfl fun d _ => ?_)
  have hd := d.isLt
  have h1 : (k.val * 704 + d.val) / 704 = k.val := by omega
  have h2 : (k.val * 704 + d.val) % 704 = d.val := by omega
  exact congrArg₂ _ (congrArg _ (Cert.Ffn.congr3 _ (Fin.ext h1) rfl (Fin.ext h2))) (congrArg _ (Cert.Ffn.congr3 _ (Fin.ext h1) (Fin.ext h2) rfl))

end

/-! ## The kernel -/

open Cert.Kernel6Ideal Cert.Kernel6Ideal.Gen Cert.Kernel6Ideal.Value
open Idealize.ShloMosaic Idealize.ShloMosaic.TcCoe
open Idealize.SL Idealize.SL.Sem
open Finset

variable {F : FTy → Type} [FloatOps F]

/-! ## What a grid point leaves in the accumulator, and what the last one of eight writes -/

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x1024x704 .bf16) (h3 : arg3.IsWhole)
  (arg4 : Memref sig .tc .vmem S1x704x1024 .bf16) (h4 : arg4.IsWhole) (arg5 : Memref sig .tc .vmem S1024x1024 .f32) (h5 : arg5.IsWhole)
  (arg6 : Memref sig .tc .vmem S1024x1024 .f32) (h6 : arg6.IsWhole) (x0 : Vec F S1x1024x704 .bf16) (x1 : Vec F S1x704x1024 .bf16) (xs : Vec F S1024x1024 .f32)

theorem left_A (hc0 : cond0_0 i) (hc1 : ¬cond0_1 i) : sout0_A_0 c i arg3 h3 arg4 h4 arg5 h5 arg6 h6 hc0 hc1 x0 x1 = k0_pay2 k0_pay1 x0 x1 := by
  unfold sout0_A_0
  rw [View.read_writes_eq_canon _ _ _ (scover0_A_0 c i arg3 h3 arg4 h4 arg5 h5 arg6 h6 hc0 hc1 x0 x1)]
  unfold kernelRun0_A
  dsimp only
  sl_unfold_words
  rw [View.canon_cons_unit_zero hz, View.readCov_unit_zero _ hz]
  simp only [View.readAt_eq_ld, h3.read_unread, h4.read_unread, View.ld_unit_zero (S := S1x1024x704) hz3, View.ld_unit_zero (S := S1x704x1024) hz3]

theorem left_B (hc0 : ¬cond0_0 i) (hc1 : ¬cond0_1 i) : sout0_B_0 c i arg3 h3 arg4 h4 arg5 h5 arg6 h6 hc0 hc1 x0 x1 xs = k0_pay2 xs x0 x1 := by
  unfold sout0_B_0
  rw [View.read_writes_eq_canon _ _ _ (scover0_B_0 c i arg3 h3 arg4 h4 arg5 h5 arg6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S1x1024x704) hz3, View.ld_unit_zero (S := S1x704x1024) hz3]

theorem left_C (hc0 : ¬cond0_0 i) (hc1 : cond0_1 i) : sout0_C_0 c i arg3 h3 arg4 h4 arg5 h5 arg6 h6 hc0 hc1 x0 x1 xs = k0_pay2 xs x0 x1 := by
  unfold sout0_C_0
  rw [View.read_writes_eq_canon _ _ _ (scover0_C_0 c i arg3 h3 arg4 h4 arg5 h5 arg6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1x1024x704) hz3, View.ld_unit_zero (S := S1x704x1024) hz3]

theorem written_C (hc0 : ¬cond0_0 i) (hc1 : cond0_1 i) : out0_C_2 c i arg3 h3 arg4 h4 arg5 h5 arg6 h6 hc0 hc1 x0 x1 xs = k0_pay2 xs x0 x1 := by
  unfold out0_C_2
  rw [View.read_writes_eq_canon _ _ _ (cover0_C_2 c i arg3 h3 arg4 h4 arg5 h5 arg6 h6 hc0 hc1 x0 x1 xs)]
  unfold kernelRun0_C
  dsimp only
  sl_unfold_words
  rw [View.canon_unit_zero hz, View.readCov_unit_zero _ hz]
  simp only [View.readAt_eq_ld, h3.read_unread, h4.read_unread, h6.read_unread, View.ld_unit_zero (S := S1024x1024) hz, View.ld_unit_zero (S := S1x1024x704) hz3, View.ld_unit_zero (S := S1x704x1024) hz3]

/-! ## Over the extended reals -/

section
variable (acc : Vec Ideal S1024x1024 .f32) (x : Vec Ideal S1x1024x704 .bf16) (y : Vec Ideal S1x704x1024 .bf16) (r : Fin 1024) (n : Fin 1024)

theorem pay1_at : (k0_pay1 (F := Ideal) : S1024x1024.Idx → EReal) (ix2 r n) = 0 := by
  pointwise [k0_pay1]

theorem pay2_at : (k0_pay2 (F := Ideal) acc x y : S1024x1024.Idx → EReal) (ix2 r n)
    = acc (ix2 r n) + ∑ d : Fin 704, (x (ix3 0 r d) : EReal) * y (ix3 0 d n) := by
  pointwise [k0_pay2]

end

variable (m : (ℓ : Loc nD τ sig) → Buf (Elt Ideal) ℓ)

theorem index0_0 : ∀ t : Fin cfg0.N, win0_0.index t = ![t.val % 4, t.val / 4, 0] := (by decide +kernel : ∀ t : Fin grid0.N, _)
theorem index0_1 : ∀ t : Fin cfg0.N, win0_1.index t = ![t.val % 4, 0, 0] := (by decide +kernel : ∀ t : Fin grid0.N, _)

/-- The operands, and the blocks of them that a grid point stages. -/
def opA : S4x8192x704.Idx → EReal := m ((c : Thread nD τ).loc main_arg0)
def opB : S4x704x1024.Idx → EReal := m ((c : Thread nD τ).loc main_arg1)
def stA (t : Fin cfg0.N) : S1x1024x704.Idx → EReal := iblk m c 0 t
def stB (t : Fin cfg0.N) : S1x704x1024.Idx → EReal := iblk m c 1 t

theorem ltN (t : Fin cfg0.N) : t.val < 32 := lt_of_lt_of_eq t.isLt N_0

theorem blk0 (t : Fin cfg0.N) (r : Fin 1024) (d : Fin 704) : stA c m t (ix3 0 r d)
    = opA c m (ix3 (⟨t.val % 4, by have := ltN t; omega⟩ : Fin 4) (⟨1024 * (t.val / 4) + r.val, by have := ltN t; omega⟩ : Fin 8192) d) := by
  have ht := ltN t
  unfold stA iblk
  refine Eq.trans (congrArg (V m c main_arg0) (funext fun a => Fin.ext ?_)) (congrFun (V_main_arg0 m c) _)
  match a with
  | ⟨0, _⟩ => show win0_0.index t 0 * 1 + 1 * 0 = _; rw [index0_0]; show (t.val % 4) * 1 + 1 * 0 = t.val % 4; omega
  | ⟨1, _⟩ => show win0_0.index t 1 * 1024 + 1 * r.val = _; rw [index0_0]; show (t.val / 4) * 1024 + 1 * r.val = 1024 * (t.val / 4) + r.val; omega
  | ⟨2, _⟩ => show win0_0.index t 2 * 704 + 1 * d.val = _; rw [index0_0]; show 0 * 704 + 1 * d.val = d.val; omega

theorem blk1 (t : Fin cfg0.N) (d : Fin 704) (n : Fin 1024) : stB c m t (ix3 0 d n)
    = opB c m (ix3 (⟨t.val % 4, by have := ltN t; omega⟩ : Fin 4) d n) := by
  have ht := ltN t
  unfold stB iblk
  refine Eq.trans (congrArg (V m c main_arg1) (funext fun a => Fin.ext ?_)) (congrFun (V_main_arg1 m c) _)
  match a with
  | ⟨0, _⟩ => show win0_1.index t 0 * 1 + 1 * 0 = _; rw [index0_1]; show (t.val % 4) * 1 + 1 * 0 = t.val % 4; omega
  | ⟨1, _⟩ => show win0_1.index t 1 * 704 + 1 * d.val = _; rw [index0_1]; show 0 * 704 + 1 * d.val = d.val; omega
  | ⟨2, _⟩ => show win0_1.index t 2 * 1024 + 1 * n.val = _; rw [index0_1]; show 0 * 1024 + 1 * n.val = n.val; omega

/-- What grid point `n` adds to the accumulator. -/
def addend (n : ℕ) (i : S1024x1024.Idx) : EReal :=
  if h : n < cfg0.N then ∑ d : Fin 704, stA c m ⟨n, h⟩ (ix3 0 (i 0) d) * stB c m ⟨n, h⟩ (ix3 0 d (i 1))
  else 0

/-- What the accumulator holds after a grid point: the addends since its row of blocks began. -/
theorem acc_at (t : Fin cfg0.N) (i : S1024x1024.Idx) :
    ((outsAt0 m c t.val t.isLt).2 i : EReal) = ∑ s ∈ range (t.val % 4 + 1), addend c m (4 * (t.val / 4) + s) i := by
  have ht := ltN t
  rw [soutsAt0_0_eq]
  refine (Pipeline.accAt_add_apply _ _ (fun _ => (0 : EReal)) (addend c m) _ 3 ?_ ?_ _ (by omega) _ i).trans (zero_add _)
  · intro h j
    obtain ⟨r, n, rfl⟩ : ∃ r n, j = ix2 r n := ⟨j 0, j 1, eq_ix2 j⟩
    unfold scAt0_0
    rw [dif_pos (by omega), dif_neg (by omega), left_A, pay2_at, pay1_at, addend, dif_pos h]
    rfl
  · intro k h acc j h1 h2
    obtain ⟨r, n, rfl⟩ : ∃ r n, j = ix2 r n := ⟨j 0, j 1, eq_ix2 j⟩
    unfold scAt0_0
    rw [dif_neg (by omega)]
    split
    · rw [left_C, pay2_at, addend, dif_pos h]; rfl
    · rw [left_B, pay2_at, addend, dif_pos h]; rfl

/-- At the last point of a row of blocks the block written is the accumulator. -/
theorem out_eq (t : Fin cfg0.N) (h : t.val % 4 = 3) : (outsAt0 m c t.val t.isLt).1 = (outsAt0 m c t.val t.isLt).2 := by
  rw [outsAt0_C m c t (by omega) h]
  dsimp only
  rw [written_C, left_C]

/-- The array after the run. -/
theorem result_at (s : Fin 8192) (n : Fin 1024) : (G2 m c : S8192x1024.Idx → EReal) (ix2 s n)
    = ∑ k : Fin 4, ∑ d : Fin 704, opA c m (ix3 k s d) * opB c m (ix3 k d n) := by
  have hs := s.isLt
  have hn := n.isLt
  have hp : pt2Of (ix2 s n) = 4 * (s.val / 1024) + 3 := by
    show 4 * (1 * (s.val / 1024 - 0) + 1 * (n.val / 1024 - 0)) + 3 = _
    omega
  have hN : pt2Of (ix2 s n) < cfg0.N := by rw [hp, show cfg0.N = 32 from N_0]; omega
  unfold G2
  rw [dif_pos hN, ← outsAt0_sweep m c _ hN, out_eq c m ⟨_, hN⟩ (by show pt2Of (ix2 s n) % 4 = 3; omega), acc_at c m ⟨_, hN⟩]
  show ∑ k ∈ range (pt2Of (ix2 s n) % 4 + 1), addend c m (4 * (pt2Of (ix2 s n) / 4) + k) _ = _
  rw [hp, show (4 * (s.val / 1024) + 3) % 4 + 1 = 4 by omega, show (4 * (s.val / 1024) + 3) / 4 = s.val / 1024 by omega, sum_range]
  refine sum_congr rfl fun k _ => ?_
  have hk := k.isLt
  have hk' : 4 * (s.val / 1024) + k.val < cfg0.N := by rw [show cfg0.N = 32 from N_0]; omega
  unfold addend
  rw [dif_pos hk']
  refine sum_congr rfl fun d _ => ?_
  refine (congrArg₂ (fun p q : EReal => p * q) (blk0 c m _ _ d) (blk1 c m _ d _)).trans (congrArg₂ _ (congrArg _ ?_) (congrArg _ ?_))
  · refine Cert.Ffn.congr3 _ (Fin.ext ?_) (Fin.ext ?_) rfl
    · show (4 * (s.val / 1024) + k.val) % 4 = k.val; omega
    · show 1024 * ((4 * (s.val / 1024) + k.val) / 4) + s.val % 1024 = s.val; omega
  · refine Cert.Ffn.congr3 _ (Fin.ext ?_) rfl (Fin.ext ?_)
    · show (4 * (s.val / 1024) + k.val) % 4 = k.val; omega
    · show n.val % 1024 = n.val; omega

/-! ## Both -/

/-- The run leaves what the reference computes. -/
theorem algebraic : Cert.algebraic_Kernel6Ideal_Reference6Ideal := by
  intro m ρ m' ρ' _ hagree
  refine ⟨fun c => G2 m c, (θ_run Cert.Kernel6Ideal.defs _ _).mono (fun _ h c => h c) (Cert.Kernel6Ideal.Value.run (F := Ideal) m ρ),
    (θ_run Cert.Reference6Ideal.defs _ _).mono (fun _ h c => ⟨(h c).1.trans (funext fun i => ?_), (h c).2⟩) (Cert.Reference6Ideal.Value.run (F := Ideal) m' ρ')⟩
  obtain ⟨s, n, rfl⟩ : ∃ s n, i = ix2 s n := ⟨i 0, i 1, eq_ix2 i⟩
  rw [(hagree c).1, (hagree c).2]
  exact (ref_at _ _ s n).trans (result_at c m s n).symm

end Cert.FfnDown
-- ==== Proof.FfnUp.lean ====
/-
  The feed-forward network's first product and its gated activation: what the call leaves, and that the reference computes
  the same.
-/
module

public import proofs.«01_k».proof.Proof.FfnUpRef
public import proofs.«01_k».proof.Proof.Gen.Kernel7Ideal.Value
public import proofs.«01_k».proof.Defs
public import Idealize.ShloMosaic.Lib.Pipeline.ValueKit.Geometry

@[expose] public section

set_option maxRecDepth 16384

noncomputable section

namespace Cert.FfnUp

open Cert.Kernel7Ideal Cert.Kernel7Ideal.Gen Cert.Kernel7Ideal.Value
open Idealize.ShloMosaic Idealize.ShloMosaic.TcCoe
open Idealize.SL Idealize.SL.Sem
open Finset

theorem hz : (![0, 0] : Fin 2 → Nat) = fun _ => 0 := funext fun a => by fin_cases a <;> rfl
theorem hz3 : (![0, 0, 0] : Fin 3 → Nat) = fun _ => 0 := funext fun a => by fin_cases a <;> rfl

/-! ## What the body leaves in a block -/

section
variable (x : Vec Ideal S1024x1024 .bf16) (y z : Vec Ideal S1x1024x704 .bf16) (r : Fin 1024) (n : Fin 704)

/-- One element of the product of two blocks. -/
def belt (x : S1024x1024.Idx → EReal) (y : S1x1024x704.Idx → EReal) (r : Fin 1024) (n : Fin 704) : EReal := ∑ e : Fin 1024, x (ix2 r e) * y (ix3 0 e n)

theorem pay1_at : (k0_pay1 (F := Ideal) x y : S1024x704.Idx → EReal) (ix2 r n) = belt x y r n := by
  pointwise [k0_pay1]
  rfl

theorem pay2_at : (k0_pay2 (F := Ideal) x y : S1024x704.Idx → EReal) (ix2 r n) = belt x y r n := by
  pointwise [k0_pay2]
  rfl

theorem pay3_at : (k0_pay3 (F := Ideal) x y z : S1x1024x704.Idx → EReal) (ix3 0 r n) = swish (belt x y r n) (belt x z r n) := by
  rw [← pay1_at, ← pay2_at]
  pointwise [k0_pay3]
  rw [zero_sub]
  rfl

theorem pay4_at : (k0_pay4 (F := Ideal) x y : S1x1x1024x704.Idx → EReal) (ix4 0 0 r n) = belt x y r n := by
  rw [← pay1_at]
  pointwise [k0_pay4]

theorem pay5_at : (k0_pay5 (F := Ideal) x y : S1x1x1024x704.Idx → EReal) (ix4 0 0 r n) = belt x y r n := by
  rw [← pay2_at]
  pointwise [k0_pay5]

theorem left3_at : (out0_3 (F := Ideal) x y z : S1x1024x704.Idx → EReal) (ix3 0 r n) = swish (belt x y r n) (belt x z r n) := by
  unfold out0_3
  rw [View.canon_unit_zero hz3, View.ld_unit_zero (S := S1024x1024) hz, View.ld_unit_zero (S := S1x1024x704) hz3, View.ld_unit_zero (S := S1x1024x704) hz3]
  exact pay3_at x y z r n

theorem left3_fun (i : S1x1024x704.Idx) : (out0_3 (F := Ideal) x y z : S1x1024x704.Idx → EReal) i = swish (belt x y (i 1) (i 2)) (belt x z (i 1) (i 2)) := by
  refine (congrArg (out0_3 (F := Ideal) x y z) (funext fun a => ?_)).trans (left3_at x y z (i 1) (i 2))
  match a with
  | ⟨0, _⟩ => exact Subsingleton.elim (α := Fin 1) _ _
  | ⟨1, _⟩ => rfl
  | ⟨2, _⟩ => rfl

/-- The block of gates and values: the gates under 0, the values under 1. -/
def both4 : Vec Ideal S2x1x1024x704 .bf16 := fun i => if (i 0).val = 0 then belt x y (i 2) (i 3) else belt x z (i 2) (i 3)

theorem left4_at (i : S2x1x1024x704.Idx) : (out0_4 (F := Ideal) x y z : S2x1x1024x704.Idx → EReal) i = both4 x y z i := by
  unfold out0_4
  rw [View.ld_unit_zero (S := S1024x1024) hz, View.ld_unit_zero (S := S1x1024x704) hz3, View.ld_unit_zero (S := S1x1024x704) hz3]
  refine View.canon_apply_of_pieces (both4 x y z) _ ?_ i (cover0_4 _ _ i)
  intro p hp
  rcases List.mem_cons.mp hp with rfl | hp
  · intro j
    refine Eq.trans (congrArg (k0_pay5 (F := Ideal) x z) ?_) ((pay5_at x z (j 2) (j 3)).trans ?_)
    · funext a
      match a with
      | ⟨0, _⟩ => exact Subsingleton.elim (α := Fin 1) _ _
      | ⟨1, _⟩ => exact Subsingleton.elim (α := Fin 1) _ _
      | ⟨2, _⟩ => rfl
      | ⟨3, _⟩ => rfl
    · have h0 : ¬((r0_3.emb j) 0).val = 0 := by show ¬(1 + 1 * (j 0).val = 0); omega
      unfold both4
      rw [if_neg h0]
      refine congrArg₂ _ (Fin.ext ?_) (Fin.ext ?_)
      · show (j 2).val = 0 + 1 * (j 2).val; omega
      · show (j 3).val = 0 + 1 * (j 3).val; omega
  rcases List.mem_cons.mp hp with rfl | hp
  · intro j
    refine Eq.trans (congrArg (k0_pay4 (F := Ideal) x y) ?_) ((pay4_at x y (j 2) (j 3)).trans ?_)
    · funext a
      match a with
      | ⟨0, _⟩ => exact Subsingleton.elim (α := Fin 1) _ _
      | ⟨1, _⟩ => exact Subsingleton.elim (α := Fin 1) _ _
      | ⟨2, _⟩ => rfl
      | ⟨3, _⟩ => rfl
    · have hj : (j 0).val < 1 := (j 0).isLt
      have h0 : ((r0_2.emb j) 0).val = 0 := by show 0 + 1 * (j 0).val = 0; omega
      unfold both4
      rw [if_pos h0]
      refine congrArg₂ _ (Fin.ext ?_) (Fin.ext ?_)
      · show (j 2).val = 0 + 1 * (j 2).val; omega
      · show (j 3).val = 0 + 1 * (j 3).val; omega
  nomatch hp

end

/-! ## The arrays after the run -/

variable (c : Dev nD) (m : (ℓ : Loc nD τ sig) → Buf (Elt Ideal) ℓ)

/-- The operands, and the blocks of them that a grid point stages. -/
def opX : FVec Ideal S8192x1024 .bf16 := m ((c : Thread nD τ).loc main_arg0)
def opW : FVec Ideal S8x1024x704 .bf16 := m ((c : Thread nD τ).loc main_arg1)
def stX (t : Fin cfg0.N) : S1024x1024.Idx → EReal := iblk m c 0 t
def stG (t : Fin cfg0.N) : S1x1024x704.Idx → EReal := iblk m c 1 t
def stU (t : Fin cfg0.N) : S1x1024x704.Idx → EReal := iblk m c 2 t

theorem index0_0 : ∀ t : Fin cfg0.N, win0_0.index t = ![t.val / 4, 0] := (by decide +kernel : ∀ t : Fin grid0.N, _)
theorem index0_1 : ∀ t : Fin cfg0.N, win0_1.index t = ![t.val % 4, 0, 0] := (by decide +kernel : ∀ t : Fin grid0.N, _)
theorem index0_2 : ∀ t : Fin cfg0.N, win0_2.index t = ![t.val % 4 + 4, 0, 0] := (by decide +kernel : ∀ t : Fin grid0.N, _)
theorem index0_3 : ∀ t : Fin cfg0.N, win0_3.index t = ![t.val % 4, t.val / 4, 0] := (by decide +kernel : ∀ t : Fin grid0.N, _)
theorem index0_4 : ∀ t : Fin cfg0.N, win0_4.index t = ![0, t.val % 4, t.val / 4, 0] := (by decide +kernel : ∀ t : Fin grid0.N, _)

theorem lt32 (t : Fin cfg0.N) : t.val < 32 := lt_of_lt_of_eq t.isLt N_0

theorem blk0 (t : Fin cfg0.N) (r e : Fin 1024) : stX c m t (ix2 r e)
    = opX c m (ix2 (⟨1024 * (t.val / 4) + r.val, by have := lt32 t; omega⟩ : Fin 8192) e) := by
  unfold stX iblk
  refine Eq.trans (congrArg (V m c main_arg0) (funext fun a => Fin.ext ?_)) (congrFun (V_main_arg0 m c) _)
  match a with
  | ⟨0, _⟩ => show win0_0.index t 0 * 1024 + 1 * r.val = _; rw [index0_0]; show t.val / 4 * 1024 + 1 * r.val = 1024 * (t.val / 4) + r.val; omega
  | ⟨1, _⟩ => show win0_0.index t 1 * 1024 + 1 * e.val = _; rw [index0_0]; show 0 * 1024 + 1 * e.val = e.val; omega

theorem blk1 (t : Fin cfg0.N) (e : Fin 1024) (n : Fin 704) : stG c m t (ix3 0 e n)
    = opW c m (ix3 (⟨t.val % 4, by omega⟩ : Fin 8) e n) := by
  unfold stG iblk
  refine Eq.trans (congrArg (V m c main_arg1) (funext fun a => Fin.ext ?_)) (congrFun (V_main_arg1 m c) _)
  match a with
  | ⟨0, _⟩ => show win0_1.index t 0 * 1 + 1 * 0 = _; rw [index0_1]; show t.val % 4 * 1 + 1 * 0 = t.val % 4; omega
  | ⟨1, _⟩ => show win0_1.index t 1 * 1024 + 1 * e.val = _; rw [index0_1]; show 0 * 1024 + 1 * e.val = e.val; omega
  | ⟨2, _⟩ => show win0_1.index t 2 * 704 + 1 * n.val = _; rw [index0_1]; show 0 * 704 + 1 * n.val = n.val; omega

theorem blk2 (t : Fin cfg0.N) (e : Fin 1024) (n : Fin 704) : stU c m t (ix3 0 e n)
    = opW c m (ix3 (⟨t.val % 4 + 4, by omega⟩ : Fin 8) e n) := by
  unfold stU iblk
  refine Eq.trans (congrArg (V m c main_arg1) (funext fun a => Fin.ext ?_)) (congrFun (V_main_arg1 m c) _)
  match a with
  | ⟨0, _⟩ => show win0_2.index t 0 * 1 + 1 * 0 = _; rw [index0_2]; show (t.val % 4 + 4) * 1 + 1 * 0 = t.val % 4 + 4; omega
  | ⟨1, _⟩ => show win0_2.index t 1 * 1024 + 1 * e.val = _; rw [index0_2]; show 0 * 1024 + 1 * e.val = e.val; omega
  | ⟨2, _⟩ => show win0_2.index t 2 * 704 + 1 * n.val = _; rw [index0_2]; show 0 * 704 + 1 * n.val = n.val; omega

theorem belt_gate (t : Fin cfg0.N) (r : Fin 1024) (n : Fin 704) : belt (stX c m t) (stG c m t) r n
    = elt (opX c m) (opW c m) ⟨t.val % 4, by omega⟩ ⟨1024 * (t.val / 4) + r.val, by have := lt32 t; omega⟩ n := by
  unfold belt elt
  exact sum_congr rfl fun e _ => congrArg₂ _ (blk0 c m t r e) (blk1 c m t e n)

theorem belt_up (t : Fin cfg0.N) (r : Fin 1024) (n : Fin 704) : belt (stX c m t) (stU c m t) r n
    = elt (opX c m) (opW c m) ⟨t.val % 4 + 4, by omega⟩ ⟨1024 * (t.val / 4) + r.val, by have := lt32 t; omega⟩ n := by
  unfold belt elt
  exact sum_congr rfl fun e _ => congrArg₂ _ (blk0 c m t r e) (blk2 c m t e n)

theorem elt_congr (x : FVec Ideal S8192x1024 .bf16) (y : FVec Ideal S8x1024x704 .bf16) {b b' : Fin 8} {s s' : Fin 8192} {n n' : Fin 704}
    (h1 : b.val = b'.val) (h2 : s.val = s'.val) (h3 : n.val = n'.val) : elt x y b s n = elt x y b' s' n' := by
  rw [Fin.ext h1, Fin.ext h2, Fin.ext h3]

theorem array3 (k : Fin 4) (s : Fin 8192) (n : Fin 704) : ((dats m 0 c).arrAt 3 cfg0.N (ix3 k s n) : EReal)
    = swish (elt (opX c m) (opW c m) ⟨k.val, by omega⟩ s n) (elt (opX c m) (opW c m) ⟨k.val + 4, by omega⟩ s n) := by
  refine (dats m 0 c).arrAt_forall_of_covers 3 (fun i v => (v : EReal) = swish (elt (opX c m) (opW c m) ⟨(i 0).val, lt_trans (i 0).isLt (by decide : 4 < 8)⟩ (i 1) (i 2))
    (elt (opX c m) (opW c m) ⟨(i 0).val + 4, Nat.add_lt_add_right (i 0).isLt 4⟩ (i 1) (i 2))) (by decide +kernel) (fun t hf y => ?_) (ix3 k s n)
  blk_simp
  rw [after0_3]
  have e0 : win0_3.index t 0 = t.val % 4 := by rw [index0_3]; rfl
  have e1 : ((win0_3.blk t).view.emb y 1).val = 1024 * (t.val / 4) + (y 1).val := by
    show win0_3.index t 1 * 1024 + 1 * (y 1).val = _; rw [index0_3]; show t.val / 4 * 1024 + 1 * (y 1).val = _; omega
  have e2 : ((win0_3.blk t).view.emb y 2).val = (y 2).val := by
    show win0_3.index t 2 * 704 + 1 * (y 2).val = _; rw [index0_3]; show 0 * 704 + 1 * (y 2).val = _; omega
  refine (left3_fun (stX c m t) (stG c m t) (stU c m t) y).trans ?_
  refine (congrArg₂ _ (belt_gate c m t (y 1) (y 2)) (belt_up c m t (y 1) (y 2))).trans ?_
  exact congrArg₂ _ (elt_congr _ _ e0.symm e1.symm e2.symm) (elt_congr _ _ (congrArg (· + 4) e0.symm) e1.symm e2.symm)

theorem array4 (i : S2x4x8192x704.Idx) : ((dats m 0 c).arrAt 4 cfg0.N i : EReal)
    = elt (opX c m) (opW c m) ⟨(i 1).val + 4 * (i 0).val, by have h0 : (i 0).val < 2 := (i 0).isLt; have h1 : (i 1).val < 4 := (i 1).isLt; omega⟩ (i 2) (i 3) := by
  refine (dats m 0 c).arrAt_forall_of_covers 4 (fun i v => (v : EReal) = elt (opX c m) (opW c m)
    ⟨(i 1).val + 4 * (i 0).val, by have h0 : (i 0).val < 2 := (i 0).isLt; have h1 : (i 1).val < 4 := (i 1).isLt; omega⟩ (i 2) (i 3)) (by decide +kernel) (fun t hf y => ?_) i
  blk_simp
  rw [after0_4]
  have e0 : win0_4.index t 0 = 0 := by rw [index0_4]; rfl
  have e1 : win0_4.index t 1 = t.val % 4 := by rw [index0_4]; rfl
  have e2 : ((win0_4.blk t).view.emb y 2).val = 1024 * (t.val / 4) + (y 2).val := by
    show win0_4.index t 2 * 1024 + 1 * (y 2).val = _; rw [index0_4]; show t.val / 4 * 1024 + 1 * (y 2).val = _; omega
  have e3 : ((win0_4.blk t).view.emb y 3).val = (y 3).val := by
    show win0_4.index t 3 * 704 + 1 * (y 3).val = _; rw [index0_4]; show 0 * 704 + 1 * (y 3).val = _; omega
  have hy : (y 0).val < 2 := (y 0).isLt
  refine (left4_at (stX c m t) (stG c m t) (stU c m t) _).trans ?_
  unfold both4
  split
  · rename_i h
    have h : (y 0).val = 0 := h
    exact (belt_gate c m t (y 2) (y 3)).trans (elt_congr _ _ (by show t.val % 4 = win0_4.index t 1 + 4 * (win0_4.index t 0 * 2 + (y 0).val); rw [e0, e1]; omega) e2.symm e3.symm)
  · rename_i h
    have h : ¬(y 0).val = 0 := h
    exact (belt_up c m t (y 2) (y 3)).trans (elt_congr _ _ (by show t.val % 4 + 4 = win0_4.index t 1 + 4 * (win0_4.index t 0 * 2 + (y 0).val); rw [e0, e1]; omega) e2.symm e3.symm)

/-! ## Both -/

/-- The run leaves what the reference computes. -/
theorem algebraic : Cert.algebraic_Kernel7Ideal_Reference7Ideal := by
  intro m ρ m' ρ' _ hagree
  refine ⟨fun c => (dats m 0 c).arrAt 3 cfg0.N, fun c => (dats m 0 c).arrAt 4 cfg0.N, run_blocks (F := Ideal) m ρ,
    (θ_run Cert.Reference7Ideal.defs _ _).mono (fun _ h c => ⟨(h c).1.trans (funext fun i => ?_), (h c).2.1.trans (funext fun i => ?_), (h c).2.2⟩) (ref_run m' ρ')⟩
  · obtain ⟨k, s, n, rfl⟩ : ∃ k s n, i = ix3 k s n := ⟨i 0, i 1, i 2, eq_ix3 i⟩
    rw [(hagree c).1, (hagree c).2]
    exact (activ_at _ _ k s n).trans (array3 c m k s n).symm
  · obtain ⟨p, k, s, n, rfl⟩ : ∃ p k s n, i = ix4 p k s n := ⟨i 0, i 1, i 2, i 3, eq_ix4 i⟩
    rw [(hagree c).1, (hagree c).2]
    refine Eq.trans ?_ (array4 c m (ix4 p k s n)).symm
    match p with
    | ⟨0, _⟩ => exact (saved_at0 _ _ k s n).trans (elt_congr _ _ (by show k.val = k.val + 4 * 0; omega) rfl rfl)
    | ⟨1, _⟩ => exact (saved_at1 _ _ k s n).trans (elt_congr _ _ (by show k.val + 4 = k.val + 4 * 1; omega) rfl rfl)

end Cert.FfnUp
-- ==== Proof.Tile.lean ====
/-
  What the backward kernel computes, as plain functions of the vectors it holds, for any interpretation `F` of the
  float types: one tile of 256 keys against a block of 512 queries, the fold of a block's tiles, and the two arrays
  (the gradients of the keys and of the values) that are carried from one block to the next.
-/
module

public import proofs.«01_k».proof.Proof.Gen.KernelIdeal.Skeleton
public import Idealize.ShloMosaic.Lib.VecWindow

@[expose] public section

set_option maxRecDepth 16384

noncomputable section

namespace Cert.SbBwd

open Cert.KernelIdeal Cert.KernelIdeal.Gen
open Idealize.ShloMosaic Idealize.ShloMosaic.TcCoe

variable {F : FTy → Type} [FloatOps F]

/-- Key tile `j` begins at row `256 * j`. -/
theorem tile_inb (j : Fin 32) : ∀ a, (![256 * j.val, 0] : Fin 2 → ℕ) a + S256x128.size a ≤ S8192x128.size a := fun a => by
  have := j.isLt
  match a with
  | ⟨0, _⟩ => show 256 * j.val + 256 ≤ 8192; omega
  | ⟨1, _⟩ => show 0 + 128 ≤ 128; omega

/-- The rows of key tile `j`. -/
abbrev rows {e : EltTy} (x : S8192x128.Idx → Elt F e) (j : Fin 32) : Vec F S256x128 e :=
  VecWindow.window x ![256 * j.val, 0] S256x128.size (tile_inb j)

/-- `x` with the rows of key tile `j` replaced. -/
abbrev putRows {e : EltTy} (x : S8192x128.Idx → Elt F e) (j : Fin 32) (w : Vec F S256x128 e) : Vec F S8192x128 e :=
  VecWindow.put x ![256 * j.val, 0] S256x128.size w

/-- What a block's loop carries in registers: the gradient of the queries, and for either head of the pair the sums
    over the keys so far of the log failures and of the weighted gradients. -/
abbrev Acc (F : FTy → Type) : Type :=
  FVec F S512x128 .f32 × FVec F S512x1 .f32 × FVec F S512x1 .f32 × FVec F S512x1 .f32 × FVec F S512x1 .f32

/-- The registers, and the two arrays of gradients accumulated in memory. -/
structure St (F : FTy → Type) where
  acc : Acc F
  dk : S8192x128.Idx → Elt F .f32
  dv : S8192x128.Idx → Elt F .f32

/-- What is fixed for a block: the scaled queries, the incoming gradient, the mask of each head's rows of keys, the
    totals of the log failures, and the matrix of ones that sums over the keys up to each. -/
structure Blk (F : FTy → Type) where
  qs : FVec F S512x128 .bf16
  dO : Vec F S512x128 .bf16
  head : IVec S512x512 1
  tot : FVec F S512x512 .f32
  upto : FVec F S1024x512 .bf16

/-- One whole tile: what the registers become. -/
def accFull (b : Blk F) (k v : Vec F S256x128 .bf16) (a : Acc F) : Acc F :=
  let l := k0_pay4 b.qs k0_pay56 k
  let s := k0_pay5 b.qs k0_pay56 k
  let z := k0_pay6 b.qs k0_pay56 k
  let r := k0_pay7 b.head a.2.1 a.2.2.1
  let g := k0_pay9 b.dO b.tot b.upto (k0_pay2 k0_pay56 v) l z r
  (k0_pay11 b.dO b.head b.tot b.upto a.1 a.2.2.2.1 a.2.2.2.2 (k0_pay1 k0_pay56 k) (k0_pay2 k0_pay56 v) l s z r,
    k0_pay59 a.2.1 l, k0_pay60 a.2.2.1 l, k0_pay61 a.2.2.2.1 g, k0_pay62 a.2.2.2.2 g)

/-- One whole tile: the rows of the keys' gradient, given what they were. -/
def dkFull (b : Blk F) (k v : Vec F S256x128 .bf16) (a : Acc F) (old : Vec F S256x128 .f32) : Vec F S256x128 .f32 :=
  let l := k0_pay4 b.qs k0_pay56 k
  let s := k0_pay5 b.qs k0_pay56 k
  let z := k0_pay6 b.qs k0_pay56 k
  let r := k0_pay7 b.head a.2.1 a.2.2.1
  k0_pay12 b.qs b.dO b.head b.tot b.upto k0_pay56 a.2.2.2.1 a.2.2.2.2 (k0_pay2 k0_pay56 v) l s z r old

/-- One whole tile: the rows of the values' gradient, given what they were. -/
def dvFull (b : Blk F) (k : Vec F S256x128 .bf16) (a : Acc F) (old : Vec F S256x128 .f32) : Vec F S256x128 .f32 :=
  k0_pay13 b.dO b.tot b.upto k0_pay56 (k0_pay4 b.qs k0_pay56 k) (k0_pay6 b.qs k0_pay56 k) (k0_pay7 b.head a.2.1 a.2.2.1) old

/-- One whole tile: the state after it. -/
def stepFull (b : Blk F) (K V : S8192x128.Idx → Elt F .bf16) (j : Fin 32) (s : St F) : St F where
  acc := accFull b (rows K j) (rows V j) s.acc
  dk := putRows s.dk j (dkFull b (rows K j) (rows V j) s.acc (rows s.dk j))
  dv := putRows s.dv j (dvFull b (rows K j) s.acc (rows s.dv j))

/-- The state before whole tile `n` of a block that starts at `s`. -/
def runFull (b : Blk F) (K V : S8192x128.Idx → Elt F .bf16) (s : St F) : ℕ → St F
  | 0 => s
  | n + 1 => if h : n < 32 then stepFull b K V ⟨n, h⟩ (runFull b K V s n) else runFull b K V s n

theorem runFull_succ (b : Blk F) (K V : S8192x128.Idx → Elt F .bf16) (s : St F) (n : ℕ) (h : n < 32) :
    runFull b K V s (n + 1) = stepFull b K V ⟨n, h⟩ (runFull b K V s n) := dif_pos h

/-- One tile on the diagonal: the mask of the keys before each query, and what the registers become. `v12`, `v31` are
    the positions of the queries and of the keys, `w` the number of whole tiles, `n` the tile's number. -/
def accDiag (b : Blk F) (v12 v31 : IVec S512x512 32) (w : BitVec 32) (n : Fin k0_t3_loop.trips) (k v : Vec F S256x128 .bf16) (a : Acc F) : Acc F :=
  let m := k0_pay29 v12 v31 w 0#32 1#32 n
  let s := k0_pay32 b.qs k0_pay56 k
  let l := k0_pay33 b.qs v12 v31 k0_pay56 w 0#32 1#32 n k
  let z := k0_pay34 b.qs v12 v31 k0_pay56 w 0#32 1#32 n k
  let r := k0_pay35 a.2.1
  let g := k0_pay37 b.dO b.head b.tot b.upto a.2.2.1 (k0_pay28 k0_pay56 v) m l z r
  (k0_pay39 b.dO b.head b.tot b.upto a.1 a.2.2.1 a.2.2.2.1 a.2.2.2.2 (k0_pay27 k0_pay56 k) (k0_pay28 k0_pay56 v) m s l z r,
    k0_pay68 a.2.1 l, k0_pay69 a.2.2.1 l, k0_pay70 a.2.2.2.1 g, k0_pay71 a.2.2.2.2 g)

/-- One tile on the diagonal: the rows of the keys' gradient, given what they were. -/
def dkDiag (b : Blk F) (v12 v31 : IVec S512x512 32) (w : BitVec 32) (n : Fin k0_t3_loop.trips) (k v : Vec F S256x128 .bf16) (a : Acc F) (old : Vec F S256x128 .f32) :
    Vec F S256x128 .f32 :=
  let m := k0_pay29 v12 v31 w 0#32 1#32 n
  let s := k0_pay32 b.qs k0_pay56 k
  let l := k0_pay33 b.qs v12 v31 k0_pay56 w 0#32 1#32 n k
  let z := k0_pay34 b.qs v12 v31 k0_pay56 w 0#32 1#32 n k
  let r := k0_pay35 a.2.1
  k0_pay41 b.qs b.dO b.head b.tot b.upto k0_pay56 a.2.2.1 a.2.2.2.1 a.2.2.2.2 (k0_pay28 k0_pay56 v) m s l z r old

/-- One tile on the diagonal: the rows of the values' gradient, given what they were. -/
def dvDiag (b : Blk F) (v12 v31 : IVec S512x512 32) (w : BitVec 32) (n : Fin k0_t3_loop.trips) (k : Vec F S256x128 .bf16) (a : Acc F) (old : Vec F S256x128 .f32) :
    Vec F S256x128 .f32 :=
  let m := k0_pay29 v12 v31 w 0#32 1#32 n
  let l := k0_pay33 b.qs v12 v31 k0_pay56 w 0#32 1#32 n k
  let z := k0_pay34 b.qs v12 v31 k0_pay56 w 0#32 1#32 n k
  k0_pay67 (k0_pay40 b.dO b.head b.tot b.upto a.2.2.1 m l z (k0_pay35 a.2.1)) old

/-- One tile on the diagonal, the key tile `j`: the state after it. -/
def stepDiag (b : Blk F) (v12 v31 : IVec S512x512 32) (w : BitVec 32) (K V : S8192x128.Idx → Elt F .bf16) (n : Fin k0_t3_loop.trips) (j : Fin 32) (s : St F) : St F where
  acc := accDiag b v12 v31 w n (rows K j) (rows V j) s.acc
  dk := putRows s.dk j (dkDiag b v12 v31 w n (rows K j) (rows V j) s.acc (rows s.dk j))
  dv := putRows s.dv j (dvDiag b v12 v31 w n (rows K j) s.acc (rows s.dv j))

/-- Row block `i`'s `n`-th tile on the diagonal. -/
def diagTile (i : grid0.Coords) (n : Fin k0_t3_loop.trips) : Fin 32 :=
  ⟨2 * (i 1).val + n.val, by
    have h : (i 1).val < 16 := (i 1).isLt
    have hn : n.val < k0_t3_loop.trips := n.isLt
    have ht : k0_t3_loop.trips = 2 := by decide
    omega⟩

/-- The state before the `n`-th tile on the diagonal of a block that reaches the diagonal at `s`. -/
def runDiag (b : Blk F) (v12 v31 : IVec S512x512 32) (w : BitVec 32) (i : grid0.Coords) (K V : S8192x128.Idx → Elt F .bf16) (s : St F) : ℕ → St F
  | 0 => s
  | n + 1 => if h : n < k0_t3_loop.trips then stepDiag b v12 v31 w K V ⟨n, h⟩ (diagTile i ⟨n, h⟩) (runDiag b v12 v31 w i K V s n)
      else runDiag b v12 v31 w i K V s n

theorem runDiag_succ (b : Blk F) (v12 v31 : IVec S512x512 32) (w : BitVec 32) (i : grid0.Coords) (K V : S8192x128.Idx → Elt F .bf16) (s : St F)
    (n : Fin k0_t3_loop.trips) :
    runDiag b v12 v31 w i K V s (n.val + 1) = stepDiag b v12 v31 w K V n (diagTile i n) (runDiag b v12 v31 w i K V s n.val) := dif_pos n.isLt

end Cert.SbBwd

end
-- ==== Proof.Loops.lean ====
/-
  The two counted loops of the body, by the states they pass through: the whole tiles (the second loop the compiler
  leaves for a trip count that is a word has no trip), then the tiles on the diagonal.
-/
module

public import proofs.«01_k».proof.Proof.Tile
public import proofs.«01_k».proof.Proof.Gen.KernelIdeal.Loops

@[expose] public section

set_option maxRecDepth 16384
set_option maxHeartbeats 400000

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word that counts row block `i`'s whole tiles. -/
abbrev nFull (i : grid0.Coords) : BitVec 32 := BitVec.ofNat 32 (2 * (i 1).val)

theorem trips1 : ∀ i : grid0.Coords, (k0_t1_loop (nFull i)).trips = 2 * (i 1).val := by decide +kernel
theorem trips2 : ∀ i : grid0.Coords, (k0_t2_loop (nFull i)).trips = 0 := by decide +kernel
theorem chk_nFull : ∀ i : grid0.Coords, k0_chk1 i (nFull i) := by decide +kernel
theorem off2_nFull : ∀ (i : grid0.Coords) (k : Fin (k0_t1_loop (nFull i)).trips), k0_off2 i (nFull i) k = ![256 * k.val, 0] := by decide +kernel
theorem off4_eq : ∀ (i : grid0.Coords) (k : Fin k0_t3_loop.trips), k0_off4 i k = ![256 * (diagTile i k).val, 0] := by decide +kernel

theorem trips1_lt (i : grid0.Coords) {v : BitVec 32} (hv : v = nFull i) (k : Fin (k0_t1_loop v).trips) : k.val < 32 := by
  subst hv
  have h := k.isLt
  have e := trips1 i
  have hi : (i 1).val < 16 := (i 1).isLt
  omega

/-- The block's fixed values, from what the body holds in registers. -/
abbrev blk (v7 : FVec F S512x128 .bf16) (v8 : Vec F S512x128 .bf16) (v15 : IVec S512x512 1) (v40 : FVec F S512x512 .f32) (v42 : IVec S1024x512 32)
    (v107 : IVec S1024x512 1) (v123 : IVec S1024x512 32) (v125 : BitVec 32) (v126 : IVec S1024x512 32) : Blk F :=
  ⟨v7, v8, v15, v40, k0_pay55 v42 v107 v123 v125 v126⟩

/-- Memref `M` on core `c`, held whole at the values `x`. -/
abbrev at_ (c : Dev nD) {sp : Space} {S : Shape} {e : EltTy} (M : Memref sig .tc sp S e) (x : S.Idx → Elt F e) : sProp 𝕄 :=
  M.view.loc (c : Thread nD τ) ↦[M.view.set]{fullShare} M.view.rep x

/-- One whole tile, at the state before it. -/
theorem tripFull (𝒱 : Variants) (c : Dev nD) (bd : Option 𝒱.V) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v7 : FVec F S512x128 .bf16) (v8 : Vec F S512x128 .bf16) (v12 : IVec S512x512 32) (v15 : IVec S512x512 1) (v31 : IVec S512x512 32) (v40 : FVec F S512x512 .f32) (v42 : IVec S1024x512 32) (v107 : IVec S1024x512 1) (v123 : IVec S1024x512 32) (v125 : BitVec 32) (v126 : IVec S1024x512 32) (v153 : Elt F .i32) (k0_hw1 : k0_chk1 i v153) (v154 : BitVec 32)
    (hv : v153 = nFull i) (K V : S8192x128.Idx → Elt F .bf16) (k : Fin (k0_t1_loop v153).trips) (s : St F) :
    iprop(at_ c arg3 K ∗ at_ c arg4 V ∗ at_ c arg10 s.dk ∗ at_ c arg11 s.dv)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg0 arg1 v7 v8 v12 v15 v31 v40 v42 v107 v123 v125 v126 v153 k0_hw1 v154 k s.acc)
        (fun yld => iprop(⌜yld = (stepFull (blk v7 v8 v15 v40 v42 v107 v123 v125 v126) K V ⟨k.val, trips1_lt i hv k⟩ s).acc⌝ ∗ at_ c arg3 K ∗ at_ c arg4 V
          ∗ at_ c arg10 (stepFull (blk v7 v8 v15 v40 v42 v107 v123 v125 v126) K V ⟨k.val, trips1_lt i hv k⟩ s).dk
          ∗ at_ c arg11 (stepFull (blk v7 v8 v15 v40 v42 v107 v123 v125 v126) K V ⟨k.val, trips1_lt i hv k⟩ s).dv)) := by
  unfold k0_t1_body
  iintro ⟨H3, H4, H10, H11⟩
  sl_exec
  sl_step
  sl_unfold_run_names
  have ho : k0_off2 i v153 k = ![256 * k.val, 0] := by subst hv; exact off2_nFull i k
  have rd : ∀ {sp : Space} {e : EltTy} (M : Memref sig .tc sp S8192x128 e) (x : S8192x128.Idx → Elt F e),
      M.view.readAt (Elt F) (Rect.unit (s := S8192x128) (k0_off2 i v153 k) S256x128.size (k0_off2_inb i v153 k0_hw1 k)).toLoadRect (M.view.rep x)
        = rows x ⟨k.val, trips1_lt i hv k⟩ := fun M x => View.readAt_rep_unit M.view x _ ho (tile_inb ⟨k.val, trips1_lt i hv k⟩)
  simp only [rd]
  isplitr
  · ipureintro; rfl
  isplitl [H3]; · iexact H3
  isplitl [H4]; · iexact H4
  isplitl [H10]
  · iapply (pointsTo_rep_of_read (c : Thread nD τ) arg10 _ fullShare _ (View.read_writes_rep_unit arg10.view s.dk _ _ ho))
    iexact H10
  · iapply (pointsTo_rep_of_read (c : Thread nD τ) arg11 _ fullShare _ (View.read_writes_rep_unit arg11.view s.dv _ _ ho))
    iexact H11

/-- One tile on the diagonal, at the state before it. -/
theorem tripDiag (𝒱 : Variants) (c : Dev nD) (bd : Option 𝒱.V) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v7 : FVec F S512x128 .bf16) (v8 : Vec F S512x128 .bf16) (v12 : IVec S512x512 32) (v15 : IVec S512x512 1) (v31 : IVec S512x512 32) (v40 : FVec F S512x512 .f32) (v42 : IVec S1024x512 32) (v107 : IVec S1024x512 1) (v123 : IVec S1024x512 32) (v125 : BitVec 32) (v126 : IVec S1024x512 32) (v150 : BitVec 32)
    (K V : S8192x128.Idx → Elt F .bf16) (k : Fin k0_t3_loop.trips) (s : St F) :
    iprop(at_ c arg3 K ∗ at_ c arg4 V ∗ at_ c arg10 s.dk ∗ at_ c arg11 s.dv)
    ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg0 arg1 v7 v8 v12 v15 v31 v40 v42 v107 v123 v125 v126 v150 k s.acc)
        (fun yld => iprop(⌜yld = (stepDiag (blk v7 v8 v15 v40 v42 v107 v123 v125 v126) v12 v31 v150 K V k (diagTile i k) s).acc⌝ ∗ at_ c arg3 K ∗ at_ c arg4 V
          ∗ at_ c arg10 (stepDiag (blk v7 v8 v15 v40 v42 v107 v123 v125 v126) v12 v31 v150 K V k (diagTile i k) s).dk
          ∗ at_ c arg11 (stepDiag (blk v7 v8 v15 v40 v42 v107 v123 v125 v126) v12 v31 v150 K V k (diagTile i k) s).dv)) := by
  unfold k0_t3_body
  iintro ⟨H3, H4, H10, H11⟩
  sl_exec
  sl_step
  sl_unfold_run_names
  have ho : k0_off4 i k = ![256 * (diagTile i k).val, 0] := off4_eq i k
  have rd : ∀ {sp : Space} {e : EltTy} (M : Memref sig .tc sp S8192x128 e) (x : S8192x128.Idx → Elt F e),
      M.view.readAt (Elt F) (Rect.unit (s := S8192x128) (k0_off4 i k) S256x128.size (k0_off4_inb i k)).toLoadRect (M.view.rep x)
        = rows x (diagTile i k) := fun M x => View.readAt_rep_unit M.view x _ ho (tile_inb (diagTile i k))
  simp only [rd]
  isplitr
  · ipureintro; rfl
  isplitl [H3]; · iexact H3
  isplitl [H4]; · iexact H4
  isplitl [H10]
  · iapply (pointsTo_rep_of_read (c : Thread nD τ) arg10 _ fullShare _ (View.read_writes_rep_unit arg10.view s.dk _ _ ho))
    iexact H10
  · iapply (pointsTo_rep_of_read (c : Thread nD τ) arg11 _ fullShare _ (View.read_writes_rep_unit arg11.view s.dv _ _ ho))
    iexact H11

set_option warn.classDefReducibility false in
/-- The loop over the whole tiles: before trip `k` the registers and the two arrays are at the state before tile `k`. -/
@[sl_loop] def loopFull (𝒱 : Variants) (c : Dev nD) (bd : Option 𝒱.V) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v7 : FVec F S512x128 .bf16) (v8 : Vec F S512x128 .bf16) (v12 : IVec S512x512 32) (v15 : IVec S512x512 1) (v31 : IVec S512x512 32) (v40 : FVec F S512x512 .f32) (v42 : IVec S1024x512 32) (v107 : IVec S1024x512 1) (v123 : IVec S1024x512 32) (v125 : BitVec 32) (v126 : IVec S1024x512 32) (v153 : Elt F .i32) (k0_hw1 : k0_chk1 i v153) (v154 : BitVec 32) (init : Acc F)
    (hv : v153 = nFull i) (K V : S8192x128.Idx → Elt F .bf16) (dk dv : S8192x128.Idx → Elt F .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg0 arg1 v7 v8 v12 v15 v31 v40 v42 v107 v123 v125 v126 v153 k0_hw1 v154 init where
  inv k acc := iprop(⌜acc = (runFull (blk v7 v8 v15 v40 v42 v107 v123 v125 v126) K V ⟨init, dk, dv⟩ k).acc⌝ ∗ at_ c arg3 K ∗ at_ c arg4 V
    ∗ at_ c arg10 (runFull (blk v7 v8 v15 v40 v42 v107 v123 v125 v126) K V ⟨init, dk, dv⟩ k).dk ∗ at_ c arg11 (runFull (blk v7 v8 v15 v40 v42 v107 v123 v125 v126) K V ⟨init, dk, dv⟩ k).dv)
  step k acc := by
    iintro ⟨%h, H3, H4, H10, H11⟩
    subst h
    rw [runFull_succ _ _ _ _ _ (trips1_lt i hv k)]
    iapply (tripFull (F := F) 𝒱 c bd E i arg2 harg2 arg3 harg3 arg4 harg4 arg5 harg5 arg6 harg6 arg7 harg7 arg8 harg8 arg9 harg9 arg10 harg10 arg11 harg11 arg0 arg1 v7 v8 v12 v15 v31 v40 v42 v107 v123 v125 v126 v153 k0_hw1 v154 hv K V k (runFull (blk v7 v8 v15 v40 v42 v107 v123 v125 v126) K V ⟨init, dk, dv⟩ k.val))
    isplitl [H3]; · iexact H3
    isplitl [H4]; · iexact H4
    isplitl [H10]; · iexact H10
    iexact H11

set_option warn.classDefReducibility false in
/-- The remainder of the loop over the whole tiles makes no trip. -/
@[sl_loop] def loopRest (𝒱 : Variants) (c : Dev nD) (bd : Option 𝒱.V) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v7 : FVec F S512x128 .bf16) (v8 : Vec F S512x128 .bf16) (v12 : IVec S512x512 32) (v15 : IVec S512x512 1) (v31 : IVec S512x512 32) (v40 : FVec F S512x512 .f32) (v42 : IVec S1024x512 32) (v107 : IVec S1024x512 1) (v123 : IVec S1024x512 32) (v125 : BitVec 32) (v126 : IVec S1024x512 32) (v153 : Elt F .i32) (k0_hw1 : k0_chk1 i v153) (v154 v159 : BitVec 32) (init : Acc F)
    (hv : v153 = nFull i) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg0 arg1 v7 v8 v12 v15 v31 v40 v42 v107 v123 v125 v126 v153 k0_hw1 v154 v159 init where
  inv _ acc := iprop(⌜acc = init⌝)
  step k _ := by
    subst hv
    exact absurd (k.isLt.trans_eq (trips2 i)) (Nat.not_lt_zero _)

/-- The registers and the two arrays before the `k`-th tile on the diagonal, each by itself. -/
def diagAcc (b : Blk F) (v12 v31 : IVec S512x512 32) (w : BitVec 32) (i : grid0.Coords) (K V : S8192x128.Idx → Elt F .bf16) (a : Acc F)
    (dk dv : S8192x128.Idx → Elt F .f32) : ℕ → Acc F
  | 0 => a
  | k + 1 => (runDiag b v12 v31 w i K V ⟨a, dk, dv⟩ (k + 1)).acc
def diagDk (b : Blk F) (v12 v31 : IVec S512x512 32) (w : BitVec 32) (i : grid0.Coords) (K V : S8192x128.Idx → Elt F .bf16) (a : Acc F)
    (dk dv : S8192x128.Idx → Elt F .f32) : ℕ → S8192x128.Idx → Elt F .f32
  | 0 => dk
  | k + 1 => (runDiag b v12 v31 w i K V ⟨a, dk, dv⟩ (k + 1)).dk
def diagDv (b : Blk F) (v12 v31 : IVec S512x512 32) (w : BitVec 32) (i : grid0.Coords) (K V : S8192x128.Idx → Elt F .bf16) (a : Acc F)
    (dk dv : S8192x128.Idx → Elt F .f32) : ℕ → S8192x128.Idx → Elt F .f32
  | 0 => dv
  | k + 1 => (runDiag b v12 v31 w i K V ⟨a, dk, dv⟩ (k + 1)).dv

theorem diagAcc_eq (b : Blk F) (v12 v31 : IVec S512x512 32) (w : BitVec 32) (i : grid0.Coords) (K V : S8192x128.Idx → Elt F .bf16) (a : Acc F)
    (dk dv : S8192x128.Idx → Elt F .f32) (k : ℕ) : diagAcc b v12 v31 w i K V a dk dv k = (runDiag b v12 v31 w i K V ⟨a, dk, dv⟩ k).acc := by
  cases k <;> rfl
theorem diagDk_eq (b : Blk F) (v12 v31 : IVec S512x512 32) (w : BitVec 32) (i : grid0.Coords) (K V : S8192x128.Idx → Elt F .bf16) (a : Acc F)
    (dk dv : S8192x128.Idx → Elt F .f32) (k : ℕ) : diagDk b v12 v31 w i K V a dk dv k = (runDiag b v12 v31 w i K V ⟨a, dk, dv⟩ k).dk := by
  cases k <;> rfl
theorem diagDv_eq (b : Blk F) (v12 v31 : IVec S512x512 32) (w : BitVec 32) (i : grid0.Coords) (K V : S8192x128.Idx → Elt F .bf16) (a : Acc F)
    (dk dv : S8192x128.Idx → Elt F .f32) (k : ℕ) : diagDv b v12 v31 w i K V a dk dv k = (runDiag b v12 v31 w i K V ⟨a, dk, dv⟩ k).dv := by
  cases k <;> rfl

set_option warn.classDefReducibility false in
/-- The loop over the tiles on the diagonal: before trip `k` the registers and the two arrays are at the state before tile `k`. -/
@[sl_loop] def loopDiag (𝒱 : Variants) (c : Dev nD) (bd : Option 𝒱.V) (E : Set ℕ) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole) (arg0 arg1 : BitVec 32) (v7 : FVec F S512x128 .bf16) (v8 : Vec F S512x128 .bf16) (v12 : IVec S512x512 32) (v15 : IVec S512x512 1) (v31 : IVec S512x512 32) (v40 : FVec F S512x512 .f32) (v42 : IVec S1024x512 32) (v107 : IVec S1024x512 1) (v123 : IVec S1024x512 32) (v125 : BitVec 32) (v126 : IVec S1024x512 32) (v150 : BitVec 32) (init : Acc F)
    (K V : S8192x128.Idx → Elt F .bf16) (dk dv : S8192x128.Idx → Elt F .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg0 arg1 v7 v8 v12 v15 v31 v40 v42 v107 v123 v125 v126 v150 init where
  inv k acc := iprop(⌜acc = diagAcc (blk v7 v8 v15 v40 v42 v107 v123 v125 v126) v12 v31 v150 i K V init dk dv k⌝ ∗ at_ c arg3 K ∗ at_ c arg4 V
    ∗ at_ c arg10 (diagDk (blk v7 v8 v15 v40 v42 v107 v123 v125 v126) v12 v31 v150 i K V init dk dv k) ∗ at_ c arg11 (diagDv (blk v7 v8 v15 v40 v42 v107 v123 v125 v126) v12 v31 v150 i K V init dk dv k))
  step k acc := by
    iintro ⟨%h, H3, H4, H10, H11⟩
    subst h
    simp only [diagAcc_eq, diagDk_eq, diagDv_eq, runDiag_succ]
    iapply (tripDiag (F := F) 𝒱 c bd E i arg2 harg2 arg3 harg3 arg4 harg4 arg5 harg5 arg6 harg6 arg7 harg7 arg8 harg8 arg9 harg9 arg10 harg10 arg11 harg11 arg0 arg1 v7 v8 v12 v15 v31 v40 v42 v107 v123 v125 v126 v150 K V k (runDiag (blk v7 v8 v15 v40 v42 v107 v123 v125 v126) v12 v31 v150 i K V ⟨init, dk, dv⟩ k.val))
    isplitl [H3]; · iexact H3
    isplitl [H4]; · iexact H4
    isplitl [H10]; · iexact H10
    iexact H11

end Cert.SbBwd

end
-- ==== Proof.Body.lean ====
/-
  One grid point of the backward kernel: the whole body, from the windows' contents to what it leaves in the three outputs.
-/
module

public import proofs.«01_k».proof.Proof.Loops

@[expose] public section

set_option maxRecDepth 16384
set_option maxHeartbeats 1000000

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row numbers and the column numbers of the matrix that sums over the keys. -/
abbrev rowNo : IVec S1024x512 32 := iota .tc S1024x512 32 [0] iota_S1024x512_d0_w32
abbrev colNo : IVec S1024x512 32 := iota .tc S1024x512 32 [1] iota_S1024x512_d1_w32

/-- A block's fixed values, from the blocks of the queries, of the incoming gradient and of the two heads' totals. -/
abbrev blkOf (Q dO : Vec F S512x128 .bf16) (ta tb : Vec F S1x512x1 .f32) : Blk F :=
  blk (k0_pay44 Q) dO k0_pay46 (k0_pay50 k0_pay46 (k0_pay48 ta) (k0_pay49 tb)) colNo (k0_pay52 colNo k0_pay51) (k0_pay53 rowNo)
    (Scalar.select (Scalar.cmpi .eq 256#32 0#32) 1#32 256#32) k0_pay54

/-- A block's run over its tiles, from the gradients of the keys and of the values as the block finds them. -/
def blockRun (i : grid0.Coords) (b : Blk F) (K V : S8192x128.Idx → Elt F .bf16) (dk dv : S8192x128.Idx → Elt F .f32) : St F :=
  runDiag b (k0_pay45 i) k0_pay47 (Scalar.muli (BitVec.ofNat 32 (i 1).val) 2#32) i K V
    (runFull b K V ⟨(k0_pay58, k0_pay57, k0_pay57, k0_pay57, k0_pay57), dk, dv⟩ (k0_t1_loop (nFull i)).trips) k0_t3_loop.trips

/-- The block of the queries' gradient that a run leaves. -/
def dqOf (s : St F) : Vec F S512x128 .f32 := k0_pay72 s.acc.1

/-- The word of the table of counts at grid point `i`. -/
def word (vis : S4x16.Idx → Elt F .i32) (i : grid0.Coords) : BitVec 32 := vis (fun | ⟨0, _⟩ => i 0 | ⟨1, _⟩ => i 1)

/-- The first row block of a pair: the gradients of the keys and of the values begin at zero. -/
theorem runFirst (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole)
    (Q dO : Vec F S512x128 .bf16) (K V : S8192x128.Idx → Elt F .bf16) (ta tb : Vec F S1x512x1 .f32) (vis : S4x16.Idx → Elt F .i32)
    (dq : Vec F S512x128 .f32) (dk dv : S8192x128.Idx → Elt F .f32) (hvis : word vis i = nFull i) (hc : Scalar.cmpi .ne (Scalar.extui (Scalar.cmpi .eq (BitVec.ofNat 32 (i 1).val) 0#32)) 0#32 = 1#1) :
    iprop(at_ c arg2 Q ∗ at_ c arg3 K ∗ at_ c arg4 V ∗ at_ c arg5 ta ∗ at_ c arg6 tb ∗ at_ c arg7 vis ∗ at_ c arg8 dO ∗ at_ c arg9 dq
        ∗ at_ c arg10 dk ∗ at_ c arg11 dv)
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(at_ c arg2 Q ∗ at_ c arg3 K ∗ at_ c arg4 V ∗ at_ c arg5 ta ∗ at_ c arg6 tb ∗ at_ c arg7 vis ∗ at_ c arg8 dO
            ∗ at_ c arg9 (dqOf (blockRun i (blkOf Q dO ta tb) K V k0_pay42 k0_pay43))
            ∗ at_ c arg10 (blockRun i (blkOf Q dO ta tb) K V k0_pay42 k0_pay43).dk
            ∗ at_ c arg11 (blockRun i (blkOf Q dO ta tb) K V k0_pay42 k0_pay43).dv)) := by
  simp only [cc0_sb_bwd_eq_skeleton]; unfold cc0_sb_bwd_skel
  simp only [k0_part8_eq_skeleton, k0_part9_eq_skeleton]
  unfold k0_part8_skel k0_part9_skel
  have hv : nFull i = nFull i := rfl
  have rdw : arg7.view.readAt (Elt F) (Rect.unit (s := S4x16) (k0_off1 i) S1x1.size (k0_off1_inb i)).toLoadRect (arg7.view.rep vis)
      = fun _ => nFull i := by
    rw [View.readAt_rep_unit arg7.view vis _ (k0_off1_eq i) (fun a => k0_off1_eq i ▸ k0_off1_inb i a)]
    funext y
    rw [← hvis]
    refine congrArg vis (funext fun a => Fin.ext ?_)
    match a with
    | ⟨0, _⟩ => have : (y 0).val < 1 := (y 0).isLt; show (i 0).val + 1 * (y 0).val = (i 0).val; omega
    | ⟨1, _⟩ => have : (y 1).val < 1 := (y 1).isLt; show (i 1).val + 1 * (y 1).val = (i 1).val; omega
  have rd2 : arg2.view.readAt (Elt F) (Rect.unit (s := S512x128) ![0, 0] S512x128.size inb_S512x128_S512x128_0_0).toLoadRect (arg2.view.rep Q) = Q :=
    View.readAt_rep_full arg2.view Q _
  have rd8 : arg8.view.readAt (Elt F) (Rect.unit (s := S512x128) ![0, 0] S512x128.size inb_S512x128_S512x128_0_0).toLoadRect (arg8.view.rep dO) = dO :=
    View.readAt_rep_full arg8.view dO _
  have rd5 : arg5.view.readAt (Elt F) (Rect.unit (s := S1x512x1) ![0, 0, 0] S1x512x1.size inb_S1x512x1_S1x512x1_0_0_0).toLoadRect (arg5.view.rep ta) = ta :=
    View.readAt_rep_full arg5.view ta _
  have rd6 : arg6.view.readAt (Elt F) (Rect.unit (s := S1x512x1) ![0, 0, 0] S1x512x1.size inb_S1x512x1_S1x512x1_0_0_0).toLoadRect (arg6.view.rep tb) = tb :=
    View.readAt_rep_full arg6.view tb _
  iintro ⟨H2, H3, H4, H5, H6, H7, H8, H9, H10, H11⟩
  sl_exec (disch := sl_exact hc)
  ihave H10 := (pointsTo_rep_of_read (c : Thread nD τ) arg10 _ fullShare _ (View.read_writes_full arg10.view _ inb_S8192x128_S8192x128_0_0 k0_pay42 [])) $$ H10
  ihave H11 := (pointsTo_rep_of_read (c : Thread nD τ) arg11 _ fullShare _ (View.read_writes_full arg11.view _ inb_S8192x128_S8192x128_0_0 k0_pay43 [])) $$ H11
  have chk := chk_nFull i
  sl_exec
  generalize hS : runFull _ K V _ _ = S1
  obtain ⟨⟨a0, a1, a2, a3, a4⟩, dk1, dv1⟩ := S1
  dsimp only
  sl_exec
  sl_step
  have e : blockRun i (blkOf Q dO ta tb) K V k0_pay42 k0_pay43
      = runDiag (blkOf Q dO ta tb) (k0_pay45 i) k0_pay47 (Scalar.muli (BitVec.ofNat 32 (i 1).val) 2#32) i K V
        ⟨(a0, a1, a2, a3, a4), dk1, dv1⟩ k0_t3_loop.trips :=
    congrArg (fun s => runDiag (blkOf Q dO ta tb) (k0_pay45 i) k0_pay47 (Scalar.muli (BitVec.ofNat 32 (i 1).val) 2#32) i K V s k0_t3_loop.trips) hS
  rw [e, ← diagDk_eq, ← diagDv_eq]
  have e9 : dqOf (runDiag (blkOf Q dO ta tb) (k0_pay45 i) k0_pay47 (Scalar.muli (BitVec.ofNat 32 (i 1).val) 2#32) i K V
        ⟨(a0, a1, a2, a3, a4), dk1, dv1⟩ k0_t3_loop.trips)
      = k0_pay72 (diagAcc (blkOf Q dO ta tb) (k0_pay45 i) k0_pay47 (Scalar.muli (BitVec.ofNat 32 (i 1).val) 2#32) i K V
        (a0, a1, a2, a3, a4) dk1 dv1 k0_t3_loop.trips).1 := by rw [diagAcc_eq]; rfl
  rw [e9]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pointsTo_rep_of_read (c : Thread nD τ) arg9 _ fullShare _ (View.read_writes_full arg9.view _ inb_S512x128_S512x128_0_0 _ []))
    iexact H9
  isplitl [H10]; · iexact H10
  iexact H11

/-- A later row block of a pair: the gradients of the keys and of the values go on from what they were. -/
theorem runNext (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1x512x1 .f32) (harg5 : arg5.IsWhole) (arg6 : Memref sig .tc .vmem S1x512x1 .f32) (harg6 : arg6.IsWhole) (arg7 : Memref sig .tc .smem S4x16 .i32) (harg7 : arg7.IsWhole) (arg8 : Memref sig .tc .vmem S512x128 .bf16) (harg8 : arg8.IsWhole) (arg9 : Memref sig .tc .vmem S512x128 .f32) (harg9 : arg9.IsWhole) (arg10 : Memref sig .tc .vmem S8192x128 .f32) (harg10 : arg10.IsWhole) (arg11 : Memref sig .tc .vmem S8192x128 .f32) (harg11 : arg11.IsWhole)
    (Q dO : Vec F S512x128 .bf16) (K V : S8192x128.Idx → Elt F .bf16) (ta tb : Vec F S1x512x1 .f32) (vis : S4x16.Idx → Elt F .i32)
    (dq : Vec F S512x128 .f32) (dk dv : S8192x128.Idx → Elt F .f32) (hvis : word vis i = nFull i) (hc : ¬ Scalar.cmpi .ne (Scalar.extui (Scalar.cmpi .eq (BitVec.ofNat 32 (i 1).val) 0#32)) 0#32 = 1#1) :
    iprop(at_ c arg2 Q ∗ at_ c arg3 K ∗ at_ c arg4 V ∗ at_ c arg5 ta ∗ at_ c arg6 tb ∗ at_ c arg7 vis ∗ at_ c arg8 dO ∗ at_ c arg9 dq
        ∗ at_ c arg10 dk ∗ at_ c arg11 dv)
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(at_ c arg2 Q ∗ at_ c arg3 K ∗ at_ c arg4 V ∗ at_ c arg5 ta ∗ at_ c arg6 tb ∗ at_ c arg7 vis ∗ at_ c arg8 dO
            ∗ at_ c arg9 (dqOf (blockRun i (blkOf Q dO ta tb) K V dk dv))
            ∗ at_ c arg10 (blockRun i (blkOf Q dO ta tb) K V dk dv).dk
            ∗ at_ c arg11 (blockRun i (blkOf Q dO ta tb) K V dk dv).dv)) := by
  simp only [cc0_sb_bwd_eq_skeleton]; unfold cc0_sb_bwd_skel
  simp only [k0_part8_eq_skeleton, k0_part9_eq_skeleton]
  unfold k0_part8_skel k0_part9_skel
  have hv : nFull i = nFull i := rfl
  have rdw : arg7.view.readAt (Elt F) (Rect.unit (s := S4x16) (k0_off1 i) S1x1.size (k0_off1_inb i)).toLoadRect (arg7.view.rep vis)
      = fun _ => nFull i := by
    rw [View.readAt_rep_unit arg7.view vis _ (k0_off1_eq i) (fun a => k0_off1_eq i ▸ k0_off1_inb i a)]
    funext y
    rw [← hvis]
    refine congrArg vis (funext fun a => Fin.ext ?_)
    match a with
    | ⟨0, _⟩ => have : (y 0).val < 1 := (y 0).isLt; show (i 0).val + 1 * (y 0).val = (i 0).val; omega
    | ⟨1, _⟩ => have : (y 1).val < 1 := (y 1).isLt; show (i 1).val + 1 * (y 1).val = (i 1).val; omega
  have rd2 : arg2.view.readAt (Elt F) (Rect.unit (s := S512x128) ![0, 0] S512x128.size inb_S512x128_S512x128_0_0).toLoadRect (arg2.view.rep Q) = Q :=
    View.readAt_rep_full arg2.view Q _
  have rd8 : arg8.view.readAt (Elt F) (Rect.unit (s := S512x128) ![0, 0] S512x128.size inb_S512x128_S512x128_0_0).toLoadRect (arg8.view.rep dO) = dO :=
    View.readAt_rep_full arg8.view dO _
  have rd5 : arg5.view.readAt (Elt F) (Rect.unit (s := S1x512x1) ![0, 0, 0] S1x512x1.size inb_S1x512x1_S1x512x1_0_0_0).toLoadRect (arg5.view.rep ta) = ta :=
    View.readAt_rep_full arg5.view ta _
  have rd6 : arg6.view.readAt (Elt F) (Rect.unit (s := S1x512x1) ![0, 0, 0] S1x512x1.size inb_S1x512x1_S1x512x1_0_0_0).toLoadRect (arg6.view.rep tb) = tb :=
    View.readAt_rep_full arg6.view tb _
  iintro ⟨H2, H3, H4, H5, H6, H7, H8, H9, H10, H11⟩
  sl_exec (disch := sl_exact hc)
  have chk := chk_nFull i
  sl_exec
  generalize hS : runFull _ K V _ _ = S1
  obtain ⟨⟨a0, a1, a2, a3, a4⟩, dk1, dv1⟩ := S1
  dsimp only
  sl_exec
  sl_step
  have e : blockRun i (blkOf Q dO ta tb) K V dk dv
      = runDiag (blkOf Q dO ta tb) (k0_pay45 i) k0_pay47 (Scalar.muli (BitVec.ofNat 32 (i 1).val) 2#32) i K V
        ⟨(a0, a1, a2, a3, a4), dk1, dv1⟩ k0_t3_loop.trips :=
    congrArg (fun s => runDiag (blkOf Q dO ta tb) (k0_pay45 i) k0_pay47 (Scalar.muli (BitVec.ofNat 32 (i 1).val) 2#32) i K V s k0_t3_loop.trips) hS
  rw [e, ← diagDk_eq, ← diagDv_eq]
  have e9 : dqOf (runDiag (blkOf Q dO ta tb) (k0_pay45 i) k0_pay47 (Scalar.muli (BitVec.ofNat 32 (i 1).val) 2#32) i K V
        ⟨(a0, a1, a2, a3, a4), dk1, dv1⟩ k0_t3_loop.trips)
      = k0_pay72 (diagAcc (blkOf Q dO ta tb) (k0_pay45 i) k0_pay47 (Scalar.muli (BitVec.ofNat 32 (i 1).val) 2#32) i K V
        (a0, a1, a2, a3, a4) dk1 dv1 k0_t3_loop.trips).1 := by rw [diagAcc_eq]; rfl
  rw [e9]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (pointsTo_rep_of_read (c : Thread nD τ) arg9 _ fullShare _ (View.read_writes_full arg9.view _ inb_S512x128_S512x128_0_0 _ []))
    iexact H9
  isplitl [H10]; · iexact H10
  iexact H11

end Cert.SbBwd

end
-- ==== Proof.Visited.lean ====
/-
  The table of counts the kernel reads: for row block `i` of any pair of heads, `2 * i` tiles lie wholly below the
  diagonal.
-/
module

public import proofs.«01_k».proof.Proof.Body
public import proofs.«01_k».proof.Proof.Gen.KernelIdeal.Frame

@[expose] public section

set_option maxRecDepth 16384

noncomputable section

namespace Cert.SbBwd

open Cert.KernelIdeal Cert.KernelIdeal.Gen
open Idealize.ShloMosaic Idealize.ShloMosaic.TcCoe Idealize.ShloMosaic.StableHlo
open Idealize.SL Idealize.SL.Sem

variable {F : FTy → Type} [FloatOps F] (m : (ℓ : Loc nD τ sig) → Buf (Elt F) ℓ)

/-- The table after the host operations. -/
theorem V_visited (c : Dev nD) :
    (V m c main_v26 : S4x16.Idx → BitVec 32)
      = broadcastInDim S4x16 ![0, 1] bcast_S1x16_S4x16_0_1 (muli (broadcastInDim S1x16 ![1] bcast_S16_S1x16_1 (iotaInDim S16 32 0))
          (broadcastInDim S1x16 ![] bcast_S_S1x16 (constantI S_ 32 2#32))) := by
  unfold V
  simp only [List.flatten_cons, List.flatten_nil, List.append_nil, StableHlo.after_append]
  rw [hostOps0_4]
  after_results

/-- The words of the table: a finite table, decided. -/
theorem table_words : ∀ (a : Fin 4) (b : Fin 16),
    (broadcastInDim S4x16 ![0, 1] bcast_S1x16_S4x16_0_1 (muli (broadcastInDim S1x16 ![1] bcast_S16_S1x16_1 (iotaInDim S16 32 0))
          (broadcastInDim S1x16 ![] bcast_S_S1x16 (constantI S_ 32 2#32))) : S4x16.Idx → BitVec 32) (fun | ⟨0, _⟩ => a | ⟨1, _⟩ => b)
      = BitVec.ofNat 32 (2 * b.val) := by
  decide +kernel

/-- The block of the table is the table. -/
theorem block_table (c : Dev nD) (t : Fin cfg0.N) (x : Buf (Elt F) ((c : Thread nD τ).loc main_v26)) :
    word (F := F) (((cfg0.win 5).blk t).view.read (Elt F) x) (grid0.coords t) = word (F := F) x (grid0.coords t) := by
  unfold word
  refine congrArg x (funext fun a => Fin.ext ?_)
  match a with
  | ⟨0, _⟩ => show 0 + 1 * (grid0.coords t 0).val = (grid0.coords t 0).val; omega
  | ⟨1, _⟩ => show 0 + 1 * (grid0.coords t 1).val = (grid0.coords t 1).val; omega

/-- The block of the table that a grid point reads has the count of its row block. -/
theorem word_visited (c : Dev nD) (t : Fin cfg0.N) : word (F := F) (iblk m c 5 t) (grid0.coords t) = nFull (grid0.coords t) := by
  refine (block_table c t (V m c main_v26)).trans ?_
  unfold word
  rw [V_visited]
  exact table_words _ _

end Cert.SbBwd

end
-- ==== Proof.Launch.lean ====
/-
  The launch: what every window holds at every grid point, the body's triple there, and the run of the whole program.
-/
module

public import proofs.«01_k».proof.Proof.Visited
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle

@[expose] public section

set_option maxRecDepth 16384
set_option maxHeartbeats 1000000

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What point `t` leaves, from the gradients of the keys and of the values as it finds them. -/
def stOf (c : Dev nD) (t : Fin cfg0.N) (p : (S8192x128.Idx → Elt F .f32) × (S8192x128.Idx → Elt F .f32)) : St F :=
  blockRun (grid0.coords t) (blkOf (iblk m c 0 t) (iblk m c 6 t) (iblk m c 3 t) (iblk m c 4 t)) (iblk m c 1 t) (iblk m c 2 t) p.1 p.2

/-- The gradients of the keys and of the values as point `n` takes them up: zero at the first row block of a pair,
    else what the point before left. -/
def carry (c : Dev nD) : ℕ → (S8192x128.Idx → Elt F .f32) × (S8192x128.Idx → Elt F .f32)
  | 0 => (k0_pay42, k0_pay43)
  | n + 1 => if h : n < cfg0.N then
      if (n + 1) % 16 = 0 then (k0_pay42, k0_pay43) else ((stOf m c ⟨n, h⟩ (carry c n)).dk, (stOf m c ⟨n, h⟩ (carry c n)).dv)
    else (k0_pay42, k0_pay43)

/-- What point `t` leaves in the launch. -/
abbrev left (c : Dev nD) (t : Fin cfg0.N) : St F := stOf m c t (carry m c t.val)

theorem carry_first (c : Dev nD) (n : ℕ) (h : n % 16 = 0) : carry m c n = (k0_pay42, k0_pay43) := by
  cases n with
  | zero => rfl
  | succ n => unfold carry; split <;> first | rfl | rw [if_pos h]

theorem carry_next (c : Dev nD) (n : ℕ) (hn : n < cfg0.N) (h : ¬ (n + 1) % 16 = 0) :
    carry m c (n + 1) = ((left m c ⟨n, hn⟩).dk, (left m c ⟨n, hn⟩).dv) := by
  rw [carry, dif_pos hn, if_neg h]

/-- The proof data: the arrays as the region finds them; the inputs left in place; the outputs as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOf (left m c t)
    | ⟨8, _⟩ => (left m c t).dk
    | ⟨9, _⟩ => (left m c t).dv
  Φ _ := Pipeline.ΦA spec0 c
  q w := Pipeline.shareOf spec0 w
  owed _ := 0

/-- The body's branch: the first row block of a pair. -/
theorem first_iff : ∀ t : Fin grid0.N,
    (Scalar.cmpi .ne (Scalar.extui (Scalar.cmpi .eq (BitVec.ofNat 32 (grid0.coords t 1).val) 0#32)) 0#32 = 1#1) ↔ t.val % 16 = 0 := by
  decide +kernel

/-- The accumulators as point `t` finds them, at a later row block of a pair. -/
theorem before_dk (c : Dev nD) (t : Fin cfg0.N) (h : ¬ t.val % 16 = 0) (d) : (dats m 0 c).before 8 t d = (carry m c t.val).1 := by
  have ht : t.val ≠ 0 := fun e => h (by rw [e])
  obtain ⟨n, hn⟩ := t
  obtain ⟨n, rfl⟩ : ∃ k, n = k + 1 := ⟨n - 1, by dsimp only at ht; omega⟩
  have hn' : n < cfg0.N := by omega
  rw [Dat.before_out_kept (dats m 0 c) 8 rfl ⟨n + 1, hn⟩ ht
    (Bool.eq_false_iff.mpr fun hf => h (by
      have := (flush0_8 _).mp hf
      dsimp only at this ⊢
      omega)) (fun _ => rfl) (fun _ _ => rfl) d]
  rw [carry_next m c n hn' h]
  rfl
theorem before_dv (c : Dev nD) (t : Fin cfg0.N) (h : ¬ t.val % 16 = 0) (d) : (dats m 0 c).before 9 t d = (carry m c t.val).2 := by
  have ht : t.val ≠ 0 := fun e => h (by rw [e])
  obtain ⟨n, hn⟩ := t
  obtain ⟨n, rfl⟩ : ∃ k, n = k + 1 := ⟨n - 1, by dsimp only at ht; omega⟩
  have hn' : n < cfg0.N := by omega
  rw [Dat.before_out_kept (dats m 0 c) 9 rfl ⟨n + 1, hn⟩ ht
    (Bool.eq_false_iff.mpr fun hf => h (by
      have := (flush0_9 _).mp hf
      dsimp only at this ⊢
      omega)) (fun _ => rfl) (fun _ _ => rfl) d]
  rw [carry_next m c n hn' h]
  rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at point `t`, the windows held. -/
theorem body_at (c : Dev nD) (t : Fin cfg0.N) (d8 d9 : S8192x128.Idx → Elt F .f32) (dq : Vec F S512x128 .f32)
    (h8 : t.val % 16 = 0 ∨ (d8 = (carry m c t.val).1 ∧ d9 = (carry m c t.val).2)) :
    iprop(at_ c (st0_0 t) (iblk m c 0 t) ∗ at_ c (st0_1 t) (iblk m c 1 t) ∗ at_ c (st0_2 t) (iblk m c 2 t) ∗ at_ c (st0_3 t) (iblk m c 3 t)
        ∗ at_ c (st0_4 t) (iblk m c 4 t) ∗ at_ c (st0_5 t) (iblk m c 5 t) ∗ at_ c (st0_6 t) (iblk m c 6 t) ∗ at_ c (st0_7 t) dq
        ∗ at_ c (st0_8 t) d8 ∗ at_ c (st0_9 t) d9)
      ⊢ wp frame (wpE (defs₀ (F := F)) Variants.none (c : Thread nD τ) none) Set.univ (bodyAt0 t)
          (fun _ => iprop(at_ c (st0_0 t) (iblk m c 0 t) ∗ at_ c (st0_1 t) (iblk m c 1 t) ∗ at_ c (st0_2 t) (iblk m c 2 t) ∗ at_ c (st0_3 t) (iblk m c 3 t)
        ∗ at_ c (st0_4 t) (iblk m c 4 t) ∗ at_ c (st0_5 t) (iblk m c 5 t) ∗ at_ c (st0_6 t) (iblk m c 6 t) ∗ at_ c (st0_7 t) (dqOf (left m c t))
        ∗ at_ c (st0_8 t) (left m c t).dk ∗ at_ c (st0_9 t) (left m c t).dv)) := by
  by_cases h : t.val % 16 = 0
  · have e : left m c t = blockRun (grid0.coords t) (blkOf (iblk m c 0 t) (iblk m c 6 t) (iblk m c 3 t) (iblk m c 4 t)) (iblk m c 1 t) (iblk m c 2 t)
        k0_pay42 k0_pay43 := by unfold left stOf; rw [carry_first m c _ h]
    rw [e]
    exact runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
      (iblk m c 0 t) (iblk m c 6 t) (iblk m c 1 t) (iblk m c 2 t) (iblk m c 3 t) (iblk m c 4 t) (iblk m c 5 t) dq d8 d9 (word_visited m c t) ((first_iff t).mpr h)
  · obtain ⟨rfl, rfl⟩ := h8.resolve_left h
    exact runNext c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
      (iblk m c 0 t) (iblk m c 6 t) (iblk m c 1 t) (iblk m c 2 t) (iblk m c 3 t) (iblk m c 4 t) (iblk m c 5 t) dq _ _ (word_visited m c t) (fun hf => h ((first_iff t).mp hf))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  simp only [before0_0_of m (dats m 0 c) rfl (fun _ => rfl) t,
    before0_1_of m (dats m 0 c) rfl (fun _ => rfl) t,
    before0_2_of m (dats m 0 c) rfl (fun _ => rfl) t,
    before0_3_of m (dats m 0 c) rfl (fun _ => rfl) t,
    before0_4_of m (dats m 0 c) rfl (fun _ => rfl) t,
    before0_5_of m (dats m 0 c) rfl (fun _ => rfl) t,
    before0_6_of m (dats m 0 c) rfl (fun _ => rfl) t]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none (c : Thread nD τ) none) Set.univ)
  isplitl [H0 H1 H2 H3 H4 H5 H6 H7 H8 H9]
  · iapply (body_at m c t ((dats m 0 c).before 8 t d8) ((dats m 0 c).before 9 t d9) ((dats m 0 c).before 7 t d7)
      ((Decidable.em (t.val % 16 = 0)).imp id fun h => ⟨before_dk m c t h d8, before_dv m c t h d9⟩))
    simp only [at_, ← owns_eq_rep]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨H0, H1, H2, H3, H4, H5, H6, H7, H8, H9⟩
    simp only [at_, ← owns_eq_rep]
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the program ends, with every array of the launch at what the proof data say of it, and every semaphore
    counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main (hbody := fun c => (body_obligation m c).loose)
    (hq := fun _ _ _ => rfl) (howed := fun _ _ => rfl) (V := V m) (hmain := hmain m Variants.none)
    (hA := fun _ _ => rfl) (hΦ := fun _ _ => rfl)
    (Q' := fun r => Pipeline.FramePost cfgs (dats m) 0 (V m) r ∧ r.2.sem = fun _ => 0) (hQ' := fun _ h => h)

end Cert.SbBwd

end
-- ==== Proof.Same.lean ====
/-
  The program as printed and the program read over the extended reals have the same text: their body tables and their main functions
  are equal, over any float values.
-/
module

public import proofs.«01_k».proof.Proof.Gen.Kernel
public import proofs.«01_k».proof.Proof.Gen.KernelIdeal
public import proofs.«01_k».proof.Proof.Gen.Kernel.Launch
public import proofs.«01_k».proof.Proof.Gen.KernelIdeal.Launch

@[expose] public section

set_option maxRecDepth 16384

noncomputable section

namespace Cert.SbBwd
open Idealize.ShloMosaic Idealize.ShloMosaic.TcCoe
open Idealize.SL Idealize.SL.Sem
variable {F : FTy → Type} [FloatOps F]

/-- The kernel's body. -/
theorem body_eq : @Cert.Kernel.cc0_sb_bwd F _ _ = @Cert.KernelIdeal.cc0_sb_bwd F _ _ := rfl
set_option maxHeartbeats 20000000 in
/-- The body at a grid point and staging buffers. -/
theorem row_eq (t : Fin Cert.Kernel.grid0.N) (s : (w : Fin 10) → Fin (Cert.Kernel.win0 w).nbuf) :
    @Cert.Kernel.cc0_sb_bwd F _ _ (Cert.Kernel.grid0.coords t) (Cert.Kernel.win0_0.stage (s 0)) (Cert.Kernel.Facts₀.hstage0_0 ((s 0).cast Cert.Kernel.Facts₀.nbuf0_0)) (Cert.Kernel.win0_1.stage (s 1)) (Cert.Kernel.Facts₀.hstage0_1 ((s 1).cast Cert.Kernel.Facts₀.nbuf0_1)) (Cert.Kernel.win0_2.stage (s 2)) (Cert.Kernel.Facts₀.hstage0_2 ((s 2).cast Cert.Kernel.Facts₀.nbuf0_2)) (Cert.Kernel.win0_3.stage (s 3)) (Cert.Kernel.Facts₀.hstage0_3 ((s 3).cast Cert.Kernel.Facts₀.nbuf0_3)) (Cert.Kernel.win0_4.stage (s 4)) (Cert.Kernel.Facts₀.hstage0_4 ((s 4).cast Cert.Kernel.Facts₀.nbuf0_4)) (Cert.Kernel.win0_5.stage (s 5)) (Cert.Kernel.Facts₀.hstage0_5 ((s 5).cast Cert.Kernel.Facts₀.nbuf0_5)) (Cert.Kernel.win0_6.stage (s 6)) (Cert.Kernel.Facts₀.hstage0_6 ((s 6).cast Cert.Kernel.Facts₀.nbuf0_6)) (Cert.Kernel.win0_7.stage (s 7)) (Cert.Kernel.Facts₀.hstage0_7 ((s 7).cast Cert.Kernel.Facts₀.nbuf0_7)) (Cert.Kernel.win0_8.stage (s 8)) (Cert.Kernel.Facts₀.hstage0_8 ((s 8).cast Cert.Kernel.Facts₀.nbuf0_8)) (Cert.Kernel.win0_9.stage (s 9)) (Cert.Kernel.Facts₀.hstage0_9 ((s 9).cast Cert.Kernel.Facts₀.nbuf0_9))
      = @Cert.KernelIdeal.cc0_sb_bwd F _ _ (Cert.KernelIdeal.grid0.coords t) (Cert.KernelIdeal.win0_0.stage (s 0)) (Cert.KernelIdeal.Facts₀.hstage0_0 ((s 0).cast Cert.KernelIdeal.Facts₀.nbuf0_0)) (Cert.KernelIdeal.win0_1.stage (s 1)) (Cert.KernelIdeal.Facts₀.hstage0_1 ((s 1).cast Cert.KernelIdeal.Facts₀.nbuf0_1)) (Cert.KernelIdeal.win0_2.stage (s 2)) (Cert.KernelIdeal.Facts₀.hstage0_2 ((s 2).cast Cert.KernelIdeal.Facts₀.nbuf0_2)) (Cert.KernelIdeal.win0_3.stage (s 3)) (Cert.KernelIdeal.Facts₀.hstage0_3 ((s 3).cast Cert.KernelIdeal.Facts₀.nbuf0_3)) (Cert.KernelIdeal.win0_4.stage (s 4)) (Cert.KernelIdeal.Facts₀.hstage0_4 ((s 4).cast Cert.KernelIdeal.Facts₀.nbuf0_4)) (Cert.KernelIdeal.win0_5.stage (s 5)) (Cert.KernelIdeal.Facts₀.hstage0_5 ((s 5).cast Cert.KernelIdeal.Facts₀.nbuf0_5)) (Cert.KernelIdeal.win0_6.stage (s 6)) (Cert.KernelIdeal.Facts₀.hstage0_6 ((s 6).cast Cert.KernelIdeal.Facts₀.nbuf0_6)) (Cert.KernelIdeal.win0_7.stage (s 7)) (Cert.KernelIdeal.Facts₀.hstage0_7 ((s 7).cast Cert.KernelIdeal.Facts₀.nbuf0_7)) (Cert.KernelIdeal.win0_8.stage (s 8)) (Cert.KernelIdeal.Facts₀.hstage0_8 ((s 8).cast Cert.KernelIdeal.Facts₀.nbuf0_8)) (Cert.KernelIdeal.win0_9.stage (s 9)) (Cert.KernelIdeal.Facts₀.hstage0_9 ((s 9).cast Cert.KernelIdeal.Facts₀.nbuf0_9)) := by
  rw [body_eq]
  rfl
set_option maxHeartbeats 20000000 in
theorem defs₀_eq : @Cert.Kernel.defs₀ F _ _ = @Cert.KernelIdeal.defs₀ F _ _ := by
  unfold Cert.Kernel.defs₀ Cert.KernelIdeal.defs₀
  congr 1
  funext l a
  match l, a with
  | 0, (t, s) => exact row_eq t s

/-- The tables of bodies. -/
theorem defs_eq : @Cert.Kernel.defs F _ _ = @Cert.KernelIdeal.defs F _ _ := congrArg (Pipeline.defs Cert.KernelIdeal.pcfgs) defs₀_eq

/-! The host's operations, stretch by stretch. -/

theorem ops0_eq : (Cert.Kernel.Gen.hostOps0 (F := F)) = Cert.KernelIdeal.Gen.hostOps0 := rfl
theorem ops1_eq : (Cert.Kernel.Gen.hostOps0_1 (F := F)) = Cert.KernelIdeal.Gen.hostOps0_1 := rfl
theorem ops2_eq : (Cert.Kernel.Gen.hostOps0_2 (F := F)) = Cert.KernelIdeal.Gen.hostOps0_2 := rfl
theorem ops3_eq : (Cert.Kernel.Gen.hostOps0_3 (F := F)) = Cert.KernelIdeal.Gen.hostOps0_3 := rfl
theorem ops4_eq : (Cert.Kernel.Gen.hostOps0_4 (F := F)) = Cert.KernelIdeal.Gen.hostOps0_4 := rfl

set_option maxHeartbeats 20000000 in
/-- The main functions. -/
theorem main_eq (c : Dev Cert.Kernel.nD) : Cert.Kernel.main (F := F) c = Cert.KernelIdeal.main (F := F) c := by
  refine (Cert.Kernel.Gen.main_chain c).trans (Eq.trans ?_ (Cert.KernelIdeal.Gen.main_chain c).symm)
  rw [ops0_eq, ops1_eq, ops2_eq, ops3_eq, ops4_eq]
  rfl

end Cert.SbBwd
end
-- ==== Proof.Frames.lean ====
/-
  The programs' runs: each ends with its arguments as they were and every semaphore counter at zero.
-/
module

public import proofs.«01_k».proof.Defs
public import proofs.«01_k».proof.Proof.Launch
public import proofs.«01_k».proof.Proof.Same
public import proofs.«01_k».proof.Proof.Finite
public import proofs.«01_k».proof.Proof.Gen.Kernel
public import proofs.«01_k».proof.Proof.Gen.ReferenceIdeal.Run

@[expose] public section

set_option maxRecDepth 16384

noncomputable section

namespace Cert.SbBwd

open Cert.KernelIdeal Cert.KernelIdeal.Gen
open Idealize.ShloMosaic Idealize.ShloMosaic.TcCoe
open Idealize.SL Idealize.SL.Sem

section
variable {F : FTy → Type} [FloatOps F] {m : (ℓ : Loc nD τ sig) → Buf (Elt F) ℓ} {r : PUnit × MemSt nD τ sig (Elt F)}

theorem args_kept (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 2).trans (((dats m 0 c).arrAt_in 2 rfl _).trans (V_main_arg0 m c)),
    ((h c).1 6).trans (((dats m 0 c).arrAt_in 6 rfl _).trans (V_main_arg1 m c))⟩

theorem frame_any (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run Cert.KernelIdeal.defs _ _).mono (fun _ h => ⟨args_kept h.1, h.2⟩) (run_main m ρ)

end

set_option maxHeartbeats 20000000 in
theorem frame_kernel : Cert.quiescent_Kernel := by
  intro m ρ _
  have e : onTc (τ := Cert.Kernel.τ) (Cert.Kernel.main (F := Bits)) = onTc (τ := τ) (Cert.KernelIdeal.main (F := Bits)) :=
    congrArg (onTc (τ := τ)) (funext main_eq)
  rw [defs_eq, e]
  exact frame_any (F := Bits) m ρ

theorem frame_ideal : Cert.quiescent_KernelIdeal := fun m ρ _ => frame_any (F := Ideal) m ρ

theorem frame_ideal_finite : Cert.quiescent_KernelIdeal_pre_finite := fun m ρ _ => frame_ideal m ρ trivial

theorem frame_reference : Cert.quiescent_ReferenceIdeal := fun m ρ _ =>
  (θ_run Cert.ReferenceIdeal.defs _ _).mono
    (fun r h => ⟨fun c => ⟨(h c).2.2.2.1, (h c).2.2.2.2⟩, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

end Cert.SbBwd

end
-- ==== Proof.Masks.lean ====
/-
  The body's masks and position words, each read at an index: the lanes of a head, the columns of a head, the keys before
  a query, and the matrix of ones that sums over a tile's keys up to each.
-/
module

public import proofs.«01_k».proof.Proof.Body
public import proofs.«01_k».proof.Proof.Model
public import Idealize.ShloMosaic.Lib.WordCmp

@[expose] public section

set_option maxRecDepth 16384

noncomputable section

namespace Cert.SbBwd

open Cert.KernelIdeal Cert.KernelIdeal.Gen
open Idealize.ShloMosaic Idealize.ShloMosaic.TcCoe

/-- The bit of a proposition. -/
abbrev bit (p : Prop) [Decidable p] : BitVec 1 := if p then 1#1 else 0#1

theorem bit_ofBool (p : Prop) [Decidable p] : BitVec.ofBool (decide p) = bit p := by by_cases h : p <;> simp [bit, h]

theorem select_bit {α : Type} (p : Prop) [Decidable p] (a b : α) : Scalar.select (bit p) a b = if p then a else b := by
  unfold Scalar.select; by_cases h : p <;> simp [bit, h]

theorem lane_word : ∀ d : Fin 128, IntOp.cmpi CmpIPredicate.slt (BitVec.ofNat 32 d.val) 64#32 = bit (d.val / 64 = 0) := by decide +kernel

theorem pay56_apply (r : Fin 256) (d : Fin 128) : k0_pay56 (ix2 r d) = bit (d.val / 64 = 0) := by
  pointwise [k0_pay56]
  exact lane_word d

theorem col_word : ∀ c : Fin 512, IntOp.cmpi CmpIPredicate.slt (BitVec.ofNat 32 c.val) 256#32 = bit (c.val / 256 = 0) := by decide +kernel

theorem pay46_apply (r c : Fin 512) : k0_pay46 (ix2 r c) = bit (c.val / 256 = 0) := by
  pointwise [k0_pay46]
  exact col_word c

theorem pay47_apply (r c : Fin 512) : k0_pay47 (ix2 r c) = BitVec.ofNat 32 (c.val % 256) := by
  pointwise [k0_pay47]
  clear r; revert c
  decide +kernel

theorem row_word : ∀ i : Fin 16, Scalar.muli (BitVec.ofNat 32 i.val) 512#32 = BitVec.ofNat 32 (512 * i.val) := by decide +kernel

theorem pay45_apply (i : grid0.Coords) (r c : Fin 512) : k0_pay45 i (ix2 r c) = BitVec.ofNat 32 (512 * (i 1).val + r.val) := by
  pointwise [k0_pay45]
  rw [row_word (i 1)]
  exact (BitVec.ofNat_add _ _).symm

theorem tile_word : ∀ (i : Fin 16) (n : Fin k0_t3_loop.trips),
    Scalar.muli (Scalar.addi (Scalar.muli (BitVec.ofNat 32 i.val) 2#32) (Scf.iv 0#32 1#32 n.val)) 256#32 = BitVec.ofNat 32 (256 * (2 * i.val + n.val)) := by
  decide +kernel

/-- The mask of a tile on the diagonal: the keys before each query. -/
theorem pay29_apply (i : grid0.Coords) (n : Fin k0_t3_loop.trips) (r c : Fin 512) :
    k0_pay29 (k0_pay45 i) k0_pay47 (Scalar.muli (BitVec.ofNat 32 (i 1).val) 2#32) 0#32 1#32 n (ix2 r c)
      = bit (256 * (diagTile i n).val + c.val % 256 < 512 * (i 1).val + r.val) := by
  pointwise [k0_pay29]
  rw [tile_word (i 1) n, pay47_apply, pay45_apply]
  have hi : (i 1).val < 16 := (i 1).isLt
  have hn : n.val < 2 := lt_of_lt_of_eq n.isLt (by decide)
  have e : IntOp.addi (BitVec.ofNat 32 (c.val % 256)) (BitVec.ofNat 32 (256 * (2 * (i 1).val + n.val)))
      = BitVec.ofNat 32 (256 * (diagTile i n).val + c.val % 256) := by
    exact (BitVec.ofNat_add _ _).symm.trans (congrArg (BitVec.ofNat 32) (Nat.add_comm _ _))
  rw [e, WordCmp.cmpi_slt_ofNat (by simp only [diagTile]; omega) (by omega), bit_ofBool]

theorem row_half (r : Fin 1024) (c : Fin 512) : k0_pay51 (ix2 r c) = BitVec.ofNat 32 (r.val / 256 % 2) := by
  pointwise [k0_pay51]
  clear c; revert r
  decide +kernel

theorem row_rest (r : Fin 1024) (c : Fin 512) : k0_pay53 rowNo (ix2 r c) = BitVec.ofNat 32 (r.val % 256) := by
  pointwise [k0_pay53]
  clear c; revert r
  decide +kernel

theorem halves : ∀ c : Fin 512, (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 256#32 0#32))
              (Scalar.extui (Scalar.cmpi CmpIPredicate.slt 256#32 0#32))))
          (IntOp.cmpi CmpIPredicate.ne (IntOp.remsi ArithUnit.vector (BitVec.ofNat 32 c.val) 256#32) 0#32))
        (IntOp.subi (IntOp.divsi ArithUnit.vector (BitVec.ofNat 32 c.val) 256#32) 1#32)
        (IntOp.divsi ArithUnit.vector (BitVec.ofNat 32 c.val) 256#32)) = BitVec.ofNat 32 (c.val / 256) := by
  decide +kernel

theorem same_half (r : Fin 1024) (c : Fin 512) : k0_pay52 colNo k0_pay51 (ix2 r c) = bit (r.val / 256 % 2 = c.val / 256) := by
  pointwise [k0_pay52]
  rw [halves c, row_half, WordCmp.cmpi_eq_ofNat (by omega) (by omega), bit_ofBool]

theorem col_rest (c : Fin 512) (r : Fin 1024) : (Scalar.select
              (IntOp.andi
                (IntOp.xori
                  (IntOp.cmpi CmpIPredicate.slt (IntOp.remsi ArithUnit.vector (BitVec.ofNat 32 c.val) (k0_pay54 (ix2 r c)))
                    0#32)
                  (Scalar.cmpi CmpIPredicate.slt (Scalar.select (Scalar.cmpi CmpIPredicate.eq 256#32 0#32) 1#32 256#32)
                    0#32))
                (IntOp.cmpi CmpIPredicate.ne (IntOp.remsi ArithUnit.vector (BitVec.ofNat 32 c.val) (k0_pay54 (ix2 r c)))
                  0#32))
              (IntOp.addi (IntOp.remsi ArithUnit.vector (BitVec.ofNat 32 c.val) (k0_pay54 (ix2 r c)))
                (Scalar.select (Scalar.cmpi CmpIPredicate.eq 256#32 0#32) 1#32 256#32))
              (IntOp.remsi ArithUnit.vector (BitVec.ofNat 32 c.val) (k0_pay54 (ix2 r c)))) = BitVec.ofNat 32 (c.val % 256) := by
  pointwise [k0_pay54]
  clear r; revert c
  decide +kernel

/-- The matrix of ones. -/
theorem upto_holds : Holds (k0_pay55 (F := Ideal) colNo (k0_pay52 colNo k0_pay51) (k0_pay53 rowNo)
    (Scalar.select (Scalar.cmpi .eq 256#32 0#32) 1#32 256#32) k0_pay54) (fun x c => if x / 256 % 2 = c / 256 ∧ x % 256 ≤ c % 256 then 1 else 0) := by
  intro r c
  pointwise [k0_pay55]
  rw [col_rest c r, same_half, row_rest, WordCmp.cmpi_sle_ofNat (by omega) (by omega), bit_ofBool]
  by_cases h1 : r.val / 256 % 2 = c.val / 256 <;> by_cases h2 : r.val % 256 ≤ c.val % 256 <;>
    simp [bit, h1, h2, IntOp.andi, FloatOps.sitofp]

end Cert.SbBwd

end
-- ==== Proof.Pay.lean ====
/-
  A tile's payloads at the extended reals: each, read at an index, is the model's formula. The tile is key tile `j` of row
  block `i`: its row `r` is query `512 i + r`, its column `c` is key `256 j + c % 256` under head `c / 256` of the pair.
-/
module

public import proofs.«01_k».proof.Proof.Masks

@[expose] public section

set_option maxRecDepth 16384

noncomputable section

namespace Cert.SbBwd

open Cert.KernelIdeal Cert.KernelIdeal.Gen
open Idealize.ShloMosaic Idealize.ShloMosaic.TcCoe
open Finset

theorem sum_two (f : ℕ → ℝ) : ∑ h ∈ range 2, f h = f 0 + f 1 := by rw [sum_range_succ, sum_range_one]

variable (M : Mdl) (i j : ℕ)

/-- What is fixed for row block `i` holds the model's numbers. -/
structure BlkHolds (b : Blk Ideal) : Prop where
  qs : Holds b.qs fun r d => M.q (512 * i + r) d * (1 / 8)
  dO : Holds (φ := .bf16) b.dO fun r d => M.o (512 * i + r) d
  head : b.head = k0_pay46
  tot : Holds b.tot fun r c => M.tot (c / 256) (512 * i + r)
  upto : Holds b.upto fun x c => if x / 256 % 2 = c / 256 ∧ x % 256 ≤ c % 256 then 1 else 0

/-! ## The rows of a pair's keys, one copy for either head -/

theorem pay1_holds {x : Vec Ideal S256x128 .bf16} {f : ℕ → ℕ → ℝ} (h : Holds (φ := .bf16) x f) :
    Holds (k0_pay1 (F := Ideal) k0_pay56 x) fun c d => lanes (c / 256) (fun s d => f (c % 256) d) 0 d := by
  intro c d
  have hc := c.isLt
  pointwise [k0_pay1]
  unfold lanes
  have e0 : (((((0#32 : BitVec 32).toInt : ℤ) : ℝ)) : EReal) = ((0 : ℝ) : EReal) := by simp
  by_cases hh : c.val < 256
  · rw [dif_pos hh, pay56_apply, select_bit, h, Nat.div_eq_of_lt hh, Nat.mod_eq_of_lt hh]
    by_cases hd : d.val / 64 = 0
    · rw [if_pos hd, if_pos hd]
    · rw [if_neg hd, if_neg hd]; simp
  · have e1 : c.val / 256 = 1 := by omega
    have e2 : c.val % 256 = c.val - 256 := by omega
    rw [dif_neg hh, pay56_apply, select_bit, h]
    have hd' := d.isLt
    by_cases hd : d.val / 64 = 0
    · rw [if_pos hd, if_neg (by omega)]; simp
    · have e3 : d.val / 64 = c.val / 256 := by omega
      rw [if_neg hd, if_pos e3]
      exact congrArg (fun a => ((f a d.val : ℝ) : EReal)) e2.symm

theorem pay2_eq : k0_pay2 (F := Ideal) = k0_pay1 := rfl
theorem pay27_eq : k0_pay27 (F := Ideal) = k0_pay1 := rfl
theorem pay28_eq : k0_pay28 (F := Ideal) = k0_pay1 := rfl
theorem pay30_eq : k0_pay30 (F := Ideal) = k0_pay3 := rfl
theorem pay31_eq : k0_pay31 (F := Ideal) = k0_pay4 := rfl
theorem pay32_eq : k0_pay32 (F := Ideal) = k0_pay5 := rfl

/-- The product of a block of rows with a tile's rows of keys or values, head by head. -/
theorem nt_holds {y : FVec Ideal S512x128 .bf16} {x : Vec Ideal S256x128 .bf16} {e f : ℕ → ℕ → ℝ} (hy : Holds y e) (hx : Holds (φ := .bf16) x f)
    (r c : Fin 512) : ∑ d, y (ix2 r d) * k0_pay1 (F := Ideal) k0_pay56 x (ix2 c d)
      = ((∑ d ∈ range 128, e r.val d * lanes (c.val / 256) (fun _ d => f (c.val % 256) d) 0 d : ℝ) : EReal) := by
  rw [← sum_coe]
  refine sum_congr rfl fun d _ => ?_
  rw [hy, pay1_holds hx, EReal.coe_mul]

/-! ## Logits, log failures -/

section
variable {M i j}
variable {b : Blk Ideal} (hb : BlkHolds M i b) {k v : Vec Ideal S256x128 .bf16}
  (hk : Holds (φ := .bf16) k fun s d => M.k (256 * j + s) d) (hv : Holds (φ := .bf16) v fun s d => M.v (256 * j + s) d)

include hb hk in
theorem z_holds : Holds (k0_pay3 (F := Ideal) b.qs k0_pay56 k) fun r c => M.z (c / 256) (512 * i + r) (256 * j + c % 256) := by
  intro r c
  pointwise [k0_pay3]
  exact nt_holds hb.qs hk r c

include hb hk in
theorem neg_sp_holds : Holds (k0_pay4 (F := Ideal) b.qs k0_pay56 k) fun r c => -sp (M.z (c / 256) (512 * i + r) (256 * j + c % 256)) := by
  intro r c
  pointwise [k0_pay4]
  rw [z_holds hb hk r c, Ideal.absf_def, abs_coe, zero_sub, zero_sub, ← EReal.coe_neg, log_one_add_exp, ← EReal.coe_zero, max_coe, ← EReal.coe_add,
    ← EReal.coe_neg]
  rfl

include hb hk in
theorem logsig_holds : Holds (k0_pay6 (F := Ideal) b.qs k0_pay56 k) fun r c => M.z (c / 256) (512 * i + r) (256 * j + c % 256)
    + -sp (M.z (c / 256) (512 * i + r) (256 * j + c % 256)) := by
  intro r c
  pointwise [k0_pay6]
  rw [z_holds hb hk r c, neg_sp_holds hb hk r c, EReal.coe_add]

include hb hk in
theorem sg_holds : Holds (k0_pay5 (F := Ideal) b.qs k0_pay56 k) fun r c => M.sg (c / 256) (512 * i + r) (256 * j + c % 256) := by
  intro r c
  pointwise [k0_pay5]
  rw [z_holds hb hk r c, neg_sp_holds hb hk r c, ← EReal.coe_add, Ideal.exp_coe]
  rfl

end

/-! ## Running sums -/

/-- Either head's running sum, spread over its columns. -/
theorem spread_holds {a c : FVec Ideal S512x1 .f32} {f : ℕ → ℕ → ℝ} (ha : Holds a fun r _ => f 0 r) (hc : Holds c fun r _ => f 1 r) :
    Holds (k0_pay7 (F := Ideal) k0_pay46 a c) fun r x => f (x / 256) r := by
  intro r x
  pointwise [k0_pay7]
  rw [pay46_apply, select_bit]
  have hx := x.isLt
  by_cases h : x.val / 256 = 0
  · rw [if_pos h, h]; exact ha r 0
  · rw [if_neg h, show x.val / 256 = 1 by omega]; exact hc r 0

/-- The product with the matrix of ones: a tile's sum over the keys up to each. -/
theorem cum_holds {x : FVec Ideal S512x512 .f32} {f : ℕ → ℕ → ℕ → ℝ} (hx : Holds x fun r c => f (c / 256) r (c % 256))
    {m : FVec Ideal S1024x512 .bf16} (hm : Holds m fun x c => if x / 256 % 2 = c / 256 ∧ x % 256 ≤ c % 256 then 1 else 0) (r c : Fin 512) :
    ∑ y : Fin 512, x (ix2 r y) * m (ix2 ⟨y.val, by omega⟩ c) + ∑ y : Fin 512, (x (ix2 r y) - x (ix2 r y)) * m (ix2 ⟨512 + y.val, by omega⟩ c)
      = ((∑ y ∈ range (c.val % 256 + 1), f (c.val / 256) r.val y : ℝ) : EReal) := by
  have h1 : ∀ y : Fin 512, x (ix2 r y) * m (ix2 ⟨y.val, by omega⟩ c)
      = ((f (y.val / 256) r.val (y.val % 256) * (if y.val / 256 % 2 = c.val / 256 ∧ y.val % 256 ≤ c.val % 256 then 1 else 0) : ℝ) : EReal) := fun y => by
    rw [hx, hm, ← EReal.coe_mul]
  have h2 : ∀ y : Fin 512, (x (ix2 r y) - x (ix2 r y)) * m (ix2 ⟨512 + y.val, by omega⟩ c) = 0 := fun y => by
    rw [hx, ← EReal.coe_sub, sub_self, EReal.coe_zero, zero_mul]
  rw [sum_congr rfl fun y _ => h1 y, sum_congr rfl fun y _ => h2 y, sum_const_zero, add_zero,
    sum_coe 512 fun y => f (y / 256) r.val (y % 256) * (if y / 256 % 2 = c.val / 256 ∧ y % 256 ≤ c.val % 256 then 1 else 0),
    sum_upto (fun h y => f h r.val y) c.isLt]

/-- A running sum after a tile: the left columns' for the pair's first head. -/
theorem left_holds {a : FVec Ideal S512x1 .f32} {x : FVec Ideal S512x512 .f32} {f : ℕ → ℕ → ℕ → ℝ}
    (ha : Holds a fun r _ => ∑ s ∈ range (256 * j), f 0 r s) (hx : Holds x fun r c => f (c / 256) r (256 * j + c % 256)) :
    Holds (k0_pay59 (F := Ideal) a x) fun r _ => ∑ s ∈ range (256 * (j + 1)), f 0 r s := by
  intro r z
  pointwise [k0_pay59]
  rw [ha, Nat.mul_add, mul_one, ← sum_tile, EReal.coe_add, ← sum_coe 256 fun y => f 0 r.val (256 * j + y)]
  refine congrArg₂ _ rfl (sum_congr rfl fun y _ => ?_)
  rw [hx]
  have hy := y.isLt
  show ((f (y.val / 256) r.val (256 * j + y.val % 256) : ℝ) : EReal) = _
  rw [Nat.div_eq_of_lt hy, Nat.mod_eq_of_lt hy]

/-- A running sum after a tile: the right columns' for the pair's second head. -/
theorem right_holds {a : FVec Ideal S512x1 .f32} {x : FVec Ideal S512x512 .f32} {f : ℕ → ℕ → ℕ → ℝ}
    (ha : Holds a fun r _ => ∑ s ∈ range (256 * j), f 1 r s) (hx : Holds x fun r c => f (c / 256) r (256 * j + c % 256)) :
    Holds (k0_pay60 (F := Ideal) a x) fun r _ => ∑ s ∈ range (256 * (j + 1)), f 1 r s := by
  intro r z
  pointwise [k0_pay60]
  rw [ha, Nat.mul_add, mul_one, ← sum_tile, EReal.coe_add, ← sum_coe 256 fun y => f 1 r.val (256 * j + y)]
  refine congrArg₂ _ rfl (sum_congr rfl fun y _ => ?_)
  rw [hx]
  have hy := y.isLt
  show ((f ((256 + y.val) / 256) r.val (256 * j + (256 + y.val) % 256) : ℝ) : EReal) = _
  rw [show (256 + y.val) / 256 = 1 by omega, show (256 + y.val) % 256 = y.val by omega]

theorem pay61_eq : k0_pay61 (F := Ideal) = k0_pay59 := rfl
theorem pay62_eq : k0_pay62 (F := Ideal) = k0_pay60 := rfl
theorem pay68_eq : k0_pay68 (F := Ideal) = k0_pay59 := rfl
theorem pay69_eq : k0_pay69 (F := Ideal) = k0_pay60 := rfl
theorem pay70_eq : k0_pay70 (F := Ideal) = k0_pay59 := rfl
theorem pay71_eq : k0_pay71 (F := Ideal) = k0_pay60 := rfl

/-! ## Weights and gradients, given the tile's log failures -/

section
variable {M i j}
variable {b : Blk Ideal} (hb : BlkHolds M i b) {k v : Vec Ideal S256x128 .bf16}
  (hk : Holds (φ := .bf16) k fun s d => M.k (256 * j + s) d) (hv : Holds (φ := .bf16) v fun s d => M.v (256 * j + s) d)
  {l z r : FVec Ideal S512x512 .f32} (hl : Holds l fun r c => M.lf (c / 256) (512 * i + r) (256 * j + c % 256))
  (hz : Holds z fun r c => M.z (c / 256) (512 * i + r) (256 * j + c % 256) + M.lf (c / 256) (512 * i + r) (256 * j + c % 256))
  (hr : Holds r fun r c => ∑ s ∈ range (256 * j), M.lf (c / 256) (512 * i + r) s)

include hb hl hz hr in
theorem rawW_holds : Holds (k0_pay8 (F := Ideal) b.tot b.upto l z r) fun r c =>
    Real.exp (M.z (c / 256) (512 * i + r) (256 * j + c % 256) + M.lf (c / 256) (512 * i + r) (256 * j + c % 256)
      + (M.tot (c / 256) (512 * i + r) - ∑ x ∈ range (256 * j + c % 256 + 1), M.lf (c / 256) (512 * i + r) x)) := by
  intro r' c
  pointwise [k0_pay8]
  rw [cum_holds (f := fun h r s => M.lf h (512 * i + r) (256 * j + s)) hl hb.upto r' c, hz, hr, hb.tot, ← EReal.coe_add, ← EReal.coe_sub, ← EReal.coe_add,
    Ideal.exp_coe, sum_tile, Nat.add_assoc]

include hb hv in
/-- The gradient of the weights, times the weights. -/
theorem g_holds {y : FVec Ideal S512x512 .f32} (hy : Holds y fun r c => M.w (c / 256) (512 * i + r) (256 * j + c % 256)) :
    Holds (mulf (matmul (φ₁ := .bf16) dot_S512x128_S512x128_S512x512_1_1_0_0_n_n none b.dO (k0_pay1 (F := Ideal) k0_pay56 v) (constant S512x512 .f32 0x00000000#32)) y)
      fun r c => M.g (c / 256) (512 * i + r) (256 * j + c % 256) := by
  intro r c
  pointwise
  rw [nt_holds hb.dO hv r c, hy, ← EReal.coe_mul]
  rfl

/-- The gradient of the logits before the mask, from the gradients `g` of the weights' logarithms. -/
def rawDz (b : Blk Ideal) (a c : FVec Ideal S512x1 .f32) (s g : FVec Ideal S512x512 .f32) : FVec Ideal S512x512 .f32 :=
  subf g (mulf s (addf (k0_pay7 b.head a c) (matmul dot_S512x1024_S1024x512_S512x512_1_0_0_1_n_n none
    (concatenate S512x1024 1 [⟨S512x512, truncf .bf16 g bitsLt_bf16_f32⟩,
      ⟨S512x512, truncf .bf16 (subf g (extf .f32 (truncf .bf16 g bitsLt_bf16_f32) bitsLt_bf16_f32)) bitsLt_bf16_f32⟩]
      concatenates_S512x512_S512x512_S512x1024_d1) b.upto (constant S512x512 .f32 0x00000000#32))))

include hb in
theorem rawDz_holds {a c : FVec Ideal S512x1 .f32} {s g : FVec Ideal S512x512 .f32}
    (ha : Holds a fun r _ => ∑ s ∈ range (256 * j), M.g 0 (512 * i + r) s) (hc : Holds c fun r _ => ∑ s ∈ range (256 * j), M.g 1 (512 * i + r) s)
    (hs : Holds s fun r c => M.sg (c / 256) (512 * i + r) (256 * j + c % 256))
    (hg : Holds g fun r c => M.g (c / 256) (512 * i + r) (256 * j + c % 256)) :
    Holds (rawDz b a c s g) fun r c => M.g (c / 256) (512 * i + r) (256 * j + c % 256) - M.sg (c / 256) (512 * i + r) (256 * j + c % 256)
      * ∑ x ∈ range (256 * j + c % 256 + 1), M.g (c / 256) (512 * i + r) x := by
  intro r' x
  have hp := spread_holds (f := fun h r => ∑ s ∈ range (256 * j), M.g h (512 * i + r) s) ha hc
  rw [← hb.head] at hp
  pointwise [rawDz]
  rw [cum_holds (f := fun h r s => M.g h (512 * i + r) (256 * j + s)) hg hb.upto r' x, hp, hg, hs, ← EReal.coe_add, ← EReal.coe_mul, ← EReal.coe_sub,
    sum_tile, Nat.add_assoc]

include hk in
/-- A tile's part of the queries' gradient. -/
theorem dq_holds {a : FVec Ideal S512x128 .f32} {y : FVec Ideal S512x512 .bf16} {f : ℕ → ℕ → ℕ → ℝ}
    (ha : Holds a fun r d => ∑ h ∈ range 2, ∑ s ∈ range (256 * j), f h r s * lanes h M.k s d)
    (hy : Holds y fun r c => f (c / 256) r (256 * j + c % 256)) :
    Holds (addf a (matmul dot_S512x512_S512x128_S512x128_1_0_0_1_n_n none y (k0_pay1 (F := Ideal) k0_pay56 k) (constant S512x128 .f32 0x00000000#32)))
      fun r d => ∑ h ∈ range 2, ∑ s ∈ range (256 * (j + 1)), f h r s * lanes h M.k s d := by
  intro r d
  pointwise
  rw [ha]
  have e : ∀ c : Fin 512, y (ix2 r c) * k0_pay1 (F := Ideal) k0_pay56 k (ix2 c d)
      = ((f (c.val / 256) r.val (256 * j + c.val % 256) * lanes (c.val / 256) M.k (256 * j + c.val % 256) d.val : ℝ) : EReal) := fun c => by
    rw [hy, pay1_holds hk, ← EReal.coe_mul]; rfl
  rw [sum_congr rfl fun c _ => e c,
    sum_coe 512 fun c => f (c / 256) r.val (256 * j + c % 256) * lanes (c / 256) M.k (256 * j + c % 256) d.val,
    sum_cols (fun h s => f h r.val (256 * j + s) * lanes h M.k (256 * j + s) d.val), ← EReal.coe_add]
  simp only [Nat.mul_add, mul_one, sum_two, sum_range_add]
  rw [add_add_add_comm]

/-- A tile's part of the gradient of its rows of keys or of values. -/
def rowsGrad (y : FVec Ideal S512x512 .bf16) (x : FVec Ideal S512x128 .bf16) (old : Vec Ideal S256x128 .f32) : FVec Ideal S256x128 .f32 :=
  addf (shapeCast S256x128 old shapeCasts_S256x128_S256x128)
    (select k0_pay56 (extractStridedSlice S256x128 ![0, 0] (matmul dot_S512x512_S512x128_S512x128_0_0_1_1_n_n none y x (constant S512x128 .f32 0x00000000#32)) slices_S512x128_o0_0_S256x128)
      (extractStridedSlice S256x128 ![256, 0] (matmul dot_S512x512_S512x128_S512x128_0_0_1_1_n_n none y x (constant S512x128 .f32 0x00000000#32)) slices_S512x128_o256_0_S256x128))

theorem rowsGrad_holds {y : FVec Ideal S512x512 .bf16} {x : FVec Ideal S512x128 .bf16} {old : Vec Ideal S256x128 .f32} {f : ℕ → ℕ → ℕ → ℝ} {e o : ℕ → ℕ → ℝ}
    (ho : Holds (φ := .f32) old o) (hx : Holds x e) (hy : Holds y fun r c => f (c / 256) r (c % 256)) :
    Holds (rowsGrad y x old) fun s d => o s d + ∑ r ∈ range 512, f (d / 64) r s * e r d := by
  intro s d
  have hs := s.isLt
  have hd := d.isLt
  pointwise [rowsGrad]
  rw [pay56_apply, select_bit, ho, EReal.coe_add, ← sum_coe]
  refine congrArg₂ _ rfl ?_
  by_cases h : d.val / 64 = 0
  · rw [if_pos h, h]
    refine sum_congr rfl fun r _ => ?_
    rw [hy, hx, ← EReal.coe_mul]
    dsimp only
    rw [Nat.div_eq_of_lt hs, Nat.mod_eq_of_lt hs]
  · rw [if_neg h, show d.val / 64 = 1 by omega]
    refine sum_congr rfl fun r _ => ?_
    rw [hy, hx, ← EReal.coe_mul]
    dsimp only
    rw [show (256 + s.val) / 256 = 1 by omega, show (256 + s.val) % 256 = s.val by omega]

end

end Cert.SbBwd

end
-- ==== Proof.BlockValue.lean ====
/-
  What a row block's run over its tiles leaves, over the real numbers: after `n` tiles the registers hold the sums over the
  keys below `256 n`, and the rows of the keys' and of the values' gradients below `256 n` have gained this block's part.
-/
module

public import proofs.«01_k».proof.Proof.Pay

@[expose] public section

set_option maxRecDepth 16384

noncomputable section

namespace Cert.SbBwd

open Cert.KernelIdeal Cert.KernelIdeal.Gen
open Idealize.ShloMosaic Idealize.ShloMosaic.TcCoe
open Finset

/-! ## Rows of a tile -/

theorem rows_holds {φ : FTy} {x : S8192x128.Idx → Ideal φ} {f : ℕ → ℕ → ℝ} (h : Holds (φ := φ) (n := 8192) (m := 128) x f) (j : Fin 32) :
    Holds (φ := φ) (n := 256) (m := 128) (VecWindow.window x ![256 * j.val, 0] S256x128.size (tile_inb j)) fun s d => f (256 * j.val + s) d := by
  intro s d
  have hj := j.isLt
  refine Eq.trans (congrArg x (funext fun a => Fin.ext ?_)) (h ⟨256 * j.val + s.val, by omega⟩ d)
  match a with
  | ⟨0, _⟩ => show 256 * j.val + 1 * s.val = 256 * j.val + s.val; omega
  | ⟨1, _⟩ => show 0 + 1 * d.val = d.val; omega

theorem putRows_holds {φ : FTy} {x : S8192x128.Idx → Ideal φ} {w : FVec Ideal S256x128 φ} {f g e : ℕ → ℕ → ℝ} {j : Fin 32}
    (h : Holds (φ := φ) (n := 8192) (m := 128) x f) (hw : Holds (φ := φ) (n := 256) (m := 128) w g)
    (he : ∀ s d, s < 8192 → d < 128 → e s d = if s / 256 = j.val then g (s % 256) d else f s d) :
    Holds (φ := φ) (n := 8192) (m := 128) (VecWindow.put x ![256 * j.val, 0] S256x128.size w) e := by
  intro s d
  have hj := j.isLt
  rw [he s.val d.val s.isLt d.isLt]
  show (if h : _ then w _ else x (ix2 s d)) = _
  by_cases hs : s.val / 256 = j.val
  · rw [if_pos hs, dif_pos (fun a => by
      match a with
      | ⟨0, _⟩ => show 256 * j.val ≤ s.val ∧ s.val < 256 * j.val + 256; omega
      | ⟨1, _⟩ => show 0 ≤ d.val ∧ d.val < 0 + 128; have := d.isLt; omega)]
    refine Eq.trans (congrArg w (funext fun a => Fin.ext ?_)) (hw ⟨s.val % 256, by omega⟩ d)
    match a with
    | ⟨0, _⟩ => show s.val - 256 * j.val = s.val % 256; omega
    | ⟨1, _⟩ => show d.val - 0 = d.val; omega
  · rw [if_neg hs, dif_neg (fun hh => hs (by
      have h0 : 256 * j.val ≤ s.val ∧ s.val < 256 * j.val + 256 := hh 0
      omega))]
    exact h s d

theorem truncf_holds {n m : ℕ} {x : FVec Ideal ⟨2, ![n, m]⟩ .f32} {f : ℕ → ℕ → ℝ} (h : Holds x f) : Holds (truncf .bf16 x bitsLt_bf16_f32) f := by
  intro r c
  pointwise
  exact h r c

theorem select_holds {m : IVec S512x512 1} {x : FVec Ideal S512x512 .f32} {p : ℕ → ℕ → Prop} [∀ r c, Decidable (p r c)] {f : ℕ → ℕ → ℝ}
    (hm : ∀ r c : Fin 512, m (ix2 r c) = bit (p r.val c.val)) (h : Holds x f) :
    Holds (select m x (broadcast S512x512 (Scalar.ofBits .f32 0x00000000#32))) fun r c => if p r c then f r c else 0 := by
  intro r c
  pointwise
  rw [hm, select_bit, h]
  by_cases hp : p r.val c.val
  · rw [if_pos hp, if_pos hp]
  · rw [if_neg hp, if_neg hp]; simp

/-! ## One tile -/

/-- A tile, given its log failures, gradients of the weights' logarithms, gradients of the logits and weights. -/
def tileStep (b : Blk Ideal) (K V : S8192x128.Idx → Elt Ideal .bf16) (j : Fin 32) (s : St Ideal) (l g : FVec Ideal S512x512 .f32) (y w : FVec Ideal S512x512 .bf16) :
    St Ideal where
  acc := (addf s.acc.1 (matmul dot_S512x512_S512x128_S512x128_1_0_0_1_n_n none y (k0_pay1 k0_pay56 (rows K j)) (constant S512x128 .f32 0x00000000#32)),
    k0_pay59 s.acc.2.1 l, k0_pay60 s.acc.2.2.1 l, k0_pay59 s.acc.2.2.2.1 g, k0_pay60 s.acc.2.2.2.2 g)
  dk := putRows s.dk j (rowsGrad y b.qs (rows s.dk j))
  dv := putRows s.dv j (rowsGrad w b.dO (rows s.dv j))

variable (M : Mdl) (i : ℕ) (A B : ℕ → ℕ → ℝ)

/-- Row block `i`'s part of the keys' gradient. -/
def Mdl.dkPart (s d : ℕ) : ℝ := ∑ r ∈ range 512, M.dz (d / 64) (512 * i + r) s * (M.q (512 * i + r) d * (1 / 8))

/-- Row block `i`'s part of the values' gradient. -/
def Mdl.dvPart (s d : ℕ) : ℝ := ∑ r ∈ range 512, M.w (d / 64) (512 * i + r) s * M.o (512 * i + r) d

/-- The state after `n` tiles of row block `i`, which found the gradients `A` and `B`. -/
structure Inv (n : ℕ) (s : St Ideal) : Prop where
  dq : Holds s.acc.1 fun r d => ∑ h ∈ range 2, ∑ s ∈ range (256 * n), M.dz h (512 * i + r) s * lanes h M.k s d
  l0 : Holds s.acc.2.1 fun r _ => ∑ s ∈ range (256 * n), M.lf 0 (512 * i + r) s
  l1 : Holds s.acc.2.2.1 fun r _ => ∑ s ∈ range (256 * n), M.lf 1 (512 * i + r) s
  g0 : Holds s.acc.2.2.2.1 fun r _ => ∑ s ∈ range (256 * n), M.g 0 (512 * i + r) s
  g1 : Holds s.acc.2.2.2.2 fun r _ => ∑ s ∈ range (256 * n), M.g 1 (512 * i + r) s
  dk : Holds (φ := .f32) (n := 8192) (m := 128) s.dk fun s d => A s d + if s < 256 * n then M.dkPart i s d else 0
  dv : Holds (φ := .f32) (n := 8192) (m := 128) s.dv fun s d => B s d + if s < 256 * n then M.dvPart i s d else 0

variable {M i A B}
variable {b : Blk Ideal} (hb : BlkHolds M i b) {K V : S8192x128.Idx → Elt Ideal .bf16}
  (hK : Holds (φ := .bf16) (n := 8192) (m := 128) K M.k) (hV : Holds (φ := .bf16) (n := 8192) (m := 128) V M.v)

include hb hK in
theorem tileStep_inv {j : Fin 32} {s : St Ideal} (h : Inv M i A B j.val s) {l g : FVec Ideal S512x512 .f32} {y w : FVec Ideal S512x512 .bf16}
    (hl : Holds l fun r c => M.lf (c / 256) (512 * i + r) (256 * j.val + c % 256)) (hg : Holds g fun r c => M.g (c / 256) (512 * i + r) (256 * j.val + c % 256))
    (hy : Holds y fun r c => M.dz (c / 256) (512 * i + r) (256 * j.val + c % 256)) (hw : Holds w fun r c => M.w (c / 256) (512 * i + r) (256 * j.val + c % 256)) :
    Inv M i A B (j.val + 1) (tileStep b K V j s l g y w) where
  dq := dq_holds (f := fun h r s => M.dz h (512 * i + r) s) (rows_holds hK j) h.dq hy
  l0 := left_holds j.val (f := fun h r s => M.lf h (512 * i + r) s) h.l0 hl
  l1 := right_holds j.val (f := fun h r s => M.lf h (512 * i + r) s) h.l1 hl
  g0 := left_holds j.val (f := fun h r s => M.g h (512 * i + r) s) h.g0 hg
  g1 := right_holds j.val (f := fun h r s => M.g h (512 * i + r) s) h.g1 hg
  dk := putRows_holds h.dk (rowsGrad_holds (f := fun h r s => M.dz h (512 * i + r) (256 * j.val + s)) (rows_holds h.dk j) hb.qs hy) fun s d hs hd => by
    by_cases e : s / 256 = j.val
    · rw [if_pos e, if_pos (by omega), if_neg (by omega), show 256 * j.val + s % 256 = s by omega, add_zero]; rfl
    · rw [if_neg e]
      by_cases e' : s < 256 * j.val
      · rw [if_pos e', if_pos (by omega)]
      · rw [if_neg e', if_neg (by omega)]
  dv := putRows_holds h.dv (rowsGrad_holds (f := fun h r s => M.w h (512 * i + r) (256 * j.val + s)) (rows_holds h.dv j) hb.dO hw) fun s d hs hd => by
    by_cases e : s / 256 = j.val
    · rw [if_pos e, if_pos (by omega), if_neg (by omega), show 256 * j.val + s % 256 = s by omega, add_zero]; rfl
    · rw [if_neg e]
      by_cases e' : s < 256 * j.val
      · rw [if_pos e', if_pos (by omega)]
      · rw [if_neg e', if_neg (by omega)]

/-! ## A whole tile -/

theorem stepFull_eq (b : Blk Ideal) (K V : S8192x128.Idx → Elt Ideal .bf16) (j : Fin 32) (s : St Ideal) :
    stepFull b K V j s =
      let l := k0_pay4 b.qs k0_pay56 (rows K j)
      let w := k0_pay8 b.tot b.upto l (k0_pay6 b.qs k0_pay56 (rows K j)) (k0_pay7 b.head s.acc.2.1 s.acc.2.2.1)
      let g := mulf (matmul (φ₁ := .bf16) dot_S512x128_S512x128_S512x512_1_1_0_0_n_n none b.dO (k0_pay1 k0_pay56 (rows V j)) (constant S512x512 .f32 0x00000000#32)) w
      tileStep b K V j s l g (truncf .bf16 (rawDz b s.acc.2.2.2.1 s.acc.2.2.2.2 (k0_pay5 b.qs k0_pay56 (rows K j)) g) bitsLt_bf16_f32) (truncf .bf16 w bitsLt_bf16_f32) := rfl

include hb hK hV in
theorem stepFull_inv {j : Fin 32} {s : St Ideal} (h : Inv M i A B j.val s) (hj : j.val < 2 * i) : Inv M i A B (j.val + 1) (stepFull b K V j s) := by
  have hlt : ∀ r c, r < 512 → c < 512 → 256 * j.val + c % 256 < 512 * i + r := fun r c _ _ => by omega
  have hk := rows_holds hK j
  have hl : Holds (k0_pay4 b.qs k0_pay56 (rows K j)) fun r c => M.lf (c / 256) (512 * i + r) (256 * j.val + c % 256) :=
    (neg_sp_holds hb hk).congr fun r c hr hc => by unfold Mdl.lf; rw [if_pos (hlt r c hr hc)]
  have hz : Holds (k0_pay6 b.qs k0_pay56 (rows K j)) fun r c => M.z (c / 256) (512 * i + r) (256 * j.val + c % 256) + M.lf (c / 256) (512 * i + r) (256 * j.val + c % 256) :=
    (logsig_holds hb hk).congr fun r c hr hc => by unfold Mdl.lf; rw [if_pos (hlt r c hr hc)]
  have hr := spread_holds (f := fun h r => ∑ s ∈ range (256 * j.val), M.lf h (512 * i + r) s) h.l0 h.l1
  rw [← hb.head] at hr
  have hw : Holds (k0_pay8 b.tot b.upto (k0_pay4 b.qs k0_pay56 (rows K j)) (k0_pay6 b.qs k0_pay56 (rows K j)) (k0_pay7 b.head s.acc.2.1 s.acc.2.2.1))
      fun r c => M.w (c / 256) (512 * i + r) (256 * j.val + c % 256) :=
    (rawW_holds hb hl hz hr).congr fun r c hr hc => by unfold Mdl.w; rw [if_pos (hlt r c hr hc)]
  have hg := g_holds hb (rows_holds hV j) hw
  have hy := (rawDz_holds hb h.g0 h.g1 (sg_holds hb hk) hg).congr (g := fun r c => M.dz (c / 256) (512 * i + r) (256 * j.val + c % 256)) fun r c hr hc => by
    unfold Mdl.dz; rw [if_pos (hlt r c hr hc)]
  rw [stepFull_eq]
  exact tileStep_inv hb hK h hl hg (truncf_holds hy) (truncf_holds hw)

/-! ## A tile on the diagonal -/

theorem stepDiag_eq (b : Blk Ideal) (v12 v31 : IVec S512x512 32) (w : BitVec 32) (K V : S8192x128.Idx → Elt Ideal .bf16) (n : Fin k0_t3_loop.trips) (j : Fin 32) (s : St Ideal) :
    stepDiag b v12 v31 w K V n j s =
      let m := k0_pay29 v12 v31 w 0#32 1#32 n
      let o := broadcast S512x512 (Scalar.ofBits .f32 0x00000000#32)
      let l := select m (k0_pay4 b.qs k0_pay56 (rows K j)) o
      let w := select m (k0_pay8 b.tot b.upto l (addf (k0_pay3 b.qs k0_pay56 (rows K j)) l) (k0_pay7 b.head s.acc.2.1 s.acc.2.2.1)) o
      let g := mulf (matmul (φ₁ := .bf16) dot_S512x128_S512x128_S512x512_1_1_0_0_n_n none b.dO (k0_pay1 k0_pay56 (rows V j)) (constant S512x512 .f32 0x00000000#32)) w
      tileStep b K V j s l g (truncf .bf16 (select m (rawDz b s.acc.2.2.2.1 s.acc.2.2.2.2 (k0_pay5 b.qs k0_pay56 (rows K j)) g) o) bitsLt_bf16_f32)
        (truncf .bf16 w bitsLt_bf16_f32) := rfl

include hb hK hV in
theorem stepDiag_inv {v12 v31 : IVec S512x512 32} {w : BitVec 32} {n : Fin k0_t3_loop.trips} {j : Fin 32} {s : St Ideal} (h : Inv M i A B j.val s)
    (hm : ∀ r c : Fin 512, k0_pay29 v12 v31 w 0#32 1#32 n (ix2 r c) = bit (256 * j.val + c.val % 256 < 512 * i + r.val)) :
    Inv M i A B (j.val + 1) (stepDiag b v12 v31 w K V n j s) := by
  have hk := rows_holds hK j
  have hl := (select_holds hm (neg_sp_holds hb hk)).congr (g := fun r c => M.lf (c / 256) (512 * i + r) (256 * j.val + c % 256)) fun r c hr hc => rfl
  have hz : Holds (addf (k0_pay3 b.qs k0_pay56 (rows K j)) _) fun r c => M.z (c / 256) (512 * i + r) (256 * j.val + c % 256) + M.lf (c / 256) (512 * i + r) (256 * j.val + c % 256) :=
    fun r c => (congrArg₂ (· + ·) (z_holds hb hk r c) (hl r c)).trans (EReal.coe_add _ _).symm
  have hr := spread_holds (f := fun h r => ∑ s ∈ range (256 * j.val), M.lf h (512 * i + r) s) h.l0 h.l1
  rw [← hb.head] at hr
  have hw := (select_holds hm (rawW_holds hb hl hz hr)).congr (g := fun r c => M.w (c / 256) (512 * i + r) (256 * j.val + c % 256)) fun r c hr hc => rfl
  have hg := g_holds hb (rows_holds hV j) hw
  have hy := (select_holds hm (rawDz_holds hb h.g0 h.g1 (sg_holds hb hk) hg)).congr (g := fun r c => M.dz (c / 256) (512 * i + r) (256 * j.val + c % 256)) fun r c hr hc => rfl
  rw [stepDiag_eq]
  exact tileStep_inv hb hK h hl hg (truncf_holds hy) (truncf_holds hw)

/-! ## A row block -/

include hb hK hV in
theorem runFull_inv {s : St Ideal} (h : Inv M i A B 0 s) (n : ℕ) (hn : n ≤ 2 * i) (hi : i < 16) : Inv M i A B n (runFull b K V s n) := by
  induction n with
  | zero => exact h
  | succ n ih =>
    rw [runFull_succ b K V s n (by omega)]
    exact stepFull_inv hb hK hV (j := ⟨n, by omega⟩) (ih (by omega)) (by show n < _; omega)

theorem pay57_holds : Holds (k0_pay57 (F := Ideal)) fun _ _ => 0 := by
  intro r d
  pointwise [k0_pay57]
  simp

theorem pay58_holds : Holds (k0_pay58 (F := Ideal)) fun _ _ => 0 := by
  intro r d
  pointwise [k0_pay58]
  simp

theorem start_inv {dk dv : S8192x128.Idx → Elt Ideal .f32} (hdk : Holds (φ := .f32) (n := 8192) (m := 128) dk A)
    (hdv : Holds (φ := .f32) (n := 8192) (m := 128) dv B) : Inv M i A B 0 ⟨(k0_pay58, k0_pay57, k0_pay57, k0_pay57, k0_pay57), dk, dv⟩ where
  dq := pay58_holds.congr fun r d _ _ => by simp
  l0 := pay57_holds.congr fun r d _ _ => by simp
  l1 := pay57_holds.congr fun r d _ _ => by simp
  g0 := pay57_holds.congr fun r d _ _ => by simp
  g1 := pay57_holds.congr fun r d _ _ => by simp
  dk := hdk.congr fun s d _ _ => by rw [if_neg (by omega), add_zero]
  dv := hdv.congr fun s d _ _ => by rw [if_neg (by omega), add_zero]

include hb hK hV in
theorem runDiag_inv {c : grid0.Coords} (hc : (c 1).val = i) {s : St Ideal} (h : Inv M i A B (2 * i) s) (n : ℕ) (hn : n ≤ k0_t3_loop.trips) :
    Inv M i A B (2 * i + n) (runDiag b (k0_pay45 c) k0_pay47 (Scalar.muli (BitVec.ofNat 32 (c 1).val) 2#32) c K V s n) := by
  induction n with
  | zero => exact h
  | succ n ih =>
    have e : 2 * i + n = (diagTile c ⟨n, hn⟩).val := by rw [← hc]; rfl
    have h3 := ih (Nat.le_of_succ_le hn)
    rw [e] at h3
    have e' : 2 * i + (n + 1) = (diagTile c ⟨n, hn⟩).val + 1 := by rw [← e]; rfl
    rw [runDiag_succ b _ _ _ c K V _ ⟨n, hn⟩, e']
    exact stepDiag_inv hb hK hV h3 fun r x => by rw [← hc]; exact pay29_apply c ⟨n, hn⟩ r x

include hb hK hV in
/-- A row block's run. -/
theorem blockRun_inv {c : grid0.Coords} (hc : (c 1).val = i) {dk dv : S8192x128.Idx → Elt Ideal .f32} (hdk : Holds (φ := .f32) (n := 8192) (m := 128) dk A)
    (hdv : Holds (φ := .f32) (n := 8192) (m := 128) dv B) : Inv M i A B (2 * i + 2) (blockRun c b K V dk dv) := by
  have hi : i < 16 := hc ▸ (c 1).isLt
  have h1 := runFull_inv hb hK hV (start_inv hdk hdv) (2 * i) le_rfl hi
  have h2 := runDiag_inv hb hK hV hc h1 k0_t3_loop.trips le_rfl
  have ht : 2 * i + k0_t3_loop.trips = 2 * i + 2 := congrArg _ (by decide)
  unfold blockRun
  rw [trips1, hc]
  rw [ht, hc] at h2
  exact h2

end Cert.SbBwd

end
-- ==== Proof.Heads.lean ====
/-
  The eight heads of the arguments, two by two: what a pair's model says of one head, over its own sixty four lanes. And the two facts
  about the log of one plus the exponential by which the two programs' forms of the weights and gradients agree.
-/
module

public import proofs.«01_k».proof.Proof.Model

@[expose] public section

noncomputable section

namespace Cert.SbBwd

open Finset

/-- Pair `p` of heads of the arguments `X` and `O`. -/
def mdl (X O : ℕ → ℕ → ℝ) (p : ℕ) : Mdl where
  q t d := X t (128 * p + d)
  k s d := X s (512 + 128 * p + d)
  v s d := X s (1024 + 128 * p + d)
  o t d := O t (128 * p + d)

namespace Mdl
variable (M : Mdl)

/-- The gradients over the whole sequence, by position and lane of the pair. -/
def dq (t d : ℕ) : ℝ := (∑ h ∈ range 2, ∑ s ∈ range 8192, M.dz h t s * lanes h M.k s d) * (1 / 8)
def dk (s d : ℕ) : ℝ := ∑ t ∈ range 8192, M.dz (d / 64) t s * (M.q t d * (1 / 8))
def dv (s d : ℕ) : ℝ := ∑ t ∈ range 8192, M.w (d / 64) t s * M.o t d

end Mdl

/-- A head's lanes among the pair's. -/
theorem sum_lanes (f g : ℕ → ℝ) {h : ℕ} (hh : h < 2) :
    ∑ d ∈ range 128, f d * (if d / 64 = h then g d else 0) = ∑ e ∈ range 64, f (64 * h + e) * g (64 * h + e) := by
  rw [show (128 : ℕ) = 64 + 64 from rfl, sum_range_add]
  have h0 : ∀ e ∈ range 64, e / 64 = 0 := fun e he => Nat.div_eq_of_lt (mem_range.mp he)
  have h1 : ∀ e ∈ range 64, (64 + e) / 64 = 1 := fun e he => by rw [mem_range] at he; omega
  obtain rfl | rfl : h = 0 ∨ h = 1 := by omega
  · rw [sum_eq_zero (s := range 64) (f := fun e => f (64 + e) * _) fun e he => by rw [h1 e he, if_neg (by decide), mul_zero], add_zero]
    exact sum_congr rfl fun e he => by rw [h0 e he, if_pos rfl, mul_zero, zero_add]
  · rw [sum_eq_zero (s := range 64) (f := fun e => f e * _) fun e he => by rw [h0 e he, if_neg (by decide), mul_zero], zero_add]
    exact sum_congr rfl fun e he => by rw [h1 e he, if_pos rfl, mul_one]

variable (X O : ℕ → ℕ → ℝ) (h t s : ℕ)

/-- Head `h` among the eight. -/
abbrev md : Mdl := mdl X O (h / 2)

theorem md_z : (md X O h).z (h % 2) t s = (∑ e ∈ range 64, X t (h * 64 + e) * X s (512 + (h * 64 + e))) * (1 / 8) := by
  refine (sum_lanes (fun d => (md X O h).q t d * (1 / 8)) (fun d => (md X O h).k s d) (Nat.mod_lt _ (by decide))).trans ?_
  rw [sum_mul]
  refine sum_congr rfl fun e _ => ?_
  show X t (128 * (h / 2) + (64 * (h % 2) + e)) * (1 / 8) * X s (512 + 128 * (h / 2) + (64 * (h % 2) + e)) = _
  rw [show 128 * (h / 2) + (64 * (h % 2) + e) = h * 64 + e by omega, show 512 + 128 * (h / 2) + (64 * (h % 2) + e) = 512 + (h * 64 + e) by omega]
  ring

theorem md_u : (md X O h).u (h % 2) t s = ∑ e ∈ range 64, O t (h * 64 + e) * X s (1024 + (h * 64 + e)) := by
  refine (sum_lanes (fun d => (md X O h).o t d) (fun d => (md X O h).v s d) (Nat.mod_lt _ (by decide))).trans (sum_congr rfl fun e _ => ?_)
  show O t (128 * (h / 2) + (64 * (h % 2) + e)) * X s (1024 + 128 * (h / 2) + (64 * (h % 2) + e)) = _
  rw [show 128 * (h / 2) + (64 * (h % 2) + e) = h * 64 + e by omega, show 1024 + 128 * (h / 2) + (64 * (h % 2) + e) = 1024 + (h * 64 + e) by omega]

/-! ## The gradients by column of the whole width -/

variable (x : ℕ)

theorem md_dq : (mdl X O (x / 128)).dq t (x % 128)
    = ∑ s ∈ range 8192, ((md X O (x / 64)).dz (x / 64 % 2) t s * (1 / 8)) * X s (512 + (x / 64 * 64 + x % 64)) := by
  have e : x / 64 / 2 = x / 128 := by omega
  unfold Mdl.dq md
  rw [e, sum_eq_single (x % 128 / 64) (fun h' _ hne => sum_eq_zero fun s _ => by rw [lanes, if_neg (Ne.symm hne), mul_zero])
    (fun hn => absurd (mem_range.mpr (by omega)) hn), sum_mul]
  refine sum_congr rfl fun s _ => ?_
  rw [lanes, if_pos rfl, show x / 64 % 2 = x % 128 / 64 by omega]
  show _ * X s (512 + 128 * (x / 128) + x % 128) * (1 / 8) = _
  rw [show 512 + 128 * (x / 128) + x % 128 = 512 + (x / 64 * 64 + x % 64) by omega]
  ring

theorem md_dk : (mdl X O (x / 128)).dk s (x % 128)
    = ∑ t ∈ range 8192, ((md X O (x / 64)).dz (x / 64 % 2) t s * (1 / 8)) * X t (0 + (x / 64 * 64 + x % 64)) := by
  have e : x / 64 / 2 = x / 128 := by omega
  unfold Mdl.dk md
  refine sum_congr rfl fun t _ => ?_
  rw [e, show x / 64 % 2 = x % 128 / 64 by omega]
  show _ * (X t (128 * (x / 128) + x % 128) * (1 / 8)) = _
  rw [show 128 * (x / 128) + x % 128 = 0 + (x / 64 * 64 + x % 64) by omega]
  ring

theorem md_dv : (mdl X O (x / 128)).dv s (x % 128)
    = ∑ t ∈ range 8192, O t (x / 64 * 64 + x % 64) * (md X O (x / 64)).w (x / 64 % 2) t s := by
  have e : x / 64 / 2 = x / 128 := by omega
  unfold Mdl.dv md
  refine sum_congr rfl fun t _ => ?_
  rw [e, show x / 64 % 2 = x % 128 / 64 by omega]
  show _ * O t (128 * (x / 128) + x % 128) = _
  rw [show 128 * (x / 128) + x % 128 = x / 64 * 64 + x % 64 by omega]
  ring

/-! ## The log of one plus the exponential -/

theorem sp_eq (y : ℝ) : sp y = Real.log (1 + Real.exp y) := by
  unfold sp
  rcases le_total 0 y with hy | hy
  · rw [max_eq_left hy, abs_of_nonneg hy]
    nth_rewrite 1 [← Real.log_exp y]
    rw [← Real.log_mul (Real.exp_ne_zero _) (by positivity), mul_add, mul_one, ← Real.exp_add, add_neg_cancel, Real.exp_zero, add_comm]
  · rw [max_eq_right hy, abs_of_nonpos hy, neg_neg, zero_add]

theorem neg_sp_neg (y : ℝ) : -sp (-y) = y + -sp y := by
  unfold sp
  rw [abs_neg]
  rcases le_total 0 y with hy | hy
  · rw [max_eq_left hy, max_eq_right (by linarith)]; ring
  · rw [max_eq_right hy, max_eq_left (by linarith)]; ring

theorem exp_neg_sp (y : ℝ) : Real.exp (-y - sp (-y)) = 1 - Real.exp (y + -sp y) := by
  have e : -y - sp (-y) = -sp y := by have := neg_sp_neg y; linarith
  have hp : (0 : ℝ) < 1 + Real.exp y := by positivity
  rw [e, Real.exp_add, Real.exp_neg, sp_eq, Real.exp_log hp]
  field_simp
  ring

/-- The reference's form of the gradient of a logit. -/
theorem md_dz (M : Mdl) : (-(-M.g h t s * Real.exp (-M.z h t s - sp (-M.z h t s)))
    + -(if s < t then -M.g h t s + ∑ x ∈ range (s + 1), M.g h t x else 0) * Real.exp (M.z h t s - sp (M.z h t s))) * (1 / 8) = M.dz h t s * (1 / 8) := by
  rw [exp_neg_sp, ← sub_eq_add_neg (M.z h t s)]
  by_cases hs : s < t
  · rw [if_pos hs, Mdl.dz, if_pos hs, Mdl.sg, ← sub_eq_add_neg]; ring
  · rw [if_neg hs, M.dz_zero hs, M.g_zero hs]; ring

end Cert.SbBwd

end
-- ==== Proof.KernelValue.lean ====
/-
  What the launch's three arrays hold, over the real numbers: the gradients of the queries, of the keys and of the values.
  `X` are the numbers of the first argument (queries, keys and values side by side), `O` those of the second.
-/
module

public import proofs.«01_k».proof.Proof.BlockValue
public import proofs.«01_k».proof.Proof.Heads
public import proofs.«01_k».proof.Proof.Launch
public import Idealize.ShloMosaic.Lib.Pipeline.ValueKit

@[expose] public section

set_option maxRecDepth 16384

noncomputable section

namespace Cert.SbBwd

open Cert.KernelIdeal Cert.KernelIdeal.Gen
open Idealize.ShloMosaic Idealize.ShloMosaic.TcCoe
open Idealize.ShloMosaic.Pipeline (Dat)
open Idealize.SL Idealize.SL.Sem
open Finset

namespace Mdl
variable (M : Mdl)

theorem dkPart_late {i s d : ℕ} (h : ¬ s < 512 * (i + 1)) : M.dkPart i s d = 0 :=
  sum_eq_zero fun r hr => by rw [mem_range] at hr; rw [M.dz_zero (by omega), zero_mul]

theorem dvPart_late {i s d : ℕ} (h : ¬ s < 512 * (i + 1)) : M.dvPart i s d = 0 :=
  sum_eq_zero fun r hr => by rw [mem_range] at hr; rw [M.w_zero (by omega), zero_mul]

end Mdl

theorem sum_blocks (f : ℕ → ℝ) (n : ℕ) : ∑ i ∈ range n, ∑ r ∈ range 512, f (512 * i + r) = ∑ t ∈ range (512 * n), f t := by
  induction n with
  | zero => simp
  | succ n ih => rw [sum_range_succ, ih, Nat.mul_add, mul_one, sum_range_add]

variable (m : (ℓ : Loc nD τ sig) → Buf (Elt Ideal) ℓ) (c : Dev nD) (X O : ℕ → ℕ → ℝ)

/-- What the host leaves for the launch, over the real numbers. -/
structure HostHolds : Prop where
  arg0 : Holds (φ := .bf16) (n := 8192) (m := 1536) (m ((c : Thread nD τ).loc main_arg0)) X
  arg1 : Holds (φ := .bf16) (n := 8192) (m := 512) (m ((c : Thread nD τ).loc main_arg1)) O
  tota : ∀ (p : Fin 4) (t : Fin 8192) (z : Fin 1), (V m c main_v28 : S4x8192x1.Idx → EReal) (ix3 p t z) = (((mdl X O p.val).tot 0 t.val : ℝ) : EReal)
  totb : ∀ (p : Fin 4) (t : Fin 8192) (z : Fin 1), (V m c main_v30 : S4x8192x1.Idx → EReal) (ix3 p t z) = (((mdl X O p.val).tot 1 t.val : ℝ) : EReal)

theorem coords0 : ∀ t : Fin grid0.N, (grid0.coords t 0).val = t.val / 16 ∧ (grid0.coords t 1).val = t.val % 16 := by decide +kernel

theorem index0_0 : ∀ t : Fin cfg0.N, win0_0.index t = ![t.val % 16, t.val / 16] := (by decide +kernel : ∀ t : Fin grid0.N, _)
theorem index0_1 : ∀ t : Fin cfg0.N, win0_1.index t = ![0, 4 + t.val / 16] := (by decide +kernel : ∀ t : Fin grid0.N, _)
theorem index0_2 : ∀ t : Fin cfg0.N, win0_2.index t = ![0, 8 + t.val / 16] := (by decide +kernel : ∀ t : Fin grid0.N, _)
theorem index0_3 : ∀ t : Fin cfg0.N, win0_3.index t = ![t.val / 16, t.val % 16, 0] := (by decide +kernel : ∀ t : Fin grid0.N, _)
theorem index0_4 : ∀ t : Fin cfg0.N, win0_4.index t = ![t.val / 16, t.val % 16, 0] := (by decide +kernel : ∀ t : Fin grid0.N, _)
theorem index0_6 : ∀ t : Fin cfg0.N, win0_6.index t = ![t.val % 16, t.val / 16] := (by decide +kernel : ∀ t : Fin grid0.N, _)
theorem index0_7 : ∀ t : Fin cfg0.N, win0_7.index t = ![t.val % 16, t.val / 16] := (by decide +kernel : ∀ t : Fin grid0.N, _)
theorem index0_8 : ∀ t : Fin cfg0.N, win0_8.index t = ![0, t.val / 16] := (by decide +kernel : ∀ t : Fin grid0.N, _)
theorem index0_9 : ∀ t : Fin cfg0.N, win0_9.index t = ![0, t.val / 16] := (by decide +kernel : ∀ t : Fin grid0.N, _)

theorem lt64 (t : Fin cfg0.N) : t.val < 64 := lt_of_lt_of_eq t.isLt (by decide +kernel : grid0.N = 64)

variable {m c X O} (H : HostHolds m c X O) (t : Fin cfg0.N)

include H

theorem q_blk : Holds (φ := .bf16) (n := 512) (m := 128) (iblk m c 0 t) fun r d => (mdl X O (t.val / 16)).q (512 * (t.val % 16) + r) d := by
  intro r d
  have ht := lt64 t
  unfold iblk
  refine Eq.trans (congrArg (V m c main_arg0) (funext fun a => Fin.ext ?_)) ((congrFun (V_main_arg0 m c) _).trans
    (H.arg0 ⟨512 * (t.val % 16) + r.val, by omega⟩ ⟨128 * (t.val / 16) + d.val, by omega⟩))
  match a with
  | ⟨0, _⟩ => show win0_0.index t 0 * 512 + 1 * r.val = _; rw [index0_0]; show t.val % 16 * 512 + 1 * r.val = 512 * (t.val % 16) + r.val; omega
  | ⟨1, _⟩ => show win0_0.index t 1 * 128 + 1 * d.val = _; rw [index0_0]; show t.val / 16 * 128 + 1 * d.val = 128 * (t.val / 16) + d.val; omega

theorem o_blk : Holds (φ := .bf16) (n := 512) (m := 128) (iblk m c 6 t) fun r d => (mdl X O (t.val / 16)).o (512 * (t.val % 16) + r) d := by
  intro r d
  have ht := lt64 t
  unfold iblk
  refine Eq.trans (congrArg (V m c main_arg1) (funext fun a => Fin.ext ?_)) ((congrFun (V_main_arg1 m c) _).trans
    (H.arg1 ⟨512 * (t.val % 16) + r.val, by omega⟩ ⟨128 * (t.val / 16) + d.val, by omega⟩))
  match a with
  | ⟨0, _⟩ => show win0_6.index t 0 * 512 + 1 * r.val = _; rw [index0_6]; show t.val % 16 * 512 + 1 * r.val = 512 * (t.val % 16) + r.val; omega
  | ⟨1, _⟩ => show win0_6.index t 1 * 128 + 1 * d.val = _; rw [index0_6]; show t.val / 16 * 128 + 1 * d.val = 128 * (t.val / 16) + d.val; omega

theorem k_blk : Holds (φ := .bf16) (n := 8192) (m := 128) (iblk m c 1 t) (mdl X O (t.val / 16)).k := by
  intro r d
  have ht := lt64 t
  unfold iblk
  refine Eq.trans (congrArg (V m c main_arg0) (funext fun a => Fin.ext ?_)) ((congrFun (V_main_arg0 m c) _).trans
    (H.arg0 r ⟨512 + 128 * (t.val / 16) + d.val, by omega⟩))
  match a with
  | ⟨0, _⟩ => show win0_1.index t 0 * 8192 + 1 * r.val = _; rw [index0_1]; show 0 * 8192 + 1 * r.val = r.val; omega
  | ⟨1, _⟩ => show win0_1.index t 1 * 128 + 1 * d.val = _; rw [index0_1]; show (4 + t.val / 16) * 128 + 1 * d.val = 512 + 128 * (t.val / 16) + d.val; omega

theorem v_blk : Holds (φ := .bf16) (n := 8192) (m := 128) (iblk m c 2 t) (mdl X O (t.val / 16)).v := by
  intro r d
  have ht := lt64 t
  unfold iblk
  refine Eq.trans (congrArg (V m c main_arg0) (funext fun a => Fin.ext ?_)) ((congrFun (V_main_arg0 m c) _).trans
    (H.arg0 r ⟨1024 + 128 * (t.val / 16) + d.val, by omega⟩))
  match a with
  | ⟨0, _⟩ => show win0_2.index t 0 * 8192 + 1 * r.val = _; rw [index0_2]; show 0 * 8192 + 1 * r.val = r.val; omega
  | ⟨1, _⟩ => show win0_2.index t 1 * 128 + 1 * d.val = _; rw [index0_2]; show (8 + t.val / 16) * 128 + 1 * d.val = 1024 + 128 * (t.val / 16) + d.val; omega

theorem tota_blk (r : Fin 512) : (iblk m c 3 t : S1x512x1.Idx → EReal) (ix3 0 r 0)
    = (((mdl X O (t.val / 16)).tot 0 (512 * (t.val % 16) + r.val) : ℝ) : EReal) := by
  have ht := lt64 t
  unfold iblk
  refine Eq.trans (congrArg (V m c main_v28) (funext fun a => Fin.ext ?_)) (H.tota ⟨t.val / 16, by omega⟩ ⟨512 * (t.val % 16) + r.val, by omega⟩ 0)
  match a with
  | ⟨0, _⟩ => show win0_3.index t 0 * 1 + 1 * 0 = _; rw [index0_3]; show t.val / 16 * 1 + 1 * 0 = t.val / 16; omega
  | ⟨1, _⟩ => show win0_3.index t 1 * 512 + 1 * r.val = _; rw [index0_3]; show t.val % 16 * 512 + 1 * r.val = 512 * (t.val % 16) + r.val; omega
  | ⟨2, _⟩ => show win0_3.index t 2 * 1 + 1 * 0 = _; rw [index0_3]; rfl

theorem totb_blk (r : Fin 512) : (iblk m c 4 t : S1x512x1.Idx → EReal) (ix3 0 r 0)
    = (((mdl X O (t.val / 16)).tot 1 (512 * (t.val % 16) + r.val) : ℝ) : EReal) := by
  have ht := lt64 t
  unfold iblk
  refine Eq.trans (congrArg (V m c main_v30) (funext fun a => Fin.ext ?_)) (H.totb ⟨t.val / 16, by omega⟩ ⟨512 * (t.val % 16) + r.val, by omega⟩ 0)
  match a with
  | ⟨0, _⟩ => show win0_4.index t 0 * 1 + 1 * 0 = _; rw [index0_4]; show t.val / 16 * 1 + 1 * 0 = t.val / 16; omega
  | ⟨1, _⟩ => show win0_4.index t 1 * 512 + 1 * r.val = _; rw [index0_4]; show t.val % 16 * 512 + 1 * r.val = 512 * (t.val % 16) + r.val; omega
  | ⟨2, _⟩ => show win0_4.index t 2 * 1 + 1 * 0 = _; rw [index0_4]; rfl

omit H in
theorem pay50_at (a b : Vec Ideal S1x512x1 .f32) (r x : Fin 512) :
    k0_pay50 (F := Ideal) k0_pay46 (k0_pay48 a) (k0_pay49 b) (ix2 r x) = if x.val / 256 = 0 then a (ix3 0 r 0) else b (ix3 0 r 0) := by
  pointwise [k0_pay50, k0_pay48, k0_pay49]
  rw [pay46_apply, select_bit]

omit H in
theorem pay44_at (a : Vec Ideal S512x128 .bf16) (r : Fin 512) (d : Fin 128) : k0_pay44 (F := Ideal) a (ix2 r d) = a (ix2 r d) * (((1 : ℝ) / 8 : ℝ) : EReal) := by
  pointwise [k0_pay44]
  rw [ofBits_eighth]

theorem blk_holds : BlkHolds (mdl X O (t.val / 16)) (t.val % 16) (blkOf (iblk m c 0 t) (iblk m c 6 t) (iblk m c 3 t) (iblk m c 4 t)) where
  qs := fun r d => (pay44_at _ r d).trans (by rw [q_blk H t r d, ← EReal.coe_mul])
  dO := o_blk H t
  head := rfl
  tot := fun r x => (pay50_at _ _ r x).trans (by
    rw [tota_blk H t r, totb_blk H t r]
    have hx := x.isLt
    by_cases h : x.val / 256 = 0
    · rw [if_pos h]
      exact congrArg (fun y => (((mdl X O (t.val / 16)).tot y (512 * (t.val % 16) + r.val) : ℝ) : EReal)) h.symm
    · have h1 : x.val / 256 = 1 := by omega
      rw [if_neg h]
      exact congrArg (fun y => (((mdl X O (t.val / 16)).tot y (512 * (t.val % 16) + r.val) : ℝ) : EReal)) h1.symm)
  upto := upto_holds

omit H in
theorem pay42_holds : Holds (φ := .f32) (n := 8192) (m := 128) (k0_pay42 (F := Ideal)) fun _ _ => 0 := by
  intro r d
  pointwise [k0_pay42]
  simp

omit H in
theorem pay43_holds : Holds (φ := .f32) (n := 8192) (m := 128) (k0_pay43 (F := Ideal)) fun _ _ => 0 := by
  intro r d
  pointwise [k0_pay43]
  simp

/-- What a grid point leaves, given what it finds. -/
theorem st_inv {A B : ℕ → ℕ → ℝ} {p} (hA : Holds (φ := .f32) (n := 8192) (m := 128) p.1 A) (hB : Holds (φ := .f32) (n := 8192) (m := 128) p.2 B) :
    Inv (mdl X O (t.val / 16)) (t.val % 16) A B (2 * (t.val % 16) + 2) (stOf m c t p) :=
  blockRun_inv (blk_holds H t) (k_blk H t) (v_blk H t) (coords0 t).2 hA hB

/-- The gradients of the keys and of the values as a point finds them: the parts of the row blocks before. -/
theorem carry_holds (n : ℕ) (hn : n < cfg0.N) :
    Holds (φ := .f32) (n := 8192) (m := 128) (carry m c n).1 (fun s d => ∑ i ∈ range (n % 16), (mdl X O (n / 16)).dkPart i s d)
    ∧ Holds (φ := .f32) (n := 8192) (m := 128) (carry m c n).2 (fun s d => ∑ i ∈ range (n % 16), (mdl X O (n / 16)).dvPart i s d) := by
  induction n with
  | zero => exact ⟨pay42_holds.congr fun s d _ _ => by simp, pay43_holds.congr fun s d _ _ => by simp⟩
  | succ n ih =>
    by_cases h : (n + 1) % 16 = 0
    · rw [carry_first m c _ h, h]
      exact ⟨pay42_holds.congr fun s d _ _ => by simp, pay43_holds.congr fun s d _ _ => by simp⟩
    · have hn' : n < cfg0.N := by omega
      obtain ⟨h1, h2⟩ := ih hn'
      have I := st_inv H ⟨n, hn'⟩ h1 h2
      rw [carry_next m c n hn' h, show (n + 1) % 16 = n % 16 + 1 by omega, show (n + 1) / 16 = n / 16 by omega]
      refine ⟨I.dk.congr fun s d _ _ => ?_, I.dv.congr fun s d _ _ => ?_⟩ <;> dsimp only <;> rw [sum_range_succ]
      · by_cases hs : s < 256 * (2 * (n % 16) + 2)
        · rw [if_pos hs]
        · rw [if_neg hs, Mdl.dkPart_late _ (by omega)]
      · by_cases hs : s < 256 * (2 * (n % 16) + 2)
        · rw [if_pos hs]
        · rw [if_neg hs, Mdl.dvPart_late _ (by omega)]

/-- What a grid point leaves. -/
theorem left_dk : Holds (φ := .f32) (n := 8192) (m := 128) (left m c t).dk fun s d => ∑ i ∈ range (t.val % 16 + 1), (mdl X O (t.val / 16)).dkPart i s d := by
  obtain ⟨h1, h2⟩ := carry_holds H t.val t.isLt
  refine (st_inv H t h1 h2).dk.congr fun s d _ _ => ?_
  rw [sum_range_succ]
  by_cases hs : s < 256 * (2 * (t.val % 16) + 2)
  · rw [if_pos hs]
  · rw [if_neg hs, Mdl.dkPart_late _ (by omega)]

theorem left_dv : Holds (φ := .f32) (n := 8192) (m := 128) (left m c t).dv fun s d => ∑ i ∈ range (t.val % 16 + 1), (mdl X O (t.val / 16)).dvPart i s d := by
  obtain ⟨h1, h2⟩ := carry_holds H t.val t.isLt
  refine (st_inv H t h1 h2).dv.congr fun s d _ _ => ?_
  rw [sum_range_succ]
  by_cases hs : s < 256 * (2 * (t.val % 16) + 2)
  · rw [if_pos hs]
  · rw [if_neg hs, Mdl.dvPart_late _ (by omega)]

theorem left_dq : Holds (φ := .f32) (n := 512) (m := 128) (dqOf (left m c t)) fun r d => (mdl X O (t.val / 16)).dq (512 * (t.val % 16) + r) d := by
  obtain ⟨h1, h2⟩ := carry_holds H t.val t.isLt
  have I := (st_inv H t h1 h2).dq
  intro r d
  unfold dqOf
  pointwise [k0_pay72]
  rw [I, ofBits_eighth, ← EReal.coe_mul]
  unfold Mdl.dq
  have hr := r.isLt
  have ht : t.val % 16 < 16 := Nat.mod_lt _ (by omega)
  refine congrArg (fun x : ℝ => ((x * (1 / 8) : ℝ) : EReal)) (sum_congr rfl fun h _ => ?_)
  refine sum_subset (range_subset_range.mpr (by omega)) fun s _ hs => ?_
  rw [mem_range] at hs
  rw [Mdl.dz_zero _ (by omega), zero_mul]

/-! ## The arrays -/

omit H in
theorem flush_last {t : Fin cfg0.N} : t.val % 16 = 15 → ∀ f : ℕ → ℝ, ∑ i ∈ range (t.val % 16 + 1), ∑ r ∈ range 512, f (512 * i + r) = ∑ t ∈ range 8192, f t := by
  intro h f
  rw [h, sum_blocks]

theorem arr_dq : Holds (φ := .f32) (n := 8192) (m := 512) ((dats m 0 c).arrAt 7 cfg0.N) fun t x => (mdl X O (x / 128)).dq t (x % 128) := by
  intro r x
  refine (dats m 0 c).arrAt_forall_of_covers 7 (fun i v => (v : EReal) = (((mdl X O ((i 1).val / 128)).dq (i 0).val ((i 1).val % 128) : ℝ) : EReal))
    (by decide +kernel) (fun t hf y => ?_) (ix2 r x)
  have hl := left_dq H t (y 0) (y 1)
  have e0 : (((cfg0.win 7).blk t).view.emb y 0).val = 512 * (t.val % 16) + (y 0).val := by
    show win0_7.index t 0 * 512 + 1 * (y 0).val = _; rw [index0_7]; show t.val % 16 * 512 + 1 * (y 0).val = _; omega
  have e1 : (((cfg0.win 7).blk t).view.emb y 1).val = 128 * (t.val / 16) + (y 1).val := by
    show win0_7.index t 1 * 128 + 1 * (y 1).val = _; rw [index0_7]; show t.val / 16 * 128 + 1 * (y 1).val = _; omega
  have hy : (y 1).val < 128 := (y 1).isLt
  rw [e0, e1, show (128 * (t.val / 16) + (y 1).val) / 128 = t.val / 16 by omega, show (128 * (t.val / 16) + (y 1).val) % 128 = (y 1).val by omega]
  refine Eq.trans (congrArg (dqOf (left m c t)) (funext fun a => ?_)) hl
  match a with
  | ⟨0, _⟩ => rfl
  | ⟨1, _⟩ => rfl

theorem arr_dk : Holds (φ := .f32) (n := 8192) (m := 512) ((dats m 0 c).arrAt 8 cfg0.N) fun t x => (mdl X O (x / 128)).dk t (x % 128) := by
  intro r x
  refine (dats m 0 c).arrAt_forall_of_covers 8 (fun i v => (v : EReal) = (((mdl X O ((i 1).val / 128)).dk (i 0).val ((i 1).val % 128) : ℝ) : EReal))
    (by decide +kernel) (fun t hf y => ?_) (ix2 r x)
  have hl := left_dk H t (y 0) (y 1)
  have e0 : (((cfg0.win 8).blk t).view.emb y 0).val = (y 0).val := by
    show win0_8.index t 0 * 8192 + 1 * (y 0).val = _; rw [index0_8]; show 0 * 8192 + 1 * (y 0).val = _; omega
  have e1 : (((cfg0.win 8).blk t).view.emb y 1).val = 128 * (t.val / 16) + (y 1).val := by
    show win0_8.index t 1 * 128 + 1 * (y 1).val = _; rw [index0_8]; show t.val / 16 * 128 + 1 * (y 1).val = _; omega
  have hy : (y 1).val < 128 := (y 1).isLt
  rw [e0, e1, show (128 * (t.val / 16) + (y 1).val) / 128 = t.val / 16 by omega, show (128 * (t.val / 16) + (y 1).val) % 128 = (y 1).val by omega]
  refine Eq.trans (congrArg (left m c t).dk (funext fun a => ?_)) (hl.trans (congrArg _ (flush_last ((flush0_8 t).mp hf) fun x => (mdl X O (t.val / 16)).dz ((y 1).val / 64) x (y 0).val * ((mdl X O (t.val / 16)).q x (y 1).val * (1 / 8)))))
  match a with
  | ⟨0, _⟩ => rfl
  | ⟨1, _⟩ => rfl

theorem arr_dv : Holds (φ := .f32) (n := 8192) (m := 512) ((dats m 0 c).arrAt 9 cfg0.N) fun t x => (mdl X O (x / 128)).dv t (x % 128) := by
  intro r x
  refine (dats m 0 c).arrAt_forall_of_covers 9 (fun i v => (v : EReal) = (((mdl X O ((i 1).val / 128)).dv (i 0).val ((i 1).val % 128) : ℝ) : EReal))
    (by decide +kernel) (fun t hf y => ?_) (ix2 r x)
  have hl := left_dv H t (y 0) (y 1)
  have e0 : (((cfg0.win 9).blk t).view.emb y 0).val = (y 0).val := by
    show win0_9.index t 0 * 8192 + 1 * (y 0).val = _; rw [index0_9]; show 0 * 8192 + 1 * (y 0).val = _; omega
  have e1 : (((cfg0.win 9).blk t).view.emb y 1).val = 128 * (t.val / 16) + (y 1).val := by
    show win0_9.index t 1 * 128 + 1 * (y 1).val = _; rw [index0_9]; show t.val / 16 * 128 + 1 * (y 1).val = _; omega
  have hy : (y 1).val < 128 := (y 1).isLt
  rw [e0, e1, show (128 * (t.val / 16) + (y 1).val) / 128 = t.val / 16 by omega, show (128 * (t.val / 16) + (y 1).val) % 128 = (y 1).val by omega]
  refine Eq.trans (congrArg (left m c t).dv (funext fun a => ?_)) (hl.trans (congrArg _ (flush_last ((flush0_9 t).mp hf) fun x => (mdl X O (t.val / 16)).w ((y 1).val / 64) x (y 0).val * (mdl X O (t.val / 16)).o x (y 1).val)))
  match a with
  | ⟨0, _⟩ => rfl
  | ⟨1, _⟩ => rfl

end Cert.SbBwd

end
-- ==== Proof.HostTot.lean ====
/-
  What the host leaves for the launch: the sums of the log failures of each query, two heads at a time, over the real numbers.
-/
module

public import proofs.«01_k».proof.Proof.KernelValue
public import Idealize.ShloMosaic.Lib.WordCmp

@[expose] public section

set_option maxRecDepth 16384

noncomputable section

namespace Cert.SbBwd.Hst

open Cert.KernelIdeal Cert.KernelIdeal.Gen
open Idealize.ShloMosaic Idealize.ShloMosaic.TcCoe Idealize.ShloMosaic.StableHlo
open Idealize.SL Idealize.SL.Sem
open Finset

section
variable {F : FTy → Type} [FloatOps F]

/-- Queries and keys, by position, head and lane. -/
def hq (x : FVec F S8192x1536 .bf16) : FVec F S8192x8x64 .f32 :=
  shapeCast S8192x8x64 (extractStridedSlice S8192x512 ![0, 0] (extf .f32 x bitsLt_bf16_f32) slices_S8192x1536_S8192x512_0_0) shapeCasts_S8192x512_S8192x8x64
def hk (x : FVec F S8192x1536 .bf16) : FVec F S8192x8x64 .f32 :=
  shapeCast S8192x8x64 (extractStridedSlice S8192x512 ![0, 512] (extf .f32 x bitsLt_bf16_f32) slices_S8192x1536_S8192x512_0_512) shapeCasts_S8192x512_S8192x8x64

/-- A number at each head, query and key. -/
def all3 (b : BitVec 32) : FVec F S8x8192x8192 .f32 := broadcastInDim S8x8192x8192 ![] bcast_S_S8x8192x8192 (constant S_ .f32 b)

/-- The logits. -/
def hz (x : FVec F S8192x1536 .bf16) : FVec F S8x8192x8192 .f32 :=
  mulf (Host.dotGeneral dot_S8192x8x64_S8192x8x64_S8x8192x8192_2_2_0_0_1_1 none (hq x) (hk x)) (all3 0x3E000000#32)

/-- Which keys lie before the query. -/
def mask3 : IVec S8x8192x8192 1 :=
  broadcastInDim S8x8192x8192 ![1, 2] bcast_S8192x8192_S8x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The log of one plus the exponential. -/
def spF (z : FVec F S8x8192x8192 .f32) : FVec F S8x8192x8192 .f32 :=
  select (cmpf .une (subf z (all3 0x00000000#32)) (subf z (all3 0x00000000#32))) (addf z (all3 0x00000000#32))
    (addf (maximumf z (all3 0x00000000#32)) (Host.log1p (Host.exp (Host.negf (Host.absf (subf z (all3 0x00000000#32)))))))

/-- The log failures. -/
def hlf (x : FVec F S8192x1536 .bf16) : FVec F S8x8192x8192 .f32 := select mask3 (Host.negf (spF (hz x))) (all3 0x00000000#32)

/-- The sums of an array's rows, by pair and head of the pair. -/
def sums (y : FVec F S8x8192x8192 .f32) : FVec F S4x2x8192x1 .f32 :=
  shapeCast S4x2x8192x1 (Host.reduceAdd y (constant S_ .f32 0x00000000#32) reducesTo_S8x8192x8192_S8x8192_d2 h_S_) shapeCasts_S8x8192_S4x2x8192x1
def suma (y : FVec F S8x8192x8192 .f32) : FVec F S4x8192x1 .f32 :=
  shapeCast S4x8192x1 (extractStridedSlice S4x1x8192x1 ![0, 0, 0, 0] (sums y) slices_S4x2x8192x1_S4x1x8192x1_0_0_0_0) shapeCasts_S4x1x8192x1_S4x8192x1
def sumb (y : FVec F S8x8192x8192 .f32) : FVec F S4x8192x1 .f32 :=
  shapeCast S4x8192x1 (extractStridedSlice S4x1x8192x1 ![0, 1, 0, 0] (sums y) slices_S4x2x8192x1_S4x1x8192x1_0_1_0_0) shapeCasts_S4x1x8192x1_S4x8192x1

variable (m : (ℓ : Loc nD τ sig) → Buf (Elt F) ℓ) (c : Dev nD)

theorem V_suma : (V m c main_v28 : S4x8192x1.Idx → F .f32) = suma (hlf (m ((c : Thread nD τ).loc main_arg0))) := by
  unfold V
  simp only [List.flatten_cons, List.flatten_nil, List.append_nil, StableHlo.after_append]
  rw [hostOps0_4, hostOps0_3, hostOps0_2, hostOps0_1, hostOps0]
  after_results
  rfl

theorem V_sumb : (V m c main_v30 : S4x8192x1.Idx → F .f32) = sumb (hlf (m ((c : Thread nD τ).loc main_arg0))) := by
  unfold V
  simp only [List.flatten_cons, List.flatten_nil, List.append_nil, StableHlo.after_append]
  rw [hostOps0_4, hostOps0_3, hostOps0_2, hostOps0_1, hostOps0]
  after_results
  rfl
end

/-! ## Over the real numbers -/

theorem mask3_at (h : Fin 8) (t s : Fin 8192) : mask3 (ix3 h t s) = BitVec.ofBool (decide (s.val < t.val)) := by
  pointwise [mask3]
  exact WordCmp.cmpi_slt_ofNat (by omega) (by omega)

variable {x : FVec Ideal S8192x1536 .bf16} {X : ℕ → ℕ → ℝ} (O : ℕ → ℕ → ℝ) (hx : Holds (n := 8192) (m := 1536) x X)

include hx

theorem hq_at (t : Fin 8192) (h : Fin 8) (e : Fin 64) : hq x (ix3 t h e) = ((X t.val (h.val * 64 + e.val) : ℝ) : EReal) := by
  pointwise [hq]
  exact hx _ _

theorem hk_at (t : Fin 8192) (h : Fin 8) (e : Fin 64) : hk x (ix3 t h e) = ((X t.val (512 + (h.val * 64 + e.val)) : ℝ) : EReal) := by
  pointwise [hk]
  exact hx _ _

theorem hz_at (h : Fin 8) (t s : Fin 8192) : hz x (ix3 h t s) = (((md X O h).z (h % 2) t s : ℝ) : EReal) := by
  pointwise [hz, all3]
  rw [md_z, EReal.coe_mul, ofBits_eighth, ← sum_coe 64 fun e => X t.val (h.val * 64 + e) * X s.val (512 + (h.val * 64 + e))]
  refine congrArg (· * _) (sum_congr rfl fun e _ => ?_)
  rw [hq_at hx, hk_at hx, EReal.coe_mul]

theorem hlf_at (h : Fin 8) (t s : Fin 8192) : hlf x (ix3 h t s) = (((md X O h).lf (h % 2) t s : ℝ) : EReal) := by
  have e : spF (hz x) (ix3 h t s) = ((sp ((md X O h).z (h % 2) t s) : ℝ) : EReal) := by
    pointwise [spF, all3]
    rw [if_neg (not_not.mpr rfl), hz_at O hx h t s, Ideal.absf_def, abs_coe, ← EReal.coe_neg]
    show max _ _ + Ideal.log (1 + Ideal.exp _) = _
    rw [log_one_add_exp, ← EReal.coe_zero, max_coe, ← EReal.coe_add]
    rfl
  pointwise [hlf, all3]
  rw [e, mask3_at]
  unfold Mdl.lf
  by_cases hs : s.val < t.val
  · rw [if_pos hs, decide_eq_true hs, EReal.coe_neg]; rfl
  · rw [if_neg hs, decide_eq_false hs]; rfl

theorem suma_at (p : Fin 4) (t : Fin 8192) (z : Fin 1) : suma (hlf x) (ix3 p t z) = (((mdl X O p.val).tot 0 t.val : ℝ) : EReal) := by
  pointwise [suma, sums]
  rw [show mdl X O p.val = md X O (p.val * 2) from congrArg (mdl X O) (by omega), Mdl.tot, ← sum_coe 8192 fun s => (md X O (p.val * 2)).lf 0 t s]
  refine sum_congr rfl fun s _ => (hlf_at O hx _ t s).trans ?_
  show (((md X O (p.val * 2)).lf ((p.val * 2) % 2) t s : ℝ) : EReal) = _
  rw [show (p.val * 2) % 2 = 0 by omega]

theorem sumb_at (p : Fin 4) (t : Fin 8192) (z : Fin 1) : sumb (hlf x) (ix3 p t z) = (((mdl X O p.val).tot 1 t.val : ℝ) : EReal) := by
  pointwise [sumb, sums]
  rw [show mdl X O p.val = md X O (p.val * 2 + 1) from congrArg (mdl X O) (by omega), Mdl.tot, ← sum_coe 8192 fun s => (md X O (p.val * 2 + 1)).lf 1 t s]
  refine sum_congr rfl fun s _ => (hlf_at O hx _ t s).trans ?_
  show (((md X O (p.val * 2 + 1)).lf ((p.val * 2 + 1) % 2) t s : ℝ) : EReal) = _
  rw [show (p.val * 2 + 1) % 2 = 1 by omega]

end Cert.SbBwd.Hst

namespace Cert.SbBwd

open Cert.KernelIdeal Cert.KernelIdeal.Gen
open Idealize.ShloMosaic Idealize.ShloMosaic.TcCoe

/-- Where the arguments hold numbers, so does what the host leaves for the launch. -/
theorem hostHolds (m : (ℓ : Loc nD τ sig) → Buf (Elt Ideal) ℓ) (c : Dev nD) (X O : ℕ → ℕ → ℝ)
    (hx : Holds (φ := .bf16) (n := 8192) (m := 1536) (m ((c : Thread nD τ).loc main_arg0)) X)
    (ho : Holds (φ := .bf16) (n := 8192) (m := 512) (m ((c : Thread nD τ).loc main_arg1)) O) : HostHolds m c X O where
  arg0 := hx
  arg1 := ho
  tota p t z := (congrFun (Hst.V_suma m c) _).trans (Hst.suma_at O hx p t z)
  totb p t z := (congrFun (Hst.V_sumb m c) _).trans (Hst.sumb_at O hx p t z)

end Cert.SbBwd

end
-- ==== Proof.RefStages.lean ====
/-
  The reference's arrays, stage by stage: the names the rest of the proof gives to the terms of the reference's run.
-/
module

public import proofs.«01_k».proof.Proof.Gen.ReferenceIdeal.Run

@[expose] public section

set_option maxRecDepth 16384

noncomputable section

namespace Cert.SbBwd.Ref

open Cert.ReferenceIdeal Cert.ReferenceIdeal.Gen Cert.ReferenceIdeal.Value
open Idealize.ShloMosaic Idealize.ShloMosaic.TcCoe
open Idealize.SL Idealize.SL.Sem

variable {F : FTy → Type} [FloatOps F]

/-- Queries, keys, values and the incoming gradient, by position, head and lane. -/
def rq (x : FVec F S8192x1536 .bf16) : FVec F S8192x8x64 .f32 :=
  shapeCast S8192x8x64 (extractStridedSlice S8192x512 ![0, 0] (extf .f32 x bitsLt_bf16_f32) slices_S8192x1536_S8192x512_0_0) shapeCasts_S8192x512_S8192x8x64
def rk (x : FVec F S8192x1536 .bf16) : FVec F S8192x8x64 .f32 :=
  shapeCast S8192x8x64 (extractStridedSlice S8192x512 ![0, 512] (extf .f32 x bitsLt_bf16_f32) slices_S8192x1536_S8192x512_0_512) shapeCasts_S8192x512_S8192x8x64
def rv (x : FVec F S8192x1536 .bf16) : FVec F S8192x8x64 .f32 :=
  shapeCast S8192x8x64 (extractStridedSlice S8192x512 ![0, 1024] (extf .f32 x bitsLt_bf16_f32) slices_S8192x1536_S8192x512_0_1024) shapeCasts_S8192x512_S8192x8x64
def ro (o : FVec F S8192x512 .bf16) : FVec F S8192x8x64 .f32 :=
  shapeCast S8192x8x64 (extf .f32 o bitsLt_bf16_f32) shapeCasts_S8192x512_S8192x8x64

/-- A number at each head, query and key. -/
def all3 (b : BitVec 32) : FVec F S8x8192x8192 .f32 := broadcastInDim S8x8192x8192 ![] bcast_S_S8x8192x8192 (constant S_ .f32 b)

/-- The logits. -/
def rz (x : FVec F S8192x1536 .bf16) : FVec F S8x8192x8192 .f32 :=
  mulf (Host.dotGeneral dot_S8192x8x64_S8192x8x64_S8x8192x8192_2_2_0_0_1_1 none (rq x) (rk x)) (all3 0x3E000000#32)

/-- Which keys lie before the query. -/
def mask3 : IVec S8x8192x8192 1 :=
  broadcastInDim S8x8192x8192 ![1, 2] bcast_S8192x8192_S8x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The log of one plus the exponential, and its derivative. -/
def spF (z : FVec F S8x8192x8192 .f32) : FVec F S8x8192x8192 .f32 :=
  select (cmpf .une (subf z (all3 0x00000000#32)) (subf z (all3 0x00000000#32))) (addf z (all3 0x00000000#32))
    (addf (maximumf z (all3 0x00000000#32)) (Host.log1p (Host.exp (Host.negf (Host.absf (subf z (all3 0x00000000#32)))))))
def spD (z : FVec F S8x8192x8192 .f32) : FVec F S8x8192x8192 .f32 :=
  Host.exp (subf (select (cmpf .oeq z (all3 0x7F800000#32)) (all3 0x00000000#32) z)
    (select (cmpf .oeq (spF z) (all3 0x7F800000#32)) (all3 0x00000000#32) (spF z)))

/-- The log failures, and their sums from a key on. -/
def rlf (x : FVec F S8192x1536 .bf16) : FVec F S8x8192x8192 .f32 := select mask3 (Host.negf (spF (rz x))) (all3 0x00000000#32)
def rsuf (x : FVec F S8192x1536 .bf16) : FVec F S8x8192x8192 .f32 :=
  Host.reduceWindowAdd ![1, 1, 8192] ![1, 1, 1] ![0, 0, 0] ![0, 0, 8191] (rlf x)
    (broadcastInDim S_ ![] bcast_S_S_ (constant S_ .f32 0x00000000#32))
    reduceWindows_S8x8192x8192_S8x8192x8192_w1s1p0_0_w1s1p0_0_w8192s1p0_8191 h_S_

/-- The weights. -/
def rwx (x : FVec F S8192x1536 .bf16) : FVec F S8x8192x8192 .f32 :=
  Host.exp (addf (Host.negf (spF (Host.negf (rz x)))) (subf (rsuf x) (rlf x)))
def rw3 (x : FVec F S8192x1536 .bf16) : FVec F S8x8192x8192 .f32 := select mask3 (rwx x) (all3 0x00000000#32)

/-- The incoming gradient by head, lane and query. -/
def roT (o : FVec F S8192x512 .bf16) : FVec F S8x64x8192 .f32 := transpose S8x64x8192 [1, 2, 0] (ro o) transposes_S8192x8x64_S8x64x8192_1_2_0

/-- The gradients of the weights and of their logarithms. -/
def ru (x : FVec F S8192x1536 .bf16) (o : FVec F S8192x512 .bf16) : FVec F S8x8192x8192 .f32 :=
  Host.dotGeneral dot_S8x64x8192_S8192x8x64_S8x8192x8192_1_2_2_0_0_1 none (roT o) (rv x)
def rg (x : FVec F S8192x1536 .bf16) (o : FVec F S8192x512 .bf16) : FVec F S8x8192x8192 .f32 :=
  mulf (select mask3 (ru x o) (all3 0x00000000#32)) (rwx x)
def rpre (x : FVec F S8192x1536 .bf16) (o : FVec F S8192x512 .bf16) : FVec F S8x8192x8192 .f32 :=
  Host.reduceWindowAdd ![1, 1, 8192] ![1, 1, 1] ![0, 0, 8191] ![0, 0, 0] (rg x o)
    (broadcastInDim S_ ![] bcast_S_S_ (constant S_ .f32 0x00000000#32))
    reduceWindows_S8x8192x8192_S8x8192x8192_w1s1p0_0_w1s1p0_0_w8192s1p8191_0 h_S_

/-- The gradients of the log successes, of the log failures and of the logits. -/
def rdls (x : FVec F S8192x1536 .bf16) (o : FVec F S8192x512 .bf16) : FVec F S8x8192x8192 .f32 :=
  Host.negf (mulf (Host.negf (rg x o)) (spD (Host.negf (rz x))))
def rdlf (x : FVec F S8192x1536 .bf16) (o : FVec F S8192x512 .bf16) : FVec F S8x8192x8192 .f32 :=
  select mask3 (addf (Host.negf (rg x o)) (rpre x o)) (all3 0x00000000#32)
def rdz (x : FVec F S8192x1536 .bf16) (o : FVec F S8192x512 .bf16) : FVec F S8x8192x8192 .f32 :=
  mulf (addf (rdls x o) (mulf (Host.negf (rdlf x o)) (spD (rz x)))) (all3 0x3E000000#32)

/-- The gradients of the queries, the keys and the values. -/
def rdq (x : FVec F S8192x1536 .bf16) (o : FVec F S8192x512 .bf16) : FVec F S8192x512 .f32 :=
  shapeCast S8192x512 (transpose S8192x8x64 [1, 0, 2] (Host.dotGeneral dot_S8x8192x8192_S8192x8x64_S8x8192x64_2_0_1_2_0_1 none (rdz x o) (rk x))
    transposes_S8x8192x64_S8192x8x64_1_0_2) shapeCasts_S8192x8x64_S8192x512
def rdk (x : FVec F S8192x1536 .bf16) (o : FVec F S8192x512 .bf16) : FVec F S8192x512 .f32 :=
  shapeCast S8192x512 (transpose S8192x8x64 [1, 0, 2] (Host.dotGeneral dot_S8x8192x8192_S8192x8x64_S8x8192x64_1_0_2_2_0_1 none (rdz x o) (rq x))
    transposes_S8x8192x64_S8192x8x64_1_0_2) shapeCasts_S8192x8x64_S8192x512
def rdv (x : FVec F S8192x1536 .bf16) (o : FVec F S8192x512 .bf16) : FVec F S8192x512 .f32 :=
  shapeCast S8192x512 (transpose S8192x8x64 [2, 0, 1] (Host.dotGeneral dot_S8x64x8192_S8x8192x8192_S8x64x8192_2_1_1_2_0_0 none (roT o) (rw3 x))
    transposes_S8x64x8192_S8192x8x64_2_0_1) shapeCasts_S8192x8x64_S8192x512

variable (m : (ℓ : Loc nD τ sig) → Buf (Elt F) ℓ) (c : Dev nD)

set_option maxHeartbeats 4000000 in
theorem res_rdq : res_main_v50 m c = rdq (m ((c : Thread nD τ).loc main_arg0)) (m ((c : Thread nD τ).loc main_arg1)) := rfl
set_option maxHeartbeats 4000000 in
theorem res_rdk : res_main_v51 m c = rdk (m ((c : Thread nD τ).loc main_arg0)) (m ((c : Thread nD τ).loc main_arg1)) := rfl
set_option maxHeartbeats 4000000 in
theorem res_rdv : res_main_v52 m c = rdv (m ((c : Thread nD τ).loc main_arg0)) (m ((c : Thread nD τ).loc main_arg1)) := rfl

end Cert.SbBwd.Ref

end
-- ==== Proof.Cumsum.lean ====
/-
  The sums over a window that a host program takes along the last of three axes, over the real numbers: the sum of a row up to
  an entry, and the sum from an entry on.
-/
module

public import proofs.«01_k».proof.Proof.Model

@[expose] public section

noncomputable section

namespace Cert.SbBwd

open Idealize.ShloMosaic
open Finset

theorem foldl_add_coe {ι : Type} (l : List ι) (g : ι → EReal) (f : ι → ℝ) (hg : ∀ a ∈ l, g a = ((f a : ℝ) : EReal)) (v : EReal) (z : ℝ)
    (hv : v = ((z : ℝ) : EReal)) : l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a)
      (by rw [hv, hg a List.mem_cons_self, EReal.coe_add]), List.map_cons, List.sum_cons, add_assoc]

theorem sum_finRange (M : ℕ) (f : ℕ → ℝ) : ((List.finRange M).map fun n => f n.val).sum = ∑ i ∈ range M, f i := by
  rw [Finset.sum_range]
  exact (List.sum_ofFn (f := fun n : Fin M => f n.val) ▸ by rw [List.ofFn_eq_map])

theorem numel_row (N : ℕ) : (⟨3, ![1, 1, N]⟩ : Shape).numel = N := by
  show ∏ a : Fin 3, (![1, 1, N] : Fin 3 → ℕ) a = N
  rw [Fin.prod_univ_three]
  show 1 * 1 * N = N
  omega

theorem symm_row {N : ℕ} (n : Fin (⟨3, ![1, 1, N]⟩ : Shape).numel) :
    (⟨3, ![1, 1, N]⟩ : Shape).rowMajor.symm n = ix3 (0 : Fin 1) (0 : Fin 1) (n.cast (numel_row N)) :=
  ((⟨3, ![1, 1, N]⟩ : Shape).rowMajor.symm_apply_eq).2 (Fin.ext (by
    rw [Shape.rowMajor_val_three]
    show n.val = (0 * 1 + 0) * N + n.val
    omega))

variable {A B N : ℕ} (a : Fin A) (b : Fin B) (s : Fin N) (x : FVec Ideal ⟨3, ![A, B, N]⟩ .f32) (f : ℕ → ℝ)

/-- The sum over the window at an entry, padded low by `lo`. -/
theorem window_read (lo hi : ℕ) {u : Shape} (init : FVec Ideal u .f32) (hu : 0 < u.numel)
    (h : (⟨3, ![A, B, N]⟩ : Shape).ReduceWindows ![1, 1, N] ![1, 1, 1] ![0, 0, lo] ![0, 0, hi] ⟨3, ![A, B, N]⟩)
    (hinit : init (Shape.Idx.first hu) = (0 : EReal)) (hx : ∀ k : Fin N, x (ix3 a b k) = ((f k.val : ℝ) : EReal)) :
    Host.reduceWindowAdd ![1, 1, N] ![1, 1, 1] ![0, 0, lo] ![0, 0, hi] x init h hu (ix3 a b s)
      = ((∑ w ∈ range N, if lo ≤ s.val + w ∧ s.val + w - lo < N then f (s.val + w - lo) else 0 : ℝ) : EReal) := by
  show Host.reduceWindow (· + ·) ![1, 1, N] ![1, 1, 1] ![0, 0, lo] ![0, 0, hi] (x : _ → EReal)
    (fun _ : (⟨0, ![]⟩ : Shape).Idx => init (Shape.Idx.first hu)) h (by decide) (ix3 a b s) = _
  unfold Host.reduceWindow
  refine (foldl_add_coe _ _ (fun n => if lo ≤ s.val + n.val ∧ s.val + n.val - lo < N then f (s.val + n.val - lo) else 0)
    (fun n _ => ?_) _ 0 hinit).trans ?_
  · have h0 : ((⟨3, ![1, 1, N]⟩ : Shape).rowMajor.symm n 0).val = 0 := by rw [symm_row]; rfl
    have h1 : ((⟨3, ![1, 1, N]⟩ : Shape).rowMajor.symm n 1).val = 0 := by rw [symm_row]; rfl
    have h2 : ((⟨3, ![1, 1, N]⟩ : Shape).rowMajor.symm n 2).val = n.val := by rw [symm_row]; rfl
    have ha := a.isLt
    have hb := b.isLt
    dsimp only
    split
    · next hin =>
      have h0' := hin 2
      change lo ≤ s.val * 1 + ((⟨3, ![1, 1, N]⟩ : Shape).rowMajor.symm n 2).val
        ∧ s.val * 1 + ((⟨3, ![1, 1, N]⟩ : Shape).rowMajor.symm n 2).val - lo < N at h0'
      rw [h2, Nat.mul_one] at h0'
      rw [if_pos h0']
      refine (congrArg x (funext fun k => Fin.ext ?_)).trans (hx ⟨s.val + n.val - lo, h0'.2⟩)
      match k with
      | ⟨0, _⟩ =>
        show a.val * 1 + ((⟨3, ![1, 1, N]⟩ : Shape).rowMajor.symm n 0).val - 0 = a.val
        rw [h0]; omega
      | ⟨1, _⟩ =>
        show b.val * 1 + ((⟨3, ![1, 1, N]⟩ : Shape).rowMajor.symm n 1).val - 0 = b.val
        rw [h1]; omega
      | ⟨2, _⟩ =>
        show s.val * 1 + ((⟨3, ![1, 1, N]⟩ : Shape).rowMajor.symm n 2).val - lo = s.val + n.val - lo
        rw [h2, Nat.mul_one]
    · next hin =>
      rw [if_neg fun hle => hin fun k => by
        match k with
        | ⟨0, _⟩ =>
          show 0 ≤ a.val * 1 + ((⟨3, ![1, 1, N]⟩ : Shape).rowMajor.symm n 0).val
            ∧ a.val * 1 + ((⟨3, ![1, 1, N]⟩ : Shape).rowMajor.symm n 0).val - 0 < A
          rw [h0]; omega
        | ⟨1, _⟩ =>
          show 0 ≤ b.val * 1 + ((⟨3, ![1, 1, N]⟩ : Shape).rowMajor.symm n 1).val
            ∧ b.val * 1 + ((⟨3, ![1, 1, N]⟩ : Shape).rowMajor.symm n 1).val - 0 < B
          rw [h1]; omega
        | ⟨2, _⟩ =>
          show lo ≤ s.val * 1 + ((⟨3, ![1, 1, N]⟩ : Shape).rowMajor.symm n 2).val
            ∧ s.val * 1 + ((⟨3, ![1, 1, N]⟩ : Shape).rowMajor.symm n 2).val - lo < N
          rw [h2, Nat.mul_one]; exact hle]
      exact hinit
  · refine congrArg _ ?_
    rw [zero_add, sum_finRange _ (fun w => if lo ≤ s.val + w ∧ s.val + w - lo < N then f (s.val + w - lo) else 0)]
    exact congrArg (fun K => ∑ w ∈ range K, if lo ≤ s.val + w ∧ s.val + w - lo < N then f (s.val + w - lo) else 0) (numel_row N)

/-- Padded low by one less than the length: the sum up to the entry. -/
theorem sum_window_upto {lo s : ℕ} (hs : s < lo + 1) :
    (∑ w ∈ range (lo + 1), if lo ≤ s + w ∧ s + w - lo < lo + 1 then f (s + w - lo) else 0) = ∑ x ∈ range (s + 1), f x := by
  rw [show lo + 1 = (lo - s) + (s + 1) by omega, sum_range_add, sum_eq_zero (fun w hw => ?_), zero_add]
  · refine sum_congr rfl fun w hw => ?_
    rw [mem_range] at hw
    rw [if_pos (by omega), show s + (lo - s + w) - lo = w by omega]
  · rw [mem_range] at hw
    rw [if_neg (by omega)]

/-- Padded low by nothing: the sum from the entry on, together with the sum below it. -/
theorem sum_window_from {N s : ℕ} (hs : s < N) :
    (∑ w ∈ range N, if 0 ≤ s + w ∧ s + w - 0 < N then f (s + w - 0) else 0) = ∑ x ∈ range N, f x - ∑ x ∈ range s, f x := by
  have e1 := sum_range_add (fun w => if 0 ≤ s + w ∧ s + w - 0 < N then f (s + w - 0) else 0) (N - s) s
  have e2 := sum_range_add f s (N - s)
  rw [Nat.sub_add_cancel hs.le] at e1
  rw [Nat.add_sub_cancel' hs.le] at e2
  rw [e1, e2, add_sub_cancel_left]
  have z : (∑ x ∈ range s, if 0 ≤ s + (N - s + x) ∧ s + (N - s + x) - 0 < N then f (s + (N - s + x) - 0) else 0) = 0 :=
    sum_eq_zero fun w hw => if_neg (by omega)
  rw [z, add_zero]
  refine sum_congr rfl fun w hw => ?_
  rw [mem_range] at hw
  rw [if_pos (by omega), Nat.sub_zero]

end Cert.SbBwd

end
-- ==== Proof.RefValue.lean ====
/-
  What the reference's arrays hold, over the real numbers: stage by stage, up to the gradients of the queries, keys and values.
-/
module

public import proofs.«01_k».proof.Proof.RefStages
public import proofs.«01_k».proof.Proof.Cumsum
public import proofs.«01_k».proof.Proof.Heads
public import Idealize.ShloMosaic.Lib.WordCmp

@[expose] public section

set_option maxRecDepth 16384

noncomputable section

namespace Cert.SbBwd.Ref

open Cert.ReferenceIdeal Cert.ReferenceIdeal.Gen
open Idealize.ShloMosaic Idealize.ShloMosaic.TcCoe
open Finset

theorem ofBits_inf : Ideal.ofBits .f32 0x7F800000#32 = (⊤ : EReal) := by simp [Ideal.ofBits, Ideal.ieee]

theorem coe_ne_inf (y : ℝ) : ¬ ((y : ℝ) : EReal) = Ideal.ofBits .f32 0x7F800000#32 := by rw [ofBits_inf]; exact EReal.coe_ne_top y

theorem log1p_exp (y : ℝ) : Ideal.log1p (Ideal.exp (y : EReal)) = ((Real.log (1 + Real.exp y) : ℝ) : EReal) := log_one_add_exp y

/-- An array by head, query and key holds the numbers `f`. -/
def Holds3 (x : FVec Ideal S8x8192x8192 .f32) (f : ℕ → ℕ → ℕ → ℝ) : Prop :=
  ∀ (h : Fin 8) (t s : Fin 8192), x (ix3 h t s) = ((f h.val t.val s.val : ℝ) : EReal)

theorem mask3_at (h : Fin 8) (t s : Fin 8192) : mask3 (ix3 h t s) = BitVec.ofBool (decide (s.val < t.val)) := by
  pointwise [mask3]
  exact WordCmp.cmpi_slt_ofNat (by omega) (by omega)

theorem masked {y y0 : EReal} {f : ℝ} (h : Fin 8) (t s : Fin 8192) (hy : y = ((f : ℝ) : EReal)) :
    Scalar.select (mask3 (ix3 h t s)) y 0 = ((if s.val < t.val then f else 0 : ℝ) : EReal) := by
  rw [mask3_at]
  by_cases hs : s.val < t.val
  · rw [if_pos hs, decide_eq_true hs]; exact hy
  · rw [if_neg hs, decide_eq_false hs]; rfl

variable {z : FVec Ideal S8x8192x8192 .f32} {f : ℕ → ℕ → ℕ → ℝ}

theorem spF_holds (hz : Holds3 z f) : Holds3 (spF z) fun h t s => sp (f h t s) := by
  intro h t s
  pointwise [spF, all3]
  rw [if_neg (not_not.mpr rfl), hz h t s, Ideal.absf_def, abs_coe, ← EReal.coe_neg, log1p_exp, ← EReal.coe_zero, max_coe, ← EReal.coe_add]
  rfl

theorem spD_holds (hz : Holds3 z f) : Holds3 (spD z) fun h t s => Real.exp (f h t s - sp (f h t s)) := by
  intro h t s
  pointwise [spD, all3]
  rw [hz h t s, spF_holds hz h t s, if_neg (coe_ne_inf _), if_neg (coe_ne_inf _), ← EReal.coe_sub, Ideal.exp_coe]

theorem neg_holds (hz : Holds3 z f) : Holds3 (Host.negf z) fun h t s => -f h t s := by
  intro h t s
  pointwise
  rw [hz h t s, EReal.coe_neg]

variable {x : FVec Ideal S8192x1536 .bf16} {o : FVec Ideal S8192x512 .bf16} {X O : ℕ → ℕ → ℝ}
  (hx : Holds (n := 8192) (m := 1536) x X) (ho : Holds (n := 8192) (m := 512) o O)

section
include hx

theorem rq_at (t : Fin 8192) (h : Fin 8) (e : Fin 64) : rq x (ix3 t h e) = ((X t.val (0 + (h.val * 64 + e.val)) : ℝ) : EReal) := by
  pointwise [rq]
  exact hx _ _

theorem rk_at (t : Fin 8192) (h : Fin 8) (e : Fin 64) : rk x (ix3 t h e) = ((X t.val (512 + (h.val * 64 + e.val)) : ℝ) : EReal) := by
  pointwise [rk]
  exact hx _ _

theorem rv_at (t : Fin 8192) (h : Fin 8) (e : Fin 64) : rv x (ix3 t h e) = ((X t.val (1024 + (h.val * 64 + e.val)) : ℝ) : EReal) := by
  pointwise [rv]
  exact hx _ _

theorem rz_holds : Holds3 (rz x) fun h t s => (md X O h).z (h % 2) t s := by
  intro h t s
  pointwise [rz, all3]
  rw [md_z, EReal.coe_mul, ofBits_eighth, ← sum_coe 64 fun e => X t.val (h.val * 64 + e) * X s.val (512 + (h.val * 64 + e))]
  refine congrArg (· * _) (sum_congr rfl fun e _ => ?_)
  rw [rq_at hx, rk_at hx, EReal.coe_mul, zero_add]

theorem rlf_holds : Holds3 (rlf x) fun h t s => (md X O h).lf (h % 2) t s := by
  intro h t s
  pointwise [rlf, all3]
  exact masked (y0 := 0) h t s (by rw [spF_holds (rz_holds (O := O) hx) h t s, EReal.coe_neg])

theorem rsuf_holds : Holds3 (rsuf x) fun h t s => (md X O h).tot (h % 2) t - ∑ k ∈ range s, (md X O h).lf (h % 2) t k := by
  intro h t s
  refine (window_read h t s (rlf x) (fun k => (md X O h).lf (h % 2) t k) 0 8191 _ _ _ ?_ fun k => rlf_holds (O := O) hx h t k).trans ?_
  · show Ideal.ofBits .f32 0x00000000#32 = 0
    simp
  · exact congrArg _ (sum_window_from _ s.isLt)

theorem rwx_holds : Holds3 (rwx x) fun h t s => Real.exp ((md X O h).z (h % 2) t s + -sp ((md X O h).z (h % 2) t s)
    + ((md X O h).tot (h % 2) t - ∑ k ∈ range (s + 1), (md X O h).lf (h % 2) t k)) := by
  intro h t s
  pointwise [rwx]
  rw [spF_holds (neg_holds (rz_holds (O := O) hx)) h t s, rsuf_holds (O := O) hx h t s, rlf_holds (O := O) hx h t s, ← EReal.coe_neg, ← EReal.coe_sub,
    ← EReal.coe_add, Ideal.exp_coe, neg_sp_neg, sum_range_succ, sub_sub]

theorem rw3_holds : Holds3 (rw3 x) fun h t s => (md X O h).w (h % 2) t s := by
  intro h t s
  pointwise [rw3, all3]
  refine (masked (y0 := 0) h t s (rwx_holds (O := O) hx h t s)).trans (congrArg _ ?_)
  unfold Mdl.w
  split
  · next hs => rw [Mdl.lf, if_pos hs]
  · rfl

end

section
include ho

theorem roT_at (t : Fin 8192) (h : Fin 8) (e : Fin 64) : roT o (ix3 h e t) = ((O t.val (h.val * 64 + e.val) : ℝ) : EReal) := by
  pointwise [roT, ro]
  exact ho _ _

include hx

theorem ru_holds : Holds3 (ru x o) fun h t s => (md X O h).u (h % 2) t s := by
  intro h t s
  pointwise [ru]
  rw [md_u, ← sum_coe 64 fun e => O t.val (h.val * 64 + e) * X s.val (1024 + (h.val * 64 + e))]
  refine sum_congr rfl fun e _ => ?_
  rw [roT_at ho, rv_at hx, EReal.coe_mul]

theorem rg_holds : Holds3 (rg x o) fun h t s => (md X O h).g (h % 2) t s := by
  intro h t s
  pointwise [rg, all3]
  rw [mask3_at]
  unfold Mdl.g Mdl.w
  by_cases hs : s.val < t.val
  · rw [if_pos hs, decide_eq_true hs]
    show ru x o (ix3 h t s) * rwx x (ix3 h t s) = _
    rw [ru_holds hx ho h t s, rwx_holds (O := O) hx h t s, ← EReal.coe_mul, Mdl.lf, if_pos hs]
  · rw [if_neg hs, decide_eq_false hs, mul_zero]; rfl

theorem rpre_holds : Holds3 (rpre x o) fun h t s => ∑ k ∈ range (s + 1), (md X O h).g (h % 2) t k := by
  intro h t s
  refine (window_read h t s (rg x o) (fun k => (md X O h).g (h % 2) t k) 8191 0 _ _ _ ?_ fun k => rg_holds hx ho h t k).trans ?_
  · show Ideal.ofBits .f32 0x00000000#32 = 0
    simp
  · exact congrArg _ (sum_window_upto _ s.isLt)

theorem rdz_holds : Holds3 (rdz x o) fun h t s => (md X O h).dz (h % 2) t s * (1 / 8) := by
  intro h t s
  have e1 : rdls x o (ix3 h t s) = ((-(-(md X O h).g (h % 2) t s * Real.exp (-(md X O h).z (h % 2) t s - sp (-(md X O h).z (h % 2) t s))) : ℝ) : EReal) := by
    pointwise [rdls]
    rw [rg_holds hx ho h t s, spD_holds (neg_holds (rz_holds (O := O) hx)) h t s, ← EReal.coe_neg, ← EReal.coe_mul, ← EReal.coe_neg]
  have e2 : rdlf x o (ix3 h t s) = ((if s.val < t.val then -(md X O h).g (h % 2) t s + ∑ k ∈ range (s.val + 1), (md X O h).g (h % 2) t k else 0 : ℝ) : EReal) := by
    pointwise [rdlf, all3]
    exact masked (y0 := 0) h t s (by rw [rg_holds hx ho h t s, rpre_holds hx ho h t s, ← EReal.coe_neg, ← EReal.coe_add])
  pointwise [rdz, all3]
  rw [e1, e2, spD_holds (rz_holds (O := O) hx) h t s, ofBits_eighth, ← EReal.coe_neg, ← EReal.coe_mul, ← EReal.coe_add, ← EReal.coe_mul]
  exact congrArg _ (md_dz (h.val % 2) t s (md X O h))

theorem rdq_holds : Holds (n := 8192) (m := 512) (rdq x o) fun t x => (mdl X O (x / 128)).dq t (x % 128) := by
  intro t d
  pointwise [rdq]
  rw [md_dq, ← sum_coe 8192 fun s => ((md X O (d.val / 64)).dz (d.val / 64 % 2) t s * (1 / 8)) * X s (512 + (d.val / 64 * 64 + d.val % 64))]
  refine sum_congr rfl fun s _ => ?_
  rw [rdz_holds hx ho, rk_at hx, ← EReal.coe_mul]

theorem rdk_holds : Holds (n := 8192) (m := 512) (rdk x o) fun s x => (mdl X O (x / 128)).dk s (x % 128) := by
  intro s d
  pointwise [rdk]
  rw [md_dk, ← sum_coe 8192 fun t => ((md X O (d.val / 64)).dz (d.val / 64 % 2) t s * (1 / 8)) * X t (0 + (d.val / 64 * 64 + d.val % 64))]
  refine sum_congr rfl fun t _ => ?_
  rw [rdz_holds hx ho, rq_at hx, ← EReal.coe_mul]

theorem rdv_holds : Holds (n := 8192) (m := 512) (rdv x o) fun s x => (mdl X O (x / 128)).dv s (x % 128) := by
  intro s d
  pointwise [rdv]
  rw [md_dv, ← sum_coe 8192 fun t => O t (d.val / 64 * 64 + d.val % 64) * (md X O (d.val / 64)).w (d.val / 64 % 2) t s]
  refine sum_congr rfl fun t _ => ?_
  rw [rw3_holds (O := O) hx, roT_at ho, EReal.coe_mul]

end

end Cert.SbBwd.Ref

end
-- ==== Proof.lean ====
/-
  The certificate: the programs' runs, and that over the extended reals the kernels' arrays are the references'. The first
  program's hold, for finite arguments, the gradients of the stick breaking attention's queries, keys and values; the others'
  the feed-forward network's values and gradients, the norms, the branch gates and the short convolution, the gradients of
  the norms and of the branch gates, the mixer's and the per-layer input's projections with theirs, and the AdamW step.
-/
module

public import proofs.«01_k».proof.Proof.FfnFrames
public import proofs.«01_k».proof.Proof.MixFrames
public import proofs.«01_k».proof.Proof.Ln
public import proofs.«01_k».proof.Proof.Merge
public import proofs.«01_k».proof.Proof.MixIn
public import proofs.«01_k».proof.Proof.MixWin
public import proofs.«01_k».proof.Proof.MatmulFrames
public import proofs.«01_k».proof.Proof.MixSb
public import proofs.«01_k».proof.Proof.MixGdn
public import proofs.«01_k».proof.Proof.MixGates
public import proofs.«01_k».proof.Proof.MixBa
public import proofs.«01_k».proof.Proof.MixOut
public import proofs.«01_k».proof.Proof.MixOutBwd
public import proofs.«01_k».proof.Proof.MixOutW
public import proofs.«01_k».proof.Proof.BranchOut
public import proofs.«01_k».proof.Proof.SbOutBwd
public import proofs.«01_k».proof.Proof.GdnOutBwd
public import proofs.«01_k».proof.Proof.BranchW
public import proofs.«01_k».proof.Proof.PleProj
public import proofs.«01_k».proof.Proof.PleW
public import proofs.«01_k».proof.Proof.RowFrames
public import proofs.«01_k».proof.Proof.AdamFrames
public import proofs.«01_k».proof.Proof.AdamIn
public import proofs.«01_k».proof.Proof.AdamOut
public import proofs.«01_k».proof.Proof.MergeFwd
public import proofs.«01_k».proof.Proof.FfnLn
public import proofs.«01_k».proof.Proof.MixLn
public import proofs.«01_k».proof.Proof.Ln2
public import proofs.«01_k».proof.Proof.ConvFwd
public import proofs.«01_k».proof.Proof.FfnAct
public import proofs.«01_k».proof.Proof.FfnWin
public import proofs.«01_k».proof.Proof.FfnIn
public import proofs.«01_k».proof.Proof.FfnWout
public import proofs.«01_k».proof.Proof.FfnDown
public import proofs.«01_k».proof.Proof.FfnUp
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.HostTot
public import proofs.«01_k».proof.Proof.RefValue

@[expose] public section

set_option maxRecDepth 16384

namespace Cert.Proof

open Idealize.ShloMosaic Idealize.ShloMosaic.TcCoe
open Idealize.SL Idealize.SL.Sem
open Cert.SbBwd

/-- Matrices that hold the same numbers are equal. -/
theorem holds_ext {n k : ℕ} {φ ψ : FTy} {x : FVec Ideal ⟨2, ![n, k]⟩ φ} {y : FVec Ideal ⟨2, ![n, k]⟩ ψ} {f : ℕ → ℕ → ℝ} (hx : Holds x f) (hy : Holds y f) :
    (x : (⟨2, ![n, k]⟩ : Shape).Idx → EReal) = y := funext fun i => by
  obtain ⟨r, c, rfl⟩ : ∃ r c, i = ix2 r c := ⟨i 0, i 1, eq_ix2 i⟩
  exact (hx r c).trans (hy r c).symm

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  {X O : ℕ → ℕ → ℝ} (H : HostHolds m c X O)
  (hx : Holds (φ := .bf16) (n := 8192) (m := 1536) (m' ((c : Thread Cert.ReferenceIdeal.nD Cert.ReferenceIdeal.τ).loc Cert.ReferenceIdeal.main_arg0)) X)
  (ho : Holds (φ := .bf16) (n := 8192) (m := 512) (m' ((c : Thread Cert.ReferenceIdeal.nD Cert.ReferenceIdeal.τ).loc Cert.ReferenceIdeal.main_arg1)) O)
include H hx ho

/-- The gradients of the queries, of the keys and of the values agree. -/
theorem dq_agree : (Cert.ReferenceIdeal.Value.res_main_v50 m' c : Cert.ReferenceIdeal.S8192x512.Idx → EReal) = (dats m 0 c).arrAt 7 Cert.KernelIdeal.cfg0.N :=
  (Ref.res_rdq m' c).trans (holds_ext (Ref.rdq_holds hx ho) (arr_dq H))
theorem dk_agree : (Cert.ReferenceIdeal.Value.res_main_v51 m' c : Cert.ReferenceIdeal.S8192x512.Idx → EReal) = (dats m 0 c).arrAt 8 Cert.KernelIdeal.cfg0.N :=
  (Ref.res_rdk m' c).trans (holds_ext (Ref.rdk_holds hx ho) (arr_dk H))
theorem dv_agree : (Cert.ReferenceIdeal.Value.res_main_v52 m' c : Cert.ReferenceIdeal.S8192x512.Idx → EReal) = (dats m 0 c).arrAt 9 Cert.KernelIdeal.cfg0.N :=
  (Ref.res_rdv m' c).trans (holds_ext (Ref.rdv_holds hx ho) (arr_dv H))
end

set_option maxHeartbeats 20000000 in
theorem algebraic : Cert.algebraic_KernelIdeal_ReferenceIdeal_pre_finite := by
  intro m ρ m' ρ' hpre hagree
  refine ⟨fun c => (dats m 0 c).arrAt 7 Cert.KernelIdeal.cfg0.N, fun c => (dats m 0 c).arrAt 8 Cert.KernelIdeal.cfg0.N,
    fun c => (dats m 0 c).arrAt 9 Cert.KernelIdeal.cfg0.N, ?_, ?_⟩
  · exact (θ_run Cert.KernelIdeal.defs _ _).mono
      (fun _ h c => ⟨(h.1 c).1 7, (h.1 c).1 8, (h.1 c).1 9, args_kept h.1 c⟩) (run_main (F := Ideal) m ρ)
  · refine (θ_run Cert.ReferenceIdeal.defs _ _).mono (fun _ h c => ?_) (Cert.ReferenceIdeal.Value.run (F := Ideal) m' ρ')
    have A := finite_args _ _ (hpre c)
    have H := hostHolds m c _ _ A.1 A.2
    have hx := fun r k => (congrFun (hagree c).1 (ix2 r k)).trans (A.1 r k)
    have ho := fun r k => (congrFun (hagree c).2 (ix2 r k)).trans (A.2 r k)
    exact ⟨(h c).1.trans (dq_agree m m' c H hx ho), (h c).2.1.trans (dk_agree m m' c H hx ho), (h c).2.2.1.trans (dv_agree m m' c H hx ho), (h c).2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    pre_finite_facts, Cert.FfnAct.pre_finite2_facts,
    frame_kernel, frame_ideal, frame_ideal_finite, frame_reference, frame_reference_finite,
    Cert.Ffn.kernel2, Cert.Ffn.ideal2, fun m ρ _ => Cert.Ffn.ideal2 m ρ trivial, Cert.Ffn.reference2, fun m ρ _ => Cert.Ffn.reference2 m ρ trivial,
    Cert.Ffn.kernel3, Cert.Ffn.ideal3, Cert.Ffn.reference3,
    Cert.Ffn.kernel4, Cert.Ffn.ideal4, Cert.Ffn.reference4,
    Cert.Ffn.kernel5, Cert.Ffn.ideal5, Cert.Ffn.reference5,
    Cert.Ffn.kernel6, Cert.Ffn.ideal6, Cert.Ffn.reference6,
    Cert.Ffn.kernel7, Cert.Ffn.ideal7, Cert.Ffn.reference7,
    Cert.Mm.kernel8, Cert.Mm.ideal8, Cert.Mm.reference8,
    Cert.Mix.kernel9, Cert.Mix.ideal9, Cert.Mix.reference9,
    Cert.Mix.kernel10, Cert.Mix.ideal10, Cert.Mix.reference10,
    Cert.Mix.kernel11, Cert.Mix.ideal11, Cert.Mix.reference11,
    Cert.Mix.kernel12, Cert.Mix.ideal12, Cert.Mix.reference12,
    Cert.Mm.kernel13, Cert.Mm.ideal13, Cert.Mm.reference13,
    Cert.Mm.kernel14, Cert.Mm.ideal14, Cert.Mm.reference14,
    Cert.Mm.kernel15, Cert.Mm.ideal15, Cert.Mm.reference15,
    Cert.Mm.kernel16, Cert.Mm.ideal16, Cert.Mm.reference16,
    Cert.Mm.kernel17, Cert.Mm.ideal17, Cert.Mm.reference17,
    Cert.Mm.kernel18, Cert.Mm.ideal18, Cert.Mm.reference18,
    Cert.Mm.kernel19, Cert.Mm.ideal19, Cert.Mm.reference19,
    Cert.Mm.kernel20, Cert.Mm.ideal20, Cert.Mm.reference20,
    Cert.Mm.kernel21, Cert.Mm.ideal21, Cert.Mm.reference21,
    Cert.Mm.kernel22, Cert.Mm.ideal22, Cert.Mm.reference22,
    Cert.Mm.kernel23, Cert.Mm.ideal23, Cert.Mm.reference23,
    Cert.Mm.kernel24, Cert.Mm.ideal24, Cert.Mm.reference24,
    Cert.Row.kernel25, Cert.Row.ideal25, Cert.Row.reference25,
    Cert.Row.kernel26, Cert.Row.ideal26, Cert.Row.reference26,
    Cert.Row.kernel27, Cert.Row.ideal27, Cert.Row.reference27,
    Cert.Row.kernel28, Cert.Row.ideal28, Cert.Row.reference28,
    Cert.Row.kernel29, Cert.Row.ideal29, Cert.Row.reference29,
    Cert.Adam.kernel30, Cert.Adam.ideal30, Cert.Adam.reference30,
    Cert.Adam.kernel31, Cert.Adam.ideal31, Cert.Adam.reference31,
    trivial, algebraic,
    trivial, Cert.FfnAct.algebraic,
    trivial, Cert.FfnWin.algebraic,
    trivial, Cert.FfnIn.algebraic,
    trivial, Cert.FfnWout.algebraic,
    trivial, Cert.FfnDown.algebraic,
    trivial, Cert.FfnUp.algebraic,
    trivial, Cert.MixSb.algebraic,
    trivial, Cert.Ln.algebraic,
    trivial, Cert.Merge.algebraic,
    trivial, Cert.MixIn.algebraic,
    trivial, Cert.MixWin.algebraic,
    trivial, Cert.MixGdn.algebraic,
    trivial, Cert.MixGates.algebraic,
    trivial, Cert.MixBa.algebraic,
    trivial, Cert.MixOut.algebraic,
    trivial, Cert.MixOutBwd.algebraic,
    trivial, Cert.MixOutW.algebraic,
    trivial, Cert.BranchOut.algebraic,
    trivial, Cert.SbOutBwd.algebraic,
    trivial, Cert.GdnOutBwd.algebraic,
    trivial, Cert.BranchW.algebraic,
    trivial, Cert.PleProj.algebraic,
    trivial, Cert.PleW.algebraic,
    trivial, Cert.MergeFwd.algebraic,
    trivial, Cert.FfnLn.algebraic,
    trivial, Cert.MixLn.algebraic,
    trivial, Cert.Ln2.algebraic,
    trivial, Cert.Conv.algebraic,
    trivial, Cert.AdamIn.algebraic,
    trivial, Cert.AdamOut.algebraic⟩

end Cert.Proof
